-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Gating (m : (ℓ : Loc Cert.Gating.nD Cert.Gating.τ Cert.Gating.sig) → Buf (Elt Bits) ℓ) : Prop :=
  True

def Pre_GatingIdeal (m : (ℓ : Loc Cert.GatingIdeal.nD Cert.GatingIdeal.τ Cert.GatingIdeal.sig) → Buf (Elt Ideal) ℓ) : Prop :=
  True

def Pre_GatingReferenceIdeal (m : (ℓ : Loc Cert.GatingReferenceIdeal.nD Cert.GatingReferenceIdeal.τ Cert.GatingReferenceIdeal.sig) → Buf (Elt Ideal) ℓ) : Prop :=
  True

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Gating [hGating : Cert.Gating.Facts] : Prop :=
  ∀ (m : (ℓ : Loc Cert.Gating.nD Cert.Gating.τ Cert.Gating.sig) → Buf (Elt Bits) ℓ) (g : Dev Cert.Gating.nD → PrngReg), Pre_Gating m →
    θ_run (Cert.Gating.defs (F := Bits)) (onTc (τ := Cert.Gating.τ) (Cert.Gating.main (F := Bits))) ⟨m, fun _ => 0, g⟩ (fun r => (∀ c : Dev Cert.Gating.nD,
      r.2.mem ((c.tc : Thread Cert.Gating.nD Cert.Gating.τ).loc Cert.Gating.main_arg0) = m ((c.tc : Thread Cert.Gating.nD Cert.Gating.τ).loc Cert.Gating.main_arg0)
      ∧ r.2.mem ((c.tc : Thread Cert.Gating.nD Cert.Gating.τ).loc Cert.Gating.main_arg1) = m ((c.tc : Thread Cert.Gating.nD Cert.Gating.τ).loc Cert.Gating.main_arg1)
      ∧ r.2.mem ((c.tc : Thread Cert.Gating.nD Cert.Gating.τ).loc Cert.Gating.main_arg2) = m ((c.tc : Thread Cert.Gating.nD Cert.Gating.τ).loc Cert.Gating.main_arg2)
      ∧ r.2.mem ((c.tc : Thread Cert.Gating.nD Cert.Gating.τ).loc Cert.Gating.main_arg3) = m ((c.tc : Thread Cert.Gating.nD Cert.Gating.τ).loc Cert.Gating.main_arg3))
      ∧ r.2.sem = fun _ => 0)

def quiescent_GatingIdeal [hGatingIdeal : Cert.GatingIdeal.Facts] : Prop :=
  ∀ (m : (ℓ : Loc Cert.GatingIdeal.nD Cert.GatingIdeal.τ Cert.GatingIdeal.sig) → Buf (Elt Ideal) ℓ) (g : Dev Cert.GatingIdeal.nD → PrngReg), Pre_GatingIdeal m →
    θ_run (Cert.GatingIdeal.defs (F := Ideal)) (onTc (τ := Cert.GatingIdeal.τ) (Cert.GatingIdeal.main (F := Ideal))) ⟨m, fun _ => 0, g⟩ (fun r => (∀ c : Dev Cert.GatingIdeal.nD,
      r.2.mem ((c.tc : Thread Cert.GatingIdeal.nD Cert.GatingIdeal.τ).loc Cert.GatingIdeal.main_arg0) = m ((c.tc : Thread Cert.GatingIdeal.nD Cert.GatingIdeal.τ).loc Cert.GatingIdeal.main_arg0)
      ∧ r.2.mem ((c.tc : Thread Cert.GatingIdeal.nD Cert.GatingIdeal.τ).loc Cert.GatingIdeal.main_arg1) = m ((c.tc : Thread Cert.GatingIdeal.nD Cert.GatingIdeal.τ).loc Cert.GatingIdeal.main_arg1)
      ∧ r.2.mem ((c.tc : Thread Cert.GatingIdeal.nD Cert.GatingIdeal.τ).loc Cert.GatingIdeal.main_arg2) = m ((c.tc : Thread Cert.GatingIdeal.nD Cert.GatingIdeal.τ).loc Cert.GatingIdeal.main_arg2)
      ∧ r.2.mem ((c.tc : Thread Cert.GatingIdeal.nD Cert.GatingIdeal.τ).loc Cert.GatingIdeal.main_arg3) = m ((c.tc : Thread Cert.GatingIdeal.nD Cert.GatingIdeal.τ).loc Cert.GatingIdeal.main_arg3))
      ∧ r.2.sem = fun _ => 0)

def quiescent_GatingReferenceIdeal [hGatingReferenceIdeal : Cert.GatingReferenceIdeal.Facts] : Prop :=
  ∀ (m : (ℓ : Loc Cert.GatingReferenceIdeal.nD Cert.GatingReferenceIdeal.τ Cert.GatingReferenceIdeal.sig) → Buf (Elt Ideal) ℓ) (g : Dev Cert.GatingReferenceIdeal.nD → PrngReg), Pre_GatingReferenceIdeal m →
    θ_run (Cert.GatingReferenceIdeal.defs (F := Ideal)) (onTc (τ := Cert.GatingReferenceIdeal.τ) (Cert.GatingReferenceIdeal.main (F := Ideal))) ⟨m, fun _ => 0, g⟩ (fun r => (∀ c : Dev Cert.GatingReferenceIdeal.nD,
      r.2.mem ((c.tc : Thread Cert.GatingReferenceIdeal.nD Cert.GatingReferenceIdeal.τ).loc Cert.GatingReferenceIdeal.main_arg0) = m ((c.tc : Thread Cert.GatingReferenceIdeal.nD Cert.GatingReferenceIdeal.τ).loc Cert.GatingReferenceIdeal.main_arg0)
      ∧ r.2.mem ((c.tc : Thread Cert.GatingReferenceIdeal.nD Cert.GatingReferenceIdeal.τ).loc Cert.GatingReferenceIdeal.main_arg1) = m ((c.tc : Thread Cert.GatingReferenceIdeal.nD Cert.GatingReferenceIdeal.τ).loc Cert.GatingReferenceIdeal.main_arg1)
      ∧ r.2.mem ((c.tc : Thread Cert.GatingReferenceIdeal.nD Cert.GatingReferenceIdeal.τ).loc Cert.GatingReferenceIdeal.main_arg2) = m ((c.tc : Thread Cert.GatingReferenceIdeal.nD Cert.GatingReferenceIdeal.τ).loc Cert.GatingReferenceIdeal.main_arg2)
      ∧ r.2.mem ((c.tc : Thread Cert.GatingReferenceIdeal.nD Cert.GatingReferenceIdeal.τ).loc Cert.GatingReferenceIdeal.main_arg3) = m ((c.tc : Thread Cert.GatingReferenceIdeal.nD Cert.GatingReferenceIdeal.τ).loc Cert.GatingReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v336) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Gating_GatingIdeal : Prop :=
  True

def algebraic_GatingIdeal_GatingReferenceIdeal [hGatingIdeal : Cert.GatingIdeal.Facts] [hGatingReferenceIdeal : Cert.GatingReferenceIdeal.Facts] : Prop :=
  ∀ (m : (ℓ : Loc Cert.GatingIdeal.nD Cert.GatingIdeal.τ Cert.GatingIdeal.sig) → Buf (Elt Ideal) ℓ) (g : Dev Cert.GatingIdeal.nD → PrngReg)
    (m' : (ℓ : Loc Cert.GatingReferenceIdeal.nD Cert.GatingReferenceIdeal.τ Cert.GatingReferenceIdeal.sig) → Buf (Elt Ideal) ℓ) (g' : Dev Cert.GatingReferenceIdeal.nD → PrngReg), Pre_GatingIdeal m →
    (∀ c : Dev Cert.GatingIdeal.nD,
      m' ((c.tc : Thread Cert.GatingReferenceIdeal.nD Cert.GatingReferenceIdeal.τ).loc Cert.GatingReferenceIdeal.main_arg0) = m ((c.tc : Thread Cert.GatingIdeal.nD Cert.GatingIdeal.τ).loc Cert.GatingIdeal.main_arg0)
      ∧ m' ((c.tc : Thread Cert.GatingReferenceIdeal.nD Cert.GatingReferenceIdeal.τ).loc Cert.GatingReferenceIdeal.main_arg1) = m ((c.tc : Thread Cert.GatingIdeal.nD Cert.GatingIdeal.τ).loc Cert.GatingIdeal.main_arg1)
      ∧ m' ((c.tc : Thread Cert.GatingReferenceIdeal.nD Cert.GatingReferenceIdeal.τ).loc Cert.GatingReferenceIdeal.main_arg2) = m ((c.tc : Thread Cert.GatingIdeal.nD Cert.GatingIdeal.τ).loc Cert.GatingIdeal.main_arg2)
      ∧ m' ((c.tc : Thread Cert.GatingReferenceIdeal.nD Cert.GatingReferenceIdeal.τ).loc Cert.GatingReferenceIdeal.main_arg3) = m ((c.tc : Thread Cert.GatingIdeal.nD Cert.GatingIdeal.τ).loc Cert.GatingIdeal.main_arg3)) →
    ∃ (v0 : (c : Dev Cert.GatingIdeal.nD) → Buf (Elt Ideal) ((c.tc : Thread Cert.GatingIdeal.nD Cert.GatingIdeal.τ).loc Cert.GatingIdeal.main_v1_0)) (v1 : (c : Dev Cert.GatingIdeal.nD) → Buf (Elt Ideal) ((c.tc : Thread Cert.GatingIdeal.nD Cert.GatingIdeal.τ).loc Cert.GatingIdeal.main_v1_1)) (v2 : (c : Dev Cert.GatingIdeal.nD) → Buf (Elt Ideal) ((c.tc : Thread Cert.GatingIdeal.nD Cert.GatingIdeal.τ).loc Cert.GatingIdeal.main_v1_2)),
      θ_run (Cert.GatingIdeal.defs (F := Ideal)) (onTc (τ := Cert.GatingIdeal.τ) (Cert.GatingIdeal.main (F := Ideal))) ⟨m, fun _ => 0, g⟩ (fun r => ∀ c : Dev Cert.GatingIdeal.nD,
          r.2.mem ((c.tc : Thread Cert.GatingIdeal.nD Cert.GatingIdeal.τ).loc Cert.GatingIdeal.main_v1_0) = v0 c
          ∧ r.2.mem ((c.tc : Thread Cert.GatingIdeal.nD Cert.GatingIdeal.τ).loc Cert.GatingIdeal.main_v1_1) = v1 c
          ∧ r.2.mem ((c.tc : Thread Cert.GatingIdeal.nD Cert.GatingIdeal.τ).loc Cert.GatingIdeal.main_v1_2) = v2 c
          ∧ r.2.mem ((c.tc : Thread Cert.GatingIdeal.nD Cert.GatingIdeal.τ).loc Cert.GatingIdeal.main_arg0) = m ((c.tc : Thread Cert.GatingIdeal.nD Cert.GatingIdeal.τ).loc Cert.GatingIdeal.main_arg0)
          ∧ r.2.mem ((c.tc : Thread Cert.GatingIdeal.nD Cert.GatingIdeal.τ).loc Cert.GatingIdeal.main_arg1) = m ((c.tc : Thread Cert.GatingIdeal.nD Cert.GatingIdeal.τ).loc Cert.GatingIdeal.main_arg1)
          ∧ r.2.mem ((c.tc : Thread Cert.GatingIdeal.nD Cert.GatingIdeal.τ).loc Cert.GatingIdeal.main_arg2) = m ((c.tc : Thread Cert.GatingIdeal.nD Cert.GatingIdeal.τ).loc Cert.GatingIdeal.main_arg2)
          ∧ r.2.mem ((c.tc : Thread Cert.GatingIdeal.nD Cert.GatingIdeal.τ).loc Cert.GatingIdeal.main_arg3) = m ((c.tc : Thread Cert.GatingIdeal.nD Cert.GatingIdeal.τ).loc Cert.GatingIdeal.main_arg3))
      ∧ θ_run (Cert.GatingReferenceIdeal.defs (F := Ideal)) (onTc (τ := Cert.GatingReferenceIdeal.τ) (Cert.GatingReferenceIdeal.main (F := Ideal))) ⟨m', fun _ => 0, g'⟩ (fun r => ∀ c : Dev Cert.GatingReferenceIdeal.nD,
          r.2.mem ((c.tc : Thread Cert.GatingReferenceIdeal.nD Cert.GatingReferenceIdeal.τ).loc Cert.GatingReferenceIdeal.main_v3) = v0 c
          ∧ r.2.mem ((c.tc : Thread Cert.GatingReferenceIdeal.nD Cert.GatingReferenceIdeal.τ).loc Cert.GatingReferenceIdeal.main_indices) = v1 c
          ∧ r.2.mem ((c.tc : Thread Cert.GatingReferenceIdeal.nD Cert.GatingReferenceIdeal.τ).loc Cert.GatingReferenceIdeal.main_v6) = v2 c
          ∧ r.2.mem ((c.tc : Thread Cert.GatingReferenceIdeal.nD Cert.GatingReferenceIdeal.τ).loc Cert.GatingReferenceIdeal.main_arg0) = m' ((c.tc : Thread Cert.GatingReferenceIdeal.nD Cert.GatingReferenceIdeal.τ).loc Cert.GatingReferenceIdeal.main_arg0)
          ∧ r.2.mem ((c.tc : Thread Cert.GatingReferenceIdeal.nD Cert.GatingReferenceIdeal.τ).loc Cert.GatingReferenceIdeal.main_arg1) = m' ((c.tc : Thread Cert.GatingReferenceIdeal.nD Cert.GatingReferenceIdeal.τ).loc Cert.GatingReferenceIdeal.main_arg1)
          ∧ r.2.mem ((c.tc : Thread Cert.GatingReferenceIdeal.nD Cert.GatingReferenceIdeal.τ).loc Cert.GatingReferenceIdeal.main_arg2) = m' ((c.tc : Thread Cert.GatingReferenceIdeal.nD Cert.GatingReferenceIdeal.τ).loc Cert.GatingReferenceIdeal.main_arg2)
          ∧ r.2.mem ((c.tc : Thread Cert.GatingReferenceIdeal.nD Cert.GatingReferenceIdeal.τ).loc Cert.GatingReferenceIdeal.main_arg3) = m' ((c.tc : Thread Cert.GatingReferenceIdeal.nD Cert.GatingReferenceIdeal.τ).loc Cert.GatingReferenceIdeal.main_arg3))

def Claim : Prop :=
  ∃ (hKernel : Cert.Kernel.Facts) (hKernelIdeal : Cert.KernelIdeal.Facts) (hReferenceIdeal : Cert.ReferenceIdeal.Facts) (hGating : Cert.Gating.Facts) (hGatingIdeal : Cert.GatingIdeal.Facts) (hGatingReferenceIdeal : Cert.GatingReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ quiescent_Gating (hGating := hGating)
    ∧ quiescent_GatingIdeal (hGatingIdeal := hGatingIdeal)
    ∧ quiescent_GatingReferenceIdeal (hGatingReferenceIdeal := hGatingReferenceIdeal)
    ∧ preserves_Kernel_KernelIdeal
    ∧ algebraic_KernelIdeal_ReferenceIdeal (hKernelIdeal := hKernelIdeal) (hReferenceIdeal := hReferenceIdeal) (hPre_in_range := hPre_in_range)
    ∧ preserves_Gating_GatingIdeal
    ∧ algebraic_GatingIdeal_GatingReferenceIdeal (hGatingIdeal := hGatingIdeal) (hGatingReferenceIdeal := hGatingReferenceIdeal)
-- ==== Pre_in_range.lean ====
abbrev S2048x768 : Shape := ⟨2, ![2048, 768]⟩
abbrev S2048 : Shape := ⟨1, ![2048]⟩
abbrev S16x768x256 : Shape := ⟨3, ![16, 768, 256]⟩
abbrev S16x256 : Shape := ⟨2, ![16, 256]⟩
abbrev S16x256x768 : Shape := ⟨3, ![16, 256, 768]⟩
abbrev S16x768 : Shape := ⟨2, ![16, 768]⟩
abbrev S_ : Shape := ⟨0, ![]⟩

class Facts : Prop where
  bcast_S_S2048 : S_.BroadcastsInDim S2048 (![] : Fin 0 → Fin S2048.rank)
  reducesTo_S2048_S_d0 : S2048.ReducesTo [0] S_
  h_S_ : 0 < S_.numel

variable [Facts]

def fn {F : FTy → Type} [FloatOps F] (main_arg0 : FVec F S2048x768 .f32) (main_arg1 : IVec S2048 32) (main_arg2 : FVec F S16x768x256 .f32) (main_arg3 : FVec F S16x256 .f32) (main_arg4 : FVec F S16x256x768 .f32) (main_arg5 : FVec F S16x768 .f32) : IVec S_ 1 :=
  let main_c : IVec S_ 32 := constantI S_ 32 0#32
  let main_v0 : IVec S2048 32 := broadcastInDim S2048 ![] bcast_S_S2048 main_c
  let main_v1 : IVec S2048 1 := cmpi .sge main_arg1 main_v0
  let main_c_0 : IVec S_ 32 := constantI S_ 32 16#32
  let main_v2 : IVec S2048 32 := broadcastInDim S2048 ![] bcast_S_S2048 main_c_0
  let main_v3 : IVec S2048 1 := cmpi .slt main_arg1 main_v2
  let main_v4 : IVec S2048 1 := andi main_v1 main_v3
  let main_c_1 : IVec S_ 1 := constantI S_ 1 1#1
  let main_v5 : IVec S_ 1 := (fun x v => Host.reduce IntOp.andi x v reducesTo_S2048_S_d0 h_S_) main_v4 main_c_1
  main_v5
-- ==== Kernel.lean ====
abbrev S2048x768 : Shape := ⟨2, ![2048, 768]⟩
abbrev S2048 : Shape := ⟨1, ![2048]⟩
abbrev S16x768x256 : Shape := ⟨3, ![16, 768, 256]⟩
abbrev S16x256 : Shape := ⟨2, ![16, 256]⟩
abbrev S16x256x768 : Shape := ⟨3, ![16, 256, 768]⟩
abbrev S16x768 : Shape := ⟨2, ![16, 768]⟩
abbrev S4096x768 : Shape := ⟨2, ![4096, 768]⟩
abbrev S48 : Shape := ⟨1, ![48]⟩
abbrev S64x768 : Shape := ⟨2, ![64, 768]⟩
abbrev S16 : Shape := ⟨1, ![16]⟩
abbrev S32 : Shape := ⟨1, ![32]⟩
abbrev S64 : Shape := ⟨1, ![64]⟩
abbrev S_ : Shape := ⟨0, ![]⟩
abbrev S64x128 : Shape := ⟨2, ![64, 128]⟩
abbrev S4096x128 : Shape := ⟨2, ![4096, 128]⟩
abbrev S33 : Shape := ⟨1, ![33]⟩
abbrev S128x768 : Shape := ⟨2, ![128, 768]⟩
abbrev S1 : Shape := ⟨1, ![1]⟩
abbrev S1x768x256 : Shape := ⟨3, ![1, 768, 256]⟩
abbrev S1x256x768 : Shape := ⟨3, ![1, 256, 768]⟩
abbrev S768x256 : Shape := ⟨2, ![768, 256]⟩
abbrev S128x256 : Shape := ⟨2, ![128, 256]⟩
abbrev S1x256 : Shape := ⟨2, ![1, 256]⟩
abbrev S256x768 : Shape := ⟨2, ![256, 768]⟩
abbrev S1x768 : Shape := ⟨2, ![1, 768]⟩

abbrev nBuf : Table → Nat
  | .hbm => 11
  | .local .tc .vmem => 10
  | .local .tc .smem => 1
  | .local .scVector .vmem => 11
  | _ => 0

abbrev bufTy : (tb : Table) → Fin (nBuf tb) → BufTy
  | .hbm, ⟨0, _⟩ => ⟨S2048x768, .f32⟩
  | .hbm, ⟨1, _⟩ => ⟨S2048, .i32⟩
  | .hbm, ⟨2, _⟩ => ⟨S16x768x256, .f32⟩
  | .hbm, ⟨3, _⟩ => ⟨S16x256, .f32⟩
  | .hbm, ⟨4, _⟩ => ⟨S16x256x768, .f32⟩
  | .hbm, ⟨5, _⟩ => ⟨S16x768, .f32⟩
  | .hbm, ⟨6, _⟩ => ⟨S4096x768, .f32⟩
  | .hbm, ⟨7, _⟩ => ⟨S2048, .i32⟩
  | .hbm, ⟨8, _⟩ => ⟨S48, .i32⟩
  | .hbm, ⟨9, _⟩ => ⟨S4096x768, .f32⟩
  | .hbm, ⟨10, _⟩ => ⟨S2048x768, .f32⟩
  | .local .tc .vmem, ⟨0, _⟩ => ⟨S128x768, .f32⟩
  | .local .tc .vmem, ⟨1, _⟩ => ⟨S128x768, .f32⟩
  | .local .tc .vmem, ⟨2, _⟩ => ⟨S1x768x256, .f32⟩
  | .local .tc .vmem, ⟨3, _⟩ => ⟨S1x768x256, .f32⟩
  | .local .tc .vmem, ⟨4, _⟩ => ⟨S16x256, .f32⟩
  | .local .tc .vmem, ⟨5, _⟩ => ⟨S1x256x768, .f32⟩
  | .local .tc .vmem, ⟨6, _⟩ => ⟨S1x256x768, .f32⟩
  | .local .tc .vmem, ⟨7, _⟩ => ⟨S16x768, .f32⟩
  | .local .tc .vmem, ⟨8, _⟩ => ⟨S128x768, .f32⟩
  | .local .tc .vmem, ⟨9, _⟩ => ⟨S128x768, .f32⟩
  | .local .tc .smem, ⟨0, _⟩ => ⟨S33, .i32⟩
  | .local .scVector .vmem, ⟨0, _⟩ => ⟨S64x768, .f32⟩
  | .local .scVector .vmem, ⟨1, _⟩ => ⟨S2048, .i32⟩
  | .local .scVector .vmem, ⟨2, _⟩ => ⟨S16, .i32⟩
  | .local .scVector .vmem, ⟨3, _⟩ => ⟨S16, .i32⟩
  | .local .scVector .vmem, ⟨4, _⟩ => ⟨S16, .i32⟩
  | .local .scVector .vmem, ⟨5, _⟩ => ⟨S16, .i32⟩
  | .local .scVector .vmem, ⟨6, _⟩ => ⟨S32, .i32⟩
  | .local .scVector .vmem, ⟨7, _⟩ => ⟨S64, .i32⟩
  | .local .scVector .vmem, ⟨8, _⟩ => ⟨S48, .i32⟩
  | .local .scVector .vmem, ⟨9, _⟩ => ⟨S64, .i32⟩
  | .local .scVector .vmem, ⟨10, _⟩ => ⟨S64x768, .f32⟩
  | _, _ => ⟨S2048x768, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 18 → Bool
  | ⟨0, _⟩ => false
  | ⟨1, _⟩ => false
  | ⟨2, _⟩ => false
  | ⟨3, _⟩ => false
  | ⟨4, _⟩ => false
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => false
  | ⟨16, _⟩ => false
  | ⟨17, _⟩ => false
  | _ => false

abbrev sig : RefSig :=
  ofTables nBuf rfl bufTy 4 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v2 : Ref sig .tc := ⟨.hbm, 9, rfl⟩
abbrev main_v3 : Ref sig .tc := ⟨.hbm, 10, rfl⟩
abbrev main_v1 : Ref sig .tc := ⟨.smem, 0, rfl⟩
abbrev main_arg0_scv : Ref sig .scVector := ⟨.hbm, 0, rfl⟩
abbrev main_arg1_scv : Ref sig .scVector := ⟨.hbm, 1, rfl⟩
abbrev main_v0_0_scv : Ref sig .scVector := ⟨.hbm, 6, rfl⟩
abbrev main_v0_1_scv : Ref sig .scVector := ⟨.hbm, 7, rfl⟩
abbrev main_v0_2_scv : Ref sig .scVector := ⟨.hbm, 8, rfl⟩
abbrev main_v2_scv : Ref sig .scVector := ⟨.hbm, 9, rfl⟩
abbrev main_v3_scv : Ref sig .scVector := ⟨.hbm, 10, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg3_0 : Ref sig .tc := ⟨.vmem, 5, rfl⟩
abbrev cc1_stg3_1 : Ref sig .tc := ⟨.vmem, 6, rfl⟩
abbrev cc1_stg4_0 : Ref sig .tc := ⟨.vmem, 7, rfl⟩
abbrev cc1_stg5_0 : Ref sig .tc := ⟨.vmem, 8, rfl⟩
abbrev cc1_stg5_1 : Ref sig .tc := ⟨.vmem, 9, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc0_scratch7 : Ref sig .scVector := ⟨.vmem, 7, rfl⟩
abbrev cc0_scratch8 : Ref sig .scVector := ⟨.vmem, 8, rfl⟩
abbrev cc2_scratch0 : Ref sig .scVector := ⟨.vmem, 9, rfl⟩
abbrev cc2_scratch1 : Ref sig .scVector := ⟨.vmem, 10, rfl⟩
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem3_1 : DmaSem sig := 11
abbrev cc1_sem4_0 : DmaSem sig := 12
abbrev cc1_sem5_0 : DmaSem sig := 13
abbrev cc1_sem5_1 : DmaSem sig := 14
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c0_i32 : BitVec 32 := 0#32
  ![v2.toNat, 0]

def k0_chk1 (v11 : IVec S16 32) : Prop :=
  (∀ a x, ((![v11] : Fin 1 → IVec S16 32) a x).toNat < S16.size a) ∧
  (∀ a x, ((![v11] : Fin 1 → IVec S16 32) a x).toNat < S16.size a)
theorem k0_idx1_inb : ∀ (v11 : IVec S16 32) (k0_hw1 : k0_chk1 v11), ∀ a x, ((![v11] : Fin 1 → IVec S16 32) a x).toNat < S16.size a := fun v11 k0_hw1 => k0_hw1.1
theorem k0_idx2_inb : ∀ (v11 : IVec S16 32) (k0_hw1 : k0_chk1 v11), ∀ a x, ((![v11] : Fin 1 → IVec S16 32) a x).toNat < S16.size a := fun v11 k0_hw1 => k0_hw1.2

def k0_chk2 (v14 : IVec S16 32) : Prop :=
  (∀ a x, ((![v14] : Fin 1 → IVec S16 32) a x).toNat < S16.size a) ∧
  (∀ a x, ((![v14] : Fin 1 → IVec S16 32) a x).toNat < S16.size a)
theorem k0_idx3_inb : ∀ (v14 : IVec S16 32) (k0_hw2 : k0_chk2 v14), ∀ a x, ((![v14] : Fin 1 → IVec S16 32) a x).toNat < S16.size a := fun v14 k0_hw2 => k0_hw2.1
theorem k0_idx4_inb : ∀ (v14 : IVec S16 32) (k0_hw2 : k0_chk2 v14), ∀ a x, ((![v14] : Fin 1 → IVec S16 32) a x).toNat < S16.size a := fun v14 k0_hw2 => k0_hw2.2

def k0_chk3 (v17 : IVec S16 32) : Prop :=
  (∀ a x, ((![v17] : Fin 1 → IVec S16 32) a x).toNat < S16.size a) ∧
  (∀ a x, ((![v17] : Fin 1 → IVec S16 32) a x).toNat < S16.size a)
theorem k0_idx5_inb : ∀ (v17 : IVec S16 32) (k0_hw3 : k0_chk3 v17), ∀ a x, ((![v17] : Fin 1 → IVec S16 32) a x).toNat < S16.size a := fun v17 k0_hw3 => k0_hw3.1
theorem k0_idx6_inb : ∀ (v17 : IVec S16 32) (k0_hw3 : k0_chk3 v17), ∀ a x, ((![v17] : Fin 1 → IVec S16 32) a x).toNat < S16.size a := fun v17 k0_hw3 => k0_hw3.2

def k0_chk4 (v20 : IVec S16 32) : Prop :=
  (∀ a x, ((![v20] : Fin 1 → IVec S16 32) a x).toNat < S16.size a) ∧
  (∀ a x, ((![v20] : Fin 1 → IVec S16 32) a x).toNat < S16.size a)
theorem k0_idx7_inb : ∀ (v20 : IVec S16 32) (k0_hw4 : k0_chk4 v20), ∀ a x, ((![v20] : Fin 1 → IVec S16 32) a x).toNat < S16.size a := fun v20 k0_hw4 => k0_hw4.1
theorem k0_idx8_inb : ∀ (v20 : IVec S16 32) (k0_hw4 : k0_chk4 v20), ∀ a x, ((![v20] : Fin 1 → IVec S16 32) a x).toNat < S16.size a := fun v20 k0_hw4 => k0_hw4.2

def k0_chk5 (v23 : IVec S16 32) : Prop :=
  (∀ a x, ((![v23] : Fin 1 → IVec S16 32) a x).toNat < S16.size a) ∧
  (∀ a x, ((![v23] : Fin 1 → IVec S16 32) a x).toNat < S16.size a)
theorem k0_idx9_inb : ∀ (v23 : IVec S16 32) (k0_hw5 : k0_chk5 v23), ∀ a x, ((![v23] : Fin 1 → IVec S16 32) a x).toNat < S16.size a := fun v23 k0_hw5 => k0_hw5.1
theorem k0_idx10_inb : ∀ (v23 : IVec S16 32) (k0_hw5 : k0_chk5 v23), ∀ a x, ((![v23] : Fin 1 → IVec S16 32) a x).toNat < S16.size a := fun v23 k0_hw5 => k0_hw5.2

def k0_chk6 (v26 : IVec S16 32) : Prop :=
  (∀ a x, ((![v26] : Fin 1 → IVec S16 32) a x).toNat < S16.size a) ∧
  (∀ a x, ((![v26] : Fin 1 → IVec S16 32) a x).toNat < S16.size a)
theorem k0_idx11_inb : ∀ (v26 : IVec S16 32) (k0_hw6 : k0_chk6 v26), ∀ a x, ((![v26] : Fin 1 → IVec S16 32) a x).toNat < S16.size a := fun v26 k0_hw6 => k0_hw6.1
theorem k0_idx12_inb : ∀ (v26 : IVec S16 32) (k0_hw6 : k0_chk6 v26), ∀ a x, ((![v26] : Fin 1 → IVec S16 32) a x).toNat < S16.size a := fun v26 k0_hw6 => k0_hw6.2

def k0_chk7 (v29 : IVec S16 32) : Prop :=
  (∀ a x, ((![v29] : Fin 1 → IVec S16 32) a x).toNat < S16.size a) ∧
  (∀ a x, ((![v29] : Fin 1 → IVec S16 32) a x).toNat < S16.size a)
theorem k0_idx13_inb : ∀ (v29 : IVec S16 32) (k0_hw7 : k0_chk7 v29), ∀ a x, ((![v29] : Fin 1 → IVec S16 32) a x).toNat < S16.size a := fun v29 k0_hw7 => k0_hw7.1
theorem k0_idx14_inb : ∀ (v29 : IVec S16 32) (k0_hw7 : k0_chk7 v29), ∀ a x, ((![v29] : Fin 1 → IVec S16 32) a x).toNat < S16.size a := fun v29 k0_hw7 => k0_hw7.2

def k0_chk8 (v32 : IVec S16 32) : Prop :=
  (∀ a x, ((![v32] : Fin 1 → IVec S16 32) a x).toNat < S16.size a) ∧
  (∀ a x, ((![v32] : Fin 1 → IVec S16 32) a x).toNat < S16.size a)
theorem k0_idx15_inb : ∀ (v32 : IVec S16 32) (k0_hw8 : k0_chk8 v32), ∀ a x, ((![v32] : Fin 1 → IVec S16 32) a x).toNat < S16.size a := fun v32 k0_hw8 => k0_hw8.1
theorem k0_idx16_inb : ∀ (v32 : IVec S16 32) (k0_hw8 : k0_chk8 v32), ∀ a x, ((![v32] : Fin 1 → IVec S16 32) a x).toNat < S16.size a := fun v32 k0_hw8 => k0_hw8.2

def k0_chk9 (v35 : IVec S16 32) : Prop :=
  (∀ a x, ((![v35] : Fin 1 → IVec S16 32) a x).toNat < S16.size a) ∧
  (∀ a x, ((![v35] : Fin 1 → IVec S16 32) a x).toNat < S16.size a)
theorem k0_idx17_inb : ∀ (v35 : IVec S16 32) (k0_hw9 : k0_chk9 v35), ∀ a x, ((![v35] : Fin 1 → IVec S16 32) a x).toNat < S16.size a := fun v35 k0_hw9 => k0_hw9.1
theorem k0_idx18_inb : ∀ (v35 : IVec S16 32) (k0_hw9 : k0_chk9 v35), ∀ a x, ((![v35] : Fin 1 → IVec S16 32) a x).toNat < S16.size a := fun v35 k0_hw9 => k0_hw9.2

def k0_chk10 (v38 : IVec S16 32) : Prop :=
  (∀ a x, ((![v38] : Fin 1 → IVec S16 32) a x).toNat < S16.size a) ∧
  (∀ a x, ((![v38] : Fin 1 → IVec S16 32) a x).toNat < S16.size a)
theorem k0_idx19_inb : ∀ (v38 : IVec S16 32) (k0_hw10 : k0_chk10 v38), ∀ a x, ((![v38] : Fin 1 → IVec S16 32) a x).toNat < S16.size a := fun v38 k0_hw10 => k0_hw10.1
theorem k0_idx20_inb : ∀ (v38 : IVec S16 32) (k0_hw10 : k0_chk10 v38), ∀ a x, ((![v38] : Fin 1 → IVec S16 32) a x).toNat < S16.size a := fun v38 k0_hw10 => k0_hw10.2

def k0_chk11 (v41 : IVec S16 32) : Prop :=
  (∀ a x, ((![v41] : Fin 1 → IVec S16 32) a x).toNat < S16.size a) ∧
  (∀ a x, ((![v41] : Fin 1 → IVec S16 32) a x).toNat < S16.size a)
theorem k0_idx21_inb : ∀ (v41 : IVec S16 32) (k0_hw11 : k0_chk11 v41), ∀ a x, ((![v41] : Fin 1 → IVec S16 32) a x).toNat < S16.size a := fun v41 k0_hw11 => k0_hw11.1
theorem k0_idx22_inb : ∀ (v41 : IVec S16 32) (k0_hw11 : k0_chk11 v41), ∀ a x, ((![v41] : Fin 1 → IVec S16 32) a x).toNat < S16.size a := fun v41 k0_hw11 => k0_hw11.2

def k0_chk12 (v44 : IVec S16 32) : Prop :=
  (∀ a x, ((![v44] : Fin 1 → IVec S16 32) a x).toNat < S16.size a) ∧
  (∀ a x, ((![v44] : Fin 1 → IVec S16 32) a x).toNat < S16.size a)
theorem k0_idx23_inb : ∀ (v44 : IVec S16 32) (k0_hw12 : k0_chk12 v44), ∀ a x, ((![v44] : Fin 1 → IVec S16 32) a x).toNat < S16.size a := fun v44 k0_hw12 => k0_hw12.1
theorem k0_idx24_inb : ∀ (v44 : IVec S16 32) (k0_hw12 : k0_chk12 v44), ∀ a x, ((![v44] : Fin 1 → IVec S16 32) a x).toNat < S16.size a := fun v44 k0_hw12 => k0_hw12.2

def k0_chk13 (v47 : IVec S16 32) : Prop :=
  (∀ a x, ((![v47] : Fin 1 → IVec S16 32) a x).toNat < S16.size a) ∧
  (∀ a x, ((![v47] : Fin 1 → IVec S16 32) a x).toNat < S16.size a)
theorem k0_idx25_inb : ∀ (v47 : IVec S16 32) (k0_hw13 : k0_chk13 v47), ∀ a x, ((![v47] : Fin 1 → IVec S16 32) a x).toNat < S16.size a := fun v47 k0_hw13 => k0_hw13.1
theorem k0_idx26_inb : ∀ (v47 : IVec S16 32) (k0_hw13 : k0_chk13 v47), ∀ a x, ((![v47] : Fin 1 → IVec S16 32) a x).toNat < S16.size a := fun v47 k0_hw13 => k0_hw13.2

def k0_chk14 (v50 : IVec S16 32) : Prop :=
  (∀ a x, ((![v50] : Fin 1 → IVec S16 32) a x).toNat < S16.size a) ∧
  (∀ a x, ((![v50] : Fin 1 → IVec S16 32) a x).toNat < S16.size a)
theorem k0_idx27_inb : ∀ (v50 : IVec S16 32) (k0_hw14 : k0_chk14 v50), ∀ a x, ((![v50] : Fin 1 → IVec S16 32) a x).toNat < S16.size a := fun v50 k0_hw14 => k0_hw14.1
theorem k0_idx28_inb : ∀ (v50 : IVec S16 32) (k0_hw14 : k0_chk14 v50), ∀ a x, ((![v50] : Fin 1 → IVec S16 32) a x).toNat < S16.size a := fun v50 k0_hw14 => k0_hw14.2

def k0_chk15 (v53 : IVec S16 32) : Prop :=
  (∀ a x, ((![v53] : Fin 1 → IVec S16 32) a x).toNat < S16.size a) ∧
  (∀ a x, ((![v53] : Fin 1 → IVec S16 32) a x).toNat < S16.size a)
theorem k0_idx29_inb : ∀ (v53 : IVec S16 32) (k0_hw15 : k0_chk15 v53), ∀ a x, ((![v53] : Fin 1 → IVec S16 32) a x).toNat < S16.size a := fun v53 k0_hw15 => k0_hw15.1
theorem k0_idx30_inb : ∀ (v53 : IVec S16 32) (k0_hw15 : k0_chk15 v53), ∀ a x, ((![v53] : Fin 1 → IVec S16 32) a x).toNat < S16.size a := fun v53 k0_hw15 => k0_hw15.2

def k0_chk16 (v56 : IVec S16 32) : Prop :=
  (∀ a x, ((![v56] : Fin 1 → IVec S16 32) a x).toNat < S16.size a) ∧
  (∀ a x, ((![v56] : Fin 1 → IVec S16 32) a x).toNat < S16.size a)
theorem k0_idx31_inb : ∀ (v56 : IVec S16 32) (k0_hw16 : k0_chk16 v56), ∀ a x, ((![v56] : Fin 1 → IVec S16 32) a x).toNat < S16.size a := fun v56 k0_hw16 => k0_hw16.1
theorem k0_idx32_inb : ∀ (v56 : IVec S16 32) (k0_hw16 : k0_chk16 v56), ∀ a x, ((![v56] : Fin 1 → IVec S16 32) a x).toNat < S16.size a := fun v56 k0_hw16 => k0_hw16.2

def k0_chk17 (v59 : IVec S16 32) : Prop :=
  (∀ a x, ((![v59] : Fin 1 → IVec S16 32) a x).toNat < S16.size a) ∧
  (∀ a x, ((![v59] : Fin 1 → IVec S16 32) a x).toNat < S16.size a)
theorem k0_idx33_inb : ∀ (v59 : IVec S16 32) (k0_hw17 : k0_chk17 v59), ∀ a x, ((![v59] : Fin 1 → IVec S16 32) a x).toNat < S16.size a := fun v59 k0_hw17 => k0_hw17.1
theorem k0_idx34_inb : ∀ (v59 : IVec S16 32) (k0_hw17 : k0_chk17 v59), ∀ a x, ((![v59] : Fin 1 → IVec S16 32) a x).toNat < S16.size a := fun v59 k0_hw17 => k0_hw17.2

def k0_chk18 (v62 : IVec S16 32) : Prop :=
  (∀ a x, ((![v62] : Fin 1 → IVec S16 32) a x).toNat < S16.size a) ∧
  (∀ a x, ((![v62] : Fin 1 → IVec S16 32) a x).toNat < S16.size a)
theorem k0_idx35_inb : ∀ (v62 : IVec S16 32) (k0_hw18 : k0_chk18 v62), ∀ a x, ((![v62] : Fin 1 → IVec S16 32) a x).toNat < S16.size a := fun v62 k0_hw18 => k0_hw18.1
theorem k0_idx36_inb : ∀ (v62 : IVec S16 32) (k0_hw18 : k0_chk18 v62), ∀ a x, ((![v62] : Fin 1 → IVec S16 32) a x).toNat < S16.size a := fun v62 k0_hw18 => k0_hw18.2

def k0_chk19 (v65 : IVec S16 32) : Prop :=
  (∀ a x, ((![v65] : Fin 1 → IVec S16 32) a x).toNat < S16.size a) ∧
  (∀ a x, ((![v65] : Fin 1 → IVec S16 32) a x).toNat < S16.size a)
theorem k0_idx37_inb : ∀ (v65 : IVec S16 32) (k0_hw19 : k0_chk19 v65), ∀ a x, ((![v65] : Fin 1 → IVec S16 32) a x).toNat < S16.size a := fun v65 k0_hw19 => k0_hw19.1
theorem k0_idx38_inb : ∀ (v65 : IVec S16 32) (k0_hw19 : k0_chk19 v65), ∀ a x, ((![v65] : Fin 1 → IVec S16 32) a x).toNat < S16.size a := fun v65 k0_hw19 => k0_hw19.2

def k0_chk20 (v68 : IVec S16 32) : Prop :=
  (∀ a x, ((![v68] : Fin 1 → IVec S16 32) a x).toNat < S16.size a) ∧
  (∀ a x, ((![v68] : Fin 1 → IVec S16 32) a x).toNat < S16.size a)
theorem k0_idx39_inb : ∀ (v68 : IVec S16 32) (k0_hw20 : k0_chk20 v68), ∀ a x, ((![v68] : Fin 1 → IVec S16 32) a x).toNat < S16.size a := fun v68 k0_hw20 => k0_hw20.1
theorem k0_idx40_inb : ∀ (v68 : IVec S16 32) (k0_hw20 : k0_chk20 v68), ∀ a x, ((![v68] : Fin 1 → IVec S16 32) a x).toNat < S16.size a := fun v68 k0_hw20 => k0_hw20.2

def k0_chk21 (v71 : IVec S16 32) : Prop :=
  (∀ a x, ((![v71] : Fin 1 → IVec S16 32) a x).toNat < S16.size a) ∧
  (∀ a x, ((![v71] : Fin 1 → IVec S16 32) a x).toNat < S16.size a)
theorem k0_idx41_inb : ∀ (v71 : IVec S16 32) (k0_hw21 : k0_chk21 v71), ∀ a x, ((![v71] : Fin 1 → IVec S16 32) a x).toNat < S16.size a := fun v71 k0_hw21 => k0_hw21.1
theorem k0_idx42_inb : ∀ (v71 : IVec S16 32) (k0_hw21 : k0_chk21 v71), ∀ a x, ((![v71] : Fin 1 → IVec S16 32) a x).toNat < S16.size a := fun v71 k0_hw21 => k0_hw21.2

def k0_chk22 (v74 : IVec S16 32) : Prop :=
  (∀ a x, ((![v74] : Fin 1 → IVec S16 32) a x).toNat < S16.size a) ∧
  (∀ a x, ((![v74] : Fin 1 → IVec S16 32) a x).toNat < S16.size a)
theorem k0_idx43_inb : ∀ (v74 : IVec S16 32) (k0_hw22 : k0_chk22 v74), ∀ a x, ((![v74] : Fin 1 → IVec S16 32) a x).toNat < S16.size a := fun v74 k0_hw22 => k0_hw22.1
theorem k0_idx44_inb : ∀ (v74 : IVec S16 32) (k0_hw22 : k0_chk22 v74), ∀ a x, ((![v74] : Fin 1 → IVec S16 32) a x).toNat < S16.size a := fun v74 k0_hw22 => k0_hw22.2

def k0_chk23 (v77 : IVec S16 32) : Prop :=
  (∀ a x, ((![v77] : Fin 1 → IVec S16 32) a x).toNat < S16.size a) ∧
  (∀ a x, ((![v77] : Fin 1 → IVec S16 32) a x).toNat < S16.size a)
theorem k0_idx45_inb : ∀ (v77 : IVec S16 32) (k0_hw23 : k0_chk23 v77), ∀ a x, ((![v77] : Fin 1 → IVec S16 32) a x).toNat < S16.size a := fun v77 k0_hw23 => k0_hw23.1
theorem k0_idx46_inb : ∀ (v77 : IVec S16 32) (k0_hw23 : k0_chk23 v77), ∀ a x, ((![v77] : Fin 1 → IVec S16 32) a x).toNat < S16.size a := fun v77 k0_hw23 => k0_hw23.2

def k0_chk24 (v80 : IVec S16 32) : Prop :=
  (∀ a x, ((![v80] : Fin 1 → IVec S16 32) a x).toNat < S16.size a) ∧
  (∀ a x, ((![v80] : Fin 1 → IVec S16 32) a x).toNat < S16.size a)
theorem k0_idx47_inb : ∀ (v80 : IVec S16 32) (k0_hw24 : k0_chk24 v80), ∀ a x, ((![v80] : Fin 1 → IVec S16 32) a x).toNat < S16.size a := fun v80 k0_hw24 => k0_hw24.1
theorem k0_idx48_inb : ∀ (v80 : IVec S16 32) (k0_hw24 : k0_chk24 v80), ∀ a x, ((![v80] : Fin 1 → IVec S16 32) a x).toNat < S16.size a := fun v80 k0_hw24 => k0_hw24.2

def k0_chk25 (v83 : IVec S16 32) : Prop :=
  (∀ a x, ((![v83] : Fin 1 → IVec S16 32) a x).toNat < S16.size a) ∧
  (∀ a x, ((![v83] : Fin 1 → IVec S16 32) a x).toNat < S16.size a)
theorem k0_idx49_inb : ∀ (v83 : IVec S16 32) (k0_hw25 : k0_chk25 v83), ∀ a x, ((![v83] : Fin 1 → IVec S16 32) a x).toNat < S16.size a := fun v83 k0_hw25 => k0_hw25.1
theorem k0_idx50_inb : ∀ (v83 : IVec S16 32) (k0_hw25 : k0_chk25 v83), ∀ a x, ((![v83] : Fin 1 → IVec S16 32) a x).toNat < S16.size a := fun v83 k0_hw25 => k0_hw25.2

def k0_chk26 (v86 : IVec S16 32) : Prop :=
  (∀ a x, ((![v86] : Fin 1 → IVec S16 32) a x).toNat < S16.size a) ∧
  (∀ a x, ((![v86] : Fin 1 → IVec S16 32) a x).toNat < S16.size a)
theorem k0_idx51_inb : ∀ (v86 : IVec S16 32) (k0_hw26 : k0_chk26 v86), ∀ a x, ((![v86] : Fin 1 → IVec S16 32) a x).toNat < S16.size a := fun v86 k0_hw26 => k0_hw26.1
theorem k0_idx52_inb : ∀ (v86 : IVec S16 32) (k0_hw26 : k0_chk26 v86), ∀ a x, ((![v86] : Fin 1 → IVec S16 32) a x).toNat < S16.size a := fun v86 k0_hw26 => k0_hw26.2

def k0_chk27 (v89 : IVec S16 32) : Prop :=
  (∀ a x, ((![v89] : Fin 1 → IVec S16 32) a x).toNat < S16.size a) ∧
  (∀ a x, ((![v89] : Fin 1 → IVec S16 32) a x).toNat < S16.size a)
theorem k0_idx53_inb : ∀ (v89 : IVec S16 32) (k0_hw27 : k0_chk27 v89), ∀ a x, ((![v89] : Fin 1 → IVec S16 32) a x).toNat < S16.size a := fun v89 k0_hw27 => k0_hw27.1
theorem k0_idx54_inb : ∀ (v89 : IVec S16 32) (k0_hw27 : k0_chk27 v89), ∀ a x, ((![v89] : Fin 1 → IVec S16 32) a x).toNat < S16.size a := fun v89 k0_hw27 => k0_hw27.2

def k0_chk28 (v92 : IVec S16 32) : Prop :=
  (∀ a x, ((![v92] : Fin 1 → IVec S16 32) a x).toNat < S16.size a) ∧
  (∀ a x, ((![v92] : Fin 1 → IVec S16 32) a x).toNat < S16.size a)
theorem k0_idx55_inb : ∀ (v92 : IVec S16 32) (k0_hw28 : k0_chk28 v92), ∀ a x, ((![v92] : Fin 1 → IVec S16 32) a x).toNat < S16.size a := fun v92 k0_hw28 => k0_hw28.1
theorem k0_idx56_inb : ∀ (v92 : IVec S16 32) (k0_hw28 : k0_chk28 v92), ∀ a x, ((![v92] : Fin 1 → IVec S16 32) a x).toNat < S16.size a := fun v92 k0_hw28 => k0_hw28.2

def k0_chk29 (v95 : IVec S16 32) : Prop :=
  (∀ a x, ((![v95] : Fin 1 → IVec S16 32) a x).toNat < S16.size a) ∧
  (∀ a x, ((![v95] : Fin 1 → IVec S16 32) a x).toNat < S16.size a)
theorem k0_idx57_inb : ∀ (v95 : IVec S16 32) (k0_hw29 : k0_chk29 v95), ∀ a x, ((![v95] : Fin 1 → IVec S16 32) a x).toNat < S16.size a := fun v95 k0_hw29 => k0_hw29.1
theorem k0_idx58_inb : ∀ (v95 : IVec S16 32) (k0_hw29 : k0_chk29 v95), ∀ a x, ((![v95] : Fin 1 → IVec S16 32) a x).toNat < S16.size a := fun v95 k0_hw29 => k0_hw29.2

def k0_chk30 (v98 : IVec S16 32) : Prop :=
  (∀ a x, ((![v98] : Fin 1 → IVec S16 32) a x).toNat < S16.size a) ∧
  (∀ a x, ((![v98] : Fin 1 → IVec S16 32) a x).toNat < S16.size a)
theorem k0_idx59_inb : ∀ (v98 : IVec S16 32) (k0_hw30 : k0_chk30 v98), ∀ a x, ((![v98] : Fin 1 → IVec S16 32) a x).toNat < S16.size a := fun v98 k0_hw30 => k0_hw30.1
theorem k0_idx60_inb : ∀ (v98 : IVec S16 32) (k0_hw30 : k0_chk30 v98), ∀ a x, ((![v98] : Fin 1 → IVec S16 32) a x).toNat < S16.size a := fun v98 k0_hw30 => k0_hw30.2

def k0_chk31 (v101 : IVec S16 32) : Prop :=
  (∀ a x, ((![v101] : Fin 1 → IVec S16 32) a x).toNat < S16.size a) ∧
  (∀ a x, ((![v101] : Fin 1 → IVec S16 32) a x).toNat < S16.size a)
theorem k0_idx61_inb : ∀ (v101 : IVec S16 32) (k0_hw31 : k0_chk31 v101), ∀ a x, ((![v101] : Fin 1 → IVec S16 32) a x).toNat < S16.size a := fun v101 k0_hw31 => k0_hw31.1
theorem k0_idx62_inb : ∀ (v101 : IVec S16 32) (k0_hw31 : k0_chk31 v101), ∀ a x, ((![v101] : Fin 1 → IVec S16 32) a x).toNat < S16.size a := fun v101 k0_hw31 => k0_hw31.2

def k0_chk32 (v104 : IVec S16 32) : Prop :=
  (∀ a x, ((![v104] : Fin 1 → IVec S16 32) a x).toNat < S16.size a) ∧
  (∀ a x, ((![v104] : Fin 1 → IVec S16 32) a x).toNat < S16.size a)
theorem k0_idx63_inb : ∀ (v104 : IVec S16 32) (k0_hw32 : k0_chk32 v104), ∀ a x, ((![v104] : Fin 1 → IVec S16 32) a x).toNat < S16.size a := fun v104 k0_hw32 => k0_hw32.1
theorem k0_idx64_inb : ∀ (v104 : IVec S16 32) (k0_hw32 : k0_chk32 v104), ∀ a x, ((![v104] : Fin 1 → IVec S16 32) a x).toNat < S16.size a := fun v104 k0_hw32 => k0_hw32.2

def k0_chk33 (v107 : IVec S16 32) : Prop :=
  (∀ a x, ((![v107] : Fin 1 → IVec S16 32) a x).toNat < S16.size a) ∧
  (∀ a x, ((![v107] : Fin 1 → IVec S16 32) a x).toNat < S16.size a)
theorem k0_idx65_inb : ∀ (v107 : IVec S16 32) (k0_hw33 : k0_chk33 v107), ∀ a x, ((![v107] : Fin 1 → IVec S16 32) a x).toNat < S16.size a := fun v107 k0_hw33 => k0_hw33.1
theorem k0_idx66_inb : ∀ (v107 : IVec S16 32) (k0_hw33 : k0_chk33 v107), ∀ a x, ((![v107] : Fin 1 → IVec S16 32) a x).toNat < S16.size a := fun v107 k0_hw33 => k0_hw33.2

def k0_chk34 (v110 : IVec S16 32) : Prop :=
  (∀ a x, ((![v110] : Fin 1 → IVec S16 32) a x).toNat < S16.size a) ∧
  (∀ a x, ((![v110] : Fin 1 → IVec S16 32) a x).toNat < S16.size a)
theorem k0_idx67_inb : ∀ (v110 : IVec S16 32) (k0_hw34 : k0_chk34 v110), ∀ a x, ((![v110] : Fin 1 → IVec S16 32) a x).toNat < S16.size a := fun v110 k0_hw34 => k0_hw34.1
theorem k0_idx68_inb : ∀ (v110 : IVec S16 32) (k0_hw34 : k0_chk34 v110), ∀ a x, ((![v110] : Fin 1 → IVec S16 32) a x).toNat < S16.size a := fun v110 k0_hw34 => k0_hw34.2

def k0_chk35 (v113 : IVec S16 32) : Prop :=
  (∀ a x, ((![v113] : Fin 1 → IVec S16 32) a x).toNat < S16.size a) ∧
  (∀ a x, ((![v113] : Fin 1 → IVec S16 32) a x).toNat < S16.size a)
theorem k0_idx69_inb : ∀ (v113 : IVec S16 32) (k0_hw35 : k0_chk35 v113), ∀ a x, ((![v113] : Fin 1 → IVec S16 32) a x).toNat < S16.size a := fun v113 k0_hw35 => k0_hw35.1
theorem k0_idx70_inb : ∀ (v113 : IVec S16 32) (k0_hw35 : k0_chk35 v113), ∀ a x, ((![v113] : Fin 1 → IVec S16 32) a x).toNat < S16.size a := fun v113 k0_hw35 => k0_hw35.2

def k0_chk36 (v116 : IVec S16 32) : Prop :=
  (∀ a x, ((![v116] : Fin 1 → IVec S16 32) a x).toNat < S16.size a) ∧
  (∀ a x, ((![v116] : Fin 1 → IVec S16 32) a x).toNat < S16.size a)
theorem k0_idx71_inb : ∀ (v116 : IVec S16 32) (k0_hw36 : k0_chk36 v116), ∀ a x, ((![v116] : Fin 1 → IVec S16 32) a x).toNat < S16.size a := fun v116 k0_hw36 => k0_hw36.1
theorem k0_idx72_inb : ∀ (v116 : IVec S16 32) (k0_hw36 : k0_chk36 v116), ∀ a x, ((![v116] : Fin 1 → IVec S16 32) a x).toNat < S16.size a := fun v116 k0_hw36 => k0_hw36.2

def k0_chk37 (v119 : IVec S16 32) : Prop :=
  (∀ a x, ((![v119] : Fin 1 → IVec S16 32) a x).toNat < S16.size a) ∧
  (∀ a x, ((![v119] : Fin 1 → IVec S16 32) a x).toNat < S16.size a)
theorem k0_idx73_inb : ∀ (v119 : IVec S16 32) (k0_hw37 : k0_chk37 v119), ∀ a x, ((![v119] : Fin 1 → IVec S16 32) a x).toNat < S16.size a := fun v119 k0_hw37 => k0_hw37.1
theorem k0_idx74_inb : ∀ (v119 : IVec S16 32) (k0_hw37 : k0_chk37 v119), ∀ a x, ((![v119] : Fin 1 → IVec S16 32) a x).toNat < S16.size a := fun v119 k0_hw37 => k0_hw37.2

def k0_chk38 (v122 : IVec S16 32) : Prop :=
  (∀ a x, ((![v122] : Fin 1 → IVec S16 32) a x).toNat < S16.size a) ∧
  (∀ a x, ((![v122] : Fin 1 → IVec S16 32) a x).toNat < S16.size a)
theorem k0_idx75_inb : ∀ (v122 : IVec S16 32) (k0_hw38 : k0_chk38 v122), ∀ a x, ((![v122] : Fin 1 → IVec S16 32) a x).toNat < S16.size a := fun v122 k0_hw38 => k0_hw38.1
theorem k0_idx76_inb : ∀ (v122 : IVec S16 32) (k0_hw38 : k0_chk38 v122), ∀ a x, ((![v122] : Fin 1 → IVec S16 32) a x).toNat < S16.size a := fun v122 k0_hw38 => k0_hw38.2

def k0_chk39 (v125 : IVec S16 32) : Prop :=
  (∀ a x, ((![v125] : Fin 1 → IVec S16 32) a x).toNat < S16.size a) ∧
  (∀ a x, ((![v125] : Fin 1 → IVec S16 32) a x).toNat < S16.size a)
theorem k0_idx77_inb : ∀ (v125 : IVec S16 32) (k0_hw39 : k0_chk39 v125), ∀ a x, ((![v125] : Fin 1 → IVec S16 32) a x).toNat < S16.size a := fun v125 k0_hw39 => k0_hw39.1
theorem k0_idx78_inb : ∀ (v125 : IVec S16 32) (k0_hw39 : k0_chk39 v125), ∀ a x, ((![v125] : Fin 1 → IVec S16 32) a x).toNat < S16.size a := fun v125 k0_hw39 => k0_hw39.2

def k0_chk40 (v128 : IVec S16 32) : Prop :=
  (∀ a x, ((![v128] : Fin 1 → IVec S16 32) a x).toNat < S16.size a) ∧
  (∀ a x, ((![v128] : Fin 1 → IVec S16 32) a x).toNat < S16.size a)
theorem k0_idx79_inb : ∀ (v128 : IVec S16 32) (k0_hw40 : k0_chk40 v128), ∀ a x, ((![v128] : Fin 1 → IVec S16 32) a x).toNat < S16.size a := fun v128 k0_hw40 => k0_hw40.1
theorem k0_idx80_inb : ∀ (v128 : IVec S16 32) (k0_hw40 : k0_chk40 v128), ∀ a x, ((![v128] : Fin 1 → IVec S16 32) a x).toNat < S16.size a := fun v128 k0_hw40 => k0_hw40.2

def k0_chk41 (v131 : IVec S16 32) : Prop :=
  (∀ a x, ((![v131] : Fin 1 → IVec S16 32) a x).toNat < S16.size a) ∧
  (∀ a x, ((![v131] : Fin 1 → IVec S16 32) a x).toNat < S16.size a)
theorem k0_idx81_inb : ∀ (v131 : IVec S16 32) (k0_hw41 : k0_chk41 v131), ∀ a x, ((![v131] : Fin 1 → IVec S16 32) a x).toNat < S16.size a := fun v131 k0_hw41 => k0_hw41.1
theorem k0_idx82_inb : ∀ (v131 : IVec S16 32) (k0_hw41 : k0_chk41 v131), ∀ a x, ((![v131] : Fin 1 → IVec S16 32) a x).toNat < S16.size a := fun v131 k0_hw41 => k0_hw41.2

def k0_chk42 (v134 : IVec S16 32) : Prop :=
  (∀ a x, ((![v134] : Fin 1 → IVec S16 32) a x).toNat < S16.size a) ∧
  (∀ a x, ((![v134] : Fin 1 → IVec S16 32) a x).toNat < S16.size a)
theorem k0_idx83_inb : ∀ (v134 : IVec S16 32) (k0_hw42 : k0_chk42 v134), ∀ a x, ((![v134] : Fin 1 → IVec S16 32) a x).toNat < S16.size a := fun v134 k0_hw42 => k0_hw42.1
theorem k0_idx84_inb : ∀ (v134 : IVec S16 32) (k0_hw42 : k0_chk42 v134), ∀ a x, ((![v134] : Fin 1 → IVec S16 32) a x).toNat < S16.size a := fun v134 k0_hw42 => k0_hw42.2

def k0_chk43 (v137 : IVec S16 32) : Prop :=
  (∀ a x, ((![v137] : Fin 1 → IVec S16 32) a x).toNat < S16.size a) ∧
  (∀ a x, ((![v137] : Fin 1 → IVec S16 32) a x).toNat < S16.size a)
theorem k0_idx85_inb : ∀ (v137 : IVec S16 32) (k0_hw43 : k0_chk43 v137), ∀ a x, ((![v137] : Fin 1 → IVec S16 32) a x).toNat < S16.size a := fun v137 k0_hw43 => k0_hw43.1
theorem k0_idx86_inb : ∀ (v137 : IVec S16 32) (k0_hw43 : k0_chk43 v137), ∀ a x, ((![v137] : Fin 1 → IVec S16 32) a x).toNat < S16.size a := fun v137 k0_hw43 => k0_hw43.2

def k0_chk44 (v140 : IVec S16 32) : Prop :=
  (∀ a x, ((![v140] : Fin 1 → IVec S16 32) a x).toNat < S16.size a) ∧
  (∀ a x, ((![v140] : Fin 1 → IVec S16 32) a x).toNat < S16.size a)
theorem k0_idx87_inb : ∀ (v140 : IVec S16 32) (k0_hw44 : k0_chk44 v140), ∀ a x, ((![v140] : Fin 1 → IVec S16 32) a x).toNat < S16.size a := fun v140 k0_hw44 => k0_hw44.1
theorem k0_idx88_inb : ∀ (v140 : IVec S16 32) (k0_hw44 : k0_chk44 v140), ∀ a x, ((![v140] : Fin 1 → IVec S16 32) a x).toNat < S16.size a := fun v140 k0_hw44 => k0_hw44.2

def k0_chk45 (v143 : IVec S16 32) : Prop :=
  (∀ a x, ((![v143] : Fin 1 → IVec S16 32) a x).toNat < S16.size a) ∧
  (∀ a x, ((![v143] : Fin 1 → IVec S16 32) a x).toNat < S16.size a)
theorem k0_idx89_inb : ∀ (v143 : IVec S16 32) (k0_hw45 : k0_chk45 v143), ∀ a x, ((![v143] : Fin 1 → IVec S16 32) a x).toNat < S16.size a := fun v143 k0_hw45 => k0_hw45.1
theorem k0_idx90_inb : ∀ (v143 : IVec S16 32) (k0_hw45 : k0_chk45 v143), ∀ a x, ((![v143] : Fin 1 → IVec S16 32) a x).toNat < S16.size a := fun v143 k0_hw45 => k0_hw45.2

def k0_chk46 (v146 : IVec S16 32) : Prop :=
  (∀ a x, ((![v146] : Fin 1 → IVec S16 32) a x).toNat < S16.size a) ∧
  (∀ a x, ((![v146] : Fin 1 → IVec S16 32) a x).toNat < S16.size a)
theorem k0_idx91_inb : ∀ (v146 : IVec S16 32) (k0_hw46 : k0_chk46 v146), ∀ a x, ((![v146] : Fin 1 → IVec S16 32) a x).toNat < S16.size a := fun v146 k0_hw46 => k0_hw46.1
theorem k0_idx92_inb : ∀ (v146 : IVec S16 32) (k0_hw46 : k0_chk46 v146), ∀ a x, ((![v146] : Fin 1 → IVec S16 32) a x).toNat < S16.size a := fun v146 k0_hw46 => k0_hw46.2

def k0_chk47 (v149 : IVec S16 32) : Prop :=
  (∀ a x, ((![v149] : Fin 1 → IVec S16 32) a x).toNat < S16.size a) ∧
  (∀ a x, ((![v149] : Fin 1 → IVec S16 32) a x).toNat < S16.size a)
theorem k0_idx93_inb : ∀ (v149 : IVec S16 32) (k0_hw47 : k0_chk47 v149), ∀ a x, ((![v149] : Fin 1 → IVec S16 32) a x).toNat < S16.size a := fun v149 k0_hw47 => k0_hw47.1
theorem k0_idx94_inb : ∀ (v149 : IVec S16 32) (k0_hw47 : k0_chk47 v149), ∀ a x, ((![v149] : Fin 1 → IVec S16 32) a x).toNat < S16.size a := fun v149 k0_hw47 => k0_hw47.2

def k0_chk48 (v152 : IVec S16 32) : Prop :=
  (∀ a x, ((![v152] : Fin 1 → IVec S16 32) a x).toNat < S16.size a) ∧
  (∀ a x, ((![v152] : Fin 1 → IVec S16 32) a x).toNat < S16.size a)
theorem k0_idx95_inb : ∀ (v152 : IVec S16 32) (k0_hw48 : k0_chk48 v152), ∀ a x, ((![v152] : Fin 1 → IVec S16 32) a x).toNat < S16.size a := fun v152 k0_hw48 => k0_hw48.1
theorem k0_idx96_inb : ∀ (v152 : IVec S16 32) (k0_hw48 : k0_chk48 v152), ∀ a x, ((![v152] : Fin 1 → IVec S16 32) a x).toNat < S16.size a := fun v152 k0_hw48 => k0_hw48.2

def k0_chk49 (v155 : IVec S16 32) : Prop :=
  (∀ a x, ((![v155] : Fin 1 → IVec S16 32) a x).toNat < S16.size a) ∧
  (∀ a x, ((![v155] : Fin 1 → IVec S16 32) a x).toNat < S16.size a)
theorem k0_idx97_inb : ∀ (v155 : IVec S16 32) (k0_hw49 : k0_chk49 v155), ∀ a x, ((![v155] : Fin 1 → IVec S16 32) a x).toNat < S16.size a := fun v155 k0_hw49 => k0_hw49.1
theorem k0_idx98_inb : ∀ (v155 : IVec S16 32) (k0_hw49 : k0_chk49 v155), ∀ a x, ((![v155] : Fin 1 → IVec S16 32) a x).toNat < S16.size a := fun v155 k0_hw49 => k0_hw49.2

def k0_chk50 (v158 : IVec S16 32) : Prop :=
  (∀ a x, ((![v158] : Fin 1 → IVec S16 32) a x).toNat < S16.size a) ∧
  (∀ a x, ((![v158] : Fin 1 → IVec S16 32) a x).toNat < S16.size a)
theorem k0_idx99_inb : ∀ (v158 : IVec S16 32) (k0_hw50 : k0_chk50 v158), ∀ a x, ((![v158] : Fin 1 → IVec S16 32) a x).toNat < S16.size a := fun v158 k0_hw50 => k0_hw50.1
theorem k0_idx100_inb : ∀ (v158 : IVec S16 32) (k0_hw50 : k0_chk50 v158), ∀ a x, ((![v158] : Fin 1 → IVec S16 32) a x).toNat < S16.size a := fun v158 k0_hw50 => k0_hw50.2

def k0_chk51 (v161 : IVec S16 32) : Prop :=
  (∀ a x, ((![v161] : Fin 1 → IVec S16 32) a x).toNat < S16.size a) ∧
  (∀ a x, ((![v161] : Fin 1 → IVec S16 32) a x).toNat < S16.size a)
theorem k0_idx101_inb : ∀ (v161 : IVec S16 32) (k0_hw51 : k0_chk51 v161), ∀ a x, ((![v161] : Fin 1 → IVec S16 32) a x).toNat < S16.size a := fun v161 k0_hw51 => k0_hw51.1
theorem k0_idx102_inb : ∀ (v161 : IVec S16 32) (k0_hw51 : k0_chk51 v161), ∀ a x, ((![v161] : Fin 1 → IVec S16 32) a x).toNat < S16.size a := fun v161 k0_hw51 => k0_hw51.2

def k0_chk52 (v164 : IVec S16 32) : Prop :=
  (∀ a x, ((![v164] : Fin 1 → IVec S16 32) a x).toNat < S16.size a) ∧
  (∀ a x, ((![v164] : Fin 1 → IVec S16 32) a x).toNat < S16.size a)
theorem k0_idx103_inb : ∀ (v164 : IVec S16 32) (k0_hw52 : k0_chk52 v164), ∀ a x, ((![v164] : Fin 1 → IVec S16 32) a x).toNat < S16.size a := fun v164 k0_hw52 => k0_hw52.1
theorem k0_idx104_inb : ∀ (v164 : IVec S16 32) (k0_hw52 : k0_chk52 v164), ∀ a x, ((![v164] : Fin 1 → IVec S16 32) a x).toNat < S16.size a := fun v164 k0_hw52 => k0_hw52.2

def k0_chk53 (v167 : IVec S16 32) : Prop :=
  (∀ a x, ((![v167] : Fin 1 → IVec S16 32) a x).toNat < S16.size a) ∧
  (∀ a x, ((![v167] : Fin 1 → IVec S16 32) a x).toNat < S16.size a)
theorem k0_idx105_inb : ∀ (v167 : IVec S16 32) (k0_hw53 : k0_chk53 v167), ∀ a x, ((![v167] : Fin 1 → IVec S16 32) a x).toNat < S16.size a := fun v167 k0_hw53 => k0_hw53.1
theorem k0_idx106_inb : ∀ (v167 : IVec S16 32) (k0_hw53 : k0_chk53 v167), ∀ a x, ((![v167] : Fin 1 → IVec S16 32) a x).toNat < S16.size a := fun v167 k0_hw53 => k0_hw53.2

def k0_chk54 (v170 : IVec S16 32) : Prop :=
  (∀ a x, ((![v170] : Fin 1 → IVec S16 32) a x).toNat < S16.size a) ∧
  (∀ a x, ((![v170] : Fin 1 → IVec S16 32) a x).toNat < S16.size a)
theorem k0_idx107_inb : ∀ (v170 : IVec S16 32) (k0_hw54 : k0_chk54 v170), ∀ a x, ((![v170] : Fin 1 → IVec S16 32) a x).toNat < S16.size a := fun v170 k0_hw54 => k0_hw54.1
theorem k0_idx108_inb : ∀ (v170 : IVec S16 32) (k0_hw54 : k0_chk54 v170), ∀ a x, ((![v170] : Fin 1 → IVec S16 32) a x).toNat < S16.size a := fun v170 k0_hw54 => k0_hw54.2

def k0_chk55 (v173 : IVec S16 32) : Prop :=
  (∀ a x, ((![v173] : Fin 1 → IVec S16 32) a x).toNat < S16.size a) ∧
  (∀ a x, ((![v173] : Fin 1 → IVec S16 32) a x).toNat < S16.size a)
theorem k0_idx109_inb : ∀ (v173 : IVec S16 32) (k0_hw55 : k0_chk55 v173), ∀ a x, ((![v173] : Fin 1 → IVec S16 32) a x).toNat < S16.size a := fun v173 k0_hw55 => k0_hw55.1
theorem k0_idx110_inb : ∀ (v173 : IVec S16 32) (k0_hw55 : k0_chk55 v173), ∀ a x, ((![v173] : Fin 1 → IVec S16 32) a x).toNat < S16.size a := fun v173 k0_hw55 => k0_hw55.2

def k0_chk56 (v176 : IVec S16 32) : Prop :=
  (∀ a x, ((![v176] : Fin 1 → IVec S16 32) a x).toNat < S16.size a) ∧
  (∀ a x, ((![v176] : Fin 1 → IVec S16 32) a x).toNat < S16.size a)
theorem k0_idx111_inb : ∀ (v176 : IVec S16 32) (k0_hw56 : k0_chk56 v176), ∀ a x, ((![v176] : Fin 1 → IVec S16 32) a x).toNat < S16.size a := fun v176 k0_hw56 => k0_hw56.1
theorem k0_idx112_inb : ∀ (v176 : IVec S16 32) (k0_hw56 : k0_chk56 v176), ∀ a x, ((![v176] : Fin 1 → IVec S16 32) a x).toNat < S16.size a := fun v176 k0_hw56 => k0_hw56.2

def k0_chk57 (v179 : IVec S16 32) : Prop :=
  (∀ a x, ((![v179] : Fin 1 → IVec S16 32) a x).toNat < S16.size a) ∧
  (∀ a x, ((![v179] : Fin 1 → IVec S16 32) a x).toNat < S16.size a)
theorem k0_idx113_inb : ∀ (v179 : IVec S16 32) (k0_hw57 : k0_chk57 v179), ∀ a x, ((![v179] : Fin 1 → IVec S16 32) a x).toNat < S16.size a := fun v179 k0_hw57 => k0_hw57.1
theorem k0_idx114_inb : ∀ (v179 : IVec S16 32) (k0_hw57 : k0_chk57 v179), ∀ a x, ((![v179] : Fin 1 → IVec S16 32) a x).toNat < S16.size a := fun v179 k0_hw57 => k0_hw57.2

def k0_chk58 (v182 : IVec S16 32) : Prop :=
  (∀ a x, ((![v182] : Fin 1 → IVec S16 32) a x).toNat < S16.size a) ∧
  (∀ a x, ((![v182] : Fin 1 → IVec S16 32) a x).toNat < S16.size a)
theorem k0_idx115_inb : ∀ (v182 : IVec S16 32) (k0_hw58 : k0_chk58 v182), ∀ a x, ((![v182] : Fin 1 → IVec S16 32) a x).toNat < S16.size a := fun v182 k0_hw58 => k0_hw58.1
theorem k0_idx116_inb : ∀ (v182 : IVec S16 32) (k0_hw58 : k0_chk58 v182), ∀ a x, ((![v182] : Fin 1 → IVec S16 32) a x).toNat < S16.size a := fun v182 k0_hw58 => k0_hw58.2

def k0_chk59 (v185 : IVec S16 32) : Prop :=
  (∀ a x, ((![v185] : Fin 1 → IVec S16 32) a x).toNat < S16.size a) ∧
  (∀ a x, ((![v185] : Fin 1 → IVec S16 32) a x).toNat < S16.size a)
theorem k0_idx117_inb : ∀ (v185 : IVec S16 32) (k0_hw59 : k0_chk59 v185), ∀ a x, ((![v185] : Fin 1 → IVec S16 32) a x).toNat < S16.size a := fun v185 k0_hw59 => k0_hw59.1
theorem k0_idx118_inb : ∀ (v185 : IVec S16 32) (k0_hw59 : k0_chk59 v185), ∀ a x, ((![v185] : Fin 1 → IVec S16 32) a x).toNat < S16.size a := fun v185 k0_hw59 => k0_hw59.2

def k0_chk60 (v188 : IVec S16 32) : Prop :=
  (∀ a x, ((![v188] : Fin 1 → IVec S16 32) a x).toNat < S16.size a) ∧
  (∀ a x, ((![v188] : Fin 1 → IVec S16 32) a x).toNat < S16.size a)
theorem k0_idx119_inb : ∀ (v188 : IVec S16 32) (k0_hw60 : k0_chk60 v188), ∀ a x, ((![v188] : Fin 1 → IVec S16 32) a x).toNat < S16.size a := fun v188 k0_hw60 => k0_hw60.1
theorem k0_idx120_inb : ∀ (v188 : IVec S16 32) (k0_hw60 : k0_chk60 v188), ∀ a x, ((![v188] : Fin 1 → IVec S16 32) a x).toNat < S16.size a := fun v188 k0_hw60 => k0_hw60.2

def k0_chk61 (v191 : IVec S16 32) : Prop :=
  (∀ a x, ((![v191] : Fin 1 → IVec S16 32) a x).toNat < S16.size a) ∧
  (∀ a x, ((![v191] : Fin 1 → IVec S16 32) a x).toNat < S16.size a)
theorem k0_idx121_inb : ∀ (v191 : IVec S16 32) (k0_hw61 : k0_chk61 v191), ∀ a x, ((![v191] : Fin 1 → IVec S16 32) a x).toNat < S16.size a := fun v191 k0_hw61 => k0_hw61.1
theorem k0_idx122_inb : ∀ (v191 : IVec S16 32) (k0_hw61 : k0_chk61 v191), ∀ a x, ((![v191] : Fin 1 → IVec S16 32) a x).toNat < S16.size a := fun v191 k0_hw61 => k0_hw61.2

def k0_chk62 (v194 : IVec S16 32) : Prop :=
  (∀ a x, ((![v194] : Fin 1 → IVec S16 32) a x).toNat < S16.size a) ∧
  (∀ a x, ((![v194] : Fin 1 → IVec S16 32) a x).toNat < S16.size a)
theorem k0_idx123_inb : ∀ (v194 : IVec S16 32) (k0_hw62 : k0_chk62 v194), ∀ a x, ((![v194] : Fin 1 → IVec S16 32) a x).toNat < S16.size a := fun v194 k0_hw62 => k0_hw62.1
theorem k0_idx124_inb : ∀ (v194 : IVec S16 32) (k0_hw62 : k0_chk62 v194), ∀ a x, ((![v194] : Fin 1 → IVec S16 32) a x).toNat < S16.size a := fun v194 k0_hw62 => k0_hw62.2

def k0_chk63 (v197 : IVec S16 32) : Prop :=
  (∀ a x, ((![v197] : Fin 1 → IVec S16 32) a x).toNat < S16.size a) ∧
  (∀ a x, ((![v197] : Fin 1 → IVec S16 32) a x).toNat < S16.size a)
theorem k0_idx125_inb : ∀ (v197 : IVec S16 32) (k0_hw63 : k0_chk63 v197), ∀ a x, ((![v197] : Fin 1 → IVec S16 32) a x).toNat < S16.size a := fun v197 k0_hw63 => k0_hw63.1
theorem k0_idx126_inb : ∀ (v197 : IVec S16 32) (k0_hw63 : k0_chk63 v197), ∀ a x, ((![v197] : Fin 1 → IVec S16 32) a x).toNat < S16.size a := fun v197 k0_hw63 => k0_hw63.2

def k0_chk64 (v200 : IVec S16 32) : Prop :=
  (∀ a x, ((![v200] : Fin 1 → IVec S16 32) a x).toNat < S16.size a) ∧
  (∀ a x, ((![v200] : Fin 1 → IVec S16 32) a x).toNat < S16.size a)
theorem k0_idx127_inb : ∀ (v200 : IVec S16 32) (k0_hw64 : k0_chk64 v200), ∀ a x, ((![v200] : Fin 1 → IVec S16 32) a x).toNat < S16.size a := fun v200 k0_hw64 => k0_hw64.1
theorem k0_idx128_inb : ∀ (v200 : IVec S16 32) (k0_hw64 : k0_chk64 v200), ∀ a x, ((![v200] : Fin 1 → IVec S16 32) a x).toNat < S16.size a := fun v200 k0_hw64 => k0_hw64.2

def k0_chk65 (v203 : IVec S16 32) : Prop :=
  (∀ a x, ((![v203] : Fin 1 → IVec S16 32) a x).toNat < S16.size a) ∧
  (∀ a x, ((![v203] : Fin 1 → IVec S16 32) a x).toNat < S16.size a)
theorem k0_idx129_inb : ∀ (v203 : IVec S16 32) (k0_hw65 : k0_chk65 v203), ∀ a x, ((![v203] : Fin 1 → IVec S16 32) a x).toNat < S16.size a := fun v203 k0_hw65 => k0_hw65.1
theorem k0_idx130_inb : ∀ (v203 : IVec S16 32) (k0_hw65 : k0_chk65 v203), ∀ a x, ((![v203] : Fin 1 → IVec S16 32) a x).toNat < S16.size a := fun v203 k0_hw65 => k0_hw65.2

def k0_chk66 (v206 : IVec S16 32) : Prop :=
  (∀ a x, ((![v206] : Fin 1 → IVec S16 32) a x).toNat < S16.size a) ∧
  (∀ a x, ((![v206] : Fin 1 → IVec S16 32) a x).toNat < S16.size a)
theorem k0_idx131_inb : ∀ (v206 : IVec S16 32) (k0_hw66 : k0_chk66 v206), ∀ a x, ((![v206] : Fin 1 → IVec S16 32) a x).toNat < S16.size a := fun v206 k0_hw66 => k0_hw66.1
theorem k0_idx132_inb : ∀ (v206 : IVec S16 32) (k0_hw66 : k0_chk66 v206), ∀ a x, ((![v206] : Fin 1 → IVec S16 32) a x).toNat < S16.size a := fun v206 k0_hw66 => k0_hw66.2

def k0_chk67 (v209 : IVec S16 32) : Prop :=
  (∀ a x, ((![v209] : Fin 1 → IVec S16 32) a x).toNat < S16.size a) ∧
  (∀ a x, ((![v209] : Fin 1 → IVec S16 32) a x).toNat < S16.size a)
theorem k0_idx133_inb : ∀ (v209 : IVec S16 32) (k0_hw67 : k0_chk67 v209), ∀ a x, ((![v209] : Fin 1 → IVec S16 32) a x).toNat < S16.size a := fun v209 k0_hw67 => k0_hw67.1
theorem k0_idx134_inb : ∀ (v209 : IVec S16 32) (k0_hw67 : k0_chk67 v209), ∀ a x, ((![v209] : Fin 1 → IVec S16 32) a x).toNat < S16.size a := fun v209 k0_hw67 => k0_hw67.2

def k0_chk68 (v212 : IVec S16 32) : Prop :=
  (∀ a x, ((![v212] : Fin 1 → IVec S16 32) a x).toNat < S16.size a) ∧
  (∀ a x, ((![v212] : Fin 1 → IVec S16 32) a x).toNat < S16.size a)
theorem k0_idx135_inb : ∀ (v212 : IVec S16 32) (k0_hw68 : k0_chk68 v212), ∀ a x, ((![v212] : Fin 1 → IVec S16 32) a x).toNat < S16.size a := fun v212 k0_hw68 => k0_hw68.1
theorem k0_idx136_inb : ∀ (v212 : IVec S16 32) (k0_hw68 : k0_chk68 v212), ∀ a x, ((![v212] : Fin 1 → IVec S16 32) a x).toNat < S16.size a := fun v212 k0_hw68 => k0_hw68.2

def k0_chk69 (v215 : IVec S16 32) : Prop :=
  (∀ a x, ((![v215] : Fin 1 → IVec S16 32) a x).toNat < S16.size a) ∧
  (∀ a x, ((![v215] : Fin 1 → IVec S16 32) a x).toNat < S16.size a)
theorem k0_idx137_inb : ∀ (v215 : IVec S16 32) (k0_hw69 : k0_chk69 v215), ∀ a x, ((![v215] : Fin 1 → IVec S16 32) a x).toNat < S16.size a := fun v215 k0_hw69 => k0_hw69.1
theorem k0_idx138_inb : ∀ (v215 : IVec S16 32) (k0_hw69 : k0_chk69 v215), ∀ a x, ((![v215] : Fin 1 → IVec S16 32) a x).toNat < S16.size a := fun v215 k0_hw69 => k0_hw69.2

def k0_chk70 (v218 : IVec S16 32) : Prop :=
  (∀ a x, ((![v218] : Fin 1 → IVec S16 32) a x).toNat < S16.size a) ∧
  (∀ a x, ((![v218] : Fin 1 → IVec S16 32) a x).toNat < S16.size a)
theorem k0_idx139_inb : ∀ (v218 : IVec S16 32) (k0_hw70 : k0_chk70 v218), ∀ a x, ((![v218] : Fin 1 → IVec S16 32) a x).toNat < S16.size a := fun v218 k0_hw70 => k0_hw70.1
theorem k0_idx140_inb : ∀ (v218 : IVec S16 32) (k0_hw70 : k0_chk70 v218), ∀ a x, ((![v218] : Fin 1 → IVec S16 32) a x).toNat < S16.size a := fun v218 k0_hw70 => k0_hw70.2

def k0_chk71 (v221 : IVec S16 32) : Prop :=
  (∀ a x, ((![v221] : Fin 1 → IVec S16 32) a x).toNat < S16.size a) ∧
  (∀ a x, ((![v221] : Fin 1 → IVec S16 32) a x).toNat < S16.size a)
theorem k0_idx141_inb : ∀ (v221 : IVec S16 32) (k0_hw71 : k0_chk71 v221), ∀ a x, ((![v221] : Fin 1 → IVec S16 32) a x).toNat < S16.size a := fun v221 k0_hw71 => k0_hw71.1
theorem k0_idx142_inb : ∀ (v221 : IVec S16 32) (k0_hw71 : k0_chk71 v221), ∀ a x, ((![v221] : Fin 1 → IVec S16 32) a x).toNat < S16.size a := fun v221 k0_hw71 => k0_hw71.2

def k0_chk72 (v224 : IVec S16 32) : Prop :=
  (∀ a x, ((![v224] : Fin 1 → IVec S16 32) a x).toNat < S16.size a) ∧
  (∀ a x, ((![v224] : Fin 1 → IVec S16 32) a x).toNat < S16.size a)
theorem k0_idx143_inb : ∀ (v224 : IVec S16 32) (k0_hw72 : k0_chk72 v224), ∀ a x, ((![v224] : Fin 1 → IVec S16 32) a x).toNat < S16.size a := fun v224 k0_hw72 => k0_hw72.1
theorem k0_idx144_inb : ∀ (v224 : IVec S16 32) (k0_hw72 : k0_chk72 v224), ∀ a x, ((![v224] : Fin 1 → IVec S16 32) a x).toNat < S16.size a := fun v224 k0_hw72 => k0_hw72.2

def k0_chk73 (v227 : IVec S16 32) : Prop :=
  (∀ a x, ((![v227] : Fin 1 → IVec S16 32) a x).toNat < S16.size a) ∧
  (∀ a x, ((![v227] : Fin 1 → IVec S16 32) a x).toNat < S16.size a)
theorem k0_idx145_inb : ∀ (v227 : IVec S16 32) (k0_hw73 : k0_chk73 v227), ∀ a x, ((![v227] : Fin 1 → IVec S16 32) a x).toNat < S16.size a := fun v227 k0_hw73 => k0_hw73.1
theorem k0_idx146_inb : ∀ (v227 : IVec S16 32) (k0_hw73 : k0_chk73 v227), ∀ a x, ((![v227] : Fin 1 → IVec S16 32) a x).toNat < S16.size a := fun v227 k0_hw73 => k0_hw73.2

def k0_chk74 (v230 : IVec S16 32) : Prop :=
  (∀ a x, ((![v230] : Fin 1 → IVec S16 32) a x).toNat < S16.size a) ∧
  (∀ a x, ((![v230] : Fin 1 → IVec S16 32) a x).toNat < S16.size a)
theorem k0_idx147_inb : ∀ (v230 : IVec S16 32) (k0_hw74 : k0_chk74 v230), ∀ a x, ((![v230] : Fin 1 → IVec S16 32) a x).toNat < S16.size a := fun v230 k0_hw74 => k0_hw74.1
theorem k0_idx148_inb : ∀ (v230 : IVec S16 32) (k0_hw74 : k0_chk74 v230), ∀ a x, ((![v230] : Fin 1 → IVec S16 32) a x).toNat < S16.size a := fun v230 k0_hw74 => k0_hw74.2

def k0_chk75 (v233 : IVec S16 32) : Prop :=
  (∀ a x, ((![v233] : Fin 1 → IVec S16 32) a x).toNat < S16.size a) ∧
  (∀ a x, ((![v233] : Fin 1 → IVec S16 32) a x).toNat < S16.size a)
theorem k0_idx149_inb : ∀ (v233 : IVec S16 32) (k0_hw75 : k0_chk75 v233), ∀ a x, ((![v233] : Fin 1 → IVec S16 32) a x).toNat < S16.size a := fun v233 k0_hw75 => k0_hw75.1
theorem k0_idx150_inb : ∀ (v233 : IVec S16 32) (k0_hw75 : k0_chk75 v233), ∀ a x, ((![v233] : Fin 1 → IVec S16 32) a x).toNat < S16.size a := fun v233 k0_hw75 => k0_hw75.2

def k0_chk76 (v236 : IVec S16 32) : Prop :=
  (∀ a x, ((![v236] : Fin 1 → IVec S16 32) a x).toNat < S16.size a) ∧
  (∀ a x, ((![v236] : Fin 1 → IVec S16 32) a x).toNat < S16.size a)
theorem k0_idx151_inb : ∀ (v236 : IVec S16 32) (k0_hw76 : k0_chk76 v236), ∀ a x, ((![v236] : Fin 1 → IVec S16 32) a x).toNat < S16.size a := fun v236 k0_hw76 => k0_hw76.1
theorem k0_idx152_inb : ∀ (v236 : IVec S16 32) (k0_hw76 : k0_chk76 v236), ∀ a x, ((![v236] : Fin 1 → IVec S16 32) a x).toNat < S16.size a := fun v236 k0_hw76 => k0_hw76.2

def k0_chk77 (v239 : IVec S16 32) : Prop :=
  (∀ a x, ((![v239] : Fin 1 → IVec S16 32) a x).toNat < S16.size a) ∧
  (∀ a x, ((![v239] : Fin 1 → IVec S16 32) a x).toNat < S16.size a)
theorem k0_idx153_inb : ∀ (v239 : IVec S16 32) (k0_hw77 : k0_chk77 v239), ∀ a x, ((![v239] : Fin 1 → IVec S16 32) a x).toNat < S16.size a := fun v239 k0_hw77 => k0_hw77.1
theorem k0_idx154_inb : ∀ (v239 : IVec S16 32) (k0_hw77 : k0_chk77 v239), ∀ a x, ((![v239] : Fin 1 → IVec S16 32) a x).toNat < S16.size a := fun v239 k0_hw77 => k0_hw77.2

def k0_chk78 (v242 : IVec S16 32) : Prop :=
  (∀ a x, ((![v242] : Fin 1 → IVec S16 32) a x).toNat < S16.size a) ∧
  (∀ a x, ((![v242] : Fin 1 → IVec S16 32) a x).toNat < S16.size a)
theorem k0_idx155_inb : ∀ (v242 : IVec S16 32) (k0_hw78 : k0_chk78 v242), ∀ a x, ((![v242] : Fin 1 → IVec S16 32) a x).toNat < S16.size a := fun v242 k0_hw78 => k0_hw78.1
theorem k0_idx156_inb : ∀ (v242 : IVec S16 32) (k0_hw78 : k0_chk78 v242), ∀ a x, ((![v242] : Fin 1 → IVec S16 32) a x).toNat < S16.size a := fun v242 k0_hw78 => k0_hw78.2

def k0_chk79 (v245 : IVec S16 32) : Prop :=
  (∀ a x, ((![v245] : Fin 1 → IVec S16 32) a x).toNat < S16.size a) ∧
  (∀ a x, ((![v245] : Fin 1 → IVec S16 32) a x).toNat < S16.size a)
theorem k0_idx157_inb : ∀ (v245 : IVec S16 32) (k0_hw79 : k0_chk79 v245), ∀ a x, ((![v245] : Fin 1 → IVec S16 32) a x).toNat < S16.size a := fun v245 k0_hw79 => k0_hw79.1
theorem k0_idx158_inb : ∀ (v245 : IVec S16 32) (k0_hw79 : k0_chk79 v245), ∀ a x, ((![v245] : Fin 1 → IVec S16 32) a x).toNat < S16.size a := fun v245 k0_hw79 => k0_hw79.2

def k0_chk80 (v248 : IVec S16 32) : Prop :=
  (∀ a x, ((![v248] : Fin 1 → IVec S16 32) a x).toNat < S16.size a) ∧
  (∀ a x, ((![v248] : Fin 1 → IVec S16 32) a x).toNat < S16.size a)
theorem k0_idx159_inb : ∀ (v248 : IVec S16 32) (k0_hw80 : k0_chk80 v248), ∀ a x, ((![v248] : Fin 1 → IVec S16 32) a x).toNat < S16.size a := fun v248 k0_hw80 => k0_hw80.1
theorem k0_idx160_inb : ∀ (v248 : IVec S16 32) (k0_hw80 : k0_chk80 v248), ∀ a x, ((![v248] : Fin 1 → IVec S16 32) a x).toNat < S16.size a := fun v248 k0_hw80 => k0_hw80.2

def k0_chk81 (v251 : IVec S16 32) : Prop :=
  (∀ a x, ((![v251] : Fin 1 → IVec S16 32) a x).toNat < S16.size a) ∧
  (∀ a x, ((![v251] : Fin 1 → IVec S16 32) a x).toNat < S16.size a)
theorem k0_idx161_inb : ∀ (v251 : IVec S16 32) (k0_hw81 : k0_chk81 v251), ∀ a x, ((![v251] : Fin 1 → IVec S16 32) a x).toNat < S16.size a := fun v251 k0_hw81 => k0_hw81.1
theorem k0_idx162_inb : ∀ (v251 : IVec S16 32) (k0_hw81 : k0_chk81 v251), ∀ a x, ((![v251] : Fin 1 → IVec S16 32) a x).toNat < S16.size a := fun v251 k0_hw81 => k0_hw81.2

def k0_chk82 (v254 : IVec S16 32) : Prop :=
  (∀ a x, ((![v254] : Fin 1 → IVec S16 32) a x).toNat < S16.size a) ∧
  (∀ a x, ((![v254] : Fin 1 → IVec S16 32) a x).toNat < S16.size a)
theorem k0_idx163_inb : ∀ (v254 : IVec S16 32) (k0_hw82 : k0_chk82 v254), ∀ a x, ((![v254] : Fin 1 → IVec S16 32) a x).toNat < S16.size a := fun v254 k0_hw82 => k0_hw82.1
theorem k0_idx164_inb : ∀ (v254 : IVec S16 32) (k0_hw82 : k0_chk82 v254), ∀ a x, ((![v254] : Fin 1 → IVec S16 32) a x).toNat < S16.size a := fun v254 k0_hw82 => k0_hw82.2

def k0_chk83 (v257 : IVec S16 32) : Prop :=
  (∀ a x, ((![v257] : Fin 1 → IVec S16 32) a x).toNat < S16.size a) ∧
  (∀ a x, ((![v257] : Fin 1 → IVec S16 32) a x).toNat < S16.size a)
theorem k0_idx165_inb : ∀ (v257 : IVec S16 32) (k0_hw83 : k0_chk83 v257), ∀ a x, ((![v257] : Fin 1 → IVec S16 32) a x).toNat < S16.size a := fun v257 k0_hw83 => k0_hw83.1
theorem k0_idx166_inb : ∀ (v257 : IVec S16 32) (k0_hw83 : k0_chk83 v257), ∀ a x, ((![v257] : Fin 1 → IVec S16 32) a x).toNat < S16.size a := fun v257 k0_hw83 => k0_hw83.2

def k0_chk84 (v260 : IVec S16 32) : Prop :=
  (∀ a x, ((![v260] : Fin 1 → IVec S16 32) a x).toNat < S16.size a) ∧
  (∀ a x, ((![v260] : Fin 1 → IVec S16 32) a x).toNat < S16.size a)
theorem k0_idx167_inb : ∀ (v260 : IVec S16 32) (k0_hw84 : k0_chk84 v260), ∀ a x, ((![v260] : Fin 1 → IVec S16 32) a x).toNat < S16.size a := fun v260 k0_hw84 => k0_hw84.1
theorem k0_idx168_inb : ∀ (v260 : IVec S16 32) (k0_hw84 : k0_chk84 v260), ∀ a x, ((![v260] : Fin 1 → IVec S16 32) a x).toNat < S16.size a := fun v260 k0_hw84 => k0_hw84.2

def k0_chk85 (v263 : IVec S16 32) : Prop :=
  (∀ a x, ((![v263] : Fin 1 → IVec S16 32) a x).toNat < S16.size a) ∧
  (∀ a x, ((![v263] : Fin 1 → IVec S16 32) a x).toNat < S16.size a)
theorem k0_idx169_inb : ∀ (v263 : IVec S16 32) (k0_hw85 : k0_chk85 v263), ∀ a x, ((![v263] : Fin 1 → IVec S16 32) a x).toNat < S16.size a := fun v263 k0_hw85 => k0_hw85.1
theorem k0_idx170_inb : ∀ (v263 : IVec S16 32) (k0_hw85 : k0_chk85 v263), ∀ a x, ((![v263] : Fin 1 → IVec S16 32) a x).toNat < S16.size a := fun v263 k0_hw85 => k0_hw85.2

def k0_chk86 (v266 : IVec S16 32) : Prop :=
  (∀ a x, ((![v266] : Fin 1 → IVec S16 32) a x).toNat < S16.size a) ∧
  (∀ a x, ((![v266] : Fin 1 → IVec S16 32) a x).toNat < S16.size a)
theorem k0_idx171_inb : ∀ (v266 : IVec S16 32) (k0_hw86 : k0_chk86 v266), ∀ a x, ((![v266] : Fin 1 → IVec S16 32) a x).toNat < S16.size a := fun v266 k0_hw86 => k0_hw86.1
theorem k0_idx172_inb : ∀ (v266 : IVec S16 32) (k0_hw86 : k0_chk86 v266), ∀ a x, ((![v266] : Fin 1 → IVec S16 32) a x).toNat < S16.size a := fun v266 k0_hw86 => k0_hw86.2

def k0_chk87 (v269 : IVec S16 32) : Prop :=
  (∀ a x, ((![v269] : Fin 1 → IVec S16 32) a x).toNat < S16.size a) ∧
  (∀ a x, ((![v269] : Fin 1 → IVec S16 32) a x).toNat < S16.size a)
theorem k0_idx173_inb : ∀ (v269 : IVec S16 32) (k0_hw87 : k0_chk87 v269), ∀ a x, ((![v269] : Fin 1 → IVec S16 32) a x).toNat < S16.size a := fun v269 k0_hw87 => k0_hw87.1
theorem k0_idx174_inb : ∀ (v269 : IVec S16 32) (k0_hw87 : k0_chk87 v269), ∀ a x, ((![v269] : Fin 1 → IVec S16 32) a x).toNat < S16.size a := fun v269 k0_hw87 => k0_hw87.2

def k0_chk88 (v272 : IVec S16 32) : Prop :=
  (∀ a x, ((![v272] : Fin 1 → IVec S16 32) a x).toNat < S16.size a) ∧
  (∀ a x, ((![v272] : Fin 1 → IVec S16 32) a x).toNat < S16.size a)
theorem k0_idx175_inb : ∀ (v272 : IVec S16 32) (k0_hw88 : k0_chk88 v272), ∀ a x, ((![v272] : Fin 1 → IVec S16 32) a x).toNat < S16.size a := fun v272 k0_hw88 => k0_hw88.1
theorem k0_idx176_inb : ∀ (v272 : IVec S16 32) (k0_hw88 : k0_chk88 v272), ∀ a x, ((![v272] : Fin 1 → IVec S16 32) a x).toNat < S16.size a := fun v272 k0_hw88 => k0_hw88.2

def k0_chk89 (v275 : IVec S16 32) : Prop :=
  (∀ a x, ((![v275] : Fin 1 → IVec S16 32) a x).toNat < S16.size a) ∧
  (∀ a x, ((![v275] : Fin 1 → IVec S16 32) a x).toNat < S16.size a)
theorem k0_idx177_inb : ∀ (v275 : IVec S16 32) (k0_hw89 : k0_chk89 v275), ∀ a x, ((![v275] : Fin 1 → IVec S16 32) a x).toNat < S16.size a := fun v275 k0_hw89 => k0_hw89.1
theorem k0_idx178_inb : ∀ (v275 : IVec S16 32) (k0_hw89 : k0_chk89 v275), ∀ a x, ((![v275] : Fin 1 → IVec S16 32) a x).toNat < S16.size a := fun v275 k0_hw89 => k0_hw89.2

def k0_chk90 (v278 : IVec S16 32) : Prop :=
  (∀ a x, ((![v278] : Fin 1 → IVec S16 32) a x).toNat < S16.size a) ∧
  (∀ a x, ((![v278] : Fin 1 → IVec S16 32) a x).toNat < S16.size a)
theorem k0_idx179_inb : ∀ (v278 : IVec S16 32) (k0_hw90 : k0_chk90 v278), ∀ a x, ((![v278] : Fin 1 → IVec S16 32) a x).toNat < S16.size a := fun v278 k0_hw90 => k0_hw90.1
theorem k0_idx180_inb : ∀ (v278 : IVec S16 32) (k0_hw90 : k0_chk90 v278), ∀ a x, ((![v278] : Fin 1 → IVec S16 32) a x).toNat < S16.size a := fun v278 k0_hw90 => k0_hw90.2

def k0_chk91 (v281 : IVec S16 32) : Prop :=
  (∀ a x, ((![v281] : Fin 1 → IVec S16 32) a x).toNat < S16.size a) ∧
  (∀ a x, ((![v281] : Fin 1 → IVec S16 32) a x).toNat < S16.size a)
theorem k0_idx181_inb : ∀ (v281 : IVec S16 32) (k0_hw91 : k0_chk91 v281), ∀ a x, ((![v281] : Fin 1 → IVec S16 32) a x).toNat < S16.size a := fun v281 k0_hw91 => k0_hw91.1
theorem k0_idx182_inb : ∀ (v281 : IVec S16 32) (k0_hw91 : k0_chk91 v281), ∀ a x, ((![v281] : Fin 1 → IVec S16 32) a x).toNat < S16.size a := fun v281 k0_hw91 => k0_hw91.2

def k0_chk92 (v284 : IVec S16 32) : Prop :=
  (∀ a x, ((![v284] : Fin 1 → IVec S16 32) a x).toNat < S16.size a) ∧
  (∀ a x, ((![v284] : Fin 1 → IVec S16 32) a x).toNat < S16.size a)
theorem k0_idx183_inb : ∀ (v284 : IVec S16 32) (k0_hw92 : k0_chk92 v284), ∀ a x, ((![v284] : Fin 1 → IVec S16 32) a x).toNat < S16.size a := fun v284 k0_hw92 => k0_hw92.1
theorem k0_idx184_inb : ∀ (v284 : IVec S16 32) (k0_hw92 : k0_chk92 v284), ∀ a x, ((![v284] : Fin 1 → IVec S16 32) a x).toNat < S16.size a := fun v284 k0_hw92 => k0_hw92.2

def k0_chk93 (v287 : IVec S16 32) : Prop :=
  (∀ a x, ((![v287] : Fin 1 → IVec S16 32) a x).toNat < S16.size a) ∧
  (∀ a x, ((![v287] : Fin 1 → IVec S16 32) a x).toNat < S16.size a)
theorem k0_idx185_inb : ∀ (v287 : IVec S16 32) (k0_hw93 : k0_chk93 v287), ∀ a x, ((![v287] : Fin 1 → IVec S16 32) a x).toNat < S16.size a := fun v287 k0_hw93 => k0_hw93.1
theorem k0_idx186_inb : ∀ (v287 : IVec S16 32) (k0_hw93 : k0_chk93 v287), ∀ a x, ((![v287] : Fin 1 → IVec S16 32) a x).toNat < S16.size a := fun v287 k0_hw93 => k0_hw93.2

def k0_chk94 (v290 : IVec S16 32) : Prop :=
  (∀ a x, ((![v290] : Fin 1 → IVec S16 32) a x).toNat < S16.size a) ∧
  (∀ a x, ((![v290] : Fin 1 → IVec S16 32) a x).toNat < S16.size a)
theorem k0_idx187_inb : ∀ (v290 : IVec S16 32) (k0_hw94 : k0_chk94 v290), ∀ a x, ((![v290] : Fin 1 → IVec S16 32) a x).toNat < S16.size a := fun v290 k0_hw94 => k0_hw94.1
theorem k0_idx188_inb : ∀ (v290 : IVec S16 32) (k0_hw94 : k0_chk94 v290), ∀ a x, ((![v290] : Fin 1 → IVec S16 32) a x).toNat < S16.size a := fun v290 k0_hw94 => k0_hw94.2

def k0_chk95 (v293 : IVec S16 32) : Prop :=
  (∀ a x, ((![v293] : Fin 1 → IVec S16 32) a x).toNat < S16.size a) ∧
  (∀ a x, ((![v293] : Fin 1 → IVec S16 32) a x).toNat < S16.size a)
theorem k0_idx189_inb : ∀ (v293 : IVec S16 32) (k0_hw95 : k0_chk95 v293), ∀ a x, ((![v293] : Fin 1 → IVec S16 32) a x).toNat < S16.size a := fun v293 k0_hw95 => k0_hw95.1
theorem k0_idx190_inb : ∀ (v293 : IVec S16 32) (k0_hw95 : k0_chk95 v293), ∀ a x, ((![v293] : Fin 1 → IVec S16 32) a x).toNat < S16.size a := fun v293 k0_hw95 => k0_hw95.2

def k0_chk96 (v296 : IVec S16 32) : Prop :=
  (∀ a x, ((![v296] : Fin 1 → IVec S16 32) a x).toNat < S16.size a) ∧
  (∀ a x, ((![v296] : Fin 1 → IVec S16 32) a x).toNat < S16.size a)
theorem k0_idx191_inb : ∀ (v296 : IVec S16 32) (k0_hw96 : k0_chk96 v296), ∀ a x, ((![v296] : Fin 1 → IVec S16 32) a x).toNat < S16.size a := fun v296 k0_hw96 => k0_hw96.1
theorem k0_idx192_inb : ∀ (v296 : IVec S16 32) (k0_hw96 : k0_chk96 v296), ∀ a x, ((![v296] : Fin 1 → IVec S16 32) a x).toNat < S16.size a := fun v296 k0_hw96 => k0_hw96.2

def k0_chk97 (v299 : IVec S16 32) : Prop :=
  (∀ a x, ((![v299] : Fin 1 → IVec S16 32) a x).toNat < S16.size a) ∧
  (∀ a x, ((![v299] : Fin 1 → IVec S16 32) a x).toNat < S16.size a)
theorem k0_idx193_inb : ∀ (v299 : IVec S16 32) (k0_hw97 : k0_chk97 v299), ∀ a x, ((![v299] : Fin 1 → IVec S16 32) a x).toNat < S16.size a := fun v299 k0_hw97 => k0_hw97.1
theorem k0_idx194_inb : ∀ (v299 : IVec S16 32) (k0_hw97 : k0_chk97 v299), ∀ a x, ((![v299] : Fin 1 → IVec S16 32) a x).toNat < S16.size a := fun v299 k0_hw97 => k0_hw97.2

def k0_chk98 (v302 : IVec S16 32) : Prop :=
  (∀ a x, ((![v302] : Fin 1 → IVec S16 32) a x).toNat < S16.size a) ∧
  (∀ a x, ((![v302] : Fin 1 → IVec S16 32) a x).toNat < S16.size a)
theorem k0_idx195_inb : ∀ (v302 : IVec S16 32) (k0_hw98 : k0_chk98 v302), ∀ a x, ((![v302] : Fin 1 → IVec S16 32) a x).toNat < S16.size a := fun v302 k0_hw98 => k0_hw98.1
theorem k0_idx196_inb : ∀ (v302 : IVec S16 32) (k0_hw98 : k0_chk98 v302), ∀ a x, ((![v302] : Fin 1 → IVec S16 32) a x).toNat < S16.size a := fun v302 k0_hw98 => k0_hw98.2

def k0_chk99 (v305 : IVec S16 32) : Prop :=
  (∀ a x, ((![v305] : Fin 1 → IVec S16 32) a x).toNat < S16.size a) ∧
  (∀ a x, ((![v305] : Fin 1 → IVec S16 32) a x).toNat < S16.size a)
theorem k0_idx197_inb : ∀ (v305 : IVec S16 32) (k0_hw99 : k0_chk99 v305), ∀ a x, ((![v305] : Fin 1 → IVec S16 32) a x).toNat < S16.size a := fun v305 k0_hw99 => k0_hw99.1
theorem k0_idx198_inb : ∀ (v305 : IVec S16 32) (k0_hw99 : k0_chk99 v305), ∀ a x, ((![v305] : Fin 1 → IVec S16 32) a x).toNat < S16.size a := fun v305 k0_hw99 => k0_hw99.2

def k0_chk100 (v308 : IVec S16 32) : Prop :=
  (∀ a x, ((![v308] : Fin 1 → IVec S16 32) a x).toNat < S16.size a) ∧
  (∀ a x, ((![v308] : Fin 1 → IVec S16 32) a x).toNat < S16.size a)
theorem k0_idx199_inb : ∀ (v308 : IVec S16 32) (k0_hw100 : k0_chk100 v308), ∀ a x, ((![v308] : Fin 1 → IVec S16 32) a x).toNat < S16.size a := fun v308 k0_hw100 => k0_hw100.1
theorem k0_idx200_inb : ∀ (v308 : IVec S16 32) (k0_hw100 : k0_chk100 v308), ∀ a x, ((![v308] : Fin 1 → IVec S16 32) a x).toNat < S16.size a := fun v308 k0_hw100 => k0_hw100.2

def k0_chk101 (v311 : IVec S16 32) : Prop :=
  (∀ a x, ((![v311] : Fin 1 → IVec S16 32) a x).toNat < S16.size a) ∧
  (∀ a x, ((![v311] : Fin 1 → IVec S16 32) a x).toNat < S16.size a)
theorem k0_idx201_inb : ∀ (v311 : IVec S16 32) (k0_hw101 : k0_chk101 v311), ∀ a x, ((![v311] : Fin 1 → IVec S16 32) a x).toNat < S16.size a := fun v311 k0_hw101 => k0_hw101.1
theorem k0_idx202_inb : ∀ (v311 : IVec S16 32) (k0_hw101 : k0_chk101 v311), ∀ a x, ((![v311] : Fin 1 → IVec S16 32) a x).toNat < S16.size a := fun v311 k0_hw101 => k0_hw101.2

def k0_chk102 (v314 : IVec S16 32) : Prop :=
  (∀ a x, ((![v314] : Fin 1 → IVec S16 32) a x).toNat < S16.size a) ∧
  (∀ a x, ((![v314] : Fin 1 → IVec S16 32) a x).toNat < S16.size a)
theorem k0_idx203_inb : ∀ (v314 : IVec S16 32) (k0_hw102 : k0_chk102 v314), ∀ a x, ((![v314] : Fin 1 → IVec S16 32) a x).toNat < S16.size a := fun v314 k0_hw102 => k0_hw102.1
theorem k0_idx204_inb : ∀ (v314 : IVec S16 32) (k0_hw102 : k0_chk102 v314), ∀ a x, ((![v314] : Fin 1 → IVec S16 32) a x).toNat < S16.size a := fun v314 k0_hw102 => k0_hw102.2

def k0_chk103 (v317 : IVec S16 32) : Prop :=
  (∀ a x, ((![v317] : Fin 1 → IVec S16 32) a x).toNat < S16.size a) ∧
  (∀ a x, ((![v317] : Fin 1 → IVec S16 32) a x).toNat < S16.size a)
theorem k0_idx205_inb : ∀ (v317 : IVec S16 32) (k0_hw103 : k0_chk103 v317), ∀ a x, ((![v317] : Fin 1 → IVec S16 32) a x).toNat < S16.size a := fun v317 k0_hw103 => k0_hw103.1
theorem k0_idx206_inb : ∀ (v317 : IVec S16 32) (k0_hw103 : k0_chk103 v317), ∀ a x, ((![v317] : Fin 1 → IVec S16 32) a x).toNat < S16.size a := fun v317 k0_hw103 => k0_hw103.2

def k0_chk104 (v320 : IVec S16 32) : Prop :=
  (∀ a x, ((![v320] : Fin 1 → IVec S16 32) a x).toNat < S16.size a) ∧
  (∀ a x, ((![v320] : Fin 1 → IVec S16 32) a x).toNat < S16.size a)
theorem k0_idx207_inb : ∀ (v320 : IVec S16 32) (k0_hw104 : k0_chk104 v320), ∀ a x, ((![v320] : Fin 1 → IVec S16 32) a x).toNat < S16.size a := fun v320 k0_hw104 => k0_hw104.1
theorem k0_idx208_inb : ∀ (v320 : IVec S16 32) (k0_hw104 : k0_chk104 v320), ∀ a x, ((![v320] : Fin 1 → IVec S16 32) a x).toNat < S16.size a := fun v320 k0_hw104 => k0_hw104.2

def k0_chk105 (v323 : IVec S16 32) : Prop :=
  (∀ a x, ((![v323] : Fin 1 → IVec S16 32) a x).toNat < S16.size a) ∧
  (∀ a x, ((![v323] : Fin 1 → IVec S16 32) a x).toNat < S16.size a)
theorem k0_idx209_inb : ∀ (v323 : IVec S16 32) (k0_hw105 : k0_chk105 v323), ∀ a x, ((![v323] : Fin 1 → IVec S16 32) a x).toNat < S16.size a := fun v323 k0_hw105 => k0_hw105.1
theorem k0_idx210_inb : ∀ (v323 : IVec S16 32) (k0_hw105 : k0_chk105 v323), ∀ a x, ((![v323] : Fin 1 → IVec S16 32) a x).toNat < S16.size a := fun v323 k0_hw105 => k0_hw105.2

def k0_chk106 (v326 : IVec S16 32) : Prop :=
  (∀ a x, ((![v326] : Fin 1 → IVec S16 32) a x).toNat < S16.size a) ∧
  (∀ a x, ((![v326] : Fin 1 → IVec S16 32) a x).toNat < S16.size a)
theorem k0_idx211_inb : ∀ (v326 : IVec S16 32) (k0_hw106 : k0_chk106 v326), ∀ a x, ((![v326] : Fin 1 → IVec S16 32) a x).toNat < S16.size a := fun v326 k0_hw106 => k0_hw106.1
theorem k0_idx212_inb : ∀ (v326 : IVec S16 32) (k0_hw106 : k0_chk106 v326), ∀ a x, ((![v326] : Fin 1 → IVec S16 32) a x).toNat < S16.size a := fun v326 k0_hw106 => k0_hw106.2

def k0_chk107 (v329 : IVec S16 32) : Prop :=
  (∀ a x, ((![v329] : Fin 1 → IVec S16 32) a x).toNat < S16.size a) ∧
  (∀ a x, ((![v329] : Fin 1 → IVec S16 32) a x).toNat < S16.size a)
theorem k0_idx213_inb : ∀ (v329 : IVec S16 32) (k0_hw107 : k0_chk107 v329), ∀ a x, ((![v329] : Fin 1 → IVec S16 32) a x).toNat < S16.size a := fun v329 k0_hw107 => k0_hw107.1
theorem k0_idx214_inb : ∀ (v329 : IVec S16 32) (k0_hw107 : k0_chk107 v329), ∀ a x, ((![v329] : Fin 1 → IVec S16 32) a x).toNat < S16.size a := fun v329 k0_hw107 => k0_hw107.2

def k0_chk108 (v332 : IVec S16 32) : Prop :=
  (∀ a x, ((![v332] : Fin 1 → IVec S16 32) a x).toNat < S16.size a) ∧
  (∀ a x, ((![v332] : Fin 1 → IVec S16 32) a x).toNat < S16.size a)
theorem k0_idx215_inb : ∀ (v332 : IVec S16 32) (k0_hw108 : k0_chk108 v332), ∀ a x, ((![v332] : Fin 1 → IVec S16 32) a x).toNat < S16.size a := fun v332 k0_hw108 => k0_hw108.1
theorem k0_idx216_inb : ∀ (v332 : IVec S16 32) (k0_hw108 : k0_chk108 v332), ∀ a x, ((![v332] : Fin 1 → IVec S16 32) a x).toNat < S16.size a := fun v332 k0_hw108 => k0_hw108.2

def k0_chk109 (v335 : IVec S16 32) : Prop :=
  (∀ a x, ((![v335] : Fin 1 → IVec S16 32) a x).toNat < S16.size a) ∧
  (∀ a x, ((![v335] : Fin 1 → IVec S16 32) a x).toNat < S16.size a)
theorem k0_idx217_inb : ∀ (v335 : IVec S16 32) (k0_hw109 : k0_chk109 v335), ∀ a x, ((![v335] : Fin 1 → IVec S16 32) a x).toNat < S16.size a := fun v335 k0_hw109 => k0_hw109.1
theorem k0_idx218_inb : ∀ (v335 : IVec S16 32) (k0_hw109 : k0_chk109 v335), ∀ a x, ((![v335] : Fin 1 → IVec S16 32) a x).toNat < S16.size a := fun v335 k0_hw109 => k0_hw109.2

def k0_chk110 (v338 : IVec S16 32) : Prop :=
  (∀ a x, ((![v338] : Fin 1 → IVec S16 32) a x).toNat < S16.size a) ∧
  (∀ a x, ((![v338] : Fin 1 → IVec S16 32) a x).toNat < S16.size a)
theorem k0_idx219_inb : ∀ (v338 : IVec S16 32) (k0_hw110 : k0_chk110 v338), ∀ a x, ((![v338] : Fin 1 → IVec S16 32) a x).toNat < S16.size a := fun v338 k0_hw110 => k0_hw110.1
theorem k0_idx220_inb : ∀ (v338 : IVec S16 32) (k0_hw110 : k0_chk110 v338), ∀ a x, ((![v338] : Fin 1 → IVec S16 32) a x).toNat < S16.size a := fun v338 k0_hw110 => k0_hw110.2

def k0_chk111 (v341 : IVec S16 32) : Prop :=
  (∀ a x, ((![v341] : Fin 1 → IVec S16 32) a x).toNat < S16.size a) ∧
  (∀ a x, ((![v341] : Fin 1 → IVec S16 32) a x).toNat < S16.size a)
theorem k0_idx221_inb : ∀ (v341 : IVec S16 32) (k0_hw111 : k0_chk111 v341), ∀ a x, ((![v341] : Fin 1 → IVec S16 32) a x).toNat < S16.size a := fun v341 k0_hw111 => k0_hw111.1
theorem k0_idx222_inb : ∀ (v341 : IVec S16 32) (k0_hw111 : k0_chk111 v341), ∀ a x, ((![v341] : Fin 1 → IVec S16 32) a x).toNat < S16.size a := fun v341 k0_hw111 => k0_hw111.2

def k0_chk112 (v344 : IVec S16 32) : Prop :=
  (∀ a x, ((![v344] : Fin 1 → IVec S16 32) a x).toNat < S16.size a) ∧
  (∀ a x, ((![v344] : Fin 1 → IVec S16 32) a x).toNat < S16.size a)
theorem k0_idx223_inb : ∀ (v344 : IVec S16 32) (k0_hw112 : k0_chk112 v344), ∀ a x, ((![v344] : Fin 1 → IVec S16 32) a x).toNat < S16.size a := fun v344 k0_hw112 => k0_hw112.1
theorem k0_idx224_inb : ∀ (v344 : IVec S16 32) (k0_hw112 : k0_chk112 v344), ∀ a x, ((![v344] : Fin 1 → IVec S16 32) a x).toNat < S16.size a := fun v344 k0_hw112 => k0_hw112.2

def k0_chk113 (v347 : IVec S16 32) : Prop :=
  (∀ a x, ((![v347] : Fin 1 → IVec S16 32) a x).toNat < S16.size a) ∧
  (∀ a x, ((![v347] : Fin 1 → IVec S16 32) a x).toNat < S16.size a)
theorem k0_idx225_inb : ∀ (v347 : IVec S16 32) (k0_hw113 : k0_chk113 v347), ∀ a x, ((![v347] : Fin 1 → IVec S16 32) a x).toNat < S16.size a := fun v347 k0_hw113 => k0_hw113.1
theorem k0_idx226_inb : ∀ (v347 : IVec S16 32) (k0_hw113 : k0_chk113 v347), ∀ a x, ((![v347] : Fin 1 → IVec S16 32) a x).toNat < S16.size a := fun v347 k0_hw113 => k0_hw113.2

def k0_chk114 (v350 : IVec S16 32) : Prop :=
  (∀ a x, ((![v350] : Fin 1 → IVec S16 32) a x).toNat < S16.size a) ∧
  (∀ a x, ((![v350] : Fin 1 → IVec S16 32) a x).toNat < S16.size a)
theorem k0_idx227_inb : ∀ (v350 : IVec S16 32) (k0_hw114 : k0_chk114 v350), ∀ a x, ((![v350] : Fin 1 → IVec S16 32) a x).toNat < S16.size a := fun v350 k0_hw114 => k0_hw114.1
theorem k0_idx228_inb : ∀ (v350 : IVec S16 32) (k0_hw114 : k0_chk114 v350), ∀ a x, ((![v350] : Fin 1 → IVec S16 32) a x).toNat < S16.size a := fun v350 k0_hw114 => k0_hw114.2

def k0_chk115 (v353 : IVec S16 32) : Prop :=
  (∀ a x, ((![v353] : Fin 1 → IVec S16 32) a x).toNat < S16.size a) ∧
  (∀ a x, ((![v353] : Fin 1 → IVec S16 32) a x).toNat < S16.size a)
theorem k0_idx229_inb : ∀ (v353 : IVec S16 32) (k0_hw115 : k0_chk115 v353), ∀ a x, ((![v353] : Fin 1 → IVec S16 32) a x).toNat < S16.size a := fun v353 k0_hw115 => k0_hw115.1
theorem k0_idx230_inb : ∀ (v353 : IVec S16 32) (k0_hw115 : k0_chk115 v353), ∀ a x, ((![v353] : Fin 1 → IVec S16 32) a x).toNat < S16.size a := fun v353 k0_hw115 => k0_hw115.2

def k0_chk116 (v356 : IVec S16 32) : Prop :=
  (∀ a x, ((![v356] : Fin 1 → IVec S16 32) a x).toNat < S16.size a) ∧
  (∀ a x, ((![v356] : Fin 1 → IVec S16 32) a x).toNat < S16.size a)
theorem k0_idx231_inb : ∀ (v356 : IVec S16 32) (k0_hw116 : k0_chk116 v356), ∀ a x, ((![v356] : Fin 1 → IVec S16 32) a x).toNat < S16.size a := fun v356 k0_hw116 => k0_hw116.1
theorem k0_idx232_inb : ∀ (v356 : IVec S16 32) (k0_hw116 : k0_chk116 v356), ∀ a x, ((![v356] : Fin 1 → IVec S16 32) a x).toNat < S16.size a := fun v356 k0_hw116 => k0_hw116.2

def k0_chk117 (v359 : IVec S16 32) : Prop :=
  (∀ a x, ((![v359] : Fin 1 → IVec S16 32) a x).toNat < S16.size a) ∧
  (∀ a x, ((![v359] : Fin 1 → IVec S16 32) a x).toNat < S16.size a)
theorem k0_idx233_inb : ∀ (v359 : IVec S16 32) (k0_hw117 : k0_chk117 v359), ∀ a x, ((![v359] : Fin 1 → IVec S16 32) a x).toNat < S16.size a := fun v359 k0_hw117 => k0_hw117.1
theorem k0_idx234_inb : ∀ (v359 : IVec S16 32) (k0_hw117 : k0_chk117 v359), ∀ a x, ((![v359] : Fin 1 → IVec S16 32) a x).toNat < S16.size a := fun v359 k0_hw117 => k0_hw117.2

def k0_chk118 (v362 : IVec S16 32) : Prop :=
  (∀ a x, ((![v362] : Fin 1 → IVec S16 32) a x).toNat < S16.size a) ∧
  (∀ a x, ((![v362] : Fin 1 → IVec S16 32) a x).toNat < S16.size a)
theorem k0_idx235_inb : ∀ (v362 : IVec S16 32) (k0_hw118 : k0_chk118 v362), ∀ a x, ((![v362] : Fin 1 → IVec S16 32) a x).toNat < S16.size a := fun v362 k0_hw118 => k0_hw118.1
theorem k0_idx236_inb : ∀ (v362 : IVec S16 32) (k0_hw118 : k0_chk118 v362), ∀ a x, ((![v362] : Fin 1 → IVec S16 32) a x).toNat < S16.size a := fun v362 k0_hw118 => k0_hw118.2

def k0_chk119 (v365 : IVec S16 32) : Prop :=
  (∀ a x, ((![v365] : Fin 1 → IVec S16 32) a x).toNat < S16.size a) ∧
  (∀ a x, ((![v365] : Fin 1 → IVec S16 32) a x).toNat < S16.size a)
theorem k0_idx237_inb : ∀ (v365 : IVec S16 32) (k0_hw119 : k0_chk119 v365), ∀ a x, ((![v365] : Fin 1 → IVec S16 32) a x).toNat < S16.size a := fun v365 k0_hw119 => k0_hw119.1
theorem k0_idx238_inb : ∀ (v365 : IVec S16 32) (k0_hw119 : k0_chk119 v365), ∀ a x, ((![v365] : Fin 1 → IVec S16 32) a x).toNat < S16.size a := fun v365 k0_hw119 => k0_hw119.2

def k0_chk120 (v368 : IVec S16 32) : Prop :=
  (∀ a x, ((![v368] : Fin 1 → IVec S16 32) a x).toNat < S16.size a) ∧
  (∀ a x, ((![v368] : Fin 1 → IVec S16 32) a x).toNat < S16.size a)
theorem k0_idx239_inb : ∀ (v368 : IVec S16 32) (k0_hw120 : k0_chk120 v368), ∀ a x, ((![v368] : Fin 1 → IVec S16 32) a x).toNat < S16.size a := fun v368 k0_hw120 => k0_hw120.1
theorem k0_idx240_inb : ∀ (v368 : IVec S16 32) (k0_hw120 : k0_chk120 v368), ∀ a x, ((![v368] : Fin 1 → IVec S16 32) a x).toNat < S16.size a := fun v368 k0_hw120 => k0_hw120.2

def k0_chk121 (v371 : IVec S16 32) : Prop :=
  (∀ a x, ((![v371] : Fin 1 → IVec S16 32) a x).toNat < S16.size a) ∧
  (∀ a x, ((![v371] : Fin 1 → IVec S16 32) a x).toNat < S16.size a)
theorem k0_idx241_inb : ∀ (v371 : IVec S16 32) (k0_hw121 : k0_chk121 v371), ∀ a x, ((![v371] : Fin 1 → IVec S16 32) a x).toNat < S16.size a := fun v371 k0_hw121 => k0_hw121.1
theorem k0_idx242_inb : ∀ (v371 : IVec S16 32) (k0_hw121 : k0_chk121 v371), ∀ a x, ((![v371] : Fin 1 → IVec S16 32) a x).toNat < S16.size a := fun v371 k0_hw121 => k0_hw121.2

def k0_chk122 (v374 : IVec S16 32) : Prop :=
  (∀ a x, ((![v374] : Fin 1 → IVec S16 32) a x).toNat < S16.size a) ∧
  (∀ a x, ((![v374] : Fin 1 → IVec S16 32) a x).toNat < S16.size a)
theorem k0_idx243_inb : ∀ (v374 : IVec S16 32) (k0_hw122 : k0_chk122 v374), ∀ a x, ((![v374] : Fin 1 → IVec S16 32) a x).toNat < S16.size a := fun v374 k0_hw122 => k0_hw122.1
theorem k0_idx244_inb : ∀ (v374 : IVec S16 32) (k0_hw122 : k0_chk122 v374), ∀ a x, ((![v374] : Fin 1 → IVec S16 32) a x).toNat < S16.size a := fun v374 k0_hw122 => k0_hw122.2

def k0_chk123 (v377 : IVec S16 32) : Prop :=
  (∀ a x, ((![v377] : Fin 1 → IVec S16 32) a x).toNat < S16.size a) ∧
  (∀ a x, ((![v377] : Fin 1 → IVec S16 32) a x).toNat < S16.size a)
theorem k0_idx245_inb : ∀ (v377 : IVec S16 32) (k0_hw123 : k0_chk123 v377), ∀ a x, ((![v377] : Fin 1 → IVec S16 32) a x).toNat < S16.size a := fun v377 k0_hw123 => k0_hw123.1
theorem k0_idx246_inb : ∀ (v377 : IVec S16 32) (k0_hw123 : k0_chk123 v377), ∀ a x, ((![v377] : Fin 1 → IVec S16 32) a x).toNat < S16.size a := fun v377 k0_hw123 => k0_hw123.2

def k0_chk124 (v380 : IVec S16 32) : Prop :=
  (∀ a x, ((![v380] : Fin 1 → IVec S16 32) a x).toNat < S16.size a) ∧
  (∀ a x, ((![v380] : Fin 1 → IVec S16 32) a x).toNat < S16.size a)
theorem k0_idx247_inb : ∀ (v380 : IVec S16 32) (k0_hw124 : k0_chk124 v380), ∀ a x, ((![v380] : Fin 1 → IVec S16 32) a x).toNat < S16.size a := fun v380 k0_hw124 => k0_hw124.1
theorem k0_idx248_inb : ∀ (v380 : IVec S16 32) (k0_hw124 : k0_chk124 v380), ∀ a x, ((![v380] : Fin 1 → IVec S16 32) a x).toNat < S16.size a := fun v380 k0_hw124 => k0_hw124.2

def k0_chk125 (v383 : IVec S16 32) : Prop :=
  (∀ a x, ((![v383] : Fin 1 → IVec S16 32) a x).toNat < S16.size a) ∧
  (∀ a x, ((![v383] : Fin 1 → IVec S16 32) a x).toNat < S16.size a)
theorem k0_idx249_inb : ∀ (v383 : IVec S16 32) (k0_hw125 : k0_chk125 v383), ∀ a x, ((![v383] : Fin 1 → IVec S16 32) a x).toNat < S16.size a := fun v383 k0_hw125 => k0_hw125.1
theorem k0_idx250_inb : ∀ (v383 : IVec S16 32) (k0_hw125 : k0_chk125 v383), ∀ a x, ((![v383] : Fin 1 → IVec S16 32) a x).toNat < S16.size a := fun v383 k0_hw125 => k0_hw125.2

def k0_chk126 (v386 : IVec S16 32) : Prop :=
  (∀ a x, ((![v386] : Fin 1 → IVec S16 32) a x).toNat < S16.size a) ∧
  (∀ a x, ((![v386] : Fin 1 → IVec S16 32) a x).toNat < S16.size a)
theorem k0_idx251_inb : ∀ (v386 : IVec S16 32) (k0_hw126 : k0_chk126 v386), ∀ a x, ((![v386] : Fin 1 → IVec S16 32) a x).toNat < S16.size a := fun v386 k0_hw126 => k0_hw126.1
theorem k0_idx252_inb : ∀ (v386 : IVec S16 32) (k0_hw126 : k0_chk126 v386), ∀ a x, ((![v386] : Fin 1 → IVec S16 32) a x).toNat < S16.size a := fun v386 k0_hw126 => k0_hw126.2

def k0_chk127 (v389 : IVec S16 32) : Prop :=
  (∀ a x, ((![v389] : Fin 1 → IVec S16 32) a x).toNat < S16.size a) ∧
  (∀ a x, ((![v389] : Fin 1 → IVec S16 32) a x).toNat < S16.size a)
theorem k0_idx253_inb : ∀ (v389 : IVec S16 32) (k0_hw127 : k0_chk127 v389), ∀ a x, ((![v389] : Fin 1 → IVec S16 32) a x).toNat < S16.size a := fun v389 k0_hw127 => k0_hw127.1
theorem k0_idx254_inb : ∀ (v389 : IVec S16 32) (k0_hw127 : k0_chk127 v389), ∀ a x, ((![v389] : Fin 1 → IVec S16 32) a x).toNat < S16.size a := fun v389 k0_hw127 => k0_hw127.2

def k0_chk128 (v392 : IVec S16 32) : Prop :=
  (∀ a x, ((![v392] : Fin 1 → IVec S16 32) a x).toNat < S16.size a) ∧
  (∀ a x, ((![v392] : Fin 1 → IVec S16 32) a x).toNat < S16.size a)
theorem k0_idx255_inb : ∀ (v392 : IVec S16 32) (k0_hw128 : k0_chk128 v392), ∀ a x, ((![v392] : Fin 1 → IVec S16 32) a x).toNat < S16.size a := fun v392 k0_hw128 => k0_hw128.1
theorem k0_idx256_inb : ∀ (v392 : IVec S16 32) (k0_hw128 : k0_chk128 v392), ∀ a x, ((![v392] : Fin 1 → IVec S16 32) a x).toNat < S16.size a := fun v392 k0_hw128 => k0_hw128.2
def k0_off2 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c0_i32_10 : BitVec 32 := 0#32
  let v395 : BitVec 32 := Scalar.addi v2 c0_i32_10
  let v396 : Index := Scalar.indexCast v395
  ![v396.toNat]
def k0_off3 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c16_i32_58 : BitVec 32 := 16#32
  let v528 : BitVec 32 := Scalar.addi v2 c16_i32_58
  let v529 : Index := Scalar.indexCast v528
  ![v529.toNat]
def k0_off4 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c32_i32_107 : BitVec 32 := 32#32
  let v661 : BitVec 32 := Scalar.addi v2 c32_i32_107
  let v662 : Index := Scalar.indexCast v661
  ![v662.toNat]
def k0_off5 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c48_i32_156 : BitVec 32 := 48#32
  let v794 : BitVec 32 := Scalar.addi v2 c48_i32_156
  let v795 : Index := Scalar.indexCast v794
  ![v795.toNat]

def k0_chk129 (v397 : IVec S16 32) : Prop :=
  (∀ a x, ((![v397] : Fin 1 → IVec S16 32) a x).toNat < S16.size a) ∧
  (∀ a x, ((![v397] : Fin 1 → IVec S16 32) a x).toNat < S16.size a) ∧
  (∀ a x, ((![v397] : Fin 1 → IVec S16 32) a x).toNat < S16.size a)
theorem k0_idx257_inb : ∀ (v397 : IVec S16 32) (k0_hw129 : k0_chk129 v397), ∀ a x, ((![v397] : Fin 1 → IVec S16 32) a x).toNat < S16.size a := fun v397 k0_hw129 => k0_hw129.1
theorem k0_idx258_inb : ∀ (v397 : IVec S16 32) (k0_hw129 : k0_chk129 v397), ∀ a x, ((![v397] : Fin 1 → IVec S16 32) a x).toNat < S16.size a := fun v397 k0_hw129 => k0_hw129.2.1
theorem k0_idx265_inb : ∀ (v397 : IVec S16 32) (k0_hw129 : k0_chk129 v397), ∀ a x, ((![v397] : Fin 1 → IVec S16 32) a x).toNat < S16.size a := fun v397 k0_hw129 => k0_hw129.2.2

def k0_chk130 (v530 : IVec S16 32) : Prop :=
  (∀ a x, ((![v530] : Fin 1 → IVec S16 32) a x).toNat < S16.size a) ∧
  (∀ a x, ((![v530] : Fin 1 → IVec S16 32) a x).toNat < S16.size a) ∧
  (∀ a x, ((![v530] : Fin 1 → IVec S16 32) a x).toNat < S16.size a)
theorem k0_idx259_inb : ∀ (v530 : IVec S16 32) (k0_hw130 : k0_chk130 v530), ∀ a x, ((![v530] : Fin 1 → IVec S16 32) a x).toNat < S16.size a := fun v530 k0_hw130 => k0_hw130.1
theorem k0_idx260_inb : ∀ (v530 : IVec S16 32) (k0_hw130 : k0_chk130 v530), ∀ a x, ((![v530] : Fin 1 → IVec S16 32) a x).toNat < S16.size a := fun v530 k0_hw130 => k0_hw130.2.1
theorem k0_idx266_inb : ∀ (v530 : IVec S16 32) (k0_hw130 : k0_chk130 v530), ∀ a x, ((![v530] : Fin 1 → IVec S16 32) a x).toNat < S16.size a := fun v530 k0_hw130 => k0_hw130.2.2

def k0_chk131 (v663 : IVec S16 32) : Prop :=
  (∀ a x, ((![v663] : Fin 1 → IVec S16 32) a x).toNat < S16.size a) ∧
  (∀ a x, ((![v663] : Fin 1 → IVec S16 32) a x).toNat < S16.size a) ∧
  (∀ a x, ((![v663] : Fin 1 → IVec S16 32) a x).toNat < S16.size a)
theorem k0_idx261_inb : ∀ (v663 : IVec S16 32) (k0_hw131 : k0_chk131 v663), ∀ a x, ((![v663] : Fin 1 → IVec S16 32) a x).toNat < S16.size a := fun v663 k0_hw131 => k0_hw131.1
theorem k0_idx262_inb : ∀ (v663 : IVec S16 32) (k0_hw131 : k0_chk131 v663), ∀ a x, ((![v663] : Fin 1 → IVec S16 32) a x).toNat < S16.size a := fun v663 k0_hw131 => k0_hw131.2.1
theorem k0_idx267_inb : ∀ (v663 : IVec S16 32) (k0_hw131 : k0_chk131 v663), ∀ a x, ((![v663] : Fin 1 → IVec S16 32) a x).toNat < S16.size a := fun v663 k0_hw131 => k0_hw131.2.2

def k0_chk132 (v796 : IVec S16 32) : Prop :=
  (∀ a x, ((![v796] : Fin 1 → IVec S16 32) a x).toNat < S16.size a) ∧
  (∀ a x, ((![v796] : Fin 1 → IVec S16 32) a x).toNat < S16.size a) ∧
  (∀ a x, ((![v796] : Fin 1 → IVec S16 32) a x).toNat < S16.size a)
theorem k0_idx263_inb : ∀ (v796 : IVec S16 32) (k0_hw132 : k0_chk132 v796), ∀ a x, ((![v796] : Fin 1 → IVec S16 32) a x).toNat < S16.size a := fun v796 k0_hw132 => k0_hw132.1
theorem k0_idx264_inb : ∀ (v796 : IVec S16 32) (k0_hw132 : k0_chk132 v796), ∀ a x, ((![v796] : Fin 1 → IVec S16 32) a x).toNat < S16.size a := fun v796 k0_hw132 => k0_hw132.2.1
theorem k0_idx268_inb : ∀ (v796 : IVec S16 32) (k0_hw132 : k0_chk132 v796), ∀ a x, ((![v796] : Fin 1 → IVec S16 32) a x).toNat < S16.size a := fun v796 k0_hw132 => k0_hw132.2.2
def k0_off6 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  ![v2.toNat]
def k0_off7 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c0_i32_221 : BitVec 32 := 0#32
  ![v2.toNat, 0]
def k0_cond1 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_291 : BitVec 32 := 0#32
  let v1012 : BitVec 1 := Scalar.cmpi .eq v1 c0_i32_291
  let v1013 : BitVec 32 := Scalar.extui v1012
  let c0_i32_292 : BitVec 32 := 0#32
  let v1014 : BitVec 1 := Scalar.cmpi .ne v1013 c0_i32_292
  v1014

def k0_chk133 (i : grid0.Coords) (v956 : IVec S16 32) : Prop :=
  (∀ (k0_h1 : k0_cond1 i = 1#1), ∀ a x, ((![v956] : Fin 1 → IVec S16 32) a x).toNat < S32.size a)
theorem k0_idx269_inb : ∀ (i : grid0.Coords) (v956 : IVec S16 32) (k0_hw133 : k0_chk133 i v956), ∀ (k0_h1 : k0_cond1 i = 1#1), ∀ a x, ((![v956] : Fin 1 → IVec S16 32) a x).toNat < S32.size a := fun i v956 k0_hw133 k0_h1 => k0_hw133 k0_h1
abbrev grid1 : Pipeline.Grid := ⟨1, ![32], ![false]⟩

abbrev pre1 : Pipeline.Prefetch sig := ⟨1, ![main_v1.idx], fun | 0 => main_v1.names | ⟨_ + 1, h⟩ => absurd h (Nat.not_lt.2 (Nat.le_add_left _ _)), fun | 0 => rfl | ⟨_ + 1, h⟩ => absurd h (Nat.not_lt.2 (Nat.le_add_left _ _))⟩

def k1_off1 (i : grid1.Coords) : Fin 1 → Nat :=
  let arg0 : BitVec 32 := BitVec.ofNat 32 (i 0).val
  let v0 : Index := Scalar.indexCast arg0
  ![v0.toNat]
def k1_off2 (i : grid1.Coords) : Fin 1 → Nat :=
  let arg0 : BitVec 32 := BitVec.ofNat 32 (i 0).val
  let v4 : Index := Scalar.indexCast arg0
  ![v4.toNat]
def k1_off3 (v5 : BitVec 32) : Fin 2 → Nat :=
  let v11 : Index := Scalar.indexCast v5
  let c0_4 : Index := 0#32
  ![v11.toNat, 0]
def k1_cond1 (i : grid1.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k1_off4 (v5 : BitVec 32) : Fin 2 → Nat :=
  let v20 : Index := Scalar.indexCast v5
  let c0_10 : Index := 0#32
  ![v20.toNat, 0]

def k1_chk1 (i : grid1.Coords) (v0 : BitVec 32) (v5 : BitVec 32) : Prop :=
  (∀ (k1_h1 : k1_cond1 i v0 = 1#1), ∀ a, (k1_off3 v5) a + S1x256.size a ≤ S16x256.size a) ∧
  (∀ (k1_h1 : k1_cond1 i v0 = 1#1), ∀ a, (k1_off4 v5) a + S1x768.size a ≤ S16x768.size a)
theorem k1_off3_inb : ∀ (i : grid1.Coords) (v0 : BitVec 32) (v5 : BitVec 32) (k1_hw1 : k1_chk1 i v0 v5), ∀ (k1_h1 : k1_cond1 i v0 = 1#1), ∀ a, (k1_off3 v5) a + S1x256.size a ≤ S16x256.size a := fun i v0 v5 k1_hw1 k1_h1 => k1_hw1.1 k1_h1
theorem k1_off4_inb : ∀ (i : grid1.Coords) (v0 : BitVec 32) (v5 : BitVec 32) (k1_hw1 : k1_chk1 i v0 v5), ∀ (k1_h1 : k1_cond1 i v0 = 1#1), ∀ a, (k1_off4 v5) a + S1x768.size a ≤ S16x768.size a := fun i v0 v5 k1_hw1 k1_h1 => k1_hw1.2 k1_h1

def cc1_transform_0 (inb_S33_S1_32 : ∀ a, (![32] : Fin 1 → Nat) a + S1.size a ≤ S33.size a) (numel1_S1 : S1.numel = 1) (pf : pre1.Contents (Elt F)) (i : grid1.Coords) : Fin 2 → Nat :=
  let arg0 : BitVec 32 := BitVec.ofNat 32 (i 0).val
  let c32 : Index := 32#32
  let v0 : BitVec 32 := pf.at 0 (Rect.unit (s := S33) ![32] S1.size inb_S33_S1_32) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc1_transform_1 (k1_off1_inb : ∀ i : grid1.Coords, ∀ a, (k1_off1 i) a + S1.size a ≤ S33.size a) (numel1_S1 : S1.numel = 1) (pf : pre1.Contents (Elt F)) (i : grid1.Coords) : Fin 3 → Nat :=
  let arg0 : BitVec 32 := BitVec.ofNat 32 (i 0).val
  let v0 : Index := Scalar.indexCast arg0
  let v1 : BitVec 32 := pf.at 0 (Rect.unit (s := S33) ![v0.toNat] S1.size (k1_off1_inb i)) numel1_S1
  let c0_i32 : BitVec 32 := 0#32
  let c0_i32_0 : BitVec 32 := 0#32
  let c0_i32_1 : BitVec 32 := 0#32
  ![v1.toNat, c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (k1_off1_inb : ∀ i : grid1.Coords, ∀ a, (k1_off1 i) a + S1.size a ≤ S33.size a) (numel1_S1 : S1.numel = 1) (pf : pre1.Contents (Elt F)) (i : grid1.Coords) : Fin 3 → Nat :=
  let arg0 : BitVec 32 := BitVec.ofNat 32 (i 0).val
  let v0 : Index := Scalar.indexCast arg0
  let v1 : BitVec 32 := pf.at 0 (Rect.unit (s := S33) ![v0.toNat] S1.size (k1_off1_inb i)) numel1_S1
  let c0_i32 : BitVec 32 := 0#32
  let c0_i32_0 : BitVec 32 := 0#32
  let c0_i32_1 : BitVec 32 := 0#32
  ![v1.toNat, c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (inb_S33_S1_32 : ∀ a, (![32] : Fin 1 → Nat) a + S1.size a ≤ S33.size a) (numel1_S1 : S1.numel = 1) (pf : pre1.Contents (Elt F)) (i : grid1.Coords) : Fin 2 → Nat :=
  let arg0 : BitVec 32 := BitVec.ofNat 32 (i 0).val
  let c32 : Index := 32#32
  let v0 : BitVec 32 := pf.at 0 (Rect.unit (s := S33) ![32] S1.size inb_S33_S1_32) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

abbrev stage1_0 : Fin 2 → Memref sig .tc .vmem S128x768 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x768x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S16x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1x256x768 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S16x768 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S128x768 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨2, ![2, 16], ![false, false]⟩

def k2_off1 (i : grid2.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  ![v2.toNat]
def k2_off2 (i : grid2.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c0_i32_66_r1 : BitVec 32 := 0#32
  ![v2.toNat, 0]
abbrev scKind : Fin 2 → Kind := fun | 0 => .scVector | 1 => .scVector | ⟨_ + 2, h⟩ => absurd h (Nat.not_lt.2 (Nat.le_add_left _ _))
abbrev scNCore : Fin 2 → Nat := fun | 0 => 2 | 1 => 2 | ⟨_ + 2, h⟩ => absurd h (Nat.not_lt.2 (Nat.le_add_left _ _))
abbrev scNSub : Fin 2 → Nat := fun | 0 => 16 | 1 => 16 | ⟨_ + 2, h⟩ => absurd h (Nat.not_lt.2 (Nat.le_add_left _ _))
-- ==== ReferenceIdeal.lean ====
abbrev S2048x768 : Shape := ⟨2, ![2048, 768]⟩
abbrev S2048 : Shape := ⟨1, ![2048]⟩
abbrev S16x768x256 : Shape := ⟨3, ![16, 768, 256]⟩
abbrev S16x256 : Shape := ⟨2, ![16, 256]⟩
abbrev S16x256x768 : Shape := ⟨3, ![16, 256, 768]⟩
abbrev S16x768 : Shape := ⟨2, ![16, 768]⟩
abbrev S_ : Shape := ⟨0, ![]⟩
abbrev S1x768x256 : Shape := ⟨3, ![1, 768, 256]⟩
abbrev S768x256 : Shape := ⟨2, ![768, 256]⟩
abbrev S2048x256 : Shape := ⟨2, ![2048, 256]⟩
abbrev S1x256 : Shape := ⟨2, ![1, 256]⟩
abbrev S256 : Shape := ⟨1, ![256]⟩
abbrev S1x256x768 : Shape := ⟨3, ![1, 256, 768]⟩
abbrev S256x768 : Shape := ⟨2, ![256, 768]⟩
abbrev S1x768 : Shape := ⟨2, ![1, 768]⟩
abbrev S768 : Shape := ⟨1, ![768]⟩
abbrev S2048x1 : Shape := ⟨2, ![2048, 1]⟩

abbrev nBuf : Space → Nat
  | .hbm => 408
  | .vmem => 0
  | .smem => 0
  | _ => 0

abbrev hbmTy0_0 (i : Nat) : BufTy := match i % 128 with
  | 0 => ⟨S2048x768, .f32⟩
  | 1 => ⟨S2048, .i32⟩
  | 2 => ⟨S16x768x256, .f32⟩
  | 3 => ⟨S16x256, .f32⟩
  | 4 => ⟨S16x256x768, .f32⟩
  | 5 => ⟨S16x768, .f32⟩
  | 6 => ⟨S_, .f32⟩
  | 7 => ⟨S2048x768, .f32⟩
  | 8 => ⟨S1x768x256, .f32⟩
  | 9 => ⟨S768x256, .f32⟩
  | 10 => ⟨S2048x256, .f32⟩
  | 11 => ⟨S1x256, .f32⟩
  | 12 => ⟨S256, .f32⟩
  | 13 => ⟨S1x256, .f32⟩
  | 14 => ⟨S2048x256, .f32⟩
  | 15 => ⟨S2048x256, .f32⟩
  | 16 => ⟨S_, .f32⟩
  | 17 => ⟨S2048x256, .f32⟩
  | 18 => ⟨S2048x256, .f32⟩
  | 19 => ⟨S1x256x768, .f32⟩
  | 20 => ⟨S256x768, .f32⟩
  | 21 => ⟨S2048x768, .f32⟩
  | 22 => ⟨S1x768, .f32⟩
  | 23 => ⟨S768, .f32⟩
  | 24 => ⟨S1x768, .f32⟩
  | 25 => ⟨S2048x768, .f32⟩
  | 26 => ⟨S2048x768, .f32⟩
  | 27 => ⟨S_, .i32⟩
  | 28 => ⟨S2048, .i32⟩
  | 29 => ⟨S2048, .i1⟩
  | 30 => ⟨S2048x1, .i1⟩
  | 31 => ⟨S2048x768, .i1⟩
  | 32 => ⟨S2048x768, .f32⟩
  | 33 => ⟨S1x768x256, .f32⟩
  | 34 => ⟨S768x256, .f32⟩
  | 35 => ⟨S2048x256, .f32⟩
  | 36 => ⟨S1x256, .f32⟩
  | 37 => ⟨S256, .f32⟩
  | 38 => ⟨S1x256, .f32⟩
  | 39 => ⟨S2048x256, .f32⟩
  | 40 => ⟨S2048x256, .f32⟩
  | 41 => ⟨S_, .f32⟩
  | 42 => ⟨S2048x256, .f32⟩
  | 43 => ⟨S2048x256, .f32⟩
  | 44 => ⟨S1x256x768, .f32⟩
  | 45 => ⟨S256x768, .f32⟩
  | 46 => ⟨S2048x768, .f32⟩
  | 47 => ⟨S1x768, .f32⟩
  | 48 => ⟨S768, .f32⟩
  | 49 => ⟨S1x768, .f32⟩
  | 50 => ⟨S2048x768, .f32⟩
  | 51 => ⟨S2048x768, .f32⟩
  | 52 => ⟨S_, .i32⟩
  | 53 => ⟨S2048, .i32⟩
  | 54 => ⟨S2048, .i1⟩
  | 55 => ⟨S2048x1, .i1⟩
  | 56 => ⟨S2048x768, .i1⟩
  | 57 => ⟨S2048x768, .f32⟩
  | 58 => ⟨S1x768x256, .f32⟩
  | 59 => ⟨S768x256, .f32⟩
  | 60 => ⟨S2048x256, .f32⟩
  | 61 => ⟨S1x256, .f32⟩
  | 62 => ⟨S256, .f32⟩
  | 63 => ⟨S1x256, .f32⟩
  | 64 => ⟨S2048x256, .f32⟩
  | 65 => ⟨S2048x256, .f32⟩
  | 66 => ⟨S_, .f32⟩
  | 67 => ⟨S2048x256, .f32⟩
  | 68 => ⟨S2048x256, .f32⟩
  | 69 => ⟨S1x256x768, .f32⟩
  | 70 => ⟨S256x768, .f32⟩
  | 71 => ⟨S2048x768, .f32⟩
  | 72 => ⟨S1x768, .f32⟩
  | 73 => ⟨S768, .f32⟩
  | 74 => ⟨S1x768, .f32⟩
  | 75 => ⟨S2048x768, .f32⟩
  | 76 => ⟨S2048x768, .f32⟩
  | 77 => ⟨S_, .i32⟩
  | 78 => ⟨S2048, .i32⟩
  | 79 => ⟨S2048, .i1⟩
  | 80 => ⟨S2048x1, .i1⟩
  | 81 => ⟨S2048x768, .i1⟩
  | 82 => ⟨S2048x768, .f32⟩
  | 83 => ⟨S1x768x256, .f32⟩
  | 84 => ⟨S768x256, .f32⟩
  | 85 => ⟨S2048x256, .f32⟩
  | 86 => ⟨S1x256, .f32⟩
  | 87 => ⟨S256, .f32⟩
  | 88 => ⟨S1x256, .f32⟩
  | 89 => ⟨S2048x256, .f32⟩
  | 90 => ⟨S2048x256, .f32⟩
  | 91 => ⟨S_, .f32⟩
  | 92 => ⟨S2048x256, .f32⟩
  | 93 => ⟨S2048x256, .f32⟩
  | 94 => ⟨S1x256x768, .f32⟩
  | 95 => ⟨S256x768, .f32⟩
  | 96 => ⟨S2048x768, .f32⟩
  | 97 => ⟨S1x768, .f32⟩
  | 98 => ⟨S768, .f32⟩
  | 99 => ⟨S1x768, .f32⟩
  | 100 => ⟨S2048x768, .f32⟩
  | 101 => ⟨S2048x768, .f32⟩
  | 102 => ⟨S_, .i32⟩
  | 103 => ⟨S2048, .i32⟩
  | 104 => ⟨S2048, .i1⟩
  | 105 => ⟨S2048x1, .i1⟩
  | 106 => ⟨S2048x768, .i1⟩
  | 107 => ⟨S2048x768, .f32⟩
  | 108 => ⟨S1x768x256, .f32⟩
  | 109 => ⟨S768x256, .f32⟩
  | 110 => ⟨S2048x256, .f32⟩
  | 111 => ⟨S1x256, .f32⟩
  | 112 => ⟨S256, .f32⟩
  | 113 => ⟨S1x256, .f32⟩
  | 114 => ⟨S2048x256, .f32⟩
  | 115 => ⟨S2048x256, .f32⟩
  | 116 => ⟨S_, .f32⟩
  | 117 => ⟨S2048x256, .f32⟩
  | 118 => ⟨S2048x256, .f32⟩
  | 119 => ⟨S1x256x768, .f32⟩
  | 120 => ⟨S256x768, .f32⟩
  | 121 => ⟨S2048x768, .f32⟩
  | 122 => ⟨S1x768, .f32⟩
  | 123 => ⟨S768, .f32⟩
  | 124 => ⟨S1x768, .f32⟩
  | 125 => ⟨S2048x768, .f32⟩
  | 126 => ⟨S2048x768, .f32⟩
  | 127 => ⟨S_, .i32⟩
  | _ => ⟨S2048x768, .f32⟩

abbrev hbmTy0_1 (i : Nat) : BufTy := match i % 128 with
  | 0 => ⟨S2048, .i32⟩
  | 1 => ⟨S2048, .i1⟩
  | 2 => ⟨S2048x1, .i1⟩
  | 3 => ⟨S2048x768, .i1⟩
  | 4 => ⟨S2048x768, .f32⟩
  | 5 => ⟨S1x768x256, .f32⟩
  | 6 => ⟨S768x256, .f32⟩
  | 7 => ⟨S2048x256, .f32⟩
  | 8 => ⟨S1x256, .f32⟩
  | 9 => ⟨S256, .f32⟩
  | 10 => ⟨S1x256, .f32⟩
  | 11 => ⟨S2048x256, .f32⟩
  | 12 => ⟨S2048x256, .f32⟩
  | 13 => ⟨S_, .f32⟩
  | 14 => ⟨S2048x256, .f32⟩
  | 15 => ⟨S2048x256, .f32⟩
  | 16 => ⟨S1x256x768, .f32⟩
  | 17 => ⟨S256x768, .f32⟩
  | 18 => ⟨S2048x768, .f32⟩
  | 19 => ⟨S1x768, .f32⟩
  | 20 => ⟨S768, .f32⟩
  | 21 => ⟨S1x768, .f32⟩
  | 22 => ⟨S2048x768, .f32⟩
  | 23 => ⟨S2048x768, .f32⟩
  | 24 => ⟨S_, .i32⟩
  | 25 => ⟨S2048, .i32⟩
  | 26 => ⟨S2048, .i1⟩
  | 27 => ⟨S2048x1, .i1⟩
  | 28 => ⟨S2048x768, .i1⟩
  | 29 => ⟨S2048x768, .f32⟩
  | 30 => ⟨S1x768x256, .f32⟩
  | 31 => ⟨S768x256, .f32⟩
  | 32 => ⟨S2048x256, .f32⟩
  | 33 => ⟨S1x256, .f32⟩
  | 34 => ⟨S256, .f32⟩
  | 35 => ⟨S1x256, .f32⟩
  | 36 => ⟨S2048x256, .f32⟩
  | 37 => ⟨S2048x256, .f32⟩
  | 38 => ⟨S_, .f32⟩
  | 39 => ⟨S2048x256, .f32⟩
  | 40 => ⟨S2048x256, .f32⟩
  | 41 => ⟨S1x256x768, .f32⟩
  | 42 => ⟨S256x768, .f32⟩
  | 43 => ⟨S2048x768, .f32⟩
  | 44 => ⟨S1x768, .f32⟩
  | 45 => ⟨S768, .f32⟩
  | 46 => ⟨S1x768, .f32⟩
  | 47 => ⟨S2048x768, .f32⟩
  | 48 => ⟨S2048x768, .f32⟩
  | 49 => ⟨S_, .i32⟩
  | 50 => ⟨S2048, .i32⟩
  | 51 => ⟨S2048, .i1⟩
  | 52 => ⟨S2048x1, .i1⟩
  | 53 => ⟨S2048x768, .i1⟩
  | 54 => ⟨S2048x768, .f32⟩
  | 55 => ⟨S1x768x256, .f32⟩
  | 56 => ⟨S768x256, .f32⟩
  | 57 => ⟨S2048x256, .f32⟩
  | 58 => ⟨S1x256, .f32⟩
  | 59 => ⟨S256, .f32⟩
  | 60 => ⟨S1x256, .f32⟩
  | 61 => ⟨S2048x256, .f32⟩
  | 62 => ⟨S2048x256, .f32⟩
  | 63 => ⟨S_, .f32⟩
  | 64 => ⟨S2048x256, .f32⟩
  | 65 => ⟨S2048x256, .f32⟩
  | 66 => ⟨S1x256x768, .f32⟩
  | 67 => ⟨S256x768, .f32⟩
  | 68 => ⟨S2048x768, .f32⟩
  | 69 => ⟨S1x768, .f32⟩
  | 70 => ⟨S768, .f32⟩
  | 71 => ⟨S1x768, .f32⟩
  | 72 => ⟨S2048x768, .f32⟩
  | 73 => ⟨S2048x768, .f32⟩
  | 74 => ⟨S_, .i32⟩
  | 75 => ⟨S2048, .i32⟩
  | 76 => ⟨S2048, .i1⟩
  | 77 => ⟨S2048x1, .i1⟩
  | 78 => ⟨S2048x768, .i1⟩
  | 79 => ⟨S2048x768, .f32⟩
  | 80 => ⟨S1x768x256, .f32⟩
  | 81 => ⟨S768x256, .f32⟩
  | 82 => ⟨S2048x256, .f32⟩
  | 83 => ⟨S1x256, .f32⟩
  | 84 => ⟨S256, .f32⟩
  | 85 => ⟨S1x256, .f32⟩
  | 86 => ⟨S2048x256, .f32⟩
  | 87 => ⟨S2048x256, .f32⟩
  | 88 => ⟨S_, .f32⟩
  | 89 => ⟨S2048x256, .f32⟩
  | 90 => ⟨S2048x256, .f32⟩
  | 91 => ⟨S1x256x768, .f32⟩
  | 92 => ⟨S256x768, .f32⟩
  | 93 => ⟨S2048x768, .f32⟩
  | 94 => ⟨S1x768, .f32⟩
  | 95 => ⟨S768, .f32⟩
  | 96 => ⟨S1x768, .f32⟩
  | 97 => ⟨S2048x768, .f32⟩
  | 98 => ⟨S2048x768, .f32⟩
  | 99 => ⟨S_, .i32⟩
  | 100 => ⟨S2048, .i32⟩
  | 101 => ⟨S2048, .i1⟩
  | 102 => ⟨S2048x1, .i1⟩
  | 103 => ⟨S2048x768, .i1⟩
  | 104 => ⟨S2048x768, .f32⟩
  | 105 => ⟨S1x768x256, .f32⟩
  | 106 => ⟨S768x256, .f32⟩
  | 107 => ⟨S2048x256, .f32⟩
  | 108 => ⟨S1x256, .f32⟩
  | 109 => ⟨S256, .f32⟩
  | 110 => ⟨S1x256, .f32⟩
  | 111 => ⟨S2048x256, .f32⟩
  | 112 => ⟨S2048x256, .f32⟩
  | 113 => ⟨S_, .f32⟩
  | 114 => ⟨S2048x256, .f32⟩
  | 115 => ⟨S2048x256, .f32⟩
  | 116 => ⟨S1x256x768, .f32⟩
  | 117 => ⟨S256x768, .f32⟩
  | 118 => ⟨S2048x768, .f32⟩
  | 119 => ⟨S1x768, .f32⟩
  | 120 => ⟨S768, .f32⟩
  | 121 => ⟨S1x768, .f32⟩
  | 122 => ⟨S2048x768, .f32⟩
  | 123 => ⟨S2048x768, .f32⟩
  | 124 => ⟨S_, .i32⟩
  | 125 => ⟨S2048, .i32⟩
  | 126 => ⟨S2048, .i1⟩
  | 127 => ⟨S2048x1, .i1⟩
  | _ => ⟨S2048x768, .f32⟩

abbrev hbmTy0_2 (i : Nat) : BufTy := match i % 128 with
  | 0 => ⟨S2048x768, .i1⟩
  | 1 => ⟨S2048x768, .f32⟩
  | 2 => ⟨S1x768x256, .f32⟩
  | 3 => ⟨S768x256, .f32⟩
  | 4 => ⟨S2048x256, .f32⟩
  | 5 => ⟨S1x256, .f32⟩
  | 6 => ⟨S256, .f32⟩
  | 7 => ⟨S1x256, .f32⟩
  | 8 => ⟨S2048x256, .f32⟩
  | 9 => ⟨S2048x256, .f32⟩
  | 10 => ⟨S_, .f32⟩
  | 11 => ⟨S2048x256, .f32⟩
  | 12 => ⟨S2048x256, .f32⟩
  | 13 => ⟨S1x256x768, .f32⟩
  | 14 => ⟨S256x768, .f32⟩
  | 15 => ⟨S2048x768, .f32⟩
  | 16 => ⟨S1x768, .f32⟩
  | 17 => ⟨S768, .f32⟩
  | 18 => ⟨S1x768, .f32⟩
  | 19 => ⟨S2048x768, .f32⟩
  | 20 => ⟨S2048x768, .f32⟩
  | 21 => ⟨S_, .i32⟩
  | 22 => ⟨S2048, .i32⟩
  | 23 => ⟨S2048, .i1⟩
  | 24 => ⟨S2048x1, .i1⟩
  | 25 => ⟨S2048x768, .i1⟩
  | 26 => ⟨S2048x768, .f32⟩
  | 27 => ⟨S1x768x256, .f32⟩
  | 28 => ⟨S768x256, .f32⟩
  | 29 => ⟨S2048x256, .f32⟩
  | 30 => ⟨S1x256, .f32⟩
  | 31 => ⟨S256, .f32⟩
  | 32 => ⟨S1x256, .f32⟩
  | 33 => ⟨S2048x256, .f32⟩
  | 34 => ⟨S2048x256, .f32⟩
  | 35 => ⟨S_, .f32⟩
  | 36 => ⟨S2048x256, .f32⟩
  | 37 => ⟨S2048x256, .f32⟩
  | 38 => ⟨S1x256x768, .f32⟩
  | 39 => ⟨S256x768, .f32⟩
  | 40 => ⟨S2048x768, .f32⟩
  | 41 => ⟨S1x768, .f32⟩
  | 42 => ⟨S768, .f32⟩
  | 43 => ⟨S1x768, .f32⟩
  | 44 => ⟨S2048x768, .f32⟩
  | 45 => ⟨S2048x768, .f32⟩
  | 46 => ⟨S_, .i32⟩
  | 47 => ⟨S2048, .i32⟩
  | 48 => ⟨S2048, .i1⟩
  | 49 => ⟨S2048x1, .i1⟩
  | 50 => ⟨S2048x768, .i1⟩
  | 51 => ⟨S2048x768, .f32⟩
  | 52 => ⟨S1x768x256, .f32⟩
  | 53 => ⟨S768x256, .f32⟩
  | 54 => ⟨S2048x256, .f32⟩
  | 55 => ⟨S1x256, .f32⟩
  | 56 => ⟨S256, .f32⟩
  | 57 => ⟨S1x256, .f32⟩
  | 58 => ⟨S2048x256, .f32⟩
  | 59 => ⟨S2048x256, .f32⟩
  | 60 => ⟨S_, .f32⟩
  | 61 => ⟨S2048x256, .f32⟩
  | 62 => ⟨S2048x256, .f32⟩
  | 63 => ⟨S1x256x768, .f32⟩
  | 64 => ⟨S256x768, .f32⟩
  | 65 => ⟨S2048x768, .f32⟩
  | 66 => ⟨S1x768, .f32⟩
  | 67 => ⟨S768, .f32⟩
  | 68 => ⟨S1x768, .f32⟩
  | 69 => ⟨S2048x768, .f32⟩
  | 70 => ⟨S2048x768, .f32⟩
  | 71 => ⟨S_, .i32⟩
  | 72 => ⟨S2048, .i32⟩
  | 73 => ⟨S2048, .i1⟩
  | 74 => ⟨S2048x1, .i1⟩
  | 75 => ⟨S2048x768, .i1⟩
  | 76 => ⟨S2048x768, .f32⟩
  | 77 => ⟨S1x768x256, .f32⟩
  | 78 => ⟨S768x256, .f32⟩
  | 79 => ⟨S2048x256, .f32⟩
  | 80 => ⟨S1x256, .f32⟩
  | 81 => ⟨S256, .f32⟩
  | 82 => ⟨S1x256, .f32⟩
  | 83 => ⟨S2048x256, .f32⟩
  | 84 => ⟨S2048x256, .f32⟩
  | 85 => ⟨S_, .f32⟩
  | 86 => ⟨S2048x256, .f32⟩
  | 87 => ⟨S2048x256, .f32⟩
  | 88 => ⟨S1x256x768, .f32⟩
  | 89 => ⟨S256x768, .f32⟩
  | 90 => ⟨S2048x768, .f32⟩
  | 91 => ⟨S1x768, .f32⟩
  | 92 => ⟨S768, .f32⟩
  | 93 => ⟨S1x768, .f32⟩
  | 94 => ⟨S2048x768, .f32⟩
  | 95 => ⟨S2048x768, .f32⟩
  | 96 => ⟨S_, .i32⟩
  | 97 => ⟨S2048, .i32⟩
  | 98 => ⟨S2048, .i1⟩
  | 99 => ⟨S2048x1, .i1⟩
  | 100 => ⟨S2048x768, .i1⟩
  | 101 => ⟨S2048x768, .f32⟩
  | 102 => ⟨S1x768x256, .f32⟩
  | 103 => ⟨S768x256, .f32⟩
  | 104 => ⟨S2048x256, .f32⟩
  | 105 => ⟨S1x256, .f32⟩
  | 106 => ⟨S256, .f32⟩
  | 107 => ⟨S1x256, .f32⟩
  | 108 => ⟨S2048x256, .f32⟩
  | 109 => ⟨S2048x256, .f32⟩
  | 110 => ⟨S_, .f32⟩
  | 111 => ⟨S2048x256, .f32⟩
  | 112 => ⟨S2048x256, .f32⟩
  | 113 => ⟨S1x256x768, .f32⟩
  | 114 => ⟨S256x768, .f32⟩
  | 115 => ⟨S2048x768, .f32⟩
  | 116 => ⟨S1x768, .f32⟩
  | 117 => ⟨S768, .f32⟩
  | 118 => ⟨S1x768, .f32⟩
  | 119 => ⟨S2048x768, .f32⟩
  | 120 => ⟨S2048x768, .f32⟩
  | 121 => ⟨S_, .i32⟩
  | 122 => ⟨S2048, .i32⟩
  | 123 => ⟨S2048, .i1⟩
  | 124 => ⟨S2048x1, .i1⟩
  | 125 => ⟨S2048x768, .i1⟩
  | 126 => ⟨S2048x768, .f32⟩
  | 127 => ⟨S1x768x256, .f32⟩
  | _ => ⟨S2048x768, .f32⟩

abbrev hbmTy0_3 (i : Nat) : BufTy := match i % 128 with
  | 0 => ⟨S768x256, .f32⟩
  | 1 => ⟨S2048x256, .f32⟩
  | 2 => ⟨S1x256, .f32⟩
  | 3 => ⟨S256, .f32⟩
  | 4 => ⟨S1x256, .f32⟩
  | 5 => ⟨S2048x256, .f32⟩
  | 6 => ⟨S2048x256, .f32⟩
  | 7 => ⟨S_, .f32⟩
  | 8 => ⟨S2048x256, .f32⟩
  | 9 => ⟨S2048x256, .f32⟩
  | 10 => ⟨S1x256x768, .f32⟩
  | 11 => ⟨S256x768, .f32⟩
  | 12 => ⟨S2048x768, .f32⟩
  | 13 => ⟨S1x768, .f32⟩
  | 14 => ⟨S768, .f32⟩
  | 15 => ⟨S1x768, .f32⟩
  | 16 => ⟨S2048x768, .f32⟩
  | 17 => ⟨S2048x768, .f32⟩
  | 18 => ⟨S_, .i32⟩
  | 19 => ⟨S2048, .i32⟩
  | 20 => ⟨S2048, .i1⟩
  | 21 => ⟨S2048x1, .i1⟩
  | 22 => ⟨S2048x768, .i1⟩
  | 23 => ⟨S2048x768, .f32⟩
  | _ => ⟨S2048x768, .f32⟩

abbrev hbmTy (i : Nat) : BufTy := match i / 128 with
  | 0 => hbmTy0_0 i
  | 1 => hbmTy0_1 i
  | 2 => hbmTy0_2 i
  | 3 => hbmTy0_3 i
  | _ => ⟨S2048x768, .f32⟩

abbrev bufTy : (tb : Table) → Fin (tcTables nBuf tb) → BufTy
  | .hbm, ⟨i, _⟩ => hbmTy i
  | _, _ => ⟨S2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_call0_cst : Ref sig .tc := ⟨.hbm, 16, rfl⟩
abbrev main_call0_v0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_c : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_call1_v0 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_call2_cst : Ref sig .tc := ⟨.hbm, 41, rfl⟩
abbrev main_call2_v0 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_c_0 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_call3_v0 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_call4_cst : Ref sig .tc := ⟨.hbm, 66, rfl⟩
abbrev main_call4_v0 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_c_1 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_call5_v0 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_call6_cst : Ref sig .tc := ⟨.hbm, 91, rfl⟩
abbrev main_call6_v0 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_c_2 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_call7_v0 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_call8_cst : Ref sig .tc := ⟨.hbm, 116, rfl⟩
abbrev main_call8_v0 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_v99 : Ref sig .tc := ⟨.hbm, 124, rfl⟩
abbrev main_v100 : Ref sig .tc := ⟨.hbm, 125, rfl⟩
abbrev main_v101 : Ref sig .tc := ⟨.hbm, 126, rfl⟩
abbrev main_c_3 : Ref sig .tc := ⟨.hbm, 127, rfl⟩
abbrev main_v102 : Ref sig .tc := ⟨.hbm, 128, rfl⟩
abbrev main_v103 : Ref sig .tc := ⟨.hbm, 129, rfl⟩
abbrev main_v104 : Ref sig .tc := ⟨.hbm, 130, rfl⟩
abbrev main_call9_v0 : Ref sig .tc := ⟨.hbm, 131, rfl⟩
abbrev main_v105 : Ref sig .tc := ⟨.hbm, 132, rfl⟩
abbrev main_v106 : Ref sig .tc := ⟨.hbm, 133, rfl⟩
abbrev main_v107 : Ref sig .tc := ⟨.hbm, 134, rfl⟩
abbrev main_v108 : Ref sig .tc := ⟨.hbm, 135, rfl⟩
abbrev main_v109 : Ref sig .tc := ⟨.hbm, 136, rfl⟩
abbrev main_v110 : Ref sig .tc := ⟨.hbm, 137, rfl⟩
abbrev main_v111 : Ref sig .tc := ⟨.hbm, 138, rfl⟩
abbrev main_v112 : Ref sig .tc := ⟨.hbm, 139, rfl⟩
abbrev main_v113 : Ref sig .tc := ⟨.hbm, 140, rfl⟩
abbrev main_call10_cst : Ref sig .tc := ⟨.hbm, 141, rfl⟩
abbrev main_call10_v0 : Ref sig .tc := ⟨.hbm, 142, rfl⟩
abbrev main_v114 : Ref sig .tc := ⟨.hbm, 143, rfl⟩
abbrev main_v115 : Ref sig .tc := ⟨.hbm, 144, rfl⟩
abbrev main_v116 : Ref sig .tc := ⟨.hbm, 145, rfl⟩
abbrev main_v117 : Ref sig .tc := ⟨.hbm, 146, rfl⟩
abbrev main_v118 : Ref sig .tc := ⟨.hbm, 147, rfl⟩
abbrev main_v119 : Ref sig .tc := ⟨.hbm, 148, rfl⟩
abbrev main_v120 : Ref sig .tc := ⟨.hbm, 149, rfl⟩
abbrev main_v121 : Ref sig .tc := ⟨.hbm, 150, rfl⟩
abbrev main_v122 : Ref sig .tc := ⟨.hbm, 151, rfl⟩
abbrev main_c_4 : Ref sig .tc := ⟨.hbm, 152, rfl⟩
abbrev main_v123 : Ref sig .tc := ⟨.hbm, 153, rfl⟩
abbrev main_v124 : Ref sig .tc := ⟨.hbm, 154, rfl⟩
abbrev main_v125 : Ref sig .tc := ⟨.hbm, 155, rfl⟩
abbrev main_call11_v0 : Ref sig .tc := ⟨.hbm, 156, rfl⟩
abbrev main_v126 : Ref sig .tc := ⟨.hbm, 157, rfl⟩
abbrev main_v127 : Ref sig .tc := ⟨.hbm, 158, rfl⟩
abbrev main_v128 : Ref sig .tc := ⟨.hbm, 159, rfl⟩
abbrev main_v129 : Ref sig .tc := ⟨.hbm, 160, rfl⟩
abbrev main_v130 : Ref sig .tc := ⟨.hbm, 161, rfl⟩
abbrev main_v131 : Ref sig .tc := ⟨.hbm, 162, rfl⟩
abbrev main_v132 : Ref sig .tc := ⟨.hbm, 163, rfl⟩
abbrev main_v133 : Ref sig .tc := ⟨.hbm, 164, rfl⟩
abbrev main_v134 : Ref sig .tc := ⟨.hbm, 165, rfl⟩
abbrev main_call12_cst : Ref sig .tc := ⟨.hbm, 166, rfl⟩
abbrev main_call12_v0 : Ref sig .tc := ⟨.hbm, 167, rfl⟩
abbrev main_v135 : Ref sig .tc := ⟨.hbm, 168, rfl⟩
abbrev main_v136 : Ref sig .tc := ⟨.hbm, 169, rfl⟩
abbrev main_v137 : Ref sig .tc := ⟨.hbm, 170, rfl⟩
abbrev main_v138 : Ref sig .tc := ⟨.hbm, 171, rfl⟩
abbrev main_v139 : Ref sig .tc := ⟨.hbm, 172, rfl⟩
abbrev main_v140 : Ref sig .tc := ⟨.hbm, 173, rfl⟩
abbrev main_v141 : Ref sig .tc := ⟨.hbm, 174, rfl⟩
abbrev main_v142 : Ref sig .tc := ⟨.hbm, 175, rfl⟩
abbrev main_v143 : Ref sig .tc := ⟨.hbm, 176, rfl⟩
abbrev main_c_5 : Ref sig .tc := ⟨.hbm, 177, rfl⟩
abbrev main_v144 : Ref sig .tc := ⟨.hbm, 178, rfl⟩
abbrev main_v145 : Ref sig .tc := ⟨.hbm, 179, rfl⟩
abbrev main_v146 : Ref sig .tc := ⟨.hbm, 180, rfl⟩
abbrev main_call13_v0 : Ref sig .tc := ⟨.hbm, 181, rfl⟩
abbrev main_v147 : Ref sig .tc := ⟨.hbm, 182, rfl⟩
abbrev main_v148 : Ref sig .tc := ⟨.hbm, 183, rfl⟩
abbrev main_v149 : Ref sig .tc := ⟨.hbm, 184, rfl⟩
abbrev main_v150 : Ref sig .tc := ⟨.hbm, 185, rfl⟩
abbrev main_v151 : Ref sig .tc := ⟨.hbm, 186, rfl⟩
abbrev main_v152 : Ref sig .tc := ⟨.hbm, 187, rfl⟩
abbrev main_v153 : Ref sig .tc := ⟨.hbm, 188, rfl⟩
abbrev main_v154 : Ref sig .tc := ⟨.hbm, 189, rfl⟩
abbrev main_v155 : Ref sig .tc := ⟨.hbm, 190, rfl⟩
abbrev main_call14_cst : Ref sig .tc := ⟨.hbm, 191, rfl⟩
abbrev main_call14_v0 : Ref sig .tc := ⟨.hbm, 192, rfl⟩
abbrev main_v156 : Ref sig .tc := ⟨.hbm, 193, rfl⟩
abbrev main_v157 : Ref sig .tc := ⟨.hbm, 194, rfl⟩
abbrev main_v158 : Ref sig .tc := ⟨.hbm, 195, rfl⟩
abbrev main_v159 : Ref sig .tc := ⟨.hbm, 196, rfl⟩
abbrev main_v160 : Ref sig .tc := ⟨.hbm, 197, rfl⟩
abbrev main_v161 : Ref sig .tc := ⟨.hbm, 198, rfl⟩
abbrev main_v162 : Ref sig .tc := ⟨.hbm, 199, rfl⟩
abbrev main_v163 : Ref sig .tc := ⟨.hbm, 200, rfl⟩
abbrev main_v164 : Ref sig .tc := ⟨.hbm, 201, rfl⟩
abbrev main_c_6 : Ref sig .tc := ⟨.hbm, 202, rfl⟩
abbrev main_v165 : Ref sig .tc := ⟨.hbm, 203, rfl⟩
abbrev main_v166 : Ref sig .tc := ⟨.hbm, 204, rfl⟩
abbrev main_v167 : Ref sig .tc := ⟨.hbm, 205, rfl⟩
abbrev main_call15_v0 : Ref sig .tc := ⟨.hbm, 206, rfl⟩
abbrev main_v168 : Ref sig .tc := ⟨.hbm, 207, rfl⟩
abbrev main_v169 : Ref sig .tc := ⟨.hbm, 208, rfl⟩
abbrev main_v170 : Ref sig .tc := ⟨.hbm, 209, rfl⟩
abbrev main_v171 : Ref sig .tc := ⟨.hbm, 210, rfl⟩
abbrev main_v172 : Ref sig .tc := ⟨.hbm, 211, rfl⟩
abbrev main_v173 : Ref sig .tc := ⟨.hbm, 212, rfl⟩
abbrev main_v174 : Ref sig .tc := ⟨.hbm, 213, rfl⟩
abbrev main_v175 : Ref sig .tc := ⟨.hbm, 214, rfl⟩
abbrev main_v176 : Ref sig .tc := ⟨.hbm, 215, rfl⟩
abbrev main_call16_cst : Ref sig .tc := ⟨.hbm, 216, rfl⟩
abbrev main_call16_v0 : Ref sig .tc := ⟨.hbm, 217, rfl⟩
abbrev main_v177 : Ref sig .tc := ⟨.hbm, 218, rfl⟩
abbrev main_v178 : Ref sig .tc := ⟨.hbm, 219, rfl⟩
abbrev main_v179 : Ref sig .tc := ⟨.hbm, 220, rfl⟩
abbrev main_v180 : Ref sig .tc := ⟨.hbm, 221, rfl⟩
abbrev main_v181 : Ref sig .tc := ⟨.hbm, 222, rfl⟩
abbrev main_v182 : Ref sig .tc := ⟨.hbm, 223, rfl⟩
abbrev main_v183 : Ref sig .tc := ⟨.hbm, 224, rfl⟩
abbrev main_v184 : Ref sig .tc := ⟨.hbm, 225, rfl⟩
abbrev main_v185 : Ref sig .tc := ⟨.hbm, 226, rfl⟩
abbrev main_c_7 : Ref sig .tc := ⟨.hbm, 227, rfl⟩
abbrev main_v186 : Ref sig .tc := ⟨.hbm, 228, rfl⟩
abbrev main_v187 : Ref sig .tc := ⟨.hbm, 229, rfl⟩
abbrev main_v188 : Ref sig .tc := ⟨.hbm, 230, rfl⟩
abbrev main_call17_v0 : Ref sig .tc := ⟨.hbm, 231, rfl⟩
abbrev main_v189 : Ref sig .tc := ⟨.hbm, 232, rfl⟩
abbrev main_v190 : Ref sig .tc := ⟨.hbm, 233, rfl⟩
abbrev main_v191 : Ref sig .tc := ⟨.hbm, 234, rfl⟩
abbrev main_v192 : Ref sig .tc := ⟨.hbm, 235, rfl⟩
abbrev main_v193 : Ref sig .tc := ⟨.hbm, 236, rfl⟩
abbrev main_v194 : Ref sig .tc := ⟨.hbm, 237, rfl⟩
abbrev main_v195 : Ref sig .tc := ⟨.hbm, 238, rfl⟩
abbrev main_v196 : Ref sig .tc := ⟨.hbm, 239, rfl⟩
abbrev main_v197 : Ref sig .tc := ⟨.hbm, 240, rfl⟩
abbrev main_call18_cst : Ref sig .tc := ⟨.hbm, 241, rfl⟩
abbrev main_call18_v0 : Ref sig .tc := ⟨.hbm, 242, rfl⟩
abbrev main_v198 : Ref sig .tc := ⟨.hbm, 243, rfl⟩
abbrev main_v199 : Ref sig .tc := ⟨.hbm, 244, rfl⟩
abbrev main_v200 : Ref sig .tc := ⟨.hbm, 245, rfl⟩
abbrev main_v201 : Ref sig .tc := ⟨.hbm, 246, rfl⟩
abbrev main_v202 : Ref sig .tc := ⟨.hbm, 247, rfl⟩
abbrev main_v203 : Ref sig .tc := ⟨.hbm, 248, rfl⟩
abbrev main_v204 : Ref sig .tc := ⟨.hbm, 249, rfl⟩
abbrev main_v205 : Ref sig .tc := ⟨.hbm, 250, rfl⟩
abbrev main_v206 : Ref sig .tc := ⟨.hbm, 251, rfl⟩
abbrev main_c_8 : Ref sig .tc := ⟨.hbm, 252, rfl⟩
abbrev main_v207 : Ref sig .tc := ⟨.hbm, 253, rfl⟩
abbrev main_v208 : Ref sig .tc := ⟨.hbm, 254, rfl⟩
abbrev main_v209 : Ref sig .tc := ⟨.hbm, 255, rfl⟩
abbrev main_call19_v0 : Ref sig .tc := ⟨.hbm, 256, rfl⟩
abbrev main_v210 : Ref sig .tc := ⟨.hbm, 257, rfl⟩
abbrev main_v211 : Ref sig .tc := ⟨.hbm, 258, rfl⟩
abbrev main_v212 : Ref sig .tc := ⟨.hbm, 259, rfl⟩
abbrev main_v213 : Ref sig .tc := ⟨.hbm, 260, rfl⟩
abbrev main_v214 : Ref sig .tc := ⟨.hbm, 261, rfl⟩
abbrev main_v215 : Ref sig .tc := ⟨.hbm, 262, rfl⟩
abbrev main_v216 : Ref sig .tc := ⟨.hbm, 263, rfl⟩
abbrev main_v217 : Ref sig .tc := ⟨.hbm, 264, rfl⟩
abbrev main_v218 : Ref sig .tc := ⟨.hbm, 265, rfl⟩
abbrev main_call20_cst : Ref sig .tc := ⟨.hbm, 266, rfl⟩
abbrev main_call20_v0 : Ref sig .tc := ⟨.hbm, 267, rfl⟩
abbrev main_v219 : Ref sig .tc := ⟨.hbm, 268, rfl⟩
abbrev main_v220 : Ref sig .tc := ⟨.hbm, 269, rfl⟩
abbrev main_v221 : Ref sig .tc := ⟨.hbm, 270, rfl⟩
abbrev main_v222 : Ref sig .tc := ⟨.hbm, 271, rfl⟩
abbrev main_v223 : Ref sig .tc := ⟨.hbm, 272, rfl⟩
abbrev main_v224 : Ref sig .tc := ⟨.hbm, 273, rfl⟩
abbrev main_v225 : Ref sig .tc := ⟨.hbm, 274, rfl⟩
abbrev main_v226 : Ref sig .tc := ⟨.hbm, 275, rfl⟩
abbrev main_v227 : Ref sig .tc := ⟨.hbm, 276, rfl⟩
abbrev main_c_9 : Ref sig .tc := ⟨.hbm, 277, rfl⟩
abbrev main_v228 : Ref sig .tc := ⟨.hbm, 278, rfl⟩
abbrev main_v229 : Ref sig .tc := ⟨.hbm, 279, rfl⟩
abbrev main_v230 : Ref sig .tc := ⟨.hbm, 280, rfl⟩
abbrev main_call21_v0 : Ref sig .tc := ⟨.hbm, 281, rfl⟩
abbrev main_v231 : Ref sig .tc := ⟨.hbm, 282, rfl⟩
abbrev main_v232 : Ref sig .tc := ⟨.hbm, 283, rfl⟩
abbrev main_v233 : Ref sig .tc := ⟨.hbm, 284, rfl⟩
abbrev main_v234 : Ref sig .tc := ⟨.hbm, 285, rfl⟩
abbrev main_v235 : Ref sig .tc := ⟨.hbm, 286, rfl⟩
abbrev main_v236 : Ref sig .tc := ⟨.hbm, 287, rfl⟩
abbrev main_v237 : Ref sig .tc := ⟨.hbm, 288, rfl⟩
abbrev main_v238 : Ref sig .tc := ⟨.hbm, 289, rfl⟩
abbrev main_v239 : Ref sig .tc := ⟨.hbm, 290, rfl⟩
abbrev main_call22_cst : Ref sig .tc := ⟨.hbm, 291, rfl⟩
abbrev main_call22_v0 : Ref sig .tc := ⟨.hbm, 292, rfl⟩
abbrev main_v240 : Ref sig .tc := ⟨.hbm, 293, rfl⟩
abbrev main_v241 : Ref sig .tc := ⟨.hbm, 294, rfl⟩
abbrev main_v242 : Ref sig .tc := ⟨.hbm, 295, rfl⟩
abbrev main_v243 : Ref sig .tc := ⟨.hbm, 296, rfl⟩
abbrev main_v244 : Ref sig .tc := ⟨.hbm, 297, rfl⟩
abbrev main_v245 : Ref sig .tc := ⟨.hbm, 298, rfl⟩
abbrev main_v246 : Ref sig .tc := ⟨.hbm, 299, rfl⟩
abbrev main_v247 : Ref sig .tc := ⟨.hbm, 300, rfl⟩
abbrev main_v248 : Ref sig .tc := ⟨.hbm, 301, rfl⟩
abbrev main_c_10 : Ref sig .tc := ⟨.hbm, 302, rfl⟩
abbrev main_v249 : Ref sig .tc := ⟨.hbm, 303, rfl⟩
abbrev main_v250 : Ref sig .tc := ⟨.hbm, 304, rfl⟩
abbrev main_v251 : Ref sig .tc := ⟨.hbm, 305, rfl⟩
abbrev main_call23_v0 : Ref sig .tc := ⟨.hbm, 306, rfl⟩
abbrev main_v252 : Ref sig .tc := ⟨.hbm, 307, rfl⟩
abbrev main_v253 : Ref sig .tc := ⟨.hbm, 308, rfl⟩
abbrev main_v254 : Ref sig .tc := ⟨.hbm, 309, rfl⟩
abbrev main_v255 : Ref sig .tc := ⟨.hbm, 310, rfl⟩
abbrev main_v256 : Ref sig .tc := ⟨.hbm, 311, rfl⟩
abbrev main_v257 : Ref sig .tc := ⟨.hbm, 312, rfl⟩
abbrev main_v258 : Ref sig .tc := ⟨.hbm, 313, rfl⟩
abbrev main_v259 : Ref sig .tc := ⟨.hbm, 314, rfl⟩
abbrev main_v260 : Ref sig .tc := ⟨.hbm, 315, rfl⟩
abbrev main_call24_cst : Ref sig .tc := ⟨.hbm, 316, rfl⟩
abbrev main_call24_v0 : Ref sig .tc := ⟨.hbm, 317, rfl⟩
abbrev main_v261 : Ref sig .tc := ⟨.hbm, 318, rfl⟩
abbrev main_v262 : Ref sig .tc := ⟨.hbm, 319, rfl⟩
abbrev main_v263 : Ref sig .tc := ⟨.hbm, 320, rfl⟩
abbrev main_v264 : Ref sig .tc := ⟨.hbm, 321, rfl⟩
abbrev main_v265 : Ref sig .tc := ⟨.hbm, 322, rfl⟩
abbrev main_v266 : Ref sig .tc := ⟨.hbm, 323, rfl⟩
abbrev main_v267 : Ref sig .tc := ⟨.hbm, 324, rfl⟩
abbrev main_v268 : Ref sig .tc := ⟨.hbm, 325, rfl⟩
abbrev main_v269 : Ref sig .tc := ⟨.hbm, 326, rfl⟩
abbrev main_c_11 : Ref sig .tc := ⟨.hbm, 327, rfl⟩
abbrev main_v270 : Ref sig .tc := ⟨.hbm, 328, rfl⟩
abbrev main_v271 : Ref sig .tc := ⟨.hbm, 329, rfl⟩
abbrev main_v272 : Ref sig .tc := ⟨.hbm, 330, rfl⟩
abbrev main_call25_v0 : Ref sig .tc := ⟨.hbm, 331, rfl⟩
abbrev main_v273 : Ref sig .tc := ⟨.hbm, 332, rfl⟩
abbrev main_v274 : Ref sig .tc := ⟨.hbm, 333, rfl⟩
abbrev main_v275 : Ref sig .tc := ⟨.hbm, 334, rfl⟩
abbrev main_v276 : Ref sig .tc := ⟨.hbm, 335, rfl⟩
abbrev main_v277 : Ref sig .tc := ⟨.hbm, 336, rfl⟩
abbrev main_v278 : Ref sig .tc := ⟨.hbm, 337, rfl⟩
abbrev main_v279 : Ref sig .tc := ⟨.hbm, 338, rfl⟩
abbrev main_v280 : Ref sig .tc := ⟨.hbm, 339, rfl⟩
abbrev main_v281 : Ref sig .tc := ⟨.hbm, 340, rfl⟩
abbrev main_call26_cst : Ref sig .tc := ⟨.hbm, 341, rfl⟩
abbrev main_call26_v0 : Ref sig .tc := ⟨.hbm, 342, rfl⟩
abbrev main_v282 : Ref sig .tc := ⟨.hbm, 343, rfl⟩
abbrev main_v283 : Ref sig .tc := ⟨.hbm, 344, rfl⟩
abbrev main_v284 : Ref sig .tc := ⟨.hbm, 345, rfl⟩
abbrev main_v285 : Ref sig .tc := ⟨.hbm, 346, rfl⟩
abbrev main_v286 : Ref sig .tc := ⟨.hbm, 347, rfl⟩
abbrev main_v287 : Ref sig .tc := ⟨.hbm, 348, rfl⟩
abbrev main_v288 : Ref sig .tc := ⟨.hbm, 349, rfl⟩
abbrev main_v289 : Ref sig .tc := ⟨.hbm, 350, rfl⟩
abbrev main_v290 : Ref sig .tc := ⟨.hbm, 351, rfl⟩
abbrev main_c_12 : Ref sig .tc := ⟨.hbm, 352, rfl⟩
abbrev main_v291 : Ref sig .tc := ⟨.hbm, 353, rfl⟩
abbrev main_v292 : Ref sig .tc := ⟨.hbm, 354, rfl⟩
abbrev main_v293 : Ref sig .tc := ⟨.hbm, 355, rfl⟩
abbrev main_call27_v0 : Ref sig .tc := ⟨.hbm, 356, rfl⟩
abbrev main_v294 : Ref sig .tc := ⟨.hbm, 357, rfl⟩
abbrev main_v295 : Ref sig .tc := ⟨.hbm, 358, rfl⟩
abbrev main_v296 : Ref sig .tc := ⟨.hbm, 359, rfl⟩
abbrev main_v297 : Ref sig .tc := ⟨.hbm, 360, rfl⟩
abbrev main_v298 : Ref sig .tc := ⟨.hbm, 361, rfl⟩
abbrev main_v299 : Ref sig .tc := ⟨.hbm, 362, rfl⟩
abbrev main_v300 : Ref sig .tc := ⟨.hbm, 363, rfl⟩
abbrev main_v301 : Ref sig .tc := ⟨.hbm, 364, rfl⟩
abbrev main_v302 : Ref sig .tc := ⟨.hbm, 365, rfl⟩
abbrev main_call28_cst : Ref sig .tc := ⟨.hbm, 366, rfl⟩
abbrev main_call28_v0 : Ref sig .tc := ⟨.hbm, 367, rfl⟩
abbrev main_v303 : Ref sig .tc := ⟨.hbm, 368, rfl⟩
abbrev main_v304 : Ref sig .tc := ⟨.hbm, 369, rfl⟩
abbrev main_v305 : Ref sig .tc := ⟨.hbm, 370, rfl⟩
abbrev main_v306 : Ref sig .tc := ⟨.hbm, 371, rfl⟩
abbrev main_v307 : Ref sig .tc := ⟨.hbm, 372, rfl⟩
abbrev main_v308 : Ref sig .tc := ⟨.hbm, 373, rfl⟩
abbrev main_v309 : Ref sig .tc := ⟨.hbm, 374, rfl⟩
abbrev main_v310 : Ref sig .tc := ⟨.hbm, 375, rfl⟩
abbrev main_v311 : Ref sig .tc := ⟨.hbm, 376, rfl⟩
abbrev main_c_13 : Ref sig .tc := ⟨.hbm, 377, rfl⟩
abbrev main_v312 : Ref sig .tc := ⟨.hbm, 378, rfl⟩
abbrev main_v313 : Ref sig .tc := ⟨.hbm, 379, rfl⟩
abbrev main_v314 : Ref sig .tc := ⟨.hbm, 380, rfl⟩
abbrev main_call29_v0 : Ref sig .tc := ⟨.hbm, 381, rfl⟩
abbrev main_v315 : Ref sig .tc := ⟨.hbm, 382, rfl⟩
abbrev main_v316 : Ref sig .tc := ⟨.hbm, 383, rfl⟩
abbrev main_v317 : Ref sig .tc := ⟨.hbm, 384, rfl⟩
abbrev main_v318 : Ref sig .tc := ⟨.hbm, 385, rfl⟩
abbrev main_v319 : Ref sig .tc := ⟨.hbm, 386, rfl⟩
abbrev main_v320 : Ref sig .tc := ⟨.hbm, 387, rfl⟩
abbrev main_v321 : Ref sig .tc := ⟨.hbm, 388, rfl⟩
abbrev main_v322 : Ref sig .tc := ⟨.hbm, 389, rfl⟩
abbrev main_v323 : Ref sig .tc := ⟨.hbm, 390, rfl⟩
abbrev main_call30_cst : Ref sig .tc := ⟨.hbm, 391, rfl⟩
abbrev main_call30_v0 : Ref sig .tc := ⟨.hbm, 392, rfl⟩
abbrev main_v324 : Ref sig .tc := ⟨.hbm, 393, rfl⟩
abbrev main_v325 : Ref sig .tc := ⟨.hbm, 394, rfl⟩
abbrev main_v326 : Ref sig .tc := ⟨.hbm, 395, rfl⟩
abbrev main_v327 : Ref sig .tc := ⟨.hbm, 396, rfl⟩
abbrev main_v328 : Ref sig .tc := ⟨.hbm, 397, rfl⟩
abbrev main_v329 : Ref sig .tc := ⟨.hbm, 398, rfl⟩
abbrev main_v330 : Ref sig .tc := ⟨.hbm, 399, rfl⟩
abbrev main_v331 : Ref sig .tc := ⟨.hbm, 400, rfl⟩
abbrev main_v332 : Ref sig .tc := ⟨.hbm, 401, rfl⟩
abbrev main_c_14 : Ref sig .tc := ⟨.hbm, 402, rfl⟩
abbrev main_v333 : Ref sig .tc := ⟨.hbm, 403, rfl⟩
abbrev main_v334 : Ref sig .tc := ⟨.hbm, 404, rfl⟩
abbrev main_v335 : Ref sig .tc := ⟨.hbm, 405, rfl⟩
abbrev main_call31_v0 : Ref sig .tc := ⟨.hbm, 406, rfl⟩
abbrev main_v336 : Ref sig .tc := ⟨.hbm, 407, rfl⟩

abbrev nD : Nat := 1
abbrev τ : Topo := Topo.v7x

variable {F : FTy → Type} [FloatOps F]
-- ==== Gating.lean ====
abbrev S2048x768 : Shape := ⟨2, ![2048, 768]⟩
abbrev S768x16 : Shape := ⟨2, ![768, 16]⟩
abbrev S16 : Shape := ⟨1, ![16]⟩
abbrev S1x16 : Shape := ⟨2, ![1, 16]⟩
abbrev S2048x16 : Shape := ⟨2, ![2048, 16]⟩
abbrev S2048x1 : Shape := ⟨2, ![2048, 1]⟩
abbrev S2048 : Shape := ⟨1, ![2048]⟩

abbrev nBuf : Space → Nat
  | .hbm => 8
  | .vmem => 7
  | .smem => 0
  | _ => 0

abbrev bufTy : (tb : Table) → Fin (tcTables nBuf tb) → BufTy
  | .hbm, ⟨0, _⟩ => ⟨S2048x768, .f32⟩
  | .hbm, ⟨1, _⟩ => ⟨S768x16, .f32⟩
  | .hbm, ⟨2, _⟩ => ⟨S16, .f32⟩
  | .hbm, ⟨3, _⟩ => ⟨S1x16, .f32⟩
  | .hbm, ⟨4, _⟩ => ⟨S1x16, .f32⟩
  | .hbm, ⟨5, _⟩ => ⟨S2048x16, .f32⟩
  | .hbm, ⟨6, _⟩ => ⟨S2048x1, .i32⟩
  | .hbm, ⟨7, _⟩ => ⟨S2048, .i32⟩
  | .local _ .vmem, ⟨0, _⟩ => ⟨S2048x768, .f32⟩
  | .local _ .vmem, ⟨1, _⟩ => ⟨S768x16, .f32⟩
  | .local _ .vmem, ⟨2, _⟩ => ⟨S1x16, .f32⟩
  | .local _ .vmem, ⟨3, _⟩ => ⟨S1x16, .f32⟩
  | .local _ .vmem, ⟨4, _⟩ => ⟨S2048x16, .f32⟩
  | .local _ .vmem, ⟨5, _⟩ => ⟨S2048x1, .i32⟩
  | .local _ .vmem, ⟨6, _⟩ => ⟨S2048, .i32⟩
  | _, _ => ⟨S2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 1 → Nat :=
  let arg0 : BitVec 32 := BitVec.ofNat 32 (i 0).val
  let c0_i32 : BitVec 32 := 0#32
  ![arg0.toNat]

abbrev stage0_0 : Fin 1 → Memref sig .tc .vmem S2048x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S768x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2048x1 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2048 .i32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== GatingReferenceIdeal.lean ====
abbrev S2048x768 : Shape := ⟨2, ![2048, 768]⟩
abbrev S768x16 : Shape := ⟨2, ![768, 16]⟩
abbrev S16 : Shape := ⟨1, ![16]⟩
abbrev S1x16 : Shape := ⟨2, ![1, 16]⟩
abbrev S2048x16 : Shape := ⟨2, ![2048, 16]⟩
abbrev S2048x1 : Shape := ⟨2, ![2048, 1]⟩
abbrev S2048 : Shape := ⟨1, ![2048]⟩

abbrev nBuf : Space → Nat
  | .hbm => 13
  | .vmem => 0
  | .smem => 0
  | _ => 0

abbrev bufTy : (tb : Table) → Fin (tcTables nBuf tb) → BufTy
  | .hbm, ⟨0, _⟩ => ⟨S2048x768, .f32⟩
  | .hbm, ⟨1, _⟩ => ⟨S768x16, .f32⟩
  | .hbm, ⟨2, _⟩ => ⟨S16, .f32⟩
  | .hbm, ⟨3, _⟩ => ⟨S1x16, .f32⟩
  | .hbm, ⟨4, _⟩ => ⟨S2048x16, .f32⟩
  | .hbm, ⟨5, _⟩ => ⟨S1x16, .f32⟩
  | .hbm, ⟨6, _⟩ => ⟨S2048x16, .f32⟩
  | .hbm, ⟨7, _⟩ => ⟨S2048x16, .f32⟩
  | .hbm, ⟨8, _⟩ => ⟨S2048x16, .f32⟩
  | .hbm, ⟨9, _⟩ => ⟨S2048x16, .f32⟩
  | .hbm, ⟨10, _⟩ => ⟨S2048x1, .f32⟩
  | .hbm, ⟨11, _⟩ => ⟨S2048x1, .i32⟩
  | .hbm, ⟨12, _⟩ => ⟨S2048, .i32⟩
  | _, _ => ⟨S2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_values : Ref sig .tc := ⟨.hbm, 10, rfl⟩
abbrev main_indices : Ref sig .tc := ⟨.hbm, 11, rfl⟩
abbrev main_v6 : Ref sig .tc := ⟨.hbm, 12, rfl⟩

abbrev nD : Nat := 1
abbrev τ : Topo := Topo.v7x

variable {F : FTy → Type} [FloatOps F]
-- ==== Proof.Rolled.lean ====
/-
  The routing kernel's body, with what the printed program repeats written once: the histogram's 128 steps as a
  recursion over the step, the four groups of sixteen tokens as one step at four offsets, a group's sixteen running
  sums as a recursion over the expert, the six column copies as one step at six columns. That this IS the printed body
  is by unfolding (`route_eq`).
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.SparseCore.Scatter
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton
public import proofs.«01_k».proof.Proof.Gen.KernelIdeal.Launch
public import proofs.«01_k».proof.Proof.Gen.Pre_in_range

@[expose] public section

noncomputable section

namespace Cert.Proof.Route

open Cert.KernelIdeal Cert.KernelIdeal.Gen

open Idealize.ShloMosaic
open Idealize.SL.Sem

variable {F : FTy → Type} [FloatOps F]

/-- A program of tile `i`. -/
abbrev TProg (F : FTy → Type) [FloatOps F] (i : grid0.Coords) (α : Type) : Type _ :=
  Prog (TpuEff nD τ sig (Elt F) Λ₀ (.scVector ((i 0).castLE hcore0) ((i 1).castLE hsub0))) α

/-- The tile's number, `2 * s + c`, as the kernel computes it. -/
def widW (i : grid0.Coords) : BitVec 32 := Scalar.addi (Scalar.muli (BitVec.ofNat 32 (i 1).val) 2#32) (BitVec.ofNat 32 (i 0).val)

/-- Four times the tile's number: how many vectors of tokens lie before its own. -/
def wid4 (i : grid0.Coords) : BitVec 32 := Scalar.muli (widW i) 4#32

/-- The vector of zeros, and of ones. -/
def zeros16 : IVec S16 32 := broadcast S16 0#32
def ones16 : IVec S16 32 := broadcast S16 1#32

theorem hist_inb {v : ℕ} (hv : v < 128) : ∀ a, (![16 * v] : Fin 1 → ℕ) a + S16.size a ≤ S2048.size a := by
  intro a
  obtain rfl : a = 0 := Subsingleton.elim _ _
  show 16 * v + 16 ≤ 2048
  omega

/-- One step of the histogram: sixteen tokens' experts read, each counted in `tot`, and in `base` when the vector lies
    before the tile's own. -/
def histStep (i : grid0.Coords) (arg8 : Memref sig .scVector .vmem S2048 .i32) (arg10 arg11 : Memref sig .scVector .vmem S16 .i32)
    (v : ℕ) (hv : v < 128) : TProg F i PUnit := do
  let w : Vec F S16 .i32 ← Prog.lift (.load arg8 (Rect.unit (s := S2048) ![16 * v] S16.size (hist_inb hv)).toLoadRect (View.loadsAt_vmem h_S16))
  have hw : k0_chk1 w := (← Prog.lift (TpuEff.assume (k0_chk1 w) (k0_chk1.dec w))).down
  SparseCore.vectorStoreIdx arg11 ![w] ones16 (fun _ => 1#1) true (k0_idx1_inb w hw) (View.stores_vmem_bits_univ h_S16 rfl)
  SparseCore.vectorStoreIdx arg10 ![w] ones16 (broadcast S16 (Scalar.cmpi .sgt (wid4 i) (BitVec.ofNat 32 v))) true (k0_idx2_inb w hw)
    (View.stores_vmem_bits_univ h_S16 rfl)

/-- The histogram's steps from `v` on, `n` of them. -/
def histFrom (i : grid0.Coords) (arg8 : Memref sig .scVector .vmem S2048 .i32) (arg10 arg11 : Memref sig .scVector .vmem S16 .i32) :
    (n v : ℕ) → v + n = 128 → TProg F i PUnit
  | 0, _, _ => pure ⟨⟩
  | n + 1, v, h => do
    histStep i arg8 arg10 arg11 v (by omega)
    histFrom i arg8 arg10 arg11 n (v + 1) (by omega)

/-- The running counts of the first `b` experts among sixteen tokens: at a lane whose expert is below `b`, how many
    lanes before it have the same expert. -/
def rankTo (mv : IVec S16 32) : ℕ → IVec S16 32
  | 0 => zeros16
  | b + 1 => select (cmpi .eq mv (broadcast S16 (BitVec.ofNat 32 b)))
      (subi (scan .sum (extui 32 (cmpi .eq mv (broadcast S16 (BitVec.ofNat 32 b))) natLt_1_32)) (broadcast S16 1#32)) (rankTo mv b)

/-- One group of sixteen tokens: their experts read, their ranks from the count so far, and the count moved on. -/
def groupStep (i : grid0.Coords) (arg8 : Memref sig .scVector .vmem S2048 .i32) (arg9 : Memref sig .scVector .vmem S16 .i32)
    (off : Fin 1 → ℕ) (hoff : ∀ a, off a + S16.size a ≤ S2048.size a) : TProg F i (Σ' (mv : Vec F S16 .i32) (_ : k0_chk129 mv), IVec S16 32) := do
  let mv : Vec F S16 .i32 ← Prog.lift (.load arg8 (Rect.unit (s := S2048) off S16.size hoff).toLoadRect (View.loadsAt_vmem h_S16))
  have hw : k0_chk129 mv := (← Prog.lift (TpuEff.assume (k0_chk129 mv) (k0_chk129.dec mv))).down
  let ofs : Vec F S16 .i32 ← SparseCore.vectorLoadIdx arg9 ![mv] (k0_idx257_inb mv hw) (View.loads_vmem h_S16)
  SparseCore.vectorStoreIdx arg9 ![mv] ones16 (fun _ => 1#1) true (k0_idx258_inb mv hw) (View.stores_vmem_bits_univ h_S16 rfl)
  pure ⟨mv, hw, addi ofs (rankTo mv 16)⟩

/-- How many blocks of 128 rows each expert takes, as the kernel computes it (a division rounded down, in words). -/
def nblkOf (tot : IVec S16 32) : IVec S16 32 :=
  let t : IVec S16 32 := addi tot (broadcast S16 127#32)
  let d : IVec S16 32 := divsi t (broadcast S16 128#32)
  let sg : IVec S16 32 := subi (extui 32 (cmpi .sgt t (broadcast S16 0#32)) natLt_1_32) (extui 32 (cmpi .slt t (broadcast S16 0#32)) natLt_1_32)
  let s1 : BitVec 32 := Scalar.subi (Scalar.extui (Scalar.cmpi .sgt (128#32 : BitVec 32) 0#32)) (Scalar.extui (Scalar.cmpi .slt (128#32 : BitVec 32) 0#32))
  select (andi (cmpi .ne sg (broadcast S16 s1)) (cmpi .ne (remsi t (broadcast S16 128#32)) (broadcast S16 0#32)))
    (subi d (broadcast S16 1#32)) d

/-- The block each expert's rows begin at. -/
def exclOf (nblk : IVec S16 32) : IVec S16 32 := subi (scan .sum nblk) nblk

/-- The positions of one group: where its experts' rows begin, plus its ranks, kept in the list of positions. -/
def posStep (i : grid0.Coords) (arg12 : Memref sig .scVector .vmem S16 .i32) (arg14 : Memref sig .scVector .vmem S64 .i32)
    (mv : Vec F S16 .i32) (hw : k0_chk129 mv) (rk : IVec S16 32) (off : Fin 1 → ℕ) (hoff : ∀ a, off a + S16.size a ≤ S64.size a) : TProg F i PUnit := do
  let b : Vec F S16 .i32 ← SparseCore.vectorLoadIdx arg12 ![mv] (k0_idx265_inb mv hw) (View.loads_vmem h_S16)
  let _ : Vec F S16 .i32 ← Prog.lift (.load arg14 (Rect.unit (s := S64) off S16.size hoff).toLoadRect (View.loadsAt_vmem h_S16))
  Prog.lift (.store arg14 (Rect.unit (s := S64) off S16.size hoff) (addi b rk) Finset.univ (View.stores_vmem_bits_univ h_S16 rfl) (.inl rfl))

/-- One column copy: the 128 columns from `o` of the tile's 64 rows, each to the row its position names. -/
def scatStep (i : grid0.Coords) (arg4 : Memref sig .scVector .hbm S4096x768 .f32) (arg7 : Memref sig .scVector .vmem S64x768 .f32)
    (arg14 : Memref sig .scVector .vmem S64 .i32) (arg17 : DmaSems sig S_) (o : ℕ)
    (ho : ∀ a, (![0, o] : Fin 2 → ℕ) a + S64x128.size a ≤ S64x768.size a) (ho' : ∀ a, (![0, o] : Fin 2 → ℕ) a + S4096x128.size a ≤ S4096x768.size a) :
    TProg F i PUnit := do
  let src : Memref sig .scVector .vmem S64x128 .f32 := arg7.slice (Rect.unit (s := S64x768) ![0, o] S64x128.size ho) (fun _ => rfl)
  let dst : Memref sig .scVector .hbm S4096x128 .f32 := (arg4.slice (Rect.unit (s := S4096x768) ![0, o] S4096x128.size ho') (fun _ => rfl)).slice
    (Rect.unit (s := S4096x128) ![0, 0] S4096x128.size inb_S4096x128_S4096x128_0_0) (fun _ => rfl)
  SparseCore.enqueueIndirectScatter rfl src dst gathers_S4096x128_S64x128 arg14 rfl arg17.sem rfl (Or.inl rfl)
  SparseCore.waitIndirectScatter arg17.sem src dst (View.wordExact_bits rfl) (View.wordExact_bits rfl)

/-- The running maximum of sixteen words read as signed numbers. -/
def cummaxW (v : IVec S16 32) : IVec S16 32 := xori (scan .max (xori v (broadcast S16 2147483648#32))) (broadcast S16 2147483648#32)

/-- Tile 0's work on the table of blocks: every block's expert, and the number of blocks in use. -/
def tableProg (i : grid0.Coords) (arg6 : Memref sig .scVector .hbm S48 .i32) (harg6 : arg6.IsWhole) (arg13 : Memref sig .scVector .vmem S32 .i32)
    (arg15 : Memref sig .scVector .vmem S48 .i32) (harg15 : arg15.IsWhole) (r2 : DmaSems sig S_) (nblk excl : IVec S16 32)
    (hch : k0_chk133 i excl) (h1 : k0_cond1 i = 1#1) : TProg F i PUnit := do
  let _ : Vec F S16 .i32 ← Prog.lift (.load arg13 (Rect.unit (s := S32) ![0] S16.size inb_S32_S16_0).toLoadRect (View.loadsAt_vmem h_S16))
  Prog.lift (.store arg13 (Rect.unit (s := S32) ![0] S16.size inb_S32_S16_0) zeros16 Finset.univ (View.stores_vmem_bits_univ h_S16 rfl) (.inl rfl))
  let _ : Vec F S16 .i32 ← Prog.lift (.load arg13 (Rect.unit (s := S32) ![16] S16.size inb_S32_S16_16).toLoadRect (View.loadsAt_vmem h_S16))
  Prog.lift (.store arg13 (Rect.unit (s := S32) ![16] S16.size inb_S32_S16_16) zeros16 Finset.univ (View.stores_vmem_bits_univ h_S16 rfl) (.inl rfl))
  SparseCore.vectorStoreIdx arg13 ![excl] (iota .scVector S16 32 [0] iota_S16_d0_w32_scVector) (cmpi .sgt nblk (broadcast S16 0#32)) false
    (k0_idx269_inb i excl hch h1) (View.stores_vmem_bits_univ h_S32 rfl)
  let lo : Vec F S16 .i32 ← Prog.lift (.load arg13 (Rect.unit (s := S32) ![0] S16.size inb_S32_S16_0).toLoadRect (View.loadsAt_vmem h_S16))
  let hi : Vec F S16 .i32 ← Prog.lift (.load arg13 (Rect.unit (s := S32) ![16] S16.size inb_S32_S16_16).toLoadRect (View.loadsAt_vmem h_S16))
  let _ : Vec F S16 .i32 ← Prog.lift (.load arg15 (Rect.unit (s := S48) ![0] S16.size inb_S48_S16_0).toLoadRect (View.loadsAt_vmem h_S16))
  Prog.lift (.store arg15 (Rect.unit (s := S48) ![0] S16.size inb_S48_S16_0) (cummaxW lo) Finset.univ (View.stores_vmem_bits_univ h_S16 rfl) (.inl rfl))
  let _ : Vec F S16 .i32 ← Prog.lift (.load arg15 (Rect.unit (s := S48) ![16] S16.size inb_S48_S16_16).toLoadRect (View.loadsAt_vmem h_S16))
  Prog.lift (.store arg15 (Rect.unit (s := S48) ![16] S16.size inb_S48_S16_16)
    (maxsi (cummaxW hi) (broadcast S16 (extractAt ![15] (cummaxW (cummaxW lo)) inpos_S16_p15))) Finset.univ (View.stores_vmem_bits_univ h_S16 rfl) (.inl rfl))
  let _ : Vec F S16 .i32 ← Prog.lift (.load arg15 (Rect.unit (s := S48) ![32] S16.size inb_S48_S16_32).toLoadRect (View.loadsAt_vmem h_S16))
  Prog.lift (.store arg15 (Rect.unit (s := S48) ![32] S16.size inb_S48_S16_32) (broadcast S16 (extractAt ![15] (scan .sum nblk) inpos_S16_p15))
    Finset.univ (View.stores_vmem_bits_univ h_S16 rfl) (.inl rfl))
  Prog.lift (.enqueueDma arg15 (.here arg6) (.dma r2.sem) harg15.wordExact harg6.wordExact ⟨Or.inl rfl, trivial⟩)
  Prog.lift (.waitDma2 r2.sem arg15 arg6 harg15.wordExact harg6.wordExact)
  pure ⟨⟩

/-- The routing kernel's body, rolled. -/
def routeProg (i : grid0.Coords) (arg2 : Memref sig .scVector .hbm S2048x768 .f32)
    (arg3 : Memref sig .scVector .hbm S2048 .i32) (harg3 : arg3.IsWhole) (arg4 : Memref sig .scVector .hbm S4096x768 .f32)
    (arg5 : Memref sig .scVector .hbm S2048 .i32) (arg6 : Memref sig .scVector .hbm S48 .i32) (harg6 : arg6.IsWhole)
    (arg7 : Memref sig .scVector .vmem S64x768 .f32) (harg7 : arg7.IsWhole) (arg8 : Memref sig .scVector .vmem S2048 .i32) (harg8 : arg8.IsWhole)
    (arg9 arg10 arg11 arg12 : Memref sig .scVector .vmem S16 .i32) (arg13 : Memref sig .scVector .vmem S32 .i32)
    (arg14 : Memref sig .scVector .vmem S64 .i32) (harg14 : arg14.IsWhole) (arg15 : Memref sig .scVector .vmem S48 .i32) (harg15 : arg15.IsWhole)
    (arg16 arg17 r0 r1 r2 : DmaSems sig S_) : TProg F i PUnit := do
  Prog.lift (.enqueueDma (arg2.slice (Rect.unit (s := S2048x768) (k0_off1 i) S64x768.size (k0_off1_inb i)) (fun _ => rfl)) (.here arg7) (.dma arg16.sem)
    (View.wordExact_bits rfl) harg7.wordExact ⟨Or.inl rfl, trivial⟩)
  Prog.lift (.enqueueDma arg3 (.here arg8) (.dma r0.sem) harg3.wordExact harg8.wordExact ⟨Or.inl rfl, trivial⟩)
  Prog.lift (.waitDma2 r0.sem arg3 arg8 harg3.wordExact harg8.wordExact)
  let _ : Vec F S16 .i32 ← Prog.lift (.load arg9 (Rect.unit (s := S16) ![0] S16.size inb_S16_S16_0).toLoadRect (View.loadsAt_vmem h_S16))
  Prog.lift (.store arg9 (Rect.unit (s := S16) ![0] S16.size inb_S16_S16_0) zeros16 Finset.univ (View.stores_vmem_bits_univ h_S16 rfl) (.inl rfl))
  let _ : Vec F S16 .i32 ← Prog.lift (.load arg10 (Rect.unit (s := S16) ![0] S16.size inb_S16_S16_0).toLoadRect (View.loadsAt_vmem h_S16))
  Prog.lift (.store arg10 (Rect.unit (s := S16) ![0] S16.size inb_S16_S16_0) zeros16 Finset.univ (View.stores_vmem_bits_univ h_S16 rfl) (.inl rfl))
  let _ : Vec F S16 .i32 ← Prog.lift (.load arg11 (Rect.unit (s := S16) ![0] S16.size inb_S16_S16_0).toLoadRect (View.loadsAt_vmem h_S16))
  Prog.lift (.store arg11 (Rect.unit (s := S16) ![0] S16.size inb_S16_S16_0) zeros16 Finset.univ (View.stores_vmem_bits_univ h_S16 rfl) (.inl rfl))
  histFrom i arg8 arg10 arg11 128 0 rfl
  let g0 ← groupStep i arg8 arg9 (k0_off2 i) (k0_off2_inb i)
  let g1 ← groupStep i arg8 arg9 (k0_off3 i) (k0_off3_inb i)
  let g2 ← groupStep i arg8 arg9 (k0_off4 i) (k0_off4_inb i)
  let g3 ← groupStep i arg8 arg9 (k0_off5 i) (k0_off5_inb i)
  let tot : Vec F S16 .i32 ← Prog.lift (.load arg11 (Rect.unit (s := S16) ![0] S16.size inb_S16_S16_0).toLoadRect (View.loadsAt_vmem h_S16))
  have hch : k0_chk133 i (exclOf (nblkOf tot)) :=
    (← Prog.lift (TpuEff.assume (k0_chk133 i (exclOf (nblkOf tot))) (k0_chk133.dec i (exclOf (nblkOf tot))))).down
  let base : Vec F S16 .i32 ← Prog.lift (.load arg10 (Rect.unit (s := S16) ![0] S16.size inb_S16_S16_0).toLoadRect (View.loadsAt_vmem h_S16))
  let _ : Vec F S16 .i32 ← Prog.lift (.load arg12 (Rect.unit (s := S16) ![0] S16.size inb_S16_S16_0).toLoadRect (View.loadsAt_vmem h_S16))
  Prog.lift (.store arg12 (Rect.unit (s := S16) ![0] S16.size inb_S16_S16_0) (addi (muli (exclOf (nblkOf tot)) (broadcast S16 128#32)) base) Finset.univ
    (View.stores_vmem_bits_univ h_S16 rfl) (.inl rfl))
  posStep i arg12 arg14 g0.1 g0.2.1 g0.2.2 ![0] inb_S64_S16_0
  posStep i arg12 arg14 g1.1 g1.2.1 g1.2.2 ![16] inb_S64_S16_16
  posStep i arg12 arg14 g2.1 g2.2.1 g2.2.2 ![32] inb_S64_S16_32
  posStep i arg12 arg14 g3.1 g3.2.1 g3.2.2 ![48] inb_S64_S16_48
  Prog.lift (.enqueueDma arg14 (.here (arg5.slice (Rect.unit (s := S2048) (k0_off6 i) S64.size (k0_off6_inb i)) (fun _ => rfl))) (.dma r1.sem)
    harg14.wordExact (View.wordExact_bits rfl) ⟨Or.inl rfl, trivial⟩)
  Prog.lift (.waitDma2 r1.sem arg14 (arg5.slice (Rect.unit (s := S2048) (k0_off6 i) S64.size (k0_off6_inb i)) (fun _ => rfl))
    harg14.wordExact (View.wordExact_bits rfl))
  Prog.lift (.waitDma2 arg16.sem (arg2.slice (Rect.unit (s := S2048x768) (k0_off7 i) S64x768.size (k0_off7_inb i)) (fun _ => rfl)) arg7
    (View.wordExact_bits rfl) harg7.wordExact)
  scatStep i arg4 arg7 arg14 arg17 0 inb_S64x768_S64x128_0_0 inb_S4096x768_S4096x128_0_0
  scatStep i arg4 arg7 arg14 arg17 128 inb_S64x768_S64x128_0_128 inb_S4096x768_S4096x128_0_128
  scatStep i arg4 arg7 arg14 arg17 256 inb_S64x768_S64x128_0_256 inb_S4096x768_S4096x128_0_256
  scatStep i arg4 arg7 arg14 arg17 384 inb_S64x768_S64x128_0_384 inb_S4096x768_S4096x128_0_384
  scatStep i arg4 arg7 arg14 arg17 512 inb_S64x768_S64x128_0_512 inb_S4096x768_S4096x128_0_512
  scatStep i arg4 arg7 arg14 arg17 640 inb_S64x768_S64x128_0_640 inb_S4096x768_S4096x128_0_640
  if h1 : k0_cond1 i = 1#1 then
    tableProg i arg6 harg6 arg13 arg15 harg15 r2 (nblkOf tot) (exclOf (nblkOf tot)) hch h1
  else pure ⟨⟩

set_option maxRecDepth 100000 in
set_option maxHeartbeats 4000000 in
theorem route_eq (i : grid0.Coords) (arg2 : Memref sig .scVector .hbm S2048x768 .f32) (harg2 : arg2.IsWhole)
    (arg3 : Memref sig .scVector .hbm S2048 .i32) (harg3 : arg3.IsWhole) (arg4 : Memref sig .scVector .hbm S4096x768 .f32) (harg4 : arg4.IsWhole)
    (arg5 : Memref sig .scVector .hbm S2048 .i32) (harg5 : arg5.IsWhole) (arg6 : Memref sig .scVector .hbm S48 .i32) (harg6 : arg6.IsWhole)
    (arg7 : Memref sig .scVector .vmem S64x768 .f32) (harg7 : arg7.IsWhole) (arg8 : Memref sig .scVector .vmem S2048 .i32) (harg8 : arg8.IsWhole)
    (arg9 : Memref sig .scVector .vmem S16 .i32) (harg9 : arg9.IsWhole) (arg10 : Memref sig .scVector .vmem S16 .i32) (harg10 : arg10.IsWhole)
    (arg11 : Memref sig .scVector .vmem S16 .i32) (harg11 : arg11.IsWhole) (arg12 : Memref sig .scVector .vmem S16 .i32) (harg12 : arg12.IsWhole)
    (arg13 : Memref sig .scVector .vmem S32 .i32) (harg13 : arg13.IsWhole) (arg14 : Memref sig .scVector .vmem S64 .i32) (harg14 : arg14.IsWhole)
    (arg15 : Memref sig .scVector .vmem S48 .i32) (harg15 : arg15.IsWhole) (arg16 arg17 r0 r1 r2 : DmaSems sig S_) :
    cc0__route_body (F := F) i arg2 harg2 arg3 harg3 arg4 harg4 arg5 harg5 arg6 harg6 arg7 harg7 arg8 harg8 arg9 harg9 arg10 harg10 arg11 harg11 arg12 harg12
        arg13 harg13 arg14 harg14 arg15 harg15 arg16 arg17 r0 r1 r2
      = routeProg i arg2 arg3 harg3 arg4 arg5 arg6 harg6 arg7 harg7 arg8 harg8 arg9 arg10 arg11 arg12 arg13 arg14 harg14 arg15 harg15 arg16 arg17 r0 r1 r2 := by
  rfl

end Cert.Proof.Route
-- ==== Proof.Count.lean ====
/-
  The arithmetic of the routing, in natural numbers: how many tokens an expert has before a token, the blocks of 128
  rows the experts take, where each token's row goes, and which expert a block belongs to.
-/
module

public import Idealize.ShloMosaic.Lib.Tactic
public import Mathlib.Data.Nat.Count
public import Mathlib.Algebra.BigOperators.Intervals
public import Mathlib.Algebra.Order.BigOperators.Group.Finset

@[expose] public section

namespace Cert.Proof.Route

/-- How many of the first `n` tokens go to expert `e`. -/
def cnt (E : ℕ → ℕ) (e n : ℕ) : ℕ := Nat.count (fun b => E b = e) n

/-- How many blocks of 128 rows expert `e` takes. -/
def nblkN (E : ℕ → ℕ) (e : ℕ) : ℕ := (cnt E e 2048 + 127) / 128

/-- The block expert `e`'s rows begin at. -/
def exclN (E : ℕ → ℕ) (e : ℕ) : ℕ := ∑ x ∈ Finset.range e, nblkN E x

/-- The number of blocks in use. -/
def usedN (E : ℕ → ℕ) : ℕ := exclN E 16

/-- The row token `b` goes to. -/
def posN (E : ℕ → ℕ) (b : ℕ) : ℕ := 128 * exclN E (E b) + cnt E (E b) b

/-- The expert block `j` belongs to. -/
def beN (E : ℕ → ℕ) (j : ℕ) : ℕ := ((Finset.range 16).filter fun e => 0 < nblkN E e ∧ exclN E e ≤ j).sup id

variable {E : ℕ → ℕ}

theorem cnt_le (e n : ℕ) : cnt E e n ≤ n := Nat.count_le _

theorem cnt_mono (e : ℕ) {m n : ℕ} (h : m ≤ n) : cnt E e m ≤ cnt E e n := Nat.count_monotone _ h

theorem cnt_lt {b n : ℕ} (h : b < n) : cnt E (E b) b < cnt E (E b) n := by
  refine Nat.count_strict_mono (p := fun x => E x = E b) rfl h

theorem sum_cnt (hE : ∀ b, E b < 16) (n : ℕ) : ∑ e ∈ Finset.range 16, cnt E e n = n := by
  induction n with
  | zero => simp [cnt]
  | succ n ih =>
    have h : ∀ e, cnt E e (n + 1) = cnt E e n + if E n = e then 1 else 0 := fun e => Nat.count_succ _ _
    simp only [h, Finset.sum_add_distrib, ih]
    rw [Finset.sum_ite_eq]
    simp [hE n]

theorem exclN_succ (e : ℕ) : exclN E (e + 1) = exclN E e + nblkN E e := Finset.sum_range_succ _ _

theorem exclN_mono {a b : ℕ} (h : a ≤ b) : exclN E a ≤ exclN E b :=
  Finset.sum_le_sum_of_subset (Finset.range_mono h)

theorem usedN_le (hE : ∀ b, E b < 16) : usedN E ≤ 31 := by
  have h : ∀ e, 128 * nblkN E e ≤ cnt E e 2048 + 127 := fun e => Nat.mul_div_le _ _
  have h1 : 128 * usedN E ≤ 4080 := by
    unfold usedN exclN
    rw [Finset.mul_sum]
    refine (Finset.sum_le_sum fun e _ => h e).trans ?_
    rw [Finset.sum_add_distrib, sum_cnt hE]
    simp
  omega

theorem cnt_le_nblk (e : ℕ) : cnt E e 2048 ≤ 128 * nblkN E e := by unfold nblkN; omega

theorem usedN_pos (hE : ∀ b, E b < 16) : 1 ≤ usedN E := by
  have h1 : 2048 ≤ 128 * usedN E := by
    unfold usedN exclN
    rw [Finset.mul_sum]
    calc 2048 = ∑ e ∈ Finset.range 16, cnt E e 2048 := (sum_cnt hE 2048).symm
      _ ≤ _ := Finset.sum_le_sum fun e _ => cnt_le_nblk e
  omega

theorem excl_le {e : ℕ} (hE : ∀ b, E b < 16) (he : e ≤ 16) : exclN E e ≤ 31 := (exclN_mono he).trans (usedN_le hE)

/-- A token's row lies in its expert's blocks. -/
theorem posN_lt {b : ℕ} (hb : b < 2048) : posN E b < 128 * exclN E (E b + 1) := by
  have h1 := cnt_lt (E := E) hb
  have h2 := cnt_le_nblk (E := E) (E b)
  rw [exclN_succ]
  unfold posN
  omega

theorem le_posN (b : ℕ) : 128 * exclN E (E b) ≤ posN E b := Nat.le_add_right _ _

theorem posN_lt_rows (hE : ∀ b, E b < 16) {b : ℕ} (hb : b < 2048) : posN E b < 128 * usedN E :=
  (posN_lt hb).trans_le (Nat.mul_le_mul_left _ (exclN_mono (hE b)))

theorem posN_lt_4096 (hE : ∀ b, E b < 16) {b : ℕ} (hb : b < 2048) : posN E b < 4096 := by
  have h1 := posN_lt_rows hE hb
  have h2 := usedN_le hE
  omega

/-- No two tokens go to one row. -/
theorem posN_inj {a b : ℕ} (ha : a < 2048) (hb : b < 2048) (h : posN E a = posN E b) : a = b := by
  have hne : E a = E b := by
    by_contra hne
    rcases Nat.lt_or_gt_of_ne hne with hlt | hlt
    · have h1 := posN_lt (E := E) ha
      have h2 := le_posN (E := E) b
      have h3 : exclN E (E a + 1) ≤ exclN E (E b) := exclN_mono hlt
      omega
    · have h1 := posN_lt (E := E) hb
      have h2 := le_posN (E := E) a
      have h3 : exclN E (E b + 1) ≤ exclN E (E a) := exclN_mono hlt
      omega
  unfold posN at h
  rw [hne] at h
  have h' : cnt E (E b) a = cnt E (E b) b := by omega
  exact Nat.count_injective (p := fun x => E x = E b) hne rfl h'

theorem beN_lt (j : ℕ) : beN E j < 16 := by
  unfold beN
  refine (Finset.sup_lt_iff (by decide)).mpr fun e he => ?_
  simpa using (Finset.mem_filter.mp he).1

/-- The block a token's row lies in is its expert's. -/
theorem beN_pos (hE : ∀ b, E b < 16) {b : ℕ} (hb : b < 2048) : beN E (posN E b / 128) = E b := by
  have h1 := posN_lt (E := E) hb
  have h2 := le_posN (E := E) b
  refine le_antisymm ?_ ?_
  · refine Finset.sup_le fun e he => ?_
    obtain ⟨-, -, h3⟩ := Finset.mem_filter.mp he
    by_contra hlt
    have h4 : exclN E (E b + 1) ≤ exclN E e := exclN_mono (by simpa using hlt)
    omega
  · refine Finset.le_sup (f := id) (Finset.mem_filter.mpr ⟨Finset.mem_range.mpr (hE b), ?_, by omega⟩)
    rw [exclN_succ] at h1
    omega

/-- The table of blocks, read off the running maximum of the marks: the mark at `j` is the expert whose rows begin at
    block `j`, if one does, and zero otherwise. -/
theorem sup_mark (mk : ℕ → ℕ) (hin : ∀ e, e < 16 → 0 < nblkN E e → mk (exclN E e) = e)
    (hout : ∀ j, (∀ e, e < 16 → 0 < nblkN E e → exclN E e ≠ j) → mk j = 0) (j : ℕ) :
    (Finset.range (j + 1)).sup mk = beN E j := by
  refine le_antisymm (Finset.sup_le fun x hx => ?_) (Finset.sup_le fun e he => ?_)
  · by_cases h : ∀ e, e < 16 → 0 < nblkN E e → exclN E e ≠ x
    · rw [hout x h]; exact Nat.zero_le _
    · push Not at h
      obtain ⟨e, he, hn, rfl⟩ := h
      rw [hin e he hn]
      exact Finset.le_sup (f := id) (Finset.mem_filter.mpr ⟨Finset.mem_range.mpr he, hn, by have := Finset.mem_range.mp hx; omega⟩)
  · obtain ⟨h1, hn, h3⟩ := Finset.mem_filter.mp he
    have := hin e (Finset.mem_range.mp h1) hn
    calc id e = mk (exclN E e) := this.symm
      _ ≤ _ := Finset.le_sup (Finset.mem_range.mpr (by omega))

/-- Experts with rows begin at distinct blocks. -/
theorem excl_inj {a b : ℕ} (ha : 0 < nblkN E a) (hb : 0 < nblkN E b) (h : exclN E a = exclN E b) : a = b := by
  rcases lt_trichotomy a b with hlt | rfl | hlt
  · have := exclN_mono (E := E) hlt; rw [Nat.succ_eq_add_one, exclN_succ] at this; omega
  · rfl
  · have := exclN_mono (E := E) hlt; rw [Nat.succ_eq_add_one, exclN_succ] at this; omega

end Cert.Proof.Route
-- ==== Proof.Words.lean ====
/-
  The routing kernel's vectors as numbers: the indexed adds count, the scans sum and take running maxima, the division
  rounds down, and the words are those of `Count.lean`'s numbers.
-/
module

public import proofs.«01_k».proof.Proof.Rolled
public import proofs.«01_k».proof.Proof.Count

@[expose] public section

noncomputable section

namespace Cert.Proof.Route

open Cert.KernelIdeal Cert.KernelIdeal.Gen

open Idealize.ShloMosaic

/-- The vector of sixteen words whose lane `k` is the number `g k`. -/
def vec16 (g : ℕ → ℕ) : IVec S16 32 := fun x => BitVec.ofNat 32 (g (x 0).val)

theorem vec16_congr {g h : ℕ → ℕ} (e : ∀ k, k < 16 → g k = h k) : vec16 g = vec16 h :=
  funext fun x => by unfold vec16; rw [e _ (x 0).isLt]

theorem zeros16_eq : zeros16 = vec16 fun _ => 0 := rfl
theorem ones16_eq : ones16 = vec16 fun _ => 1 := rfl

theorem ofNat_add (a b : ℕ) : BitVec.ofNat 32 a + BitVec.ofNat 32 b = BitVec.ofNat 32 (a + b) := (BitVec.ofNat_add ..).symm

theorem ofNat_sub_cancel (a b : ℕ) : BitVec.ofNat 32 (a + b) - BitVec.ofNat 32 b = BitVec.ofNat 32 a := by
  rw [← ofNat_add, BitVec.add_sub_cancel]

theorem toNat_ofNat {a : ℕ} (h : a < 2 ^ 32) : (BitVec.ofNat 32 a).toNat = a := by
  rw [BitVec.toNat_ofNat, Nat.mod_eq_of_lt h]

/-! ## Scans -/

/-- The running value of a scan after `k` further lanes. -/
def scanTo (kind : ScanKind) (g : ℕ → BitVec 32) : ℕ → BitVec 32
  | 0 => g 0
  | k + 1 => kind.step (scanTo kind g k) (g (k + 1))

theorem foldl_range (kind : ScanKind) (g : ℕ → BitVec 32) (j : ℕ) (n : ℕ) :
    ((List.range (n + 1)).filter fun k => decide (0 < k ∧ k ≤ j)).foldl (fun r k => kind.step r (g k)) (g 0) = scanTo kind g (min j n) := by
  induction n with
  | zero => simp [scanTo, List.range_succ]
  | succ n ih =>
    rw [List.range_succ, List.filter_append, List.foldl_append, ih]
    by_cases h : n + 1 ≤ j
    · have h1 : min j n = n := by omega
      have h2 : min j (n + 1) = n + 1 := by omega
      rw [h1, h2]
      simp [h, scanTo]
    · have h1 : min j n = j := by omega
      have h2 : min j (n + 1) = j := by omega
      rw [h1, h2]
      simp [h]

theorem scan_apply (kind : ScanKind) (v : IVec S16 32) (g : ℕ → BitVec 32) (hg : ∀ x : S16.Idx, v x = g (x 0).val) (x : S16.Idx) :
    scan kind v x = scanTo kind g (x 0).val := by
  have hx : (x 0).val < 16 := (x 0).isLt
  have h := foldl_range kind g (x 0).val 15
  rw [show min (x 0).val 15 = (x 0).val by omega] at h
  rw [← h]
  have hr : List.range (15 + 1) = (List.finRange 16).map Fin.val := by decide
  rw [hr, List.filter_map, List.foldl_map]
  show List.foldl _ (v _) _ = _
  rw [hg]
  show List.foldl (fun r (k : Fin 16) => kind.step r (v (Shape.ofLane k))) (g 0)
    ((List.finRange 16).filter fun k => decide (0 < k.val ∧ k.val ≤ (x 0).val)) = _
  congr 1
  funext r k
  rw [hg]
  rfl

theorem scanTo_sum (g : ℕ → ℕ) (k : ℕ) :
    scanTo .sum (fun k => BitVec.ofNat 32 (g k)) k = BitVec.ofNat 32 (∑ x ∈ Finset.range (k + 1), g x) := by
  induction k with
  | zero => simp [scanTo]
  | succ k ih =>
    rw [scanTo, ih, Finset.sum_range_succ _ (k + 1)]
    exact ofNat_add _ _

theorem scan_sum (g : ℕ → ℕ) : scan .sum (vec16 g) = vec16 fun k => ∑ x ∈ Finset.range (k + 1), g x := by
  funext x
  rw [scan_apply .sum (vec16 g) (fun k => BitVec.ofNat 32 (g k)) (fun _ => rfl), scanTo_sum]
  rfl

theorem xor_sign {a : ℕ} (h : a < 2 ^ 31) : BitVec.ofNat 32 a ^^^ 2147483648#32 = BitVec.ofNat 32 (a + 2 ^ 31) := by
  have h1 : BitVec.ofNat 32 a &&& 2147483648#32 = 0#32 := by
    apply BitVec.eq_of_getLsbD_eq
    intro i hi
    rw [BitVec.getLsbD_and, BitVec.getLsbD_zero]
    by_cases hi' : i = 31
    · subst hi'
      rw [BitVec.getLsbD_ofNat]
      simp [Nat.testBit_lt_two_pow h]
    · have : (2147483648#32).getLsbD i = false := by
        rw [show (2147483648#32 : BitVec 32) = BitVec.twoPow 32 31 from rfl, BitVec.getLsbD_twoPow]
        simp; omega
      rw [this, Bool.and_false]
  have h2 : BitVec.ofNat 32 a ^^^ 2147483648#32 = BitVec.ofNat 32 a ||| 2147483648#32 := by
    apply BitVec.eq_of_getLsbD_eq
    intro i hi
    have h3 := congrArg (fun v => BitVec.getLsbD v i) h1
    simp only [BitVec.getLsbD_and, BitVec.getLsbD_zero] at h3
    rw [BitVec.getLsbD_xor, BitVec.getLsbD_or]
    revert h3
    cases (BitVec.ofNat 32 a).getLsbD i <;> cases (2147483648#32).getLsbD i <;> simp
  rw [h2, ← BitVec.add_eq_or_of_and_eq_zero _ _ h1, show (2147483648#32 : BitVec 32) = BitVec.ofNat 32 (2 ^ 31) from rfl, ofNat_add]

theorem xor_sign_back {a : ℕ} (h : a < 2 ^ 31) : BitVec.ofNat 32 (a + 2 ^ 31) ^^^ 2147483648#32 = BitVec.ofNat 32 a := by
  rw [← xor_sign h, BitVec.xor_assoc, BitVec.xor_self, BitVec.xor_zero]

theorem maxui_ofNat {a b : ℕ} (ha : a < 2 ^ 32) (hb : b < 2 ^ 32) :
    IntOp.maxui (BitVec.ofNat 32 a) (BitVec.ofNat 32 b) = BitVec.ofNat 32 (max a b) := by
  unfold IntOp.maxui
  rw [BitVec.ult, toNat_ofNat ha, toNat_ofNat hb]
  by_cases h : b < a
  · simp [h, Nat.max_eq_left h.le]
  · simp [h, Nat.max_eq_right (not_lt.mp h)]

theorem sup_lt (g : ℕ → ℕ) (B : ℕ) (hB : 0 < B) (k : ℕ) (h : ∀ x, x < k → g x < B) : (Finset.range k).sup g < B :=
  (Finset.sup_lt_iff hB).mpr fun x hx => h x (Finset.mem_range.mp hx)

theorem scanTo_max (g : ℕ → ℕ) (k : ℕ) (h : ∀ x, x < k + 1 → g x < 2 ^ 31) :
    scanTo .max (fun k => BitVec.ofNat 32 (g k + 2 ^ 31)) k = BitVec.ofNat 32 ((Finset.range (k + 1)).sup g + 2 ^ 31) := by
  induction k with
  | zero => simp [scanTo]
  | succ k ih =>
    have h1 := sup_lt g (2 ^ 31) (by decide) (k + 1) (fun x hx => h x (by omega))
    have h2 := h (k + 1) (by omega)
    rw [scanTo, ih (fun x hx => h x (by omega))]
    refine (maxui_ofNat (by omega) (by omega)).trans ?_
    rw [Finset.range_add_one (n := k + 1), Finset.sup_insert, Nat.add_max_add_right, max_comm]

/-- The kernel's running maximum is the running maximum of the numbers. -/
theorem cummaxW_vec (g : ℕ → ℕ) (h : ∀ k, k < 16 → g k < 2 ^ 31) :
    cummaxW (vec16 g) = vec16 fun k => (Finset.range (k + 1)).sup g := by
  funext x
  have hx : (x 0).val < 16 := (x 0).isLt
  have h1 : scan .max (xori (vec16 g) (broadcast S16 2147483648#32)) x
      = scanTo .max (fun k => if k < 16 then BitVec.ofNat 32 (g k + 2 ^ 31) else 0#32) (x 0).val :=
    scan_apply .max _ _ (fun y => by
      show BitVec.ofNat 32 (g (y 0).val) ^^^ 2147483648#32 = _
      rw [xor_sign (h _ (y 0).isLt), if_pos]; exact (y 0).isLt) x
  have h2 : ∀ k, k < 16 → scanTo .max (fun k => if k < 16 then BitVec.ofNat 32 (g k + 2 ^ 31) else 0#32) k
      = scanTo .max (fun k => BitVec.ofNat 32 (g k + 2 ^ 31)) k := by
    intro k hk
    induction k with
    | zero => simp [scanTo]
    | succ k ih => rw [scanTo, scanTo, ih (by omega), if_pos hk]
  show scan .max (xori (vec16 g) (broadcast S16 2147483648#32)) x ^^^ 2147483648#32 = _
  rw [h1, h2 _ hx, scanTo_max g _ (fun y hy => h y (by omega)), xor_sign_back (sup_lt g _ (by decide) _ fun y hy => h y (by omega))]
  rfl

/-! ## The blocks -/

theorem slt_ofNat {a b : ℕ} (ha : a < 2 ^ 31) (hb : b < 2 ^ 31) : (BitVec.ofNat 32 a).slt (BitVec.ofNat 32 b) = decide (a < b) := by
  rw [BitVec.slt_eq_decide]
  have h : ∀ {c : ℕ}, c < 2 ^ 31 → (BitVec.ofNat 32 c).toInt = (c : ℤ) := fun {c} hc => by
    rw [BitVec.toInt_eq_toNat_of_lt (by rw [toNat_ofNat (by omega)]; omega), toNat_ofNat (by omega)]
  rw [h ha, h hb]
  simp

theorem nblkOf_vec (g : ℕ → ℕ) (h : ∀ k, k < 16 → g k ≤ 2048) : nblkOf (vec16 g) = vec16 fun k => (g k + 127) / 128 := by
  funext x
  have hx := h _ (x 0).isLt
  generalize hk : (x 0).val = k at hx
  have ht : addi (vec16 g) (broadcast S16 127#32) x = BitVec.ofNat 32 (g k + 127) := by
    rw [← hk]; exact ofNat_add _ _
  have hd : divsi (addi (vec16 g) (broadcast S16 127#32)) (broadcast S16 128#32) x = BitVec.ofNat 32 ((g k + 127) / 128) := by
    show IntOp.divsi .vector (addi (vec16 g) (broadcast S16 127#32) x) 128#32 = _
    rw [ht]
    unfold IntOp.divsi
    rw [if_neg (by
      unfold IntOp.SDivCorner
      rintro (h | h)
      · exact absurd h (by decide)
      · exact absurd h.2 (by decide))]
    have hm : (BitVec.ofNat 32 (g k + 127)).msb = false := by
      rw [BitVec.msb_eq_false_iff_two_mul_lt, toNat_ofNat (by omega)]; omega
    rw [BitVec.sdiv_eq, hm, show (128#32 : BitVec 32).msb = false from by decide]
    apply BitVec.eq_of_toNat_eq
    show (BitVec.ofNat 32 (g k + 127) / 128#32).toNat = _
    rw [BitVec.toNat_udiv, toNat_ofNat (a := g k + 127) (by omega), toNat_ofNat (a := (g k + 127) / 128) (by omega)]
    rfl
  have hs1 : cmpi .sgt (addi (vec16 g) (broadcast S16 127#32)) (broadcast S16 0#32) x = 1#1 := by
    show BitVec.ofBool (BitVec.slt 0#32 (addi (vec16 g) (broadcast S16 127#32) x)) = _
    rw [ht, slt_ofNat (a := 0) (by omega) (by omega), decide_eq_true (by omega)]; rfl
  have hs2 : cmpi .slt (addi (vec16 g) (broadcast S16 127#32)) (broadcast S16 0#32) x = 0#1 := by
    show BitVec.ofBool (BitVec.slt (addi (vec16 g) (broadcast S16 127#32) x) 0#32) = _
    rw [ht, slt_ofNat (b := 0) (by omega) (by omega), decide_eq_false (by omega)]; rfl
  unfold nblkOf
  show Scalar.select (IntOp.andi (IntOp.cmpi .ne (IntOp.subi ((cmpi .sgt (addi (vec16 g) (broadcast S16 127#32)) (broadcast S16 0#32) x).setWidth 32)
    ((cmpi .slt (addi (vec16 g) (broadcast S16 127#32)) (broadcast S16 0#32) x).setWidth 32)) _) _) _ (divsi (addi (vec16 g) (broadcast S16 127#32)) (broadcast S16 128#32) x) = _
  rw [hs1, hs2, hd]
  have h0 : ∀ b : BitVec 1, IntOp.andi (IntOp.cmpi .ne (IntOp.subi ((1#1 : BitVec 1).setWidth 32) ((0#1 : BitVec 1).setWidth 32))
      (Scalar.subi (Scalar.extui (Scalar.cmpi .sgt (128#32 : BitVec 32) 0#32)) (Scalar.extui (Scalar.cmpi .slt (128#32 : BitVec 32) 0#32)))) b = 0#1 := by
    decide
  refine (congrArg (fun c => Scalar.select c _ _) (h0 _)).trans ?_
  show BitVec.ofNat 32 ((g k + 127) / 128) = BitVec.ofNat 32 ((g (x 0).val + 127) / 128)
  rw [hk]

theorem exclOf_vec (g : ℕ → ℕ) : exclOf (vec16 g) = vec16 fun k => ∑ x ∈ Finset.range k, g x := by
  funext x
  unfold exclOf
  rw [scan_sum]
  show BitVec.ofNat 32 (∑ y ∈ Finset.range ((x 0).val + 1), g y) - BitVec.ofNat 32 (g (x 0).val) = _
  rw [Finset.sum_range_succ, ofNat_sub_cancel]
  rfl

/-! ## The indexed stores -/

theorem countP_range (p : ℕ → Prop) [DecidablePred p] (n : ℕ) : (List.range n).countP (fun k => decide (p k)) = Nat.count p n := by
  induction n with
  | zero => simp
  | succ n ih => rw [List.range_succ, List.countP_append, ih, Nat.count_succ]; simp

/-- The index whose one coordinate is the lane `k`. -/
def lane16 (k : Fin 16) : S16.Idx := Shape.ofLane (d := ![16]) k

theorem lane16_val (k : Fin 16) : (lane16 k 0).val = k.val := rfl

/-- One lane of an indexed add of ones. -/
def addStep (w : IVec S16 32) (hw : ∀ a x, ((![w] : Fin 1 → IVec S16 32) a x).toNat < S16.size a) (g : IVec S16 32) (k : Fin 16) : IVec S16 32 :=
  fun j => if (∀ a : Fin 1, (j a).val = (idxAt (s := S16) ![w] hw (lane16 k) a).val) then g (idxAt (s := S16) ![w] hw (lane16 k)) + 1#32 else g j

theorem addStep_hit (w : IVec S16 32) (hw : ∀ a x, ((![w] : Fin 1 → IVec S16 32) a x).toNat < S16.size a) (g : IVec S16 32) (k : Fin 16) (j : S16.Idx)
    (h : (w (lane16 k)).toNat = (j 0).val) : addStep w hw g k j = g j + 1#32 := by
  have h1 : ∀ a : Fin 1, (j a).val = (idxAt (s := S16) ![w] hw (lane16 k) a).val := by
    intro a; obtain rfl : a = 0 := Subsingleton.elim _ _; exact h.symm
  have h2 : idxAt (s := S16) ![w] hw (lane16 k) = j := funext fun a => Fin.ext (h1 a).symm
  unfold addStep
  rw [if_pos h1, h2]

theorem addStep_miss (w : IVec S16 32) (hw : ∀ a x, ((![w] : Fin 1 → IVec S16 32) a x).toNat < S16.size a) (g : IVec S16 32) (k : Fin 16) (j : S16.Idx)
    (h : (w (lane16 k)).toNat ≠ (j 0).val) : addStep w hw g k j = g j :=
  if_neg fun h' => h (h' 0).symm

theorem foldl_add (w : IVec S16 32) (hw : ∀ a x, ((![w] : Fin 1 → IVec S16 32) a x).toNat < S16.size a) (L : List (Fin 16)) (f : IVec S16 32) (j : S16.Idx) :
    L.foldl (addStep w hw) f j = f j + BitVec.ofNat 32 (L.countP fun k => decide ((w (lane16 k)).toNat = (j 0).val)) := by
  induction L generalizing f with
  | nil => simp
  | cons k L ih =>
    rw [List.foldl_cons, ih, List.countP_cons]
    by_cases h : (w (lane16 k)).toNat = (j 0).val
    · rw [addStep_hit w hw f k j h]
      simp only [h, decide_true, if_true]
      rw [← ofNat_add, BitVec.add_assoc, BitVec.add_comm (1#32)]
    · rw [addStep_miss w hw f k j h]
      simp [h]

theorem storeIdx_add {F : FTy → Type} [FloatOps F] (w f : IVec S16 32) (hw : ∀ a x, ((![w] : Fin 1 → IVec S16 32) a x).toNat < S16.size a) :
    storeIdx (F := F) (s := S16) (e := .i32) f ![w] ones16 (fun _ => 1#1) true hw = (List.finRange 16).foldl (addStep w hw) f := by
  unfold storeIdx
  show List.foldl _ f (List.finRange 16) = _
  congr 1
  funext g k
  refine (if_pos (rfl : (1#1 : BitVec 1) = 1)).trans ?_
  funext j
  unfold addStep
  congr 1

/-- Adding one at each lane's expert counts the lanes of each expert. -/
theorem storeIdx_count {F : FTy → Type} [FloatOps F] (w : ℕ → ℕ) (hw16 : ∀ k, k < 16 → w k < 16) (f : ℕ → ℕ) (mask : IVec S16 1) (hm : mask = fun _ => 1#1)
    (hw : ∀ a x, ((![vec16 w] : Fin 1 → IVec S16 32) a x).toNat < S16.size a) :
    storeIdx (F := F) (s := S16) (e := .i32) (vec16 f) ![vec16 w] ones16 mask true hw = vec16 fun e => f e + Nat.count (fun k => w k = e) 16 := by
  subst hm
  rw [storeIdx_add]
  funext j
  rw [foldl_add]
  show BitVec.ofNat 32 (f (j 0).val) + _ = BitVec.ofNat 32 (f (j 0).val + _)
  rw [ofNat_add, ← countP_range, show List.range 16 = (List.finRange 16).map Fin.val by decide, List.countP_map]
  congr 2
  refine List.countP_congr fun k _ => ?_
  show decide ((BitVec.ofNat 32 (w k.val)).toNat = (j 0).val) = true ↔ decide (w k.val = (j 0).val) = true
  rw [toNat_ofNat (lt_trans (hw16 _ k.isLt) (by decide))]

theorem storeIdx_none {F : FTy → Type} [FloatOps F] (w : IVec S16 32) (f : IVec S16 32) (mask : IVec S16 1) (hm : mask = fun _ => 0#1)
    (hw : ∀ a x, ((![w] : Fin 1 → IVec S16 32) a x).toNat < S16.size a) :
    storeIdx (F := F) (s := S16) (e := .i32) f ![w] ones16 mask true hw = f := by
  subst hm
  unfold storeIdx
  have : ∀ L : List (Fin 16), L.foldl (fun (g : S16.Idx → BitVec 32) _ => g) f = f := fun L => by induction L with
    | nil => rfl
    | cons _ _ ih => exact ih
  exact this _

/-- One lane of a masked indexed store of the lanes' numbers. -/
def markStep (x : IVec S16 32) (mask : IVec S16 1) (hx : ∀ a y, ((![x] : Fin 1 → IVec S16 32) a y).toNat < S32.size a) (g : IVec S32 32) (k : Fin 16) : IVec S32 32 :=
  if mask (lane16 k) = 1 then
    fun j => if (∀ a : Fin 1, (j a).val = (idxAt (s := S32) ![x] hx (lane16 k) a).val) then BitVec.ofNat 32 k.val else g j
  else g

theorem storeIdx_markStep {F : FTy → Type} [FloatOps F] (x : IVec S16 32) (mask : IVec S16 1) (f : IVec S32 32)
    (hx : ∀ a y, ((![x] : Fin 1 → IVec S16 32) a y).toNat < S32.size a) :
    storeIdx (F := F) (s := S32) (e := .i32) f ![x] (iota .scVector S16 32 [0] iota_S16_d0_w32_scVector) mask false hx = (List.finRange 16).foldl (markStep x mask hx) f := by
  unfold storeIdx
  show List.foldl _ f (List.finRange 16) = _
  congr 1
  funext g k
  show (if mask (lane16 k) = 1 then _ else g) = _
  unfold markStep
  congr 1
  funext j
  congr 1
  rw [if_neg (by decide)]
  show BitVec.ofNat 32 (0 * 16 + k.val) = _
  rw [Nat.zero_mul, Nat.zero_add]

theorem foldl_mark (x : IVec S16 32) (mask : IVec S16 1) (hx : ∀ a y, ((![x] : Fin 1 → IVec S16 32) a y).toNat < S32.size a) (L : List (Fin 16))
    (f : IVec S32 32) (j : S32.Idx) (h : ∀ k ∈ L, ¬ (mask (lane16 k) = 1 ∧ (x (lane16 k)).toNat = (j 0).val)) :
      L.foldl (markStep x mask hx) f j = f j := by
  induction L generalizing f with
  | nil => rfl
  | cons k L ih =>
    rw [List.foldl_cons, ih _ fun k' hk' => h k' (List.mem_cons_of_mem _ hk')]
    have hk := h k List.mem_cons_self
    unfold markStep
    by_cases hm : mask (lane16 k) = 1
    · rw [if_pos hm, if_neg]
      intro h'
      exact hk ⟨hm, (h' 0).symm⟩
    · rw [if_neg hm]

theorem foldl_mark_hit (x : IVec S16 32) (mask : IVec S16 1) (hx : ∀ a y, ((![x] : Fin 1 → IVec S16 32) a y).toNat < S32.size a) (L : List (Fin 16))
    (f : IVec S32 32) (j : S32.Idx) (e : Fin 16) (he : mask (lane16 e) = 1) (hej : (x (lane16 e)).toNat = (j 0).val)
    (hu : ∀ k, mask (lane16 k) = 1 → (x (lane16 k)).toNat = (j 0).val → k = e) (hL : e ∈ L) :
      L.foldl (markStep x mask hx) f j = BitVec.ofNat 32 e.val := by
  induction L generalizing f with
  | nil => exact absurd hL List.not_mem_nil
  | cons k L ih =>
    rw [List.foldl_cons]
    by_cases hin : e ∈ L
    · exact ih _ hin
    · obtain rfl : e = k := (List.mem_cons.mp hL).resolve_right hin
      rw [foldl_mark x mask hx L _ j fun k' hk' h => hin (hu k' h.1 h.2 ▸ hk')]
      unfold markStep
      rw [if_pos he, if_pos]
      intro a; obtain rfl : a = 0 := Subsingleton.elim _ _; exact hej.symm

/-! ## The kernel's numbers -/

theorem loadIdx_vec {F : FTy → Type} [FloatOps F] (f w : ℕ → ℕ) (hw16 : ∀ k, k < 16 → w k < 16)
    (hw : ∀ a x, ((![vec16 w] : Fin 1 → IVec S16 32) a x).toNat < S16.size a) :
    loadIdx (F := F) (s := S16) (e := .i32) (vec16 f) ![vec16 w] hw = vec16 fun k => f (w k) := by
  funext x
  show BitVec.ofNat 32 (f (BitVec.ofNat 32 (w (x 0).val)).toNat) = _
  rw [toNat_ofNat (lt_trans (hw16 _ (x 0).isLt) (by decide))]
  rfl

theorem chk1_vec (w : ℕ → ℕ) (hw : ∀ k, k < 16 → w k < 16) : ∀ a x, ((![vec16 w] : Fin 1 → IVec S16 32) a x).toNat < S16.size a := by
  intro a x
  obtain rfl : a = 0 := Subsingleton.elim _ _
  show (BitVec.ofNat 32 (w (x 0).val)).toNat < 16
  rw [toNat_ofNat (lt_trans (hw _ (x 0).isLt) (by decide))]
  exact hw _ (x 0).isLt

theorem eq_word {w : ℕ → ℕ} (hw : ∀ k, k < 16 → w k < 16) {b : ℕ} (hb : b < 16) (x : S16.Idx) :
    cmpi .eq (vec16 w) (broadcast S16 (BitVec.ofNat 32 b)) x = if w (x 0).val = b then 1#1 else 0#1 := by
  have hx := hw _ (x 0).isLt
  show BitVec.ofBool (BitVec.ofNat 32 (w (x 0).val) == BitVec.ofNat 32 b) = _
  by_cases h : w (x 0).val = b
  · rw [if_pos h, h]; simp
  · rw [if_neg h]
    have : BitVec.ofNat 32 (w (x 0).val) ≠ BitVec.ofNat 32 b := fun h' => h (by
      have := congrArg BitVec.toNat h'
      rwa [toNat_ofNat (lt_trans hx (by decide)), toNat_ofNat (lt_trans hb (by decide))] at this)
    rw [beq_eq_false_iff_ne.mpr this]; rfl

theorem sum_ind (w : ℕ → ℕ) (b n : ℕ) : (∑ x ∈ Finset.range n, if w x = b then 1 else 0) = Nat.count (fun k => w k = b) n := by
  induction n with
  | zero => simp
  | succ n ih => rw [Finset.sum_range_succ, ih, Nat.count_succ]

theorem rankTo_vec (w : ℕ → ℕ) (hw : ∀ k, k < 16 → w k < 16) (n : ℕ) (hn : n ≤ 16) :
    rankTo (vec16 w) n = vec16 fun k => if w k < n then Nat.count (fun i => w i = w k) k else 0 := by
  induction n with
  | zero => funext x; simp [rankTo, zeros16_eq, vec16]
  | succ b ih =>
    funext x
    have hext : extui 32 (cmpi .eq (vec16 w) (broadcast S16 (BitVec.ofNat 32 b))) natLt_1_32 = vec16 fun k => if w k = b then 1 else 0 := by
      funext y
      show BitVec.setWidth 32 (cmpi .eq (vec16 w) (broadcast S16 (BitVec.ofNat 32 b)) y) = BitVec.ofNat 32 (if w (y 0).val = b then 1 else 0)
      rw [eq_word hw (by omega)]
      split <;> rfl
    rw [rankTo, ih (by omega), hext, scan_sum]
    show Scalar.select (cmpi .eq (vec16 w) (broadcast S16 (BitVec.ofNat 32 b)) x) (BitVec.ofNat 32 (∑ y ∈ Finset.range ((x 0).val + 1), if w y = b then 1 else 0) - 1#32)
      (BitVec.ofNat 32 (if w (x 0).val < b then Nat.count (fun i => w i = w (x 0).val) (x 0).val else 0))
      = BitVec.ofNat 32 (if w (x 0).val < b + 1 then Nat.count (fun i => w i = w (x 0).val) (x 0).val else 0)
    rw [eq_word hw (by omega)]
    by_cases h : w (x 0).val = b
    · rw [if_pos h, if_pos (by omega : w (x 0).val < b + 1), sum_ind, h, Nat.count_succ, if_pos h]
      show BitVec.ofNat 32 _ - BitVec.ofNat 32 1 = _
      rw [ofNat_sub_cancel]
    · rw [if_neg h]
      have h1 : (w (x 0).val < b + 1) ↔ (w (x 0).val < b) := by omega
      show BitVec.ofNat 32 _ = _
      simp only [h1]

theorem rank_vec (w : ℕ → ℕ) (hw : ∀ k, k < 16 → w k < 16) : rankTo (vec16 w) 16 = vec16 fun k => Nat.count (fun i => w i = w k) k := by
  rw [rankTo_vec w hw 16 le_rfl]
  exact vec16_congr fun k hk => if_pos (hw k hk)

/-! ### The tile's number -/

/-- The tile's number. -/
def widN (i : grid0.Coords) : ℕ := 2 * (i 1).val + (i 0).val

theorem coord0_lt (i : grid0.Coords) : (i 0).val < 2 := (i 0).isLt
theorem coord1_lt (i : grid0.Coords) : (i 1).val < 16 := (i 1).isLt

theorem widN_lt (i : grid0.Coords) : widN i < 32 := by
  have := coord0_lt i; have := coord1_lt i; unfold widN; omega

theorem widW_eq (i : grid0.Coords) : widW i = BitVec.ofNat 32 (widN i) := by
  show BitVec.ofNat 32 (i 1).val * BitVec.ofNat 32 2 + BitVec.ofNat 32 (i 0).val = _
  rw [← BitVec.ofNat_mul, ofNat_add, Nat.mul_comm]
  rfl

theorem wid4_eq (i : grid0.Coords) : wid4 i = BitVec.ofNat 32 (4 * widN i) := by
  show widW i * BitVec.ofNat 32 4 = _
  rw [widW_eq, ← BitVec.ofNat_mul, Nat.mul_comm]

theorem base_mask (i : grid0.Coords) {v : ℕ} (hv : v < 128) :
    (broadcast S16 (Scalar.cmpi .sgt (wid4 i) (BitVec.ofNat 32 v)) : IVec S16 1) = fun _ => if v < 4 * widN i then 1#1 else 0#1 := by
  have hw := widN_lt i
  funext _
  show BitVec.ofBool (BitVec.slt (BitVec.ofNat 32 v) (wid4 i)) = _
  rw [wid4_eq, slt_ofNat (by omega) (by omega)]
  by_cases h : v < 4 * widN i
  · rw [if_pos h, decide_eq_true h]; rfl
  · rw [if_neg h, decide_eq_false h]; rfl

/-! ### Counting -/

variable (E : ℕ → ℕ)

theorem cnt_add (e a b : ℕ) : cnt E e (a + b) = cnt E e a + Nat.count (fun k => E (a + k) = e) b := Nat.count_add _ _ _

/-- The histogram after `v` vectors of tokens. -/
def totV (v : ℕ) : IVec S16 32 := vec16 fun e => cnt E e (16 * v)

theorem totV_succ {F : FTy → Type} [FloatOps F] (hE : ∀ b, E b < 16) (v : ℕ) (mask : IVec S16 1) (hm : mask = fun _ => 1#1)
    (hw : ∀ a x, ((![vec16 fun k => E (16 * v + k)] : Fin 1 → IVec S16 32) a x).toNat < S16.size a) :
    storeIdx (F := F) (s := S16) (e := .i32) (totV E v) ![vec16 fun k => E (16 * v + k)] ones16 mask true hw = totV E (v + 1) := by
  unfold totV
  rw [storeIdx_count (fun k => E (16 * v + k)) (fun _ _ => hE _) _ mask hm]
  refine vec16_congr fun e _ => ?_
  show _ = cnt E e (16 * v + 16)
  rw [cnt_add]

/-- The part of it before the tile's own tokens. -/
def baseV (i : grid0.Coords) (v : ℕ) : IVec S16 32 := totV E (min v (4 * widN i))

theorem baseV_succ {F : FTy → Type} [FloatOps F] (hE : ∀ b, E b < 16) (i : grid0.Coords) {v : ℕ} (hv : v < 128)
    (hw : ∀ a x, ((![vec16 fun k => E (16 * v + k)] : Fin 1 → IVec S16 32) a x).toNat < S16.size a) :
    storeIdx (F := F) (s := S16) (e := .i32) (baseV E i v) ![vec16 fun k => E (16 * v + k)] ones16
      (broadcast S16 (Scalar.cmpi .sgt (wid4 i) (BitVec.ofNat 32 v))) true hw = baseV E i (v + 1) := by
  rw [base_mask i hv]
  unfold baseV
  by_cases h : v < 4 * widN i
  · rw [show min v (4 * widN i) = v by omega, show min (v + 1) (4 * widN i) = v + 1 by omega]
    exact totV_succ E hE v _ (funext fun _ => if_pos h) hw
  · rw [show min v (4 * widN i) = 4 * widN i by omega, show min (v + 1) (4 * widN i) = 4 * widN i by omega]
    exact storeIdx_none _ _ _ (funext fun _ => if_neg h) hw

/-- The counts among the tile's own tokens, after `g` groups of sixteen. -/
def ownV (i : grid0.Coords) (g : ℕ) : IVec S16 32 := vec16 fun e => Nat.count (fun k => E (64 * widN i + k) = e) (16 * g)

/-- The experts of a group. -/
def grpV (i : grid0.Coords) (g : ℕ) : IVec S16 32 := vec16 fun k => E (64 * widN i + (16 * g + k))

/-- Where each token of a group stands among the tile's tokens of its expert. -/
def rkV (i : grid0.Coords) (g : ℕ) : IVec S16 32 :=
  vec16 fun k => Nat.count (fun j => E (64 * widN i + j) = E (64 * widN i + (16 * g + k))) (16 * g + k)

theorem ownV_zero (i : grid0.Coords) : ownV E i 0 = zeros16 := by
  rw [zeros16_eq]; exact vec16_congr fun e _ => by simp

theorem ownV_succ {F : FTy → Type} [FloatOps F] (hE : ∀ b, E b < 16) (i : grid0.Coords) (g : ℕ)
    (hw : ∀ a x, ((![grpV E i g] : Fin 1 → IVec S16 32) a x).toNat < S16.size a) :
    storeIdx (F := F) (s := S16) (e := .i32) (ownV E i g) ![grpV E i g] ones16 (fun _ => 1#1) true hw = ownV E i (g + 1) := by
  refine (storeIdx_count (fun k => E (64 * widN i + (16 * g + k))) (fun _ _ => hE _) _ _ rfl hw).trans ?_
  refine vec16_congr fun e _ => ?_
  show _ = Nat.count _ (16 * g + 16)
  rw [Nat.count_add]

theorem rkV_eq {F : FTy → Type} [FloatOps F] (hE : ∀ b, E b < 16) (i : grid0.Coords) (g : ℕ)
    (hw : ∀ a x, ((![grpV E i g] : Fin 1 → IVec S16 32) a x).toNat < S16.size a) :
    addi (loadIdx (F := F) (s := S16) (e := .i32) (ownV E i g) ![grpV E i g] hw) (rankTo (grpV E i g) 16) = rkV E i g := by
  have h1 := loadIdx_vec (F := F) (fun e => Nat.count (fun k => E (64 * widN i + k) = e) (16 * g)) (fun k => E (64 * widN i + (16 * g + k))) (fun _ _ => hE _) hw
  have h2 := rank_vec (fun k => E (64 * widN i + (16 * g + k))) (fun _ _ => hE _)
  have h3 : addi (loadIdx (F := F) (s := S16) (e := .i32) (ownV E i g) ![grpV E i g] hw) (rankTo (grpV E i g) 16)
      = addi (vec16 fun k => Nat.count (fun j => E (64 * widN i + j) = E (64 * widN i + (16 * g + k))) (16 * g))
        (vec16 fun k => Nat.count (fun j => E (64 * widN i + (16 * g + j)) = E (64 * widN i + (16 * g + k))) k) :=
    congr (congrArg addi h1) h2
  rw [h3]
  funext x
  show BitVec.ofNat 32 _ + BitVec.ofNat 32 _ = BitVec.ofNat 32 _
  rw [ofNat_add]
  beta_reduce
  rw [Nat.count_add]

/-- Where each expert's tokens of the tile go from. -/
def bcV (i : grid0.Coords) : IVec S16 32 := vec16 fun e => 128 * exclN E e + cnt E e (64 * widN i)

theorem tot_nblk : nblkOf (totV E 128) = vec16 (nblkN E) :=
  nblkOf_vec _ fun k _ => cnt_le _ _

theorem excl_vec : exclOf (nblkOf (totV E 128)) = vec16 (exclN E) := by
  rw [tot_nblk, exclOf_vec]; rfl

theorem bcV_eq (i : grid0.Coords) :
    addi (muli (exclOf (nblkOf (totV E 128))) (broadcast S16 128#32)) (baseV E i 128) = bcV E i := by
  have hw := widN_lt i
  rw [excl_vec]
  unfold baseV totV
  rw [show min 128 (4 * widN i) = 4 * widN i by omega]
  funext x
  show BitVec.ofNat 32 (exclN E (x 0).val) * BitVec.ofNat 32 128 + BitVec.ofNat 32 _ = BitVec.ofNat 32 _
  rw [← BitVec.ofNat_mul, ofNat_add, Nat.mul_comm, show 16 * (4 * widN i) = 64 * widN i by omega]

/-- The positions of a group. -/
def posV (i : grid0.Coords) (g : ℕ) : IVec S16 32 := vec16 fun k => posN E (64 * widN i + (16 * g + k))

theorem posV_eq {F : FTy → Type} [FloatOps F] (hE : ∀ b, E b < 16) (i : grid0.Coords) (g : ℕ)
    (hw : ∀ a x, ((![grpV E i g] : Fin 1 → IVec S16 32) a x).toNat < S16.size a) :
    addi (loadIdx (F := F) (s := S16) (e := .i32) (bcV E i) ![grpV E i g] hw) (rkV E i g) = posV E i g := by
  have h1 := loadIdx_vec (F := F) (fun e => 128 * exclN E e + cnt E e (64 * widN i)) (fun k => E (64 * widN i + (16 * g + k))) (fun _ _ => hE _) hw
  refine (congrArg (fun v => addi v (rkV E i g)) h1).trans ?_
  funext x
  show BitVec.ofNat 32 _ + BitVec.ofNat 32 _ = BitVec.ofNat 32 (posN E _)
  rw [ofNat_add]
  unfold posN
  rw [cnt_add, Nat.add_assoc]

/-! ### The table -/

/-- The expert whose rows begin at block `j`, and zero where no expert's do. -/
def mkN (j : ℕ) : ℕ := ((Finset.range 16).filter fun e => 0 < nblkN E e ∧ exclN E e = j).sup id

theorem mkN_hit {e : ℕ} (he : e < 16) (hn : 0 < nblkN E e) : mkN E (exclN E e) = e := by
  unfold mkN
  have : (Finset.range 16).filter (fun e' => 0 < nblkN E e' ∧ exclN E e' = exclN E e) = {e} := by
    ext e'
    simp only [Finset.mem_filter, Finset.mem_range, Finset.mem_singleton]
    exact ⟨fun h => excl_inj h.2.1 hn h.2.2, fun h => by subst h; exact ⟨he, hn, rfl⟩⟩
  rw [this, Finset.sup_singleton]
  rfl

theorem mkN_miss (j : ℕ) (h : ∀ e, e < 16 → 0 < nblkN E e → exclN E e ≠ j) : mkN E j = 0 := by
  unfold mkN
  rw [Finset.filter_false_of_mem fun e he h' => h e (Finset.mem_range.mp he) h'.1 h'.2]
  rfl

theorem mkN_lt (j : ℕ) : mkN E j < 16 := by
  unfold mkN
  refine (Finset.sup_lt_iff (by decide)).mpr fun e he => ?_
  simpa using (Finset.mem_filter.mp he).1

theorem sup_mkN (j : ℕ) : (Finset.range (j + 1)).sup (mkN E) = beN E j :=
  sup_mark (mkN E) (fun _ he hn => mkN_hit E he hn) (fun j h => mkN_miss E j h) j

theorem nblkN_le (e : ℕ) : nblkN E e ≤ 16 := by
  have := cnt_le (E := E) e 2048; unfold nblkN; omega

/-- The marks the kernel writes. -/
theorem marks_eq {F : FTy → Type} [FloatOps F] (hE : ∀ b, E b < 16) (f : IVec S32 32) (hf : f = fun _ => 0#32)
    (hx : ∀ a y, ((![vec16 (exclN E)] : Fin 1 → IVec S16 32) a y).toNat < S32.size a) :
    storeIdx (F := F) (s := S32) (e := .i32) f ![vec16 (exclN E)] (iota .scVector S16 32 [0] iota_S16_d0_w32_scVector)
      (cmpi .sgt (vec16 (nblkN E)) (broadcast S16 0#32)) false hx = fun j => BitVec.ofNat 32 (mkN E (j 0).val) := by
  have hmask : ∀ k : Fin 16, cmpi .sgt (vec16 (nblkN E)) (broadcast S16 0#32) (lane16 k) = 1 ↔ 0 < nblkN E k.val := by
    intro k
    have hn := nblkN_le E k.val
    show BitVec.ofBool (BitVec.slt (BitVec.ofNat 32 0) (BitVec.ofNat 32 (nblkN E k.val))) = 1 ↔ _
    rw [slt_ofNat (by omega) (by omega)]
    by_cases h : 0 < nblkN E k.val
    · rw [decide_eq_true h]; exact ⟨fun _ => h, fun _ => rfl⟩
    · rw [decide_eq_false h]; exact ⟨fun h' => absurd h' (by decide), fun h' => absurd h' h⟩
  have hval : ∀ k : Fin 16, (vec16 (exclN E) (lane16 k)).toNat = exclN E k.val := by
    intro k
    have := excl_le (E := E) hE (e := k.val) (by omega)
    exact toNat_ofNat (lt_of_le_of_lt this (by decide))
  rw [storeIdx_markStep]
  funext j
  by_cases h : ∃ e : Fin 16, 0 < nblkN E e.val ∧ exclN E e.val = (j 0).val
  · obtain ⟨e, hn, hj⟩ := h
    rw [foldl_mark_hit _ _ hx _ f j e ((hmask e).mpr hn) ((hval e).trans hj) (fun k hk hkj => Fin.ext (excl_inj ((hmask k).mp hk) hn ((hval k).symm.trans (hkj.trans hj.symm))))
      (List.mem_finRange e), ← hj, mkN_hit E e.isLt hn]
  · rw [foldl_mark _ _ hx _ f j fun k _ hk => h ⟨k, (hmask k).mp hk.1, (hval k).symm.trans hk.2⟩, hf,
      mkN_miss E _ fun e he hn hj => h ⟨⟨e, he⟩, hn, hj⟩]

theorem sup_congr_range {f g : ℕ → ℕ} {n : ℕ} (h : ∀ k, k < n → f k = g k) : (Finset.range n).sup f = (Finset.range n).sup g :=
  Finset.sup_congr rfl fun k hk => h k (Finset.mem_range.mp hk)

theorem lo_eq : cummaxW (vec16 (mkN E)) = vec16 (beN E) := by
  rw [cummaxW_vec _ fun k _ => lt_trans (mkN_lt E k) (by decide)]
  exact vec16_congr fun k _ => sup_mkN E k

theorem beN_mono {a b : ℕ} (h : a ≤ b) : beN E a ≤ beN E b := by
  rw [← sup_mkN, ← sup_mkN]
  exact Finset.sup_mono (Finset.range_mono (by omega))

theorem sup_mono_range {f : ℕ → ℕ} (hf : ∀ {a b}, a ≤ b → f a ≤ f b) (k : ℕ) : (Finset.range (k + 1)).sup f = f k :=
  le_antisymm (Finset.sup_le fun x hx => hf (Nat.lt_succ_iff.mp (Finset.mem_range.mp hx))) (Finset.le_sup (f := f) (Finset.mem_range.mpr (Nat.lt_succ_self k)))

theorem lolo_eq : cummaxW (cummaxW (vec16 (mkN E))) = vec16 (beN E) := by
  rw [lo_eq, cummaxW_vec _ fun k _ => lt_trans (beN_lt k) (by decide)]
  exact vec16_congr fun k _ => sup_mono_range (fun h => beN_mono E h) k

theorem sup_split (f : ℕ → ℕ) (a b : ℕ) : (Finset.range (a + b)).sup f = max ((Finset.range a).sup f) ((Finset.range b).sup fun k => f (a + k)) := by
  induction b with
  | zero => simp
  | succ b ih =>
    rw [← Nat.add_assoc, Finset.range_add_one, Finset.sup_insert, ih, Finset.range_add_one, Finset.sup_insert]
    show max _ (max _ _) = max _ (max _ _)
    omega

theorem maxsi_ofNat {a b : ℕ} (ha : a < 2 ^ 31) (hb : b < 2 ^ 31) :
    IntOp.maxsi (BitVec.ofNat 32 a) (BitVec.ofNat 32 b) = BitVec.ofNat 32 (max a b) := by
  unfold IntOp.maxsi
  rw [slt_ofNat hb ha]
  by_cases h : b < a
  · simp [h, Nat.max_eq_left h.le]
  · simp [h, Nat.max_eq_right (not_lt.mp h)]

theorem hi_eq : maxsi (cummaxW (vec16 fun k => mkN E (16 + k))) (broadcast S16 (extractAt ![15] (cummaxW (cummaxW (vec16 (mkN E)))) inpos_S16_p15))
    = vec16 fun k => beN E (16 + k) := by
  rw [lolo_eq, cummaxW_vec _ fun k _ => lt_trans (mkN_lt E _) (by decide)]
  funext x
  show IntOp.maxsi (BitVec.ofNat 32 _) (BitVec.ofNat 32 (beN E 15)) = BitVec.ofNat 32 (beN E (16 + (x 0).val))
  rw [maxsi_ofNat (sup_lt _ _ (by decide) _ fun y _ => lt_trans (mkN_lt E _) (by decide)) (lt_trans (beN_lt 15) (by decide)), ← sup_mkN E 15, ← sup_mkN E (16 + (x 0).val),
    Nat.add_assoc, sup_split (mkN E) 16, max_comm]

theorem used_eq : (broadcast S16 (extractAt ![15] (scan .sum (vec16 (nblkN E))) inpos_S16_p15) : IVec S16 32) = vec16 fun _ => usedN E := by
  rw [scan_sum]
  rfl

theorem beN_nat_lt (j : ℕ) : beN E j < 16 := beN_lt j

end Cert.Proof.Route
-- ==== Proof.Setup.lean ====
/-
  The launch of the routed expert layer: the program as the launch theorem sees it, the buffers it works on, what each
  buffer holds when the calls are over, and what a SparseCore call hands to each tile and takes back.

  The number of token `b`'s expert is `E b`. The first call writes token `b`'s row of `x` at row `posN E b` of the sorted
  array, that position at place `b` of the position array, and block `j`'s expert at place `j` of the table. The
  TensorCore's call applies block `j`'s expert to block `j` of the sorted array. The last call reads token `b`'s row back.
-/
module

public import proofs.«01_k».proof.Defs
public import proofs.«01_k».proof.Proof.Words
public import Idealize.ShloMosaic.Lib.SparseCore.Quiescent
public import Idealize.ShloMosaic.Lib.SparseCore.Ops
public import Idealize.ShloMosaic.Lib.SparseCore.Stream
public import Idealize.ShloMosaic.Lib.SparseCore.Scatter
public import Idealize.ShloMosaic.Lib.ShareLeaves
public import Idealize.ShloMosaic.Lib.ValueIdxCore
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.Proof.Route

open Cert.KernelIdeal Cert.KernelIdeal.Gen

open Idealize.ShloMosaic
open Idealize.ShloMosaic.SparseCore (S V)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ShareLeaves (leaf pointsTo_leaves)
open Idealize.ShloMosaic.ValueIdx (ix1 ix2 ix3)

variable {F : FTy → Type} [FloatOps F]

/-! ## The program as the launch theorem sees it -/

abbrev ΛP : Labels := Pipeline.Sig Λ₀ (Fin 1) fun p => (pcfgs (F := F) p).Adm
abbrev K : SparseCore.Cfg τ sig (ΛP (F := F)) 2 := sc (F := F)
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the pipeline's rounds, the transfers' counters -/

abbrev UH : Type := URounds (GSem nD τ sig) ℕ
abbrev UP : Type := UR sig nD τ
abbrev UU : Type := UH × (UP × Counters)

local notation "𝕄" => MT nD τ sig (HIx 2) (Elt F) ℕ UU ℕ

abbrev EH : Emb UH (MT nD τ sig (HIx 2) (Elt F) ℕ UU ℕ) := embL

/-! ## The buffers -/

variable (m : (ℓ : Loc nD τ sig) → Buf (Elt F) ℓ) (ρ : Dev nD → PrngReg)

abbrev xLoc (d : Dev nD) : Loc nD τ sig := (SparseCore.T d).loc main_arg0
abbrev idxLoc (d : Dev nD) : Loc nD τ sig := (SparseCore.T d).loc main_arg1
abbrev w1Loc (d : Dev nD) : Loc nD τ sig := (SparseCore.T d).loc main_arg2
abbrev b1Loc (d : Dev nD) : Loc nD τ sig := (SparseCore.T d).loc main_arg3
abbrev w2Loc (d : Dev nD) : Loc nD τ sig := (SparseCore.T d).loc main_arg4
abbrev b2Loc (d : Dev nD) : Loc nD τ sig := (SparseCore.T d).loc main_arg5
abbrev xsLoc (d : Dev nD) : Loc nD τ sig := (SparseCore.T d).loc main_v0_0
abbrev posLoc (d : Dev nD) : Loc nD τ sig := (SparseCore.T d).loc main_v0_1
abbrev bexpLoc (d : Dev nD) : Loc nD τ sig := (SparseCore.T d).loc main_v0_2
abbrev tabLoc (d : Dev nD) : Loc nD τ sig := (SparseCore.T d).loc main_v1
abbrev ysLoc (d : Dev nD) : Loc nD τ sig := (SparseCore.T d).loc main_v2
abbrev outLoc (d : Dev nD) : Loc nD τ sig := (SparseCore.T d).loc main_v3

/-- Token `b`'s expert number, as a natural number (0 past the last token). -/
def E (d : Dev nD) (b : ℕ) : ℕ := if h : b < 2048 then (m (idxLoc d) (ix1 ⟨b, h⟩)).toNat else 0

/-- What the proof asks of the launch memory: every expert number is below 16. -/
def PreOK : Prop := ∀ (d : Dev nD) (j : S2048.Idx), (m (idxLoc d) j).toNat < 16

variable {m} in
theorem E_lt (h : PreOK m) (d : Dev nD) (b : ℕ) : E m d b < 16 := by
  unfold E; split
  · exact h d _
  · omega

/-- The expert number's word is the word of `E`. -/
theorem idx_eq (d : Dev nD) (j : S2048.Idx) : m (idxLoc d) j = BitVec.ofNat 32 (E m d (j 0).val) := by
  have hj : (j 0).val < 2048 := (j 0).isLt
  have e : j = ix1 ⟨(j 0).val, hj⟩ := funext fun a => match a with | ⟨0, _⟩ => rfl
  unfold E; rw [dif_pos hj]
  conv_lhs => rw [e]
  rw [BitVec.ofNat_toNat, BitVec.setWidth_eq]

/-! ## What the buffers hold when the calls are over -/

open scoped Classical in
/-- The sorted array: token `b`'s row of `x` at row `posN E b`; every other row as it was. -/
def xsV (d : Dev nD) : Buf (Elt F) (xsLoc d) := fun j =>
  if h : ∃ b : Fin 2048, posN (E m d) b.val = (j 0).val then m (xLoc d) (ix2 h.choose (j 1)) else m (xsLoc d) j

/-- The position array. -/
def posB (d : Dev nD) : Buf (Elt F) (posLoc d) := fun j => BitVec.ofNat 32 (posN (E m d) (j 0).val)

/-- The table: the experts of 32 blocks, then the number of blocks in use. -/
def bexpV (d : Dev nD) : Buf (Elt F) (bexpLoc d) := fun j =>
  BitVec.ofNat 32 (if (j 0).val < 32 then beN (E m d) (j 0).val else usedN (E m d))

/-- The part of the table that the TensorCore's call reads. -/
def tabV (d : Dev nD) : Buf (Elt F) (tabLoc d) := fun j =>
  BitVec.ofNat 32 (if (j 0).val < 32 then beN (E m d) (j 0).val else usedN (E m d))

/-- Block `t` of the sorted array. -/
def xsBlk (d : Dev nD) (t : ℕ) : Vec F S128x768 .f32 := fun j => xsV m d (ix2 ⟨(128 * t + (j 0).val) % 4096, Nat.mod_lt _ (by decide)⟩ (j 1))
/-- Expert `e`'s first weight matrix. -/
def w1Blk (d : Dev nD) (e : ℕ) : Vec F S1x768x256 .f32 := fun j => m (w1Loc d) (ix3 ⟨e % 16, Nat.mod_lt _ (by decide)⟩ (j 1) (j 2))
/-- Expert `e`'s first bias. -/
def b1Row (d : Dev nD) (e : ℕ) : Vec F S1x256 .f32 := fun j => m (b1Loc d) (ix2 ⟨e % 16, Nat.mod_lt _ (by decide)⟩ (j 1))
/-- Expert `e`'s second weight matrix. -/
def w2Blk (d : Dev nD) (e : ℕ) : Vec F S1x256x768 .f32 := fun j => m (w2Loc d) (ix3 ⟨e % 16, Nat.mod_lt _ (by decide)⟩ (j 1) (j 2))
/-- Expert `e`'s second bias. -/
def b2Row (d : Dev nD) (e : ℕ) : Vec F S1x768 .f32 := fun j => m (b2Loc d) (ix2 ⟨e % 16, Nat.mod_lt _ (by decide)⟩ (j 1))

/-- Block `t` through the two layers of its expert. -/
def mlpBlk (d : Dev nD) (t : ℕ) : Vec F S128x768 .f32 :=
  k1_pay1 (xsBlk m d t) (w1Blk m d (beN (E m d) t)) (b1Row m d (beN (E m d) t)) (w2Blk m d (beN (E m d) t)) (b2Row m d (beN (E m d) t))

/-- The expert layer's output, in the sorted order: the blocks in use; every other row as it was. -/
def ysV (d : Dev nD) : Buf (Elt F) (ysLoc d) := fun j =>
  if (j 0).val / 128 < usedN (E m d) then mlpBlk m d ((j 0).val / 128) (ix2 ⟨(j 0).val % 128, Nat.mod_lt _ (by decide)⟩ (j 1)) else m (ysLoc d) j

/-- The result: token `b`'s row of the sorted output. -/
def outV (d : Dev nD) : Buf (Elt F) (outLoc d) := fun j =>
  ysV m d (ix2 ⟨posN (E m d) (j 0).val % 4096, Nat.mod_lt _ (by decide)⟩ (j 1))

/-! ## The tiles' parts -/

/-- Tile `w`'s places of the position array. -/
def tok1 (w : ℕ) : Finset S2048.Idx := Finset.univ.filter fun j => (j 0).val / 64 = w
/-- Tile `w`'s rows of the result. -/
def tok2 (w : ℕ) : Finset S2048x768.Idx := Finset.univ.filter fun j => (j 0).val / 64 = w
open scoped Classical in
/-- The rows of the sorted array that tile `w`'s tokens go to. -/
def rowSet (d : Dev nD) (w : ℕ) : Finset S4096x768.Idx := Finset.univ.filter fun j => ∃ b : Fin 2048, b.val / 64 = w ∧ posN (E m d) b.val = (j 0).val
/-- The table is tile 0's. -/
def bexpSet (w : ℕ) : Finset S48.Idx := Finset.univ.filter fun _ => w = 0

/-- Tile `w`'s share of what every tile reads. -/
def sh (w : ℕ) : PosShare TreeShare := leaf 5 fullShare ⟨w % 32, Nat.mod_lt _ (by decide)⟩

/-- What the first call hands to tile `w`, the three results at `fx`, `fp`, `fb`. -/
def routeR (d : Dev nD) (w : ℕ) (fx : Buf (Elt F) (xsLoc d)) (fp : Buf (Elt F) (posLoc d)) (fb : Buf (Elt F) (bexpLoc d)) : sProp 𝕄 :=
  iprop((xLoc d ↦{sh w} m (xLoc d)) ∗ (idxLoc d ↦{sh w} m (idxLoc d)) ∗ (xsLoc d ↦[rowSet m d w]{fullShare} fx)
    ∗ (posLoc d ↦[tok1 w]{fullShare} fp) ∗ (bexpLoc d ↦[bexpSet w]{fullShare} fb))

/-- What the last call hands to tile `w`, the result at `fo`. -/
def unsortR (d : Dev nD) (w : ℕ) (fo : Buf (Elt F) (outLoc d)) : sProp 𝕄 :=
  iprop((ysLoc d ↦{sh w} ysV m d) ∗ (posLoc d ↦[tok1 w]{fullShare} posB m d) ∗ (outLoc d ↦[tok2 w]{fullShare} fo))

instance (d : Dev nD) (w : ℕ) (fx : Buf (Elt F) (xsLoc d)) (fp : Buf (Elt F) (posLoc d)) (fb : Buf (Elt F) (bexpLoc d)) :
    BI.Storable (upEmb : UEmb _ 𝕄) (routeR m d w fx fp fb) := by unfold routeR; infer_instance
instance (d : Dev nD) (w : ℕ) (fo : Buf (Elt F) (outLoc d)) : BI.Storable (upEmb : UEmb _ 𝕄) (unsortR m d w fo) := by unfold unsortR; infer_instance

abbrev goR (q : Fin 2) (d : Dev nD) (w : ℕ) : sProp 𝕄 :=
  match q with | 0 => routeR m d w (m (xsLoc d)) (m (posLoc d)) (m (bexpLoc d)) | 1 => unsortR m d w (m (outLoc d))
abbrev tdR (q : Fin 2) (d : Dev nD) (w : ℕ) : sProp 𝕄 :=
  match q with | 0 => routeR m d w (xsV m d) (posB m d) (bexpV m d) | 1 => unsortR m d w (outV m d)

instance (q : Fin 2) (d : Dev nD) (w : ℕ) : BI.Storable (upEmb : UEmb _ 𝕄) (goR m q d w) := match q with | 0 => by unfold goR; infer_instance | 1 => by unfold goR; infer_instance
instance (q : Fin 2) (d : Dev nD) (w : ℕ) : BI.Storable (upEmb : UEmb _ 𝕄) (tdR m q d w) := match q with | 0 => by unfold tdR; infer_instance | 1 => by unfold tdR; infer_instance

/-- What the handshakes carry: a SparseCore's part is its tiles' parts. -/
def P : (K (F := F)).Pay (nD := nD) (Val := Elt F) (Name := ℕ) (U := UU) where
  st := fun q d c => bigSep Finset.univ fun i : Fin ((K (F := F)).nSub q) => goR m q d (2 * i.val + c.val)
  dn := fun q d c => bigSep Finset.univ fun i : Fin ((K (F := F)).nSub q) => tdR m q d (2 * i.val + c.val)
  go := fun q d c i => goR m q d (2 * i.val + c.val)
  td := fun q d c i => tdR m q d (2 * i.val + c.val)
  x := fun _ _ => iprop(emp)

instance P_storable : (P (F := F) m).IsStorable where
  st q d c := (inferInstance : BI.Storable (upEmb : UEmb _ 𝕄) (bigSep Finset.univ fun i : Fin ((K (F := F)).nSub q) => goR m q d (2 * i.val + c.val)))
  dn q d c := (inferInstance : BI.Storable (upEmb : UEmb _ 𝕄) (bigSep Finset.univ fun i : Fin ((K (F := F)).nSub q) => tdR m q d (2 * i.val + c.val)))
  go q d c i := (inferInstance : BI.Storable (upEmb : UEmb _ 𝕄) (goR m q d (2 * i.val + c.val)))
  td q d c i := (inferInstance : BI.Storable (upEmb : UEmb _ 𝕄) (tdR m q d (2 * i.val + c.val)))

/-- A SparseCore's part is its tiles' parts, and so back. -/
theorem vecSplit (q : Fin 2) : (K (F := F)).VecSplit' (P m) q := by
  intro d c
  show (bigSep Finset.univ fun i : Fin ((K (F := F)).nSub q) => goR m q d (2 * i.val + c.val)) ⊢ |={Set.univ}=> iprop(
    (bigSep Finset.univ fun i : Fin ((K (F := F)).nSub q) => goR m q d (2 * i.val + c.val))
      ∗ ((bigSep Finset.univ fun i : Fin ((K (F := F)).nSub q) => tdR m q d (2 * i.val + c.val))
        -∗ (bigSep Finset.univ fun i : Fin ((K (F := F)).nSub q) => tdR m q d (2 * i.val + c.val))))
  iintro H; imodintro
  isplitl [H]; · iexact H
  iintro H; iexact H

/-! ## The whole buffers as the tiles' parts -/

/-- Two SparseCores of sixteen tiles are thirty-two tiles. -/
theorem bigSep_tiles (Φ : ℕ → sProp 𝕄) :
    (bigSep Finset.univ fun c : Fin 2 => bigSep Finset.univ fun i : Fin 16 => Φ (2 * i.val + c.val)) = bigSep Finset.univ fun w : Fin 32 => Φ w.val := by
  rw [bigSep_univ_equiv ((Equiv.prodComm (Fin 2) (Fin 16)).trans (finProdFinEquiv (m := 16) (n := 2))) (fun w : Fin 32 => Φ w.val), bigSep_univ_prod]
  refine bigSep_congr fun c _ => bigSep_congr fun i _ => ?_
  congr 1
  simp [finProdFinEquiv]
  omega

omit m in
theorem share_split {ℓ : Loc nD τ sig} (f : Buf (Elt F) ℓ) : (ℓ ↦{fullShare} f : sProp 𝕄) = bigSep Finset.univ fun w : Fin 32 => ℓ ↦{sh w.val} f := by
  rw [pointsTo_leaves Finset.univ f 5 fullShare]
  refine bigSep_congr fun (w : Fin 32) _ => ?_
  unfold sh
  congr 2
  exact Fin.ext (Nat.mod_eq_of_lt w.isLt).symm

omit m in
/-- Parts cut by a number below 32 are disjoint and cover. -/
theorem split_by {ℓ : Loc nD τ sig} (g : Idx ℓ → ℕ) (hg : ∀ j, g j < 32) (f : Buf (Elt F) ℓ) :
    (ℓ ↦{fullShare} f : sProp 𝕄) = bigSep Finset.univ fun w : Fin 32 => ℓ ↦[Finset.univ.filter fun j => g j = w.val]{fullShare} f := by
  rw [← pointsTo_biUnion Finset.univ (ℓ := ℓ) (fun w : Fin 32 => Finset.univ.filter fun j => g j = w.val)]
  · congr 1
    ext j
    simpa using ⟨(⟨g j, hg j⟩ : Fin 32), rfl⟩
  · intro a _ b _ hab
    refine Finset.disjoint_left.mpr fun j h1 h2 => hab (Fin.ext ?_)
    rw [← (Finset.mem_filter.mp h1).2, ← (Finset.mem_filter.mp h2).2]

end Cert.Proof.Route

end
-- ==== Proof.MlpBody.lean ====
/-
  The expert layer's call on the TensorCore, one grid point at a time: which blocks the table sends to point `i`, and what
  the kernel's body does with them. Point `i` below the number of blocks in use takes block `i` of the sorted array through
  its expert's two layers; a later point stores nothing.
-/
module

public import proofs.«01_k».proof.Proof.Setup
public import Idealize.ShloMosaic.Lib.VecWindow
public import Idealize.ShloMosaic.Lib.LaneScatter.Own
public import Idealize.ShloMosaic.Lib.Pipeline.TableIdle

@[expose] public section

noncomputable section

namespace Cert.Proof.Route

open Cert.KernelIdeal Cert.KernelIdeal.Gen

open Idealize.ShloMosaic
open Idealize.SL Idealize.SL.RA Idealize.SL.BI
open scoped Idealize.SL.BI
open Idealize.SL.BI.BIBase Idealize.SL.BI.Laws Idealize.SL.ProofMode Idealize.SL.Sem
open Idealize.ShloMosaic.SparseCore.Cfg (HIx)
open Idealize.ShloMosaic.Tactic
open Idealize.ShloMosaic.ValueIdx (ix1 ix2 ix3)

variable {F : FTy → Type} [FloatOps F]

local notation "𝕄" => MT nD τ sig (HIx 2) (Elt F) ℕ UU ℕ

variable (m : (ℓ : Loc nD τ sig) → Buf (Elt F) ℓ)

theorem minsi_ofNat {a b : ℕ} (ha : a < 2 ^ 31) (hb : b < 2 ^ 31) :
    IntOp.minsi (BitVec.ofNat 32 a) (BitVec.ofNat 32 b) = BitVec.ofNat 32 (min a b) := by
  unfold IntOp.minsi
  rw [slt_ofNat ha hb]
  by_cases h : a < b
  · simp [h, Nat.min_eq_left h.le]
  · simp [h, Nat.min_eq_right (not_lt.mp h)]

/-! ## The table at a grid point -/

/-- The contents of the table that the call reads. -/
def tabC : pre1.Contents (Elt F) := fun | 0 => tabV m 0 | ⟨_ + 1, h⟩ => absurd h (Nat.not_lt.2 (Nat.le_add_left _ _))

abbrev used : ℕ := usedN (E m 0)

theorem icoord_lt (i : grid1.Coords) : (i 0).val < 32 := (i 0).isLt

omit [FloatOps F] in
theorem off1_eq (i : grid1.Coords) : k1_off1 i = ![(i 0).val] := by
  have := icoord_lt i
  show ![(BitVec.ofNat 32 (i 0).val).toNat] = _
  rw [toNat_ofNat (by omega)]

omit [FloatOps F] in
theorem off2_eq (i : grid1.Coords) : k1_off2 i = ![(i 0).val] := off1_eq i

/-- The word at place `k` of the table. -/
theorem tabC_at (k : ℕ) (off : Fin 1 → ℕ) (ho : off = ![k]) (inb : ∀ a, off a + S1.size a ≤ S33.size a) (h1 : S1.numel = 1) :
    (tabC m).at 0 (Rect.unit (s := S33) off S1.size inb) h1 = BitVec.ofNat 32 (if k < 32 then beN (E m 0) k else used m) := by
  subst ho
  show tabV m 0 _ = _
  unfold tabV
  have e : ((Rect.unit (s := S33) ![k] S1.size inb).emb (Shape.Idx.first (h1.symm ▸ Nat.one_pos)) (0 : Fin 1)).val = k := by
    show k + 1 * _ = k
    have : ((Shape.Idx.first (h1.symm ▸ Nat.one_pos : 0 < S1.numel)) (0 : Fin 1)).val < 1 := Fin.isLt _
    omega
  exact congrArg (fun n => BitVec.ofNat 32 (if n < 32 then beN (E m 0) n else usedN (E m 0))) e

variable {m} (hpre : PreOK m)
include hpre

theorem used_pos : 0 < used m := usedN_pos fun b => E_lt hpre 0 b
theorem used_le : used m ≤ 31 := usedN_le fun b => E_lt hpre 0 b

theorem min_word (i : grid1.Coords) :
    (Scalar.minsi (BitVec.ofNat 32 (i 0).val) (Scalar.subi (BitVec.ofNat 32 (used m)) 1#32)).toNat = min (i 0).val (used m - 1) := by
  have hi := icoord_lt i
  have h1 := used_pos hpre; have h2 := used_le hpre
  have e : Scalar.subi (BitVec.ofNat 32 (used m)) 1#32 = BitVec.ofNat 32 (used m - 1) := by
    show BitVec.ofNat 32 (used m) - BitVec.ofNat 32 1 = _
    conv_lhs => rw [show used m = (used m - 1) + 1 by omega]
    exact ofNat_sub_cancel _ _
  rw [e]
  unfold Scalar.minsi
  rw [minsi_ofNat (by omega) (by omega), toNat_ofNat (by omega)]

theorem tr0_eq (i : grid1.Coords) : cc1_transform_0 inb_S33_S1_32 numel1_S1 (tabC m) i = ![min (i 0).val (used m - 1), 0] := by
  show ![(Scalar.minsi (BitVec.ofNat 32 (i 0).val) (Scalar.subi ((tabC m).at 0 (Rect.unit (s := S33) ![32] S1.size inb_S33_S1_32) numel1_S1) 1#32)).toNat, 0] = _
  rw [tabC_at m 32 _ rfl, if_neg (by decide), min_word hpre]

theorem tr5_eq (i : grid1.Coords) : cc1_transform_5 inb_S33_S1_32 numel1_S1 (tabC m) i = ![min (i 0).val (used m - 1), 0] := tr0_eq hpre i

omit hpre in
theorem tr1_eq (i : grid1.Coords) : cc1_transform_1 k1_off1_inb numel1_S1 (tabC m) i = ![beN (E m 0) (i 0).val, 0, 0] := by
  show ![((tabC m).at 0 (Rect.unit (s := S33) (k1_off1 i) S1.size (k1_off1_inb i)) numel1_S1).toNat, 0, 0] = _
  rw [tabC_at m (i 0).val _ (off1_eq i), if_pos (icoord_lt i), toNat_ofNat (by have := beN_lt (E := E m 0) (i 0).val; omega)]

omit hpre in
theorem tr3_eq (i : grid1.Coords) : cc1_transform_3 k1_off1_inb numel1_S1 (tabC m) i = ![beN (E m 0) (i 0).val, 0, 0] := tr1_eq i

/-- Every block that the table names is inside its array. -/
theorem tab_ok : ok1 (tabC m) := by
  have h1 := used_pos hpre; have h2 := used_le hpre
  have hx : ∀ i : grid1.Coords, ∀ a : Fin 2, ((![min (i 0).val (used m - 1), 0] : Fin 2 → ℕ) a + 1) * S128x768.size a ≤ S4096x768.size a := by
    intro i a
    match a with
    | 0 => show (min (i 0).val (used m - 1) + 1) * 128 ≤ 4096; omega
    | 1 => show (0 + 1) * 768 ≤ 768; omega
  refine ⟨fun i => ⟨?_, .inl rfl⟩, fun i => ⟨?_, .inl rfl⟩, fun i => ⟨?_, .inl rfl⟩, fun i => ⟨?_, .inl rfl⟩⟩
  · rw [tr0_eq hpre]; exact hx i
  · rw [tr1_eq]
    have := beN_lt (E := E m 0) (i 0).val
    intro a
    match a with
    | 0 => show (beN (E m 0) (i 0).val + 1) * 1 ≤ 16; omega
    | 1 => show (0 + 1) * 768 ≤ 768; omega
    | 2 => show (0 + 1) * 256 ≤ 256; omega
  · rw [tr3_eq]
    have := beN_lt (E := E m 0) (i 0).val
    intro a
    match a with
    | 0 => show (beN (E m 0) (i 0).val + 1) * 1 ≤ 16; omega
    | 1 => show (0 + 1) * 256 ≤ 256; omega
    | 2 => show (0 + 1) * 768 ≤ 768; omega
  · rw [tr5_eq hpre]; exact hx i

/-! ## The body -/

/-- The body's test at point `i`: whether block `i` is in use. -/
theorem cond_word (i : grid1.Coords) : k1_cond1 i (BitVec.ofNat 32 (used m)) = 1#1 ↔ (i 0).val < used m := by
  have hi := icoord_lt i
  have h1 := used_pos hpre; have h2 := used_le hpre
  have e : Scalar.cmpi .slt (BitVec.ofNat 32 (i 0).val) (BitVec.ofNat 32 (used m)) = BitVec.ofBool (decide ((i 0).val < used m)) := by
    show BitVec.ofBool ((BitVec.ofNat 32 (i 0).val).slt (BitVec.ofNat 32 (used m))) = _
    rw [slt_ofNat (by omega) (by omega)]
  show Scalar.cmpi .ne (Scalar.extui (Scalar.cmpi .slt (BitVec.ofNat 32 (i 0).val) (BitVec.ofNat 32 (used m)))) 0#32 = 1#1 ↔ _
  rw [e]
  by_cases h : (i 0).val < used m
  · rw [decide_eq_true h]; exact iff_of_true (by decide) h
  · rw [decide_eq_false h]; exact iff_of_false (by decide) h

omit hpre in
theorem off3_word {e : ℕ} (he : e < 16) : k1_off3 (BitVec.ofNat 32 e) = ![e, 0] := by
  show ![(BitVec.ofNat 32 e).toNat, 0] = _
  rw [toNat_ofNat (by omega)]

omit hpre in
theorem off4_word {e : ℕ} (he : e < 16) : k1_off4 (BitVec.ofNat 32 e) = ![e, 0] := off3_word he

omit hpre in
theorem chk_word (i : grid1.Coords) (v0 : BitVec 32) {e : ℕ} (he : e < 16) : k1_chk1 i v0 (BitVec.ofNat 32 e) := by
  refine ⟨fun _ a => ?_, fun _ a => ?_⟩
  · rw [off3_word he]
    match a with
    | 0 => show e + 1 ≤ 16; omega
    | 1 => show 0 + 256 ≤ 256; omega
  · rw [off4_word he]
    match a with
    | 0 => show e + 1 ≤ 16; omega
    | 1 => show 0 + 768 ≤ 768; omega

omit hpre in
/-- A word of the table as the body loads it. -/
theorem tab_read (k : ℕ) (off : Fin 1 → ℕ) (ho : off = ![k]) (inb : ∀ a, off a + S1.size a ≤ S33.size a) (x : (Rect.unit (s := S33) off S1.size inb).toLoadRect.shape.Idx) :
    View.readAt (Elt F) (Memref.whole main_v1).view (Rect.unit (s := S33) off S1.size inb).toLoadRect (tabV m 0) x
      = BitVec.ofNat 32 (if k < 32 then beN (E m 0) k else used m) := by
  subst ho
  rw [View.readAt_apply]
  show tabV m 0 ((Rect.unit (s := S33) ![k] S1.size inb).toLoadRect.idx x) = _
  unfold tabV
  have e : ((Rect.unit (s := S33) ![k] S1.size inb).toLoadRect.idx x (0 : Fin 1)).val = k := by
    show k + 1 * (x (0 : Fin 1)).val = k
    have : (x (0 : Fin 1)).val < 1 := (x (0 : Fin 1)).isLt
    omega
  exact congrArg (fun n => BitVec.ofNat 32 (if n < 32 then beN (E m 0) n else usedN (E m 0))) e

omit hpre in
/-- Row `e` of a bias, as the body loads it. -/
def rowOf {n : ℕ} (X : (⟨2, ![16, n]⟩ : Shape).Idx → Elt F .f32) (e : ℕ) : (⟨2, ![1, n]⟩ : Shape).Idx → Elt F .f32 :=
  fun j => X (ix2 ⟨e % 16, Nat.mod_lt _ (by decide)⟩ (j 1))

omit hpre in
/-- A load of one row of a bias held whole. -/
theorem row_read {n : ℕ} (M : Memref sig .tc .vmem (⟨2, ![16, n]⟩ : Shape) .f32) (h : M.IsWhole) (X : (⟨2, ![16, n]⟩ : Shape).Idx → Elt F .f32)
    {off : Fin 2 → ℕ} {e : ℕ} (ho : off = ![e, 0]) (he : e < 16)
    (inb : ∀ a, off a + (![1, n] : Fin 2 → ℕ) a ≤ (⟨2, ![16, n]⟩ : Shape).size a) :
    View.readAt (Elt F) M.view (Rect.unit (s := (⟨2, ![16, n]⟩ : Shape)) off ![1, n] inb).toLoadRect (h.unread X) = rowOf X e := by
  subst ho
  funext y
  rw [View.readAt_apply, h.read_unread]
  unfold rowOf
  refine congrArg X (funext fun a => Fin.ext ?_)
  match a with
  | 0 =>
    show e + 1 * (y (0 : Fin 2)).val = e % 16
    have : (y (0 : Fin 2)).val < 1 := (y (0 : Fin 2)).isLt
    omega
  | 1 =>
    show 0 + 1 * (y (1 : Fin 2)).val = (y (1 : Fin 2)).val
    omega

omit hpre in
/-- A store of the whole result block leaves it at what was stored. -/
theorem store_read (M : Memref sig .tc .vmem S128x768 .f32) (h : M.IsWhole) (X w : S128x768.Idx → Elt F .f32)
    (inb : ∀ a, (![0, 0] : Fin 2 → ℕ) a + S128x768.size a ≤ S128x768.size a) :
    View.read (Elt F) M.view ((M.access (Rect.unit (s := S128x768) ![0, 0] S128x768.size inb)).write (Elt F) (h.unread X) w Finset.univ) = w := by
  exact View.read_writes_full M.view (h.unread X) inb w []

set_option maxHeartbeats 1000000 in
/-- The body at a point below the number of blocks in use: the result's buffer is left at the block's two layers. -/
theorem mlp_run_lt (i : grid1.Coords) (h : (i 0).val < used m)
    (M2 : Memref sig .tc .vmem S128x768 .f32) (h2 : M2.IsWhole) (M3 : Memref sig .tc .vmem S1x768x256 .f32) (h3 : M3.IsWhole)
    (M4 : Memref sig .tc .vmem S16x256 .f32) (h4 : M4.IsWhole) (M5 : Memref sig .tc .vmem S1x256x768 .f32) (h5 : M5.IsWhole)
    (M6 : Memref sig .tc .vmem S16x768 .f32) (h6 : M6.IsWhole) (M7 : Memref sig .tc .vmem S128x768 .f32) (h7 : M7.IsWhole)
    (X2 : S128x768.Idx → Elt F .f32) (X3 : S1x768x256.Idx → Elt F .f32) (X4 : S16x256.Idx → Elt F .f32) (X5 : S1x256x768.Idx → Elt F .f32)
    (X6 : S16x768.Idx → Elt F .f32) (X7 : S128x768.Idx → Elt F .f32) :
    iprop((tabLoc 0 ↦{fullShare} tabV m 0) ∗ owns (SparseCore.T 0) M2 fullShare X2 ∗ owns (SparseCore.T 0) M3 fullShare X3 ∗ owns (SparseCore.T 0) M4 fullShare X4
        ∗ owns (SparseCore.T 0) M5 fullShare X5 ∗ owns (SparseCore.T 0) M6 fullShare X6 ∗ owns (SparseCore.T 0) M7 fullShare X7 : sProp 𝕄)
      ⊢ wp frame (wpE (defs₀ (F := F)) 𝒱₀ (SparseCore.T (τ := τ) (0 : Dev nD)) none) Set.univ
          (cc1__mlp_body i (Memref.whole main_v1) (Memref.isWhole_whole _) M2 h2 M3 h3 M4 h4 M5 h5 M6 h6 M7 h7) fun _ =>
        iprop((tabLoc 0 ↦{fullShare} tabV m 0) ∗ owns (SparseCore.T 0) M2 fullShare X2 ∗ owns (SparseCore.T 0) M3 fullShare X3 ∗ owns (SparseCore.T 0) M4 fullShare X4
        ∗ owns (SparseCore.T 0) M5 fullShare X5 ∗ owns (SparseCore.T 0) M6 fullShare X6
        ∗ owns (SparseCore.T 0) M7 fullShare (k1_pay1 X2 X3 (rowOf X4 (beN (E m 0) (i 0).val)) X5 (rowOf X6 (beN (E m 0) (i 0).val)))) := by
  rw [cc1__mlp_body_eq_skeleton]
  unfold cc1__mlp_body_skel
  iintro ⟨Ht, H2, H3, H4, H5, H6, H7⟩
  ihave H2 := (LaneScatter.owns_raw _ _ h2 _) $$ H2
  ihave H3 := (LaneScatter.owns_raw _ _ h3 _) $$ H3
  ihave H4 := (LaneScatter.owns_raw _ _ h4 _) $$ H4
  ihave H5 := (LaneScatter.owns_raw _ _ h5 _) $$ H5
  ihave H6 := (LaneScatter.owns_raw _ _ h6 _) $$ H6
  ihave H7 := (LaneScatter.owns_raw _ _ h7 _) $$ H7
  unfold LaneScatter.raw
  ihave Ht := (Entails.of_eq (show (tabLoc 0 ↦{fullShare} tabV m 0 : sProp 𝕄) = ((Memref.whole main_v1).view.loc (SparseCore.T (τ := τ) (0 : Dev nD)) ↦{fullShare} tabV m 0) from rfl)) $$ Ht
  unfold smemLoad
  have e1 : ∀ x, View.readAt (Elt F) (Memref.whole main_v1).view (Rect.unit (s := S33) ![32] ![1] inb_S33_S1_32).toLoadRect (tabV m 0) x = BitVec.ofNat 32 (used m) :=
    fun x => (tab_read 32 _ rfl _ x).trans (by rw [if_neg (by decide)])
  have e2 : ∀ x, View.readAt (Elt F) (Memref.whole main_v1).view (Rect.unit (s := S33) (k1_off2 i) ![1] (k1_off2_inb i)).toLoadRect (tabV m 0) x = BitVec.ofNat 32 (beN (E m 0) (i 0).val) :=
    fun x => (tab_read (i 0).val _ (off2_eq i) _ x).trans (by rw [if_pos (icoord_lt i)])
  simp only [smemLoadElt, Prog.bind_op, Prog.bind_ret]
  sl_step
  generalize hw : View.readAt (Elt F) (Memref.whole main_v1).view (Rect.unit ![32] ![1] inb_S33_S1_32).toLoadRect (tabV m 0) (Shape.Idx.first _) = w0
  obtain rfl : w0 = BitVec.ofNat 32 (used m) := hw.symm.trans (e1 _)
  clear hw
  have he := beN_lt (E := E m 0) (i 0).val
  have hl2 : View.readAt (Elt F) M2.view (Rect.unit (s := S128x768) ![0, 0] S128x768.size inb_S128x768_S128x768_0_0).toLoadRect (h2.unread X2) = X2 := by
    rw [View.readAt_full, h2.read_unread]
  have hl3 : View.readAt (Elt F) M3.view (Rect.unit (s := S1x768x256) ![0, 0, 0] S1x768x256.size inb_S1x768x256_S1x768x256_0_0_0).toLoadRect (h3.unread X3) = X3 := by
    rw [View.readAt_full, h3.read_unread]
  have hl5 : View.readAt (Elt F) M5.view (Rect.unit (s := S1x256x768) ![0, 0, 0] S1x256x768.size inb_S1x256x768_S1x256x768_0_0_0).toLoadRect (h5.unread X5) = X5 := by
    rw [View.readAt_full, h5.read_unread]
  have hl4 := fun inb => row_read M4 h4 X4 (off3_word he) he inb
  have hl6 := fun inb => row_read M6 h6 X6 (off4_word he) he inb
  rw [dif_pos ((cond_word hpre i).2 h)]
  sl_step
  generalize hw : View.readAt (Elt F) (Memref.whole main_v1).view (Rect.unit (k1_off2 i) ![1] (k1_off2_inb i)).toLoadRect (tabV m 0) (Shape.Idx.first _) = w1
  obtain rfl : w1 = BitVec.ofNat 32 (beN (E m 0) (i 0).val) := hw.symm.trans (e2 _)
  clear hw
  iapply (wp_assume 𝒱₀ (SparseCore.T (τ := τ) (0 : Dev nD)) none Set.univ (chk_word i (BitVec.ofNat 32 (used m)) he))
  iapply (wp_load 𝒱₀ (SparseCore.T (τ := τ) (0 : Dev nD)) none Set.univ (m := M2) (S := M2.view.set) (View.setOn_subset_set _ _)) $$ H2; iintro H2
  rw [hl2]
  iapply (wp_load 𝒱₀ (SparseCore.T (τ := τ) (0 : Dev nD)) none Set.univ (m := M3) (S := M3.view.set) (View.setOn_subset_set _ _)) $$ H3; iintro H3
  rw [hl3]
  iapply (wp_load 𝒱₀ (SparseCore.T (τ := τ) (0 : Dev nD)) none Set.univ (m := M4) (S := M4.view.set) (View.setOn_subset_set _ _)) $$ H4; iintro H4
  rw [hl4]
  iapply (wp_load 𝒱₀ (SparseCore.T (τ := τ) (0 : Dev nD)) none Set.univ (m := M5) (S := M5.view.set) (View.setOn_subset_set _ _)) $$ H5; iintro H5
  rw [hl5]
  iapply (wp_load 𝒱₀ (SparseCore.T (τ := τ) (0 : Dev nD)) none Set.univ (m := M6) (S := M6.view.set) (View.setOn_subset_set _ _)) $$ H6; iintro H6
  rw [hl6]
  iapply (wp_load 𝒱₀ (SparseCore.T (τ := τ) (0 : Dev nD)) none Set.univ (m := M7) (S := M7.view.set) (View.setOn_subset_set _ _)) $$ H7; iintro H7
  iapply (wp_store 𝒱₀ (SparseCore.T (τ := τ) (0 : Dev nD)) none Set.univ (m := M7) (r := Rect.unit (s := S128x768) ![0, 0] S128x768.size inb_S128x768_S128x768_0_0) (Mk := Finset.univ) (S := M7.view.set) (View.set_slice_subset _ _)) $$ H7; iintro H7
  rw [show ∀ (β : Type) (k : PUnit → Prog (TpuEff nD τ sig (Elt F) Λ₀ .tc) β), (Prog.ret PUnit.unit).bind k = k PUnit.unit from fun _ _ => rfl]
  sl_step
  isplitl [Ht]; · iexact Ht
  isplitl [H2]; · iapply (LaneScatter.raw_owns _ M2 (h2.read_unread X2)); iexact H2
  isplitl [H3]; · iapply (LaneScatter.raw_owns _ M3 (h3.read_unread X3)); iexact H3
  isplitl [H4]; · iapply (LaneScatter.raw_owns _ M4 (h4.read_unread X4)); iexact H4
  isplitl [H5]; · iapply (LaneScatter.raw_owns _ M5 (h5.read_unread X5)); iexact H5
  isplitl [H6]; · iapply (LaneScatter.raw_owns _ M6 (h6.read_unread X6)); iexact H6
  iapply (LaneScatter.raw_owns _ M7 (store_read M7 h7 X7 (k1_pay1 X2 X3 (rowOf X4 (beN (E m 0) (i 0).val)) X5 (rowOf X6 (beN (E m 0) (i 0).val))) inb_S128x768_S128x768_0_0)); iexact H7

set_option maxHeartbeats 1000000 in
/-- The body at a point past the blocks in use: nothing is stored. -/
theorem mlp_run_ge (i : grid1.Coords) (h : ¬ (i 0).val < used m)
    (M2 : Memref sig .tc .vmem S128x768 .f32) (h2 : M2.IsWhole) (M3 : Memref sig .tc .vmem S1x768x256 .f32) (h3 : M3.IsWhole)
    (M4 : Memref sig .tc .vmem S16x256 .f32) (h4 : M4.IsWhole) (M5 : Memref sig .tc .vmem S1x256x768 .f32) (h5 : M5.IsWhole)
    (M6 : Memref sig .tc .vmem S16x768 .f32) (h6 : M6.IsWhole) (M7 : Memref sig .tc .vmem S128x768 .f32) (h7 : M7.IsWhole)
    (X2 : S128x768.Idx → Elt F .f32) (X3 : S1x768x256.Idx → Elt F .f32) (X4 : S16x256.Idx → Elt F .f32) (X5 : S1x256x768.Idx → Elt F .f32)
    (X6 : S16x768.Idx → Elt F .f32) (X7 : S128x768.Idx → Elt F .f32) :
    iprop((tabLoc 0 ↦{fullShare} tabV m 0) ∗ owns (SparseCore.T 0) M2 fullShare X2 ∗ owns (SparseCore.T 0) M3 fullShare X3 ∗ owns (SparseCore.T 0) M4 fullShare X4
        ∗ owns (SparseCore.T 0) M5 fullShare X5 ∗ owns (SparseCore.T 0) M6 fullShare X6 ∗ owns (SparseCore.T 0) M7 fullShare X7 : sProp 𝕄)
      ⊢ wp frame (wpE (defs₀ (F := F)) 𝒱₀ (SparseCore.T (τ := τ) (0 : Dev nD)) none) Set.univ
          (cc1__mlp_body i (Memref.whole main_v1) (Memref.isWhole_whole _) M2 h2 M3 h3 M4 h4 M5 h5 M6 h6 M7 h7) fun _ =>
        iprop((tabLoc 0 ↦{fullShare} tabV m 0) ∗ owns (SparseCore.T 0) M2 fullShare X2 ∗ owns (SparseCore.T 0) M3 fullShare X3 ∗ owns (SparseCore.T 0) M4 fullShare X4
        ∗ owns (SparseCore.T 0) M5 fullShare X5 ∗ owns (SparseCore.T 0) M6 fullShare X6
        ∗ owns (SparseCore.T 0) M7 fullShare X7) := by
  rw [cc1__mlp_body_eq_skeleton]
  unfold cc1__mlp_body_skel
  iintro ⟨Ht, H2, H3, H4, H5, H6, H7⟩
  ihave H2 := (LaneScatter.owns_raw _ _ h2 _) $$ H2
  ihave H3 := (LaneScatter.owns_raw _ _ h3 _) $$ H3
  ihave H4 := (LaneScatter.owns_raw _ _ h4 _) $$ H4
  ihave H5 := (LaneScatter.owns_raw _ _ h5 _) $$ H5
  ihave H6 := (LaneScatter.owns_raw _ _ h6 _) $$ H6
  ihave H7 := (LaneScatter.owns_raw _ _ h7 _) $$ H7
  unfold LaneScatter.raw
  ihave Ht := (Entails.of_eq (show (tabLoc 0 ↦{fullShare} tabV m 0 : sProp 𝕄) = ((Memref.whole main_v1).view.loc (SparseCore.T (τ := τ) (0 : Dev nD)) ↦{fullShare} tabV m 0) from rfl)) $$ Ht
  unfold smemLoad
  have e1 : ∀ x, View.readAt (Elt F) (Memref.whole main_v1).view (Rect.unit (s := S33) ![32] ![1] inb_S33_S1_32).toLoadRect (tabV m 0) x = BitVec.ofNat 32 (used m) :=
    fun x => (tab_read 32 _ rfl _ x).trans (by rw [if_neg (by decide)])
  simp only [smemLoadElt, Prog.bind_op, Prog.bind_ret]
  sl_step
  generalize hw : View.readAt (Elt F) (Memref.whole main_v1).view (Rect.unit ![32] ![1] inb_S33_S1_32).toLoadRect (tabV m 0) (Shape.Idx.first _) = w0
  obtain rfl : w0 = BitVec.ofNat 32 (used m) := hw.symm.trans (e1 _)
  clear hw
  rw [dif_neg (mt (cond_word hpre i).1 h)]
  sl_exec
  sl_step
  isplitl [Ht]; · iexact Ht
  isplitl [H2]; · iapply (LaneScatter.raw_owns _ M2 (h2.read_unread X2)); iexact H2
  isplitl [H3]; · iapply (LaneScatter.raw_owns _ M3 (h3.read_unread X3)); iexact H3
  isplitl [H4]; · iapply (LaneScatter.raw_owns _ M4 (h4.read_unread X4)); iexact H4
  isplitl [H5]; · iapply (LaneScatter.raw_owns _ M5 (h5.read_unread X5)); iexact H5
  isplitl [H6]; · iapply (LaneScatter.raw_owns _ M6 (h6.read_unread X6)); iexact H6
  iapply (LaneScatter.raw_owns _ M7 (h7.read_unread X7)); iexact H7

end Cert.Proof.Route

end
-- ==== Proof.Mlp.lean ====
/-
  The expert layer's call on the TensorCore as a region: its windows' blocks at the table that the routing kernel computes,
  what the buffers hold at every grid point, and what the layer's result holds once all points have run.
-/
module

public import proofs.«01_k».proof.Proof.MlpBody
public import proofs.«01_k».proof.Proof.Gen.KernelIdeal.Launch
public import Idealize.ShloMosaic.Lib.Pipeline.FrameBody
public import Idealize.ShloMosaic.Lib.Pipeline.Value
public import Idealize.ShloMosaic.Lib.Pipeline.Covers
public import Idealize.ShloMosaic.Lib.Pipeline.Regions

@[expose] public section

noncomputable section

namespace Cert.Proof.Route

open Cert.KernelIdeal Cert.KernelIdeal.Gen

open Idealize.ShloMosaic
open Idealize.SL Idealize.SL.RA Idealize.SL.BI
open scoped Idealize.SL.BI
open Idealize.SL.BI.BIBase Idealize.SL.BI.Laws Idealize.SL.ProofMode Idealize.SL.Sem
open Idealize.ShloMosaic.SparseCore.Cfg (HIx)
open Idealize.ShloMosaic.Tactic
open Idealize.ShloMosaic.ValueIdx (ix1 ix2 ix3)

variable {F : FTy → Type} [FloatOps F]

local notation "𝕄" => MT nD τ sig (HIx 2) (Elt F) ℕ UU ℕ

variable {m : (ℓ : Loc nD τ sig) → Buf (Elt F) ℓ} (hpre : PreOK m)
include hpre

/-- The table is admissible. -/
def adm : (p : Fin 1) → (pcfgs (F := F) p).Adm := fun _ => ⟨tabC m, tab_ok hpre⟩

/-- The call's pipeline at the table. -/
abbrev cf : Pipeline.Cfg sig Λ₀ := Pipeline.pin (pcfgs (F := F)) (adm hpre) 0

omit hpre in
theorem coord_val (t : Fin grid1.N) : (grid1.coords t 0).val = t.val := by
  have h : t.val < 32 := t.isLt.trans_eq N_1
  have hs : grid1.stride 0 = 1 := by decide
  show t.val / grid1.stride 0 % 32 = t.val
  rw [hs]; omega

theorem index0 (t : Fin (cf hpre).N) : ((cf hpre).win 0).index t = ![min t.val (used m - 1), 0] :=
  (tr0_eq hpre (grid1.coords t)).trans (by rw [coord_val])
theorem index1 (t : Fin (cf hpre).N) : ((cf hpre).win 1).index t = ![beN (E m 0) t.val, 0, 0] :=
  (tr1_eq (grid1.coords t)).trans (by rw [coord_val])
theorem index3 (t : Fin (cf hpre).N) : ((cf hpre).win 3).index t = ![beN (E m 0) t.val, 0, 0] :=
  (tr3_eq (grid1.coords t)).trans (by rw [coord_val])
theorem index5 (t : Fin (cf hpre).N) : ((cf hpre).win 5).index t = ![min t.val (used m - 1), 0] :=
  (tr5_eq hpre (grid1.coords t)).trans (by rw [coord_val])

/-- The block of the sorted array that point `t` works on. -/
abbrev blkN (m : (ℓ : Loc nD τ sig) → Buf (Elt F) ℓ) (t : ℕ) : ℕ := min t (used m - 1)

/-- The proof data: the arrays as the routing kernel left them; after each point the inputs as fetched and the result's
    block computed; the table held throughout; the launch's dues owed throughout. -/
def pdat (c : Dev nD) : Pipeline.Dat τ (Elt F) (HIx 2) ℕ UU ℕ (cf hpre) c where
  A w := match w with
    | ⟨0, _⟩ => xsV m c
    | ⟨1, _⟩ => m (w1Loc c)
    | ⟨2, _⟩ => m (b1Loc c)
    | ⟨3, _⟩ => m (w2Loc c)
    | ⟨4, _⟩ => m (b2Loc c)
    | ⟨5, _⟩ => m (ysLoc c)
  after w t := match w with
    | ⟨0, _⟩ => xsBlk m c (blkN m t.val)
    | ⟨1, _⟩ => w1Blk m c (beN (E m 0) t.val)
    | ⟨2, _⟩ => m (b1Loc c)
    | ⟨3, _⟩ => w2Blk m c (beN (E m 0) t.val)
    | ⟨4, _⟩ => m (b2Loc c)
    | ⟨5, _⟩ => mlpBlk m c (blkN m t.val)
  Φ _ := Pipeline.prefHeld pre1 c (fun _ => fullShare) (tabC m)
  q _ := fullShare
  owed _ := (K (F := F)).Otc c 1
  recorded _ := {p | (K (F := F)).lev (SparseCore.T c, p.1) p.2 ≤ 8}

theorem blkN_lt (t : ℕ) : blkN m t < used m := by
  have := used_pos hpre
  show min t (used m - 1) < used m
  omega

/-! ## Where a block's element sits in its array -/

theorem emb0 (t : Fin (cf hpre).N) (y : S128x768.Idx) : (((cf hpre).win 0).rect t).emb y
    = (ix2 ⟨(128 * blkN m t.val + (y (0 : Fin 2)).val) % 4096, Nat.mod_lt _ (by decide)⟩ (y 1) : S4096x768.Idx) := by
  have h2 := used_le hpre; have hb := blkN_lt hpre t.val
  have hy : (y (0 : Fin 2)).val < 128 := (y (0 : Fin 2)).isLt
  have e0 : ((((cf hpre).win 0).rect t).emb y (0 : Fin 2)).val = blkN m t.val * 128 + (y (0 : Fin 2)).val :=
    (Pipeline.Window.rect_emb_val ((cf hpre).win 0) t y (0 : Fin 2)).trans (by rw [index0]; rfl)
  have e1 : ((((cf hpre).win 0).rect t).emb y (1 : Fin 2)).val = 0 * 768 + (y (1 : Fin 2)).val :=
    (Pipeline.Window.rect_emb_val ((cf hpre).win 0) t y (1 : Fin 2)).trans (by rw [index0]; rfl)
  refine funext fun (a : Fin 2) => Fin.ext ?_
  match a with
  | 0 => exact e0.trans (show blkN m t.val * 128 + (y (0 : Fin 2)).val = (128 * blkN m t.val + (y (0 : Fin 2)).val) % 4096 by omega)
  | 1 => exact e1.trans (show 0 * 768 + (y (1 : Fin 2)).val = (y (1 : Fin 2)).val by omega)

theorem emb5 (t : Fin (cf hpre).N) (y : S128x768.Idx) : (((cf hpre).win 5).rect t).emb y
    = (ix2 ⟨(128 * blkN m t.val + (y (0 : Fin 2)).val) % 4096, Nat.mod_lt _ (by decide)⟩ (y 1) : S4096x768.Idx) := by
  have h2 := used_le hpre; have hb := blkN_lt hpre t.val
  have hy : (y (0 : Fin 2)).val < 128 := (y (0 : Fin 2)).isLt
  have e0 : ((((cf hpre).win 5).rect t).emb y (0 : Fin 2)).val = blkN m t.val * 128 + (y (0 : Fin 2)).val :=
    (Pipeline.Window.rect_emb_val ((cf hpre).win 5) t y (0 : Fin 2)).trans (by rw [index5]; rfl)
  have e1 : ((((cf hpre).win 5).rect t).emb y (1 : Fin 2)).val = 0 * 768 + (y (1 : Fin 2)).val :=
    (Pipeline.Window.rect_emb_val ((cf hpre).win 5) t y (1 : Fin 2)).trans (by rw [index5]; rfl)
  refine funext fun (a : Fin 2) => Fin.ext ?_
  match a with
  | 0 => exact e0.trans (show blkN m t.val * 128 + (y (0 : Fin 2)).val = (128 * blkN m t.val + (y (0 : Fin 2)).val) % 4096 by omega)
  | 1 => exact e1.trans (show 0 * 768 + (y (1 : Fin 2)).val = (y (1 : Fin 2)).val by omega)

theorem emb1 (t : Fin (cf hpre).N) (y : S1x768x256.Idx) : (((cf hpre).win 1).rect t).emb y
    = (ix3 ⟨beN (E m 0) t.val % 16, Nat.mod_lt _ (by decide)⟩ (y 1) (y 2) : S16x768x256.Idx) := by
  have he := beN_lt (E := E m 0) t.val
  have hy : (y (0 : Fin 3)).val < 1 := (y (0 : Fin 3)).isLt
  have e0 : ((((cf hpre).win 1).rect t).emb y (0 : Fin 3)).val = beN (E m 0) t.val * 1 + (y (0 : Fin 3)).val :=
    (Pipeline.Window.rect_emb_val ((cf hpre).win 1) t y (0 : Fin 3)).trans (by rw [index1]; rfl)
  have e1 : ((((cf hpre).win 1).rect t).emb y (1 : Fin 3)).val = 0 * 768 + (y (1 : Fin 3)).val :=
    (Pipeline.Window.rect_emb_val ((cf hpre).win 1) t y (1 : Fin 3)).trans (by rw [index1]; rfl)
  have e2 : ((((cf hpre).win 1).rect t).emb y (2 : Fin 3)).val = 0 * 256 + (y (2 : Fin 3)).val :=
    (Pipeline.Window.rect_emb_val ((cf hpre).win 1) t y (2 : Fin 3)).trans (by rw [index1]; rfl)
  refine funext fun (a : Fin 3) => Fin.ext ?_
  match a with
  | 0 => exact e0.trans (show beN (E m 0) t.val * 1 + (y (0 : Fin 3)).val = beN (E m 0) t.val % 16 by omega)
  | 1 => exact e1.trans (show 0 * 768 + (y (1 : Fin 3)).val = (y (1 : Fin 3)).val by omega)
  | 2 => exact e2.trans (show 0 * 256 + (y (2 : Fin 3)).val = (y (2 : Fin 3)).val by omega)

theorem emb3 (t : Fin (cf hpre).N) (y : S1x256x768.Idx) : (((cf hpre).win 3).rect t).emb y
    = (ix3 ⟨beN (E m 0) t.val % 16, Nat.mod_lt _ (by decide)⟩ (y 1) (y 2) : S16x256x768.Idx) := by
  have he := beN_lt (E := E m 0) t.val
  have hy : (y (0 : Fin 3)).val < 1 := (y (0 : Fin 3)).isLt
  have e0 : ((((cf hpre).win 3).rect t).emb y (0 : Fin 3)).val = beN (E m 0) t.val * 1 + (y (0 : Fin 3)).val :=
    (Pipeline.Window.rect_emb_val ((cf hpre).win 3) t y (0 : Fin 3)).trans (by rw [index3]; rfl)
  have e1 : ((((cf hpre).win 3).rect t).emb y (1 : Fin 3)).val = 0 * 256 + (y (1 : Fin 3)).val :=
    (Pipeline.Window.rect_emb_val ((cf hpre).win 3) t y (1 : Fin 3)).trans (by rw [index3]; rfl)
  have e2 : ((((cf hpre).win 3).rect t).emb y (2 : Fin 3)).val = 0 * 768 + (y (2 : Fin 3)).val :=
    (Pipeline.Window.rect_emb_val ((cf hpre).win 3) t y (2 : Fin 3)).trans (by rw [index3]; rfl)
  refine funext fun (a : Fin 3) => Fin.ext ?_
  match a with
  | 0 => exact e0.trans (show beN (E m 0) t.val * 1 + (y (0 : Fin 3)).val = beN (E m 0) t.val % 16 by omega)
  | 1 => exact e1.trans (show 0 * 256 + (y (1 : Fin 3)).val = (y (1 : Fin 3)).val by omega)
  | 2 => exact e2.trans (show 0 * 768 + (y (2 : Fin 3)).val = (y (2 : Fin 3)).val by omega)

theorem emb2 (t : Fin (cf hpre).N) (y : S16x256.Idx) : (((cf hpre).win 2).rect t).emb y = y := by
  refine funext fun (a : Fin 2) => Fin.ext ?_
  match a with
  | 0 => exact (Pipeline.Window.rect_emb_val_of_index_zero ((cf hpre).win 2) t (0 : Fin 2) rfl y)
  | 1 => exact (Pipeline.Window.rect_emb_val_of_index_zero ((cf hpre).win 2) t (1 : Fin 2) rfl y)

theorem emb4 (t : Fin (cf hpre).N) (y : S16x768.Idx) : (((cf hpre).win 4).rect t).emb y = y := by
  refine funext fun (a : Fin 2) => Fin.ext ?_
  match a with
  | 0 => exact (Pipeline.Window.rect_emb_val_of_index_zero ((cf hpre).win 4) t (0 : Fin 2) rfl y)
  | 1 => exact (Pipeline.Window.rect_emb_val_of_index_zero ((cf hpre).win 4) t (1 : Fin 2) rfl y)

/-! ## The inputs' blocks -/

theorem block0 (t : Fin (cf hpre).N) : (pdat hpre 0).blockOf 0 t = xsBlk m 0 (blkN m t.val) :=
  funext fun y => congrArg (xsV m 0) (emb0 hpre t y)
theorem block1 (t : Fin (cf hpre).N) : (pdat hpre 0).blockOf 1 t = w1Blk m 0 (beN (E m 0) t.val) :=
  funext fun y => congrArg (m (w1Loc 0)) (emb1 hpre t y)
theorem block2 (t : Fin (cf hpre).N) : (pdat hpre 0).blockOf 2 t = m (b1Loc 0) :=
  funext fun y => congrArg (m (b1Loc 0)) (emb2 hpre t y)
theorem block3 (t : Fin (cf hpre).N) : (pdat hpre 0).blockOf 3 t = w2Blk m 0 (beN (E m 0) t.val) :=
  funext fun y => congrArg (m (w2Loc 0)) (emb3 hpre t y)
theorem block4 (t : Fin (cf hpre).N) : (pdat hpre 0).blockOf 4 t = m (b2Loc 0) :=
  funext fun y => congrArg (m (b2Loc 0)) (emb4 hpre t y)

theorem before0 (t : Fin (cf hpre).N) (d) : (pdat hpre 0).before 0 t d = xsBlk m 0 (blkN m t.val) :=
  ((pdat hpre 0).before_in_eq_fetched 0 rfl (fun _ => rfl) (fun _ _ _ => rfl) (fun t => (block0 hpre t).symm) t d).trans (block0 hpre t)
theorem before1 (t : Fin (cf hpre).N) (d) : (pdat hpre 0).before 1 t d = w1Blk m 0 (beN (E m 0) t.val) :=
  ((pdat hpre 0).before_in_eq_fetched 1 rfl (fun _ => rfl) (fun _ _ _ => rfl) (fun t => (block1 hpre t).symm) t d).trans (block1 hpre t)
theorem before2 (t : Fin (cf hpre).N) (d) : (pdat hpre 0).before 2 t d = m (b1Loc 0) :=
  ((pdat hpre 0).before_in_eq_fetched 2 rfl (fun _ => rfl) (fun _ _ _ => rfl) (fun t => (block2 hpre t).symm) t d).trans (block2 hpre t)
theorem before3 (t : Fin (cf hpre).N) (d) : (pdat hpre 0).before 3 t d = w2Blk m 0 (beN (E m 0) t.val) :=
  ((pdat hpre 0).before_in_eq_fetched 3 rfl (fun _ => rfl) (fun _ _ _ => rfl) (fun t => (block3 hpre t).symm) t d).trans (block3 hpre t)
theorem before4 (t : Fin (cf hpre).N) (d) : (pdat hpre 0).before 4 t d = m (b2Loc 0) :=
  ((pdat hpre 0).before_in_eq_fetched 4 rfl (fun _ => rfl) (fun _ _ _ => rfl) (fun t => (block4 hpre t).symm) t d).trans (block4 hpre t)

/-! ## The result's block -/

omit hpre in
theorem tabC_zero : tabC m 0 = tabV m 0 := rfl

omit hpre in
theorem tabC_used : (tabC m).atD 0 ![32] = BitVec.ofNat 32 (used m) := by
  unfold Pipeline.Prefetch.Contents.atD
  rw [dif_pos (by decide), tabC_zero]
  unfold tabV
  exact congrArg _ (if_neg (Nat.lt_irrefl 32))

omit m hpre in
/-- The idle steps of the last window are those on which the guard of the body fails. -/
theorem idle_pin (a : (p : Fin 1) → (pcfgs (F := F) p).Adm) (i : (Pipeline.pin pcfgs a 0).grid.Coords) :
    (Pipeline.pin pcfgs a 0).idle 5 i = !(k1_cond1 i ((a 0).1.atD 0 ![32]) == 1#1) := (rfl)

omit hpre in
theorem not_beq_decide (w : BitVec 1) (p : Prop) [Decidable p] (h : w = 1#1 ↔ p) : (!(w == 1#1)) = !decide p := by
  congr 1
  rw [Bool.eq_iff_iff, beq_iff_eq, decide_eq_true_iff]
  exact h

theorem cond_coord (t : Fin grid1.N) :
    k1_cond1 (grid1.coords t) (BitVec.ofNat 32 (used m)) = 1#1 ↔ t.val < used m := by
  have h := cond_word hpre (grid1.coords t)
  rwa [coord_val t] at h

theorem idle5 (t : Fin (cf hpre).N) : (cf hpre).idle 5 ((cf hpre).grid.coords t) = !decide (t.val < used m) :=
  (idle_pin (adm hpre) _).trans ((congrArg (fun w => !(k1_cond1 (grid1.coords t) w == 1#1)) (tabC_used (m := m))).trans
    (not_beq_decide _ _ (cond_coord hpre t)))

theorem flush5 (t : Fin (cf hpre).N) (h1 : used m - 1 ≤ t.val) (h2 : t.val + 1 < 32) : ((cf hpre).win 5).flush t = false := by
  unfold Pipeline.Window.flush
  have hN : (cf hpre).grid.N = 32 := N_1
  have hm : min (t.val + 1) (used m - 1) = min t.val (used m - 1) := by omega
  have e : ∀ h : t.val + 1 < (cf hpre).grid.N, ((cf hpre).win 5).index ⟨t.val + 1, h⟩ = ((cf hpre).win 5).index t := fun h =>
    (index5 hpre ⟨t.val + 1, h⟩).trans ((congrArg (fun n => (![n, 0] : Fin 2 → ℕ)) hm).trans (index5 hpre t).symm)
  rw [Bool.and_eq_false_iff]
  right
  rw [Bool.or_eq_false_iff]
  refine ⟨decide_eq_false (by omega), decide_eq_false ?_⟩
  rintro ⟨h, hne⟩
  exact hne (e h)

/-- Past the last block in use the buffer keeps that block's result. -/
theorem before5 (d) : ∀ (n : ℕ) (h : n < (cf hpre).N), used m ≤ n → (pdat hpre 0).before 5 ⟨n, h⟩ d = mlpBlk m 0 (used m - 1) := by
  intro n
  induction n with
  | zero => intro h hu; have := used_pos hpre; omega
  | succ n ih =>
    intro h hu
    have hN : (cf hpre).N = 32 := N_1
    have hpos := used_pos hpre
    rw [Pipeline.Dat.before_of_pos _ _ _ (Nat.succ_ne_zero n) (Pipeline.Window.fetch_out _ rfl _)]
    have e : (⟨(⟨n + 1, h⟩ : Fin (cf hpre).N).val - 1, Nat.lt_of_le_of_lt (Nat.sub_le _ _) h⟩ : Fin (cf hpre).N) = ⟨n, by omega⟩ := Fin.ext rfl
    rw [e, flush5 hpre ⟨n, by omega⟩ (by show used m - 1 ≤ n; omega) (by show n + 1 < 32; omega), if_neg Bool.false_ne_true]
    unfold Pipeline.Dat.left
    rw [idle5]
    rcases Nat.lt_or_ge n (used m) with hn | hn
    · rw [decide_eq_true hn]
      show mlpBlk m 0 (min n (used m - 1)) = _
      congr 1
      omega
    · rw [decide_eq_false (Nat.not_lt.2 hn)]
      exact ih (by omega) (by omega)

theorem ys_block (t : Fin (cf hpre).N) (y : S128x768.Idx) : mlpBlk m 0 (blkN m t.val) y
    = ysV m 0 (ix2 ⟨(128 * blkN m t.val + (y (0 : Fin 2)).val) % 4096, Nat.mod_lt _ (by decide)⟩ (y 1)) := by
  have h2 := used_le hpre; have hb := blkN_lt hpre t.val
  have hy : (y (0 : Fin 2)).val < 128 := (y (0 : Fin 2)).isLt
  have hq : (128 * blkN m t.val + (y (0 : Fin 2)).val) % 4096 / 128 = blkN m t.val := by omega
  have hr : (128 * blkN m t.val + (y (0 : Fin 2)).val) % 4096 % 128 = (y (0 : Fin 2)).val := by omega
  unfold ysV
  show _ = if (128 * blkN m t.val + (y (0 : Fin 2)).val) % 4096 / 128 < used m then
    mlpBlk m 0 ((128 * blkN m t.val + (y (0 : Fin 2)).val) % 4096 / 128)
      (ix2 ⟨(128 * blkN m t.val + (y (0 : Fin 2)).val) % 4096 % 128, Nat.mod_lt _ (by decide)⟩ (y 1)) else _
  rw [if_pos (by rw [hq]; omega), hq]
  refine congrArg _ (funext fun (a : Fin 2) => ?_)
  match a with
  | 0 => exact Fin.ext hr.symm
  | 1 => rfl

theorem covered (i : S4096x768.Idx) (h : (i (0 : Fin 2)).val / 128 < used m) :
    ∃ t, ((cf hpre).win 5).flush t = true ∧ i ∈ (((cf hpre).win 5).blk t).view.set := by
  have h2 := used_le hpre
  have hN : (cf hpre).grid.N = 32 := N_1
  have hN' : (cf hpre).N = 32 := N_1
  have hi : (i (0 : Fin 2)).val < 4096 := (i (0 : Fin 2)).isLt
  obtain ⟨t, -, hf, hix⟩ := Pipeline.Window.exists_flush_same_index ((cf hpre).win 5) rfl ⟨(i (0 : Fin 2)).val / 128, by omega⟩
  refine ⟨t, hf, ?_⟩
  have hb : blkN m t.val = (i (0 : Fin 2)).val / 128 := by
    have e := (index5 hpre t).symm.trans (hix.trans (index5 hpre ⟨(i (0 : Fin 2)).val / 128, by omega⟩))
    have e' : blkN m t.val = min ((i (0 : Fin 2)).val / 128) (used m - 1) := congrFun e (0 : Fin 2)
    omega
  refine Finset.mem_map.mpr ⟨(ix2 ⟨(i (0 : Fin 2)).val % 128, Nat.mod_lt _ (by decide)⟩ (i 1) : S128x768.Idx), Finset.mem_univ _, ?_⟩
  refine (emb5 hpre t _).trans (funext fun (a : Fin 2) => Fin.ext ?_)
  match a with
  | 0 =>
    show (128 * blkN m t.val + (i (0 : Fin 2)).val % 128) % 4096 = (i (0 : Fin 2)).val
    rw [hb]; omega
  | 1 => rfl

theorem flushed5 (t : Fin (cf hpre).N) : (pdat hpre 0).flushed 5 t = mlpBlk m 0 (blkN m t.val) := rfl

theorem read5 (t : Fin (cf hpre).N) : (((cf hpre).win 5).blk t).view.read (Elt F) (ysV m 0) = mlpBlk m 0 (blkN m t.val) := by
  have key : ∀ f : S4096x768.Idx → Elt F .f32, (∀ y : S128x768.Idx, mlpBlk m 0 (blkN m t.val) y
      = f (ix2 ⟨(128 * blkN m t.val + (y (0 : Fin 2)).val) % 4096, Nat.mod_lt _ (by decide)⟩ (y 1))) →
      (((cf hpre).win 5).blk t).view.read (Elt F) f = mlpBlk m 0 (blkN m t.val) :=
    fun f hf => funext fun y => (congrArg f (emb5 hpre t y)).trans (hf y).symm
  exact key _ (ys_block hpre t)

theorem A5 : (pdat hpre 0).A 5 = m (ysLoc 0) := rfl

theorem ys_past (i : S4096x768.Idx) (h : ¬ (i (0 : Fin 2)).val / 128 < used m) : m (ysLoc 0) i = ysV m 0 i := by
  unfold ysV
  exact (if_neg h).symm

/-- What the last call reads: the computed blocks, and past them the array as it was. -/
theorem final5 : (pdat hpre 0).arrAt 5 (cf hpre).N = ysV m 0 := by
  funext i
  rw [Pipeline.Dat.arrAt_eq_piecewise (pdat hpre 0) 5 (ysV m 0) (fun t _ => (flushed5 hpre t).trans (read5 hpre t).symm) i]
  exact ite_eq_left_iff.mpr fun hne => ys_past hpre i fun hlt => hne (covered hpre i hlt)

end Cert.Proof.Route

end
-- ==== Proof.Region.lean ====
/-
  The expert layer's call runs: its body at every grid point, and the call as a whole from the sorted array, the weights
  and the table to the layer's result.
-/
module

public import proofs.«01_k».proof.Proof.Mlp

@[expose] public section

noncomputable section

namespace Cert.Proof.Route

open Cert.KernelIdeal Cert.KernelIdeal.Gen

open Idealize.ShloMosaic
open Idealize.SL Idealize.SL.RA Idealize.SL.BI
open scoped Idealize.SL.BI
open Idealize.SL.BI.BIBase Idealize.SL.BI.Laws Idealize.SL.ProofMode Idealize.SL.Sem
open Idealize.ShloMosaic.SparseCore.Cfg (HIx)
open Idealize.ShloMosaic.Tactic
open Idealize.ShloMosaic.ValueIdx (ix1 ix2 ix3)

variable {F : FTy → Type} [FloatOps F]

local notation "𝕄" => MT nD τ sig (HIx 2) (Elt F) ℕ UU ℕ

attribute [local irreducible] usedN beN posN

variable {m : (ℓ : Loc nD τ sig) → Buf (Elt F) ℓ} (hpre : PreOK m)
include hpre

/-! ## The body at a grid point -/

/-- Window `w`'s buffer at point `t`, holding `X`. -/
abbrev at_ (t : Fin (cf hpre).N) (w : Fin (cf hpre).W) (X : ((cf hpre).win w).block.Idx → Elt F ((cf hpre).win w).elt) : sProp 𝕄 :=
  owns (SparseCore.T (0 : Dev nD)) (((cf hpre).win w).stage ((cf hpre).slots t w)) fullShare X

/-- The table held. -/
abbrev tabH (m : (ℓ : Loc nD τ sig) → Buf (Elt F) ℓ) (c : Dev nD) : sProp 𝕄 := tabLoc c ↦{fullShare} tabV m c

/-- The body at point `t`, from the inputs as fetched and the result's buffer at `X`, to that buffer at `Y`. -/
def Steps (t : Fin (cf hpre).N) (X Y : S128x768.Idx → Elt F .f32) : Prop :=
  iprop(tabH m 0 ∗ at_ hpre t 0 (xsBlk m 0 (blkN m t.val)) ∗ at_ hpre t 1 (w1Blk m 0 (beN (E m 0) t.val)) ∗ at_ hpre t 2 (m (b1Loc 0))
      ∗ at_ hpre t 3 (w2Blk m 0 (beN (E m 0) t.val)) ∗ at_ hpre t 4 (m (b2Loc 0)) ∗ at_ hpre t 5 X)
    ⊢ wp frame (wpE (defs₀ (F := F)) 𝒱₀ (SparseCore.T (τ := τ) (0 : Dev nD)) none) Set.univ
        (defs₀ .tc (cf hpre).body ((cf hpre).bodyArgs t ((cf hpre).slots t))) fun _ =>
      iprop(tabH m 0 ∗ at_ hpre t 0 (xsBlk m 0 (blkN m t.val)) ∗ at_ hpre t 1 (w1Blk m 0 (beN (E m 0) t.val)) ∗ at_ hpre t 2 (m (b1Loc 0))
        ∗ at_ hpre t 3 (w2Blk m 0 (beN (E m 0) t.val)) ∗ at_ hpre t 4 (m (b2Loc 0)) ∗ at_ hpre t 5 Y)

theorem steps_lt (t : Fin (cf hpre).N) (h : t.val < used m) (X) : Steps hpre t X (mlpBlk m 0 (blkN m t.val)) := by
  have hb : blkN m t.val = t.val := by show min t.val (used m - 1) = t.val; omega
  have hc : (grid1.coords t 0).val = t.val := coord_val t
  have e := mlp_run_lt hpre (grid1.coords t) (by rw [hc]; exact h) _ (hstage1_0 (((cf hpre).slots t 0).cast nbuf1_0)) _ (hstage1_1 (((cf hpre).slots t 1).cast nbuf1_1))
    _ (hstage1_2 (((cf hpre).slots t 2).cast nbuf1_2)) _ (hstage1_3 (((cf hpre).slots t 3).cast nbuf1_3)) _ (hstage1_4 (((cf hpre).slots t 4).cast nbuf1_4))
    _ (hstage1_5 (((cf hpre).slots t 5).cast nbuf1_5)) (xsBlk m 0 (blkN m t.val)) (w1Blk m 0 (beN (E m 0) t.val)) (m (b1Loc 0)) (w2Blk m 0 (beN (E m 0) t.val)) (m (b2Loc 0)) X
  rw [hc] at e
  have hv : mlpBlk m 0 (blkN m t.val) = k1_pay1 (xsBlk m 0 (blkN m t.val)) (w1Blk m 0 (beN (E m 0) t.val)) (rowOf (m (b1Loc 0)) (beN (E m 0) t.val))
      (w2Blk m 0 (beN (E m 0) t.val)) (rowOf (m (b2Loc 0)) (beN (E m 0) t.val)) := by
    rw [hb]; rfl
  rw [hv]
  exact e

theorem steps_ge (t : Fin (cf hpre).N) (h : ¬ t.val < used m) (X) : Steps hpre t X X := by
  have hc : (grid1.coords t 0).val = t.val := coord_val t
  exact mlp_run_ge hpre (grid1.coords t) (by rw [hc]; exact h) _ (hstage1_0 (((cf hpre).slots t 0).cast nbuf1_0)) _ (hstage1_1 (((cf hpre).slots t 1).cast nbuf1_1))
    _ (hstage1_2 (((cf hpre).slots t 2).cast nbuf1_2)) _ (hstage1_3 (((cf hpre).slots t 3).cast nbuf1_3)) _ (hstage1_4 (((cf hpre).slots t 4).cast nbuf1_4))
    _ (hstage1_5 (((cf hpre).slots t 5).cast nbuf1_5)) (xsBlk m 0 (blkN m t.val)) (w1Blk m 0 (beN (E m 0) t.val)) (m (b1Loc 0)) (w2Blk m 0 (beN (E m 0) t.val)) (m (b2Loc 0)) X

omit m hpre in
theorem not_decide_of {p : Prop} [Decidable p] (h : p) : (!decide p) = false := by rw [decide_eq_true h]; rfl
omit m hpre in
theorem not_decide_of_not {p : Prop} [Decidable p] (h : ¬ p) : (!decide p) = true := by rw [decide_eq_false h]; rfl

omit hpre in
/-- A buffer's state after a point: idle and not written back, as found; else as computed. -/
def leftOf (idle flush : Bool) (found done : sProp 𝕄) : sProp 𝕄 :=
  match idle with
  | true =>
    match flush with
    | false => found
    | true => done
  | false => done

omit m hpre in
theorem leftOf_busy {idle flush : Bool} {X found done : sProp 𝕄} (hi : idle = false) (h : X ⊢ done) : X ⊢ leftOf idle flush found done := by
  subst hi; exact h

omit m hpre in
theorem leftOf_idle {idle flush : Bool} {X found done : sProp 𝕄} (hi : idle = true) (h1 : X ⊢ found) (h2 : X ⊢ done) : X ⊢ leftOf idle flush found done := by
  subst hi
  cases flush
  · exact h1
  · exact h2

/-- What the result's buffer must hold after the body. -/
abbrev left5 (t : Fin (cf hpre).N) : sProp 𝕄 :=
  leftOf ((cf hpre).idle 5 ((cf hpre).grid.coords t)) (((cf hpre).win 5).flush t)
    iprop(∃ d, at_ hpre t 5 ((pdat hpre 0).before 5 t d)) (at_ hpre t 5 ((pdat hpre 0).after 5 t))

theorem after5 (t : Fin (cf hpre).N) : (pdat hpre 0).after 5 t = mlpBlk m 0 (blkN m t.val) := rfl

theorem left_lt (t : Fin (cf hpre).N) (h : t.val < used m) : at_ hpre t 5 (mlpBlk m 0 (blkN m t.val)) ⊢ left5 hpre t :=
  leftOf_busy ((idle5 hpre t).trans (not_decide_of h)) (by rw [after5])

theorem left_ge (t : Fin (cf hpre).N) (h : ¬ t.val < used m) (d) :
    at_ hpre t 5 ((pdat hpre 0).before 5 t d) ⊢ left5 hpre t := by
  have hn : blkN m t.val = used m - 1 := by show min t.val (used m - 1) = used m - 1; omega
  refine leftOf_idle ((idle5 hpre t).trans (not_decide_of_not h)) ?_ ?_
  · iintro H; iexists d; iexact H
  · rw [after5, before5 hpre d t.val t.isLt (Nat.le_of_not_lt h), ← hn]

omit m hpre in
theorem post_last {prog : Prog (TpuEff nD τ sig (Elt F) Λ₀ .tc) PUnit} {P A B C D' G H Y L : sProp 𝕄}
    (h : P ⊢ wp frame (wpE (defs₀ (F := F)) 𝒱₀ (SparseCore.T (τ := τ) (0 : Dev nD)) none) Set.univ prog fun _ => iprop(A ∗ B ∗ C ∗ D' ∗ G ∗ H ∗ Y))
    (hl : Y ⊢ L) :
    P ⊢ wp frame (wpE (defs₀ (F := F)) 𝒱₀ (SparseCore.T (τ := τ) (0 : Dev nD)) none) Set.univ prog fun _ => iprop(A ∗ B ∗ C ∗ D' ∗ G ∗ H ∗ L) :=
  h.trans (wp_mono frame _ _ fun _ => sep_mono .rfl (sep_mono .rfl (sep_mono .rfl (sep_mono .rfl (sep_mono .rfl (sep_mono .rfl hl))))))

/-- The body at point `t`, the result's buffer from what it finds to what it must hold. -/
def StepsAny (t : Fin (cf hpre).N) (d : ((cf hpre).win 5).block.Idx → Elt F ((cf hpre).win 5).elt) : Prop :=
  iprop(tabH m 0 ∗ at_ hpre t 0 (xsBlk m 0 (blkN m t.val)) ∗ at_ hpre t 1 (w1Blk m 0 (beN (E m 0) t.val)) ∗ at_ hpre t 2 (m (b1Loc 0))
      ∗ at_ hpre t 3 (w2Blk m 0 (beN (E m 0) t.val)) ∗ at_ hpre t 4 (m (b2Loc 0)) ∗ at_ hpre t 5 ((pdat hpre 0).before 5 t d))
    ⊢ wp frame (wpE (defs₀ (F := F)) 𝒱₀ (SparseCore.T (τ := τ) (0 : Dev nD)) none) Set.univ
        (defs₀ .tc (cf hpre).body ((cf hpre).bodyArgs t ((cf hpre).slots t))) fun _ =>
      iprop(tabH m 0 ∗ at_ hpre t 0 (xsBlk m 0 (blkN m t.val)) ∗ at_ hpre t 1 (w1Blk m 0 (beN (E m 0) t.val)) ∗ at_ hpre t 2 (m (b1Loc 0))
        ∗ at_ hpre t 3 (w2Blk m 0 (beN (E m 0) t.val)) ∗ at_ hpre t 4 (m (b2Loc 0)) ∗ left5 hpre t)

theorem steps_any (t : Fin (cf hpre).N) (d) : StepsAny hpre t d :=
  (Classical.em (t.val < used m)).elim (fun h => post_last (steps_lt hpre t h _) (left_lt hpre t h))
    (fun h => post_last (steps_ge hpre t h _) (left_ge hpre t h d))

omit m hpre in
theorem pref_eq (c : Dev nD) (V : pre1.Contents (Elt F)) :
    Pipeline.prefHeld pre1 c (fun _ => fullShare) V = ((SparseCore.T c).loc main_v1 ↦{fullShare} V 0 : sProp 𝕄) := by
  unfold Pipeline.prefHeld
  exact bigSep_univ_of_subsingleton (0 : Fin 1)

omit hpre in
theorem tab_eq (c : Dev nD) : Pipeline.prefHeld pre1 c (fun _ => fullShare) (tabC m) = (tabH m c : sProp 𝕄) := by
  rw [pref_eq, tabC_zero]
  obtain rfl : c = 0 := Subsingleton.elim _ _
  rfl

theorem found0 (t : Fin (cf hpre).N) : iprop(∃ d, at_ hpre t 0 ((pdat hpre 0).before 0 t d)) ⊢ at_ hpre t 0 (xsBlk m 0 (blkN m t.val)) := by
  iintro ⟨%d, H⟩; rw [before0]; iexact H
theorem found1 (t : Fin (cf hpre).N) : iprop(∃ d, at_ hpre t 1 ((pdat hpre 0).before 1 t d)) ⊢ at_ hpre t 1 (w1Blk m 0 (beN (E m 0) t.val)) := by
  iintro ⟨%d, H⟩; rw [before1]; iexact H
theorem found2 (t : Fin (cf hpre).N) : iprop(∃ d, at_ hpre t 2 ((pdat hpre 0).before 2 t d)) ⊢ at_ hpre t 2 (m (b1Loc 0)) := by
  iintro ⟨%d, H⟩; rw [before2]; iexact H
theorem found3 (t : Fin (cf hpre).N) : iprop(∃ d, at_ hpre t 3 ((pdat hpre 0).before 3 t d)) ⊢ at_ hpre t 3 (w2Blk m 0 (beN (E m 0) t.val)) := by
  iintro ⟨%d, H⟩; rw [before3]; iexact H
theorem found4 (t : Fin (cf hpre).N) : iprop(∃ d, at_ hpre t 4 ((pdat hpre 0).before 4 t d)) ⊢ at_ hpre t 4 (m (b2Loc 0)) := by
  iintro ⟨%d, H⟩; rw [before4]; iexact H

/-- What the call's library asks of the body, its windows one by one. -/
theorem body_pieces (t : Fin (cf hpre).N) :
    iprop(tabH m 0 ∗ (pdat hpre 0).owesAt none t.castSucc
      ∗ (∃ d, at_ hpre t 0 ((pdat hpre 0).before 0 t d)) ∗ (∃ d, at_ hpre t 1 ((pdat hpre 0).before 1 t d)) ∗ (∃ d, at_ hpre t 2 ((pdat hpre 0).before 2 t d))
      ∗ (∃ d, at_ hpre t 3 ((pdat hpre 0).before 3 t d)) ∗ (∃ d, at_ hpre t 4 ((pdat hpre 0).before 4 t d)) ∗ (∃ d, at_ hpre t 5 ((pdat hpre 0).before 5 t d)))
    ⊢ wp frame (wpE (defs₀ (F := F)) 𝒱₀ (SparseCore.T (τ := τ) (0 : Dev nD)) none) Set.univ
        (defs₀ .tc (cf hpre).body ((cf hpre).bodyArgs t ((cf hpre).slots t))) fun _ =>
      iprop(tabH m 0 ∗ (pdat hpre 0).owesAt none t.castSucc
        ∗ at_ hpre t 0 (xsBlk m 0 (blkN m t.val)) ∗ at_ hpre t 1 (w1Blk m 0 (beN (E m 0) t.val)) ∗ at_ hpre t 2 (m (b1Loc 0))
        ∗ at_ hpre t 3 (w2Blk m 0 (beN (E m 0) t.val)) ∗ at_ hpre t 4 (m (b2Loc 0)) ∗ left5 hpre t) := by
  generalize (pdat hpre 0).owesAt none t.castSucc = O
  iintro ⟨HT, HO, H0, H1, H2, H3, H4, ⟨%d5, H5⟩⟩
  ihave H0 := (found0 hpre t) $$ H0
  ihave H1 := (found1 hpre t) $$ H1
  ihave H2 := (found2 hpre t) $$ H2
  ihave H3 := (found3 hpre t) $$ H3
  ihave H4 := (found4 hpre t) $$ H4
  have hs := steps_any hpre t d5
  unfold StepsAny at hs
  ihave HW := hs $$ [HT H0 H1 H2 H3 H4 H5]
  · isplitl [HT]; · iexact HT
    isplitl [H0]; · iexact H0
    isplitl [H1]; · iexact H1
    isplitl [H2]; · iexact H2
    isplitl [H3]; · iexact H3
    isplitl [H4]; · iexact H4
    iexact H5
  iapply wp_wand $$ HW; iintro %_ ⟨HT, H0, H1, H2, H3, H4, H5⟩
  isplitl [HT]; · iexact HT
  isplitl [HO]; · iexact HO
  isplitl [H0]; · iexact H0
  isplitl [H1]; · iexact H1
  isplitl [H2]; · iexact H2
  isplitl [H3]; · iexact H3
  isplitl [H4]; · iexact H4
  iexact H5

theorem body_obligation : Pipeline.BodyObligation (pdat hpre 0) (defs₀ (F := F)) 𝒱₀ none Set.univ := fun t => by
  rw [bigSep_W1, bigSep_W1]
  rw [show (pdat hpre 0).Φ t.castSucc = Pipeline.prefHeld pre1 0 (fun _ => fullShare) (tabC m) from rfl,
    show (pdat hpre 0).Φ t.succ = Pipeline.prefHeld pre1 0 (fun _ => fullShare) (tabC m) from rfl, tab_eq,
    show (pdat hpre 0).owesAt none t.succ = (pdat hpre 0).owesAt none t.castSucc from rfl]
  exact body_pieces hpre t

/-! ## The call -/

/-- The proof data of the program's one such call. -/
def pdats : (p : Fin 1) → (c : Dev nD) → Pipeline.Dat τ (Elt F) (HIx 2) ℕ UU ℕ (Pipeline.pin (pcfgs (F := F)) (adm hpre) p) c
  | 0 => pdat hpre

omit hpre in
/-- The call's arrays, the result's at `f`. -/
abbrev arrH (m : (ℓ : Loc nD τ sig) → Buf (Elt F) ℓ) (c : Dev nD) (f : Buf (Elt F) (ysLoc c)) : sProp 𝕄 :=
  iprop((xsLoc c ↦{fullShare} xsV m c) ∗ (w1Loc c ↦{fullShare} m (w1Loc c)) ∗ (b1Loc c ↦{fullShare} m (b1Loc c))
    ∗ (w2Loc c ↦{fullShare} m (w2Loc c)) ∗ (b2Loc c ↦{fullShare} m (b2Loc c)) ∗ (ysLoc c ↦{fullShare} f))

omit m hpre in
/-- What the TensorCore owes between the two SparseCore calls. -/
abbrev oweH (c : Dev nD) : sProp 𝕄 :=
  iprop(∃ W, ⌜(K (F := F)).WBelow (SparseCore.T c) W 8⌝ ∗ owes (SparseCore.T c) ((K (F := F)).Otc c 1) W)

theorem arrays_eq (c : Dev nD) (Fa) : ((pdats hpre 0 c).arrays Fa : sProp 𝕄)
    = iprop((xsLoc c ↦{fullShare} Fa 0) ∗ (w1Loc c ↦{fullShare} Fa 1) ∗ (b1Loc c ↦{fullShare} Fa 2)
      ∗ (w2Loc c ↦{fullShare} Fa 3) ∗ (b2Loc c ↦{fullShare} Fa 4) ∗ (ysLoc c ↦{fullShare} Fa 5)) := by
  rw [Pipeline.arrays_eq (Pipeline.pin (pcfgs (F := F)) (adm hpre)) (pdats hpre) 0 c arr_whole1 ((pdats hpre 0 c).share_full fun _ => rfl) Fa, bigSep_W1]

theorem waits (c : Dev nD) : (levAts (K (F := F)).L (K (F := F)).lev : sProp 𝕄) ⊢ Pipeline.cellsWaits (Pipeline.pin (pcfgs (F := F)) (adm hpre)) (pdats hpre) none 0 c :=
  Pipeline.cellsWaits_intro (Pipeline.pin (pcfgs (F := F)) (adm hpre)) (pdats hpre) none 0 c fun w s t => (K (F := F)).mayWait_none _ fun g => by
    show (K (F := F)).Otc c 1 g none = 0
    by_contra h
    have := SparseCore.Cfg.lev_of_Otc_pos (K := K (F := F)) (Nat.pos_of_ne_zero h)
    rw [SparseCore.Cfg.lev_none] at this; omega

theorem pdats_phi (c : Dev nD) (t) : (pdats hpre 0 c).Φ t = Pipeline.prefHeld pre1 c (fun _ => fullShare) (tabC m) := rfl

theorem entry (c : Dev nD) : iprop(iprop(arrH m c (m (ysLoc c)) ∗ tabH m c ∗ oweH c) ∗ Pipeline.ownSems0 (fun k : PEmpty => k.elim) c ∗ levAts (K (F := F)).L (K (F := F)).lev)
    ⊢ |={Set.univ}=> iprop((pdats hpre 0 c).arrays ((pdats hpre 0 c).arrAt · 0) ∗ Pipeline.prefHeld pre1 c (fun _ => fullShare) (tabC m)
        ∗ (pdats hpre 0 c).owesAt none 0 ∗ emp ∗ emp) := by
  rw [arrays_eq, tab_eq]
  iintro ⟨⟨HA, HT, ⟨%W, %hW, HO⟩⟩, -, -⟩
  imodintro
  isplitl [HA]; · iexact HA
  isplitl [HT]; · iexact HT
  isplitl [HO]
  · unfold Pipeline.Dat.owesAt Pipeline.owesWithin
    iexists W
    isplitr
    · ipureintro; exact fun p hp => Or.inl (hW p hp)
    iexact HO
  isplitr <;> iempintro

theorem exit0 : (pdats hpre 0 0).arrAt 0 (Pipeline.pin (pcfgs (F := F)) (adm hpre) 0).N = xsV m 0 := (pdat hpre 0).arrAt_in 0 rfl _
theorem exit1 : (pdats hpre 0 0).arrAt 1 (Pipeline.pin (pcfgs (F := F)) (adm hpre) 0).N = m (w1Loc 0) := (pdat hpre 0).arrAt_in 1 rfl _
theorem exit2 : (pdats hpre 0 0).arrAt 2 (Pipeline.pin (pcfgs (F := F)) (adm hpre) 0).N = m (b1Loc 0) := (pdat hpre 0).arrAt_in 2 rfl _
theorem exit3 : (pdats hpre 0 0).arrAt 3 (Pipeline.pin (pcfgs (F := F)) (adm hpre) 0).N = m (w2Loc 0) := (pdat hpre 0).arrAt_in 3 rfl _
theorem exit4 : (pdats hpre 0 0).arrAt 4 (Pipeline.pin (pcfgs (F := F)) (adm hpre) 0).N = m (b2Loc 0) := (pdat hpre 0).arrAt_in 4 rfl _
theorem exit5 : (pdats hpre 0 0).arrAt 5 (Pipeline.pin (pcfgs (F := F)) (adm hpre) 0).N = ysV m 0 := final5 hpre

theorem bound_le (c : Dev nD) (p) (h : p ∈ (pdats hpre 0 c).bound none (Fin.last (Pipeline.pin (pcfgs (F := F)) (adm hpre) 0).N)) :
    (K (F := F)).lev (SparseCore.T c, p.1) p.2 ≤ 8 := by
  rcases h with h | ⟨w, s, rfl⟩
  · exact h
  · rw [SparseCore.Cfg.lev_none]; exact Nat.zero_le _

theorem leave (c : Dev nD) : iprop((pdats hpre 0 c).arrays ((pdats hpre 0 c).arrAt · (Pipeline.pin (pcfgs (F := F)) (adm hpre) 0).N)
      ∗ (pdats hpre 0 c).owesAt none (Fin.last (Pipeline.pin (pcfgs (F := F)) (adm hpre) 0).N) ∗ tabH m c ∗ emp)
    ⊢ |={Set.univ}=> iprop(arrH m c (ysV m c) ∗ tabH m c ∗ oweH c) := by
  obtain rfl : c = 0 := Subsingleton.elim _ _
  rw [arrays_eq, exit0, exit1, exit2, exit3, exit4, exit5]
  iintro ⟨HA, HO, HT, -⟩
  imodintro
  isplitl [HA]; · iexact HA
  isplitl [HT]; · iexact HT
  unfold Pipeline.Dat.owesAt Pipeline.owesWithin
  icases HO with ⟨%W, %hW, HO⟩
  iexists W
  isplitr
  · ipureintro; exact fun p hp => bound_le hpre 0 p (hW hp)
  iexact HO

/-- The call on the TensorCore, from its arrays and the table to its arrays, the result's at the computed blocks. -/
def reg : Pipeline.RegionSeg (pcfgs (F := F)) (adm hpre) (pdats hpre) none defs₀ 𝒱₀ (K (F := F)).L (K (F := F)).lev 0 where
  win := winFacts1.to₀
  block_pos := block_pos1
  stage_whole := stage_whole1
  K := PEmpty
  osem k := k.elim
  ho := Pipeline.OwnSemFacts.none _
  hbody c := by
    obtain rfl : c = 0 := Subsingleton.elim _ _
    exact (body_obligation hpre).loose
  hwaits := waits hpre
  pre c := iprop(arrH m c (m (ysLoc c)) ∗ tabH m c ∗ oweH c)
  post c := iprop(arrH m c (ysV m c) ∗ tabH m c ∗ oweH c)
  X _ := iprop(emp)
  Y c := tabH m c
  Z _ := iprop(emp)
  hentry c := entry hpre c
  hin c := by
    rw [pdats_phi]
    iintro ⟨-, H, -⟩; iexact H
  hout c := by
    rw [Pipeline.ownSems0_none, show (Pipeline.pin (pcfgs (F := F)) (adm hpre) 0).spec = spec1 from rfl, scopedRest1_eq, pdats_phi, tab_eq]
    iintro H
    isplitl [H]; · iexact H
    isplitr <;> iempintro
  hexit c := leave hpre c

end Cert.Proof.Route

end
-- ==== Proof.RouteVec.lean ====
/-
  The routing kernel's vector part on one tile: the histogram of the experts, the ranks of the tile's own tokens, and
  their positions. Each step is stated with the values its buffers hold before and after it.
-/
module

public import proofs.«01_k».proof.Proof.Setup

@[expose] public section

noncomputable section

namespace Cert.Proof.Route

open Cert.KernelIdeal Cert.KernelIdeal.Gen

open Idealize.ShloMosaic
open Idealize.ShloMosaic.SparseCore (S V)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 ix2 ix3)

variable {F : FTy → Type} [FloatOps F]

local notation "𝕄" => MT nD τ sig (HIx 2) (Elt F) ℕ UU ℕ

variable (m : (ℓ : Loc nD τ sig) → Buf (Elt F) ℓ) (d : Dev nD) (L : grid0.Coords)

abbrev cV (L : grid0.Coords) : Fin τ.nSC := (L 0).castLE hcore0
abbrev jV (L : grid0.Coords) : Fin τ.nSub := (L 1).castLE hsub0
/-- The thread of the tile at `L`. -/
abbrev thr (d : Dev nD) (L : grid0.Coords) : Thread nD τ := V d (cV L) (jV L)

abbrev xM : Memref sig .scVector .hbm S2048x768 .f32 := Memref.whole main_arg0_scv
abbrev idxM : Memref sig .scVector .hbm S2048 .i32 := Memref.whole main_arg1_scv
abbrev xsM : Memref sig .scVector .hbm S4096x768 .f32 := Memref.whole main_v0_0_scv
abbrev posM : Memref sig .scVector .hbm S2048 .i32 := Memref.whole main_v0_1_scv
abbrev bexpM : Memref sig .scVector .hbm S48 .i32 := Memref.whole main_v0_2_scv
abbrev xrM : Memref sig .scVector .vmem S64x768 .f32 := Memref.whole cc0_scratch0
abbrev idM : Memref sig .scVector .vmem S2048 .i32 := Memref.whole cc0_scratch1
abbrev cntM : Memref sig .scVector .vmem S16 .i32 := Memref.whole cc0_scratch2
abbrev baM : Memref sig .scVector .vmem S16 .i32 := Memref.whole cc0_scratch3
abbrev toM : Memref sig .scVector .vmem S16 .i32 := Memref.whole cc0_scratch4
abbrev bcM : Memref sig .scVector .vmem S16 .i32 := Memref.whole cc0_scratch5
abbrev mkM : Memref sig .scVector .vmem S32 .i32 := Memref.whole cc0_scratch6
abbrev poM : Memref sig .scVector .vmem S64 .i32 := Memref.whole cc0_scratch7
abbrev beM : Memref sig .scVector .vmem S48 .i32 := Memref.whole cc0_scratch8

/-! ## Rules at a whole buffer -/

/-- An indexed store into a whole buffer. -/
theorem wp_storeIdx {α : Type} {Q : α → sProp 𝕄} (c : Thread nD τ) (b : Fin (sig.nNear c.2.kind .vmem)) (hκ : sig.names c.2.kind .vmem b = true)
    {n : Fin 1 → ℕ} {idxs : Fin (sig.tyNear c.2.kind .vmem b).shape.rank → IVec ⟨1, n⟩ 32}
    {v : Vec F ⟨1, n⟩ (sig.tyNear c.2.kind .vmem b).elt} {mask : IVec ⟨1, n⟩ 1} {add : Bool}
    {h : ∀ a x, (idxs a x).toNat < (sig.tyNear c.2.kind .vmem b).shape.size a}
    {hs : ((Memref.whole ⟨.vmem, b, hκ⟩).access (Rect.whole _) : View sig c.2.kind _ _ _).Stores Finset.univ}
    {k : PUnit → Prog (TpuEff nD τ sig (Elt F) Λ₀ c.2) α} {f : Buf (Elt F) (c.loc ⟨.vmem, b, hκ⟩)} :
    ((c.loc ⟨.vmem, b, hκ⟩) ↦{fullShare} f)
      ⊢ iprop((((c.loc ⟨.vmem, b, hκ⟩) ↦{fullShare} storeIdx f idxs v mask add h) -∗ wp frame (wpE (defs₀ (F := F)) 𝒱₀ c none) Set.univ (k ⟨⟩) Q)
        -∗ wp frame (wpE (defs₀ (F := F)) 𝒱₀ c none) Set.univ (SparseCore.vectorStoreIdx (Memref.whole ⟨.vmem, b, hκ⟩) idxs v mask add h hs >>= k) Q) := by
  have H := SparseCore.wp_vectorStoreIdx (defs := defs₀ (F := F)) (Ix := HIx 2) (Name := ℕ) (U := UU) (Lvl := ℕ) 𝒱₀ c none Set.univ (Q := Q) (base := Memref.whole ⟨.vmem, b, hκ⟩) (idxs := idxs) (v := v)
    (mask := mask) (add := add) (h := h) (hs := hs) (k := k) (f := f)
  rw [Memref.set_access_whole, Memref.read_access_whole, Memref.write_access_whole_univ] at H
  exact H

/-- An indexed load from a whole buffer. -/
theorem wp_loadIdx {α : Type} {Q : α → sProp 𝕄} (c : Thread nD τ) (b : Fin (sig.nNear c.2.kind .vmem)) (hκ : sig.names c.2.kind .vmem b = true)
    {t : Shape} {idxs : Fin (sig.tyNear c.2.kind .vmem b).shape.rank → IVec t 32}
    {h : ∀ a x, (idxs a x).toNat < (sig.tyNear c.2.kind .vmem b).shape.size a}
    {hl : (Memref.whole ⟨.vmem, b, hκ⟩ : Memref sig c.2.kind _ _ _).view.Loads}
    {k : Vec F t (sig.tyNear c.2.kind .vmem b).elt → Prog (TpuEff nD τ sig (Elt F) Λ₀ c.2) α} {f : Buf (Elt F) (c.loc ⟨.vmem, b, hκ⟩)} :
    ((c.loc ⟨.vmem, b, hκ⟩) ↦{fullShare} f)
      ⊢ iprop((((c.loc ⟨.vmem, b, hκ⟩) ↦{fullShare} f) -∗ wp frame (wpE (defs₀ (F := F)) 𝒱₀ c none) Set.univ (k (loadIdx f idxs h)) Q)
        -∗ wp frame (wpE (defs₀ (F := F)) 𝒱₀ c none) Set.univ (SparseCore.vectorLoadIdx (Memref.whole ⟨.vmem, b, hκ⟩) idxs h hl >>= k) Q) := by
  have H := SparseCore.wp_vectorLoadIdx (defs := defs₀ (F := F)) (Ix := HIx 2) (Name := ℕ) (U := UU) (Lvl := ℕ) 𝒱₀ c none Set.univ (Q := Q) (base := Memref.whole ⟨.vmem, b, hκ⟩) (idxs := idxs)
    (h := h) (hl := hl) (k := k) (q := fullShare) (f := f) (S := Finset.univ) (Finset.subset_univ _)
  rw [Memref.read_access_whole] at H
  exact H

/-! ## The histogram -/

/-- The experts, as the tile holds them. -/
def idV : Buf (Elt F) ((thr d L).loc cc0_scratch1) := fun j => BitVec.ofNat 32 (E m d (j 0).val)

/-- Sixteen experts from place `o` on. -/
theorem id_load (o : ℕ) (off : Fin 1 → ℕ) (h : off 0 = o) (hoff : ∀ a, off a + S16.size a ≤ S2048.size a) :
    (idM).view.readAt (Elt F) (Rect.unit (s := S2048) off S16.size hoff).toLoadRect (idV m d L) = vec16 fun k => E m d (o + k) := by
  funext x
  show BitVec.ofNat 32 (E m d (off 0 + 1 * (x 0).val)) = BitVec.ofNat 32 (E m d (o + (x 0).val))
  rw [h, Nat.one_mul]

/-- The counts of the vectors before the tile's own, `v` vectors read. -/
abbrev baB (v : ℕ) : Buf (Elt F) ((thr d L).loc cc0_scratch3) := baseV (E m d) L v
/-- The counts of all vectors, `v` of them read. -/
abbrev toB (v : ℕ) : Buf (Elt F) ((thr d L).loc cc0_scratch4) := totV (E m d) v

/-- What the histogram holds, `v` vectors read. -/
def histR (v : ℕ) : sProp 𝕄 :=
  iprop(((thr d L).loc cc0_scratch1 ↦{fullShare} idV m d L) ∗ ((thr d L).loc cc0_scratch3 ↦{fullShare} baB m d L v)
    ∗ ((thr d L).loc cc0_scratch4 ↦{fullShare} toB m d L v))

theorem hist_step (hpre : PreOK m) (v : ℕ) (hv : v < 128) :
    histR m d L v ⊢ wp frame (wpE (defs₀ (F := F)) 𝒱₀ (thr d L) none) Set.univ (histStep L idM baM toM v hv) fun _ => histR m d L (v + 1) := by
  have hw : k0_chk1 (vec16 fun k => E m d (16 * v + k)) := ⟨chk1_vec _ fun _ _ => E_lt hpre d _, chk1_vec _ fun _ _ => E_lt hpre d _⟩
  unfold histStep histR
  iintro ⟨Hi, Hb, Ht⟩
  iapply (wp_load 𝒱₀ (thr d L) none Set.univ (m := idM) (S := Finset.univ) (Finset.subset_univ _)) $$ Hi; iintro Hi
  rw [id_load m d L (16 * v) _ rfl]
  iapply (wp_assume 𝒱₀ (thr d L) none Set.univ hw)
  iapply (wp_storeIdx (thr d L) _ _) $$ Ht; iintro Ht
  iapply (wp_storeIdx (thr d L) _ _ (k := Prog.ret)) $$ Hb; iintro Hb
  rw [totV_succ _ (E_lt hpre d) v _ rfl, baseV_succ _ (E_lt hpre d) L hv]
  sl_step
  isplitl [Hi]; · iexact Hi
  isplitl [Hb]; · iexact Hb
  iexact Ht

theorem hist_from (hpre : PreOK m) (n v : ℕ) (h : v + n = 128) :
    histR m d L v ⊢ wp frame (wpE (defs₀ (F := F)) 𝒱₀ (thr d L) none) Set.univ (histFrom L idM baM toM n v h) fun _ => histR m d L 128 := by
  induction n generalizing v with
  | zero =>
    obtain rfl : v = 128 := h
    unfold histFrom
    iintro H
    sl_step
    iexact H
  | succ n ih =>
    unfold histFrom
    rw [wp_bind]
    refine (hist_step m d L hpre v (by omega)).trans (wp_mono frame _ _ fun _ => ?_)
    exact ih (v + 1) (by omega)

/-! ## The ranks -/

/-- The tile's own counts, `g` groups read. -/
abbrev ownB (g : ℕ) : Buf (Elt F) ((thr d L).loc cc0_scratch2) := ownV (E m d) L g

/-- What the ranks hold, `g` groups done. -/
def groupR (g : ℕ) : sProp 𝕄 :=
  iprop(((thr d L).loc cc0_scratch1 ↦{fullShare} idV m d L) ∗ ((thr d L).loc cc0_scratch2 ↦{fullShare} ownB m d L g))

theorem chk_grp (hpre : PreOK m) (g : ℕ) : k0_chk129 (grpV (E m d) L g) :=
  ⟨chk1_vec _ fun _ _ => E_lt hpre d _, chk1_vec _ fun _ _ => E_lt hpre d _, chk1_vec _ fun _ _ => E_lt hpre d _⟩

theorem group_step (hpre : PreOK m) (g : ℕ) (off : Fin 1 → ℕ) (h : off 0 = 64 * widN L + 16 * g) (hoff : ∀ a, off a + S16.size a ≤ S2048.size a) :
    groupR m d L g ⊢ wp frame (wpE (defs₀ (F := F)) 𝒱₀ (thr d L) none) Set.univ (groupStep L idM cntM off hoff) fun r =>
      iprop(⌜r = ⟨grpV (E m d) L g, chk_grp m d L hpre g, rkV (E m d) L g⟩⌝ ∗ groupR m d L (g + 1)) := by
  have hl : (idM).view.readAt (Elt F) (Rect.unit (s := S2048) off S16.size hoff).toLoadRect (idV m d L) = grpV (E m d) L g := by
    rw [id_load m d L _ off h hoff]
    exact vec16_congr fun k _ => by rw [Nat.add_assoc]
  unfold groupStep groupR
  iintro ⟨Hi, Hc⟩
  iapply (wp_load 𝒱₀ (thr d L) none Set.univ (m := idM) (S := Finset.univ) (Finset.subset_univ _)) $$ Hi; iintro Hi
  rw [hl]
  iapply (wp_assume 𝒱₀ (thr d L) none Set.univ (chk_grp m d L hpre g))
  iapply (wp_loadIdx (thr d L) _ _ (hl := (View.loads_vmem h_S16 : (cntM).view.Loads))) $$ Hc; iintro Hc
  iapply (wp_storeIdx (thr d L) _ _) $$ Hc; iintro Hc
  rw [ownV_succ _ (E_lt hpre d) L g]
  sl_step
  isplitr
  · ipureintro
    rw [rkV_eq _ (E_lt hpre d) L g]
  isplitl [Hi]; · iexact Hi
  iexact Hc

/-! ## The positions -/

/-- Where each expert's next token of the tile goes. -/
abbrev bcB : Buf (Elt F) ((thr d L).loc cc0_scratch5) := bcV (E m d) L

/-- The list of positions, `n` of them written. -/
def poV (f₀ : Buf (Elt F) ((thr d L).loc cc0_scratch7)) (n : ℕ) : Buf (Elt F) ((thr d L).loc cc0_scratch7) := fun j =>
  if (j 0).val < n then BitVec.ofNat 32 (posN (E m d) (64 * widN L + (j 0).val)) else f₀ j

/-- What the positions hold, `g` groups written. -/
def posR (f₀ : Buf (Elt F) ((thr d L).loc cc0_scratch7)) (g : ℕ) : sProp 𝕄 :=
  iprop(((thr d L).loc cc0_scratch5 ↦{fullShare} bcB m d L) ∗ ((thr d L).loc cc0_scratch7 ↦{fullShare} poV m d L f₀ (16 * g)))

theorem po_store (f₀ : Buf (Elt F) ((thr d L).loc cc0_scratch7)) (g : ℕ) (off : Fin 1 → ℕ) (h : off 0 = 16 * g) (hoff : ∀ a, off a + S16.size a ≤ S64.size a) :
    ((poM).access (Rect.unit (s := S64) off S16.size hoff)).write (Elt F) (poV m d L f₀ (16 * g)) (posV (E m d) L g) Finset.univ = poV m d L f₀ (16 * (g + 1)) := by
  funext j
  have hemb : ∀ x : S16.Idx, (((poM).access (Rect.unit (s := S64) off S16.size hoff)).emb x 0).val = 16 * g + (x 0).val := by
    intro x
    show off 0 + 1 * (x 0).val = _
    rw [h, Nat.one_mul]
  by_cases hc : 16 * g ≤ (j 0).val ∧ (j 0).val < 16 * g + 16
  · have hx : ((poM).access (Rect.unit (s := S64) off S16.size hoff)).emb (ix1 ⟨(j 0).val - 16 * g, by omega⟩) = j := by
      funext a
      match a with
      | ⟨0, _⟩ =>
        refine Fin.ext ((hemb _).trans ?_)
        show 16 * g + ((j 0).val - 16 * g) = (j 0).val
        omega
    refine ((congrArg _ hx.symm).trans (View.write_emb_of_mem _ _ (Finset.mem_univ _))).trans ((cast_eq _ _).trans ?_)
    unfold poV posV vec16
    rw [if_pos (show (j 0).val < 16 * (g + 1) by omega)]
    show BitVec.ofNat 32 (posN _ (64 * widN L + (16 * g + ((j 0).val - 16 * g)))) = _
    rw [show 16 * g + ((j 0).val - 16 * g) = (j 0).val by omega]
  · rw [View.write_of_not_mem]
    · unfold poV
      by_cases h1 : (j 0).val < 16 * g
      · rw [if_pos h1, if_pos (by omega)]
      · rw [if_neg h1, if_neg (by omega)]
    · intro hmem
      obtain ⟨x, -, hx⟩ := Finset.mem_map.mp hmem
      have hx0 := hemb x
      rw [hx] at hx0
      have hx1 : (x 0).val < 16 := (x 0).isLt
      omega

theorem pos_step (hpre : PreOK m) (f₀ : Buf (Elt F) ((thr d L).loc cc0_scratch7)) (g : ℕ) (off : Fin 1 → ℕ) (h : off 0 = 16 * g)
    (hoff : ∀ a, off a + S16.size a ≤ S64.size a) :
    posR m d L f₀ g ⊢ wp frame (wpE (defs₀ (F := F)) 𝒱₀ (thr d L) none) Set.univ
      (posStep L bcM poM (grpV (E m d) L g) (chk_grp m d L hpre g) (rkV (E m d) L g) off hoff) fun _ => posR m d L f₀ (g + 1) := by
  unfold posStep posR
  iintro ⟨Hb, Hp⟩
  iapply (wp_loadIdx (thr d L) _ _ (hl := (View.loads_vmem h_S16 : (bcM).view.Loads))) $$ Hb; iintro Hb
  iapply (wp_load 𝒱₀ (thr d L) none Set.univ (m := poM) (S := Finset.univ) (Finset.subset_univ _)) $$ Hp; iintro Hp
  iapply (wp_store 𝒱₀ (thr d L) none Set.univ (m := poM) (r := Rect.unit (s := S64) off S16.size hoff) (Mk := Finset.univ) (S := Finset.univ) (Finset.subset_univ _)) $$ Hp; iintro Hp
  rw [posV_eq _ (E_lt hpre d) L g, po_store m d L f₀ g off h hoff]
  sl_step
  isplitl [Hb]; · iexact Hb
  iexact Hp

end Cert.Proof.Route

end
-- ==== Proof.Scat.lean ====
/-
  The routing kernel's column copies: each writes 128 columns of the tile's 64 rows of `x` at the rows of the sorted
  array that the tile's list of positions names.
-/
module

public import proofs.«01_k».proof.Proof.RouteVec
public import Idealize.ShloMosaic.Lib.Routing.Ops

@[expose] public section

noncomputable section

namespace Cert.Proof.Route

open Cert.KernelIdeal Cert.KernelIdeal.Gen

open Idealize.ShloMosaic
open Idealize.ShloMosaic.SparseCore (S V)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 ix2 ix3)

variable {F : FTy → Type} [FloatOps F]

local notation "𝕄" => MT nD τ sig (HIx 2) (Elt F) ℕ UU ℕ

variable (m : (ℓ : Loc nD τ sig) → Buf (Elt F) ℓ) (d : Dev nD) (L : grid0.Coords)

/-! ## Values -/

/-- The tile's 64 rows of `x`. -/
def xrV : Buf (Elt F) ((thr d L).loc cc0_scratch0) := fun j =>
  m (xLoc d) (ix2 ⟨(64 * widN L + (j 0).val) % 2048, Nat.mod_lt _ (by decide)⟩ (j 1))

/-- The sorted array once the columns below `n` are in. -/
def xsN (n : ℕ) : Buf (Elt F) (xsLoc d) := fun j => if (j 1).val < n then xsV m d j else m (xsLoc d) j

theorem xsN_zero : xsN m d 0 = m (xsLoc d) := by
  funext j
  exact if_neg (Nat.not_lt_zero _)

theorem xsN_all : xsN m d 768 = xsV m d := by
  funext j
  exact if_pos (show (j 1).val < 768 from (j 1).isLt)

/-- The sorted array at a token's row. -/
theorem xsV_at {b : ℕ} (hb : b < 2048) (j : S4096x768.Idx) (h : posN (E m d) b = (j 0).val) :
    xsV m d j = m (xLoc d) (ix2 ⟨b, hb⟩ (j 1)) := by
  have hex : ∃ b : Fin 2048, posN (E m d) b.val = (j 0).val := ⟨⟨b, hb⟩, h⟩
  unfold xsV
  rw [dif_pos hex]
  have : hex.choose = ⟨b, hb⟩ := Fin.ext (posN_inj hex.choose.isLt hb (hex.choose_spec.trans h.symm))
  rw [this]

/-! ## The list -/

theorem tokN_lt (k : ℕ) (hk : k < 64) : 64 * widN L + k < 2048 := by
  have := widN_lt L; omega

theorem po_word (hpre : PreOK m) (f₀ : Buf (Elt F) ((thr d L).loc cc0_scratch7)) (j : S64.Idx) :
    (poV m d L f₀ 64 j).toNat = posN (E m d) (64 * widN L + (j 0).val) := by
  have hj : (j 0).val < 64 := (j 0).isLt
  have := posN_lt_4096 (E_lt hpre d) (tokN_lt L _ hj)
  unfold poV
  rw [if_pos hj]
  show (BitVec.ofNat 32 _).toNat = _
  rw [BitVec.toNat_ofNat, Nat.mod_eq_of_lt (by omega)]

theorem po_read (f₀ : Buf (Elt F) ((thr d L).loc cc0_scratch7)) (x : S64.Idx) :
    (poM).view.read (Elt F) (poV m d L f₀ 64) x = poV m d L f₀ 64 x := by
  simp only [Memref.view_whole, View.read_whole]

omit [FloatOps F] in
/-- The `k`-th word of a list of 64. -/
theorem sym64 (k : Fin S64.numel) : (S64.rowMajor.symm k 0).val = k.val := by
  rw [show S64.rowMajor.symm k = _ from Routing.symm1 (N := 64) k]
  rfl

theorem po_in (hpre : PreOK m) (f₀ : Buf (Elt F) ((thr d L).loc cc0_scratch7)) :
    ∀ x, ((poM).view.read (Elt F) (poV m d L f₀ 64) x).toNat < S4096x128.size gathers_S4096x128_S64x128.axis := by
  intro x
  rw [po_read, po_word m d L hpre]
  exact posN_lt_4096 (E_lt hpre d) (tokN_lt L _ (x 0).isLt)

/-- The row that entry `k` names. -/
abbrev rowK (hpre : PreOK m) (f₀ : Buf (Elt F) ((thr d L).loc cc0_scratch7)) : Fin (S64x128.size gathers_S4096x128_S64x128.axis') → Fin (S4096x128.size gathers_S4096x128_S64x128.axis) :=
  SparseCore.rows ((poM).view.read (Elt F) (poV m d L f₀ 64)) rfl (po_in m d L hpre f₀)

theorem rowK_val (hpre : PreOK m) (f₀ : Buf (Elt F) ((thr d L).loc cc0_scratch7)) (k : Fin (S64x128.size gathers_S4096x128_S64x128.axis')) :
    (rowK m d L hpre f₀ k).val = posN (E m d) (64 * widN L + k.val) := by
  refine (congrArg BitVec.toNat (po_read m d L f₀ _)).trans ?_
  rw [po_word m d L hpre, sym64]
  rfl

theorem rowK_inj (hpre : PreOK m) (f₀ : Buf (Elt F) ((thr d L).loc cc0_scratch7)) : Function.Injective (rowK m d L hpre f₀) := by
  intro a b h
  have h' := congrArg Fin.val h
  rw [rowK_val, rowK_val] at h'
  have := posN_inj (tokN_lt L _ a.isLt) (tokN_lt L _ b.isLt) h'
  exact Fin.ext (by omega)

/-! ## One column copy -/

/-- The source of one column copy: 128 columns of the tile's rows. -/
abbrev colS (o : ℕ) (ho : ∀ a, (![0, o] : Fin 2 → ℕ) a + S64x128.size a ≤ S64x768.size a) : Memref sig .scVector .vmem S64x128 .f32 :=
  xrM.slice (Rect.unit (s := S64x768) ![0, o] S64x128.size ho) (fun _ => rfl)
/-- Its destination: 128 columns of the sorted array. -/
abbrev colD (o : ℕ) (ho' : ∀ a, (![0, o] : Fin 2 → ℕ) a + S4096x128.size a ≤ S4096x768.size a) : Memref sig .scVector .hbm S4096x128 .f32 :=
  (xsM.slice (Rect.unit (s := S4096x768) ![0, o] S4096x128.size ho') (fun _ => rfl)).slice
    (Rect.unit (s := S4096x128) ![0, 0] S4096x128.size inb_S4096x128_S4096x128_0_0) (fun _ => rfl)

abbrev rowV1 (o : ℕ) (ho' : ∀ a, (![0, o] : Fin 2 → ℕ) a + S4096x128.size a ≤ S4096x768.size a) (r : Fin (S4096x128.size gathers_S4096x128_S64x128.axis)) :=
  (colD o ho').view.slice (S4096x128.rowRect gathers_S4096x128_S64x128.axis r)

omit [FloatOps F] in
theorem rowV1_emb (o : ℕ) (ho' : ∀ a, (![0, o] : Fin 2 → ℕ) a + S4096x128.size a ≤ S4096x768.size a) (r : Fin (S4096x128.size gathers_S4096x128_S64x128.axis))
    (x : (S4096x128.rowShape gathers_S4096x128_S64x128.axis).Idx) :
    (((rowV1 o ho' r).emb x 0).val = r.val) ∧ (((rowV1 o ho' r).emb x 1).val = o + (x (1 : Fin 2)).val) := by
  have h0 : (x (0 : Fin 2)).val < 1 := (x (0 : Fin 2)).isLt
  constructor
  · show (![0, o] : Fin 2 → ℕ) 0 + 1 * ((![0, 0] : Fin 2 → ℕ) 0 + 1 * (r.val + 1 * (x (0 : Fin 2)).val)) = _
    simp; omega
  · show (![0, o] : Fin 2 → ℕ) 1 + 1 * ((![0, 0] : Fin 2 → ℕ) 1 + 1 * (0 + 1 * (x (1 : Fin 2)).val)) = _
    simp

omit [FloatOps F] in
theorem colS_row_emb (o : ℕ) (ho : ∀ a, (![0, o] : Fin 2 → ℕ) a + S64x128.size a ≤ S64x768.size a) (k : Fin 64)
    (x : (S4096x128.rowShape gathers_S4096x128_S64x128.axis).Idx) :
    let v := (((colS o ho).slice (S64x128.rowRect gathers_S4096x128_S64x128.axis' k) (S64x128.stride_rowRect _ _)).cast
      gathers_S4096x128_S64x128.rowShape_eq rfl).view
    ((v.emb x 0).val = k.val) ∧ ((v.emb x 1).val = o + (x (1 : Fin 2)).val) := by
  have h0 : (x (0 : Fin 2)).val < 1 := (x (0 : Fin 2)).isLt
  have e := fun b => Shape.idxEquiv_symm_apply_val gathers_S4096x128_S64x128.rowShape_eq x b
  constructor
  · show (![0, o] : Fin 2 → ℕ) 0 + 1 * (k.val + 1 * ((Shape.idxEquiv gathers_S4096x128_S64x128.rowShape_eq).symm x (0 : Fin 2)).val) = _
    rw [e (0 : Fin 2)]
    show 0 + 1 * (k.val + 1 * (x (0 : Fin 2)).val) = _
    omega
  · show (![0, o] : Fin 2 → ℕ) 1 + 1 * (0 + 1 * ((Shape.idxEquiv gathers_S4096x128_S64x128.rowShape_eq).symm x (1 : Fin 2)).val) = _
    rw [e (1 : Fin 2)]
    show o + 1 * (0 + 1 * (x (1 : Fin 2)).val) = _
    omega

/-- The rows a column copy writes are the tile's. -/
theorem named_sub (hpre : PreOK m) (f₀ : Buf (Elt F) ((thr d L).loc cc0_scratch7)) (o : ℕ)
    (ho' : ∀ a, (![0, o] : Fin 2 → ℕ) a + S4096x128.size a ≤ S4096x768.size a) :
    SparseCore.namedRows (thr d L) (colD o ho').view gathers_S4096x128_S64x128.axis (rowK m d L hpre f₀) ⊆ rowSet m d (widN L) := by
  classical
  intro i hi
  obtain ⟨k, -, hk⟩ := Finset.mem_biUnion.mp hi
  obtain ⟨x, -, rfl⟩ := Finset.mem_map.mp hk
  have he := (rowV1_emb o ho' (rowK m d L hpre f₀ k) x).1
  rw [rowK_val] at he
  have hk : k.val < 64 := k.isLt
  unfold rowSet
  refine Finset.mem_filter.mpr ⟨Finset.mem_univ _, ⟨⟨64 * widN L + k.val, tokN_lt L _ hk⟩, ?_, he.symm⟩⟩
  show (64 * widN L + k.val) / 64 = widN L
  omega

/-- One column copy takes the tile's rows of the sorted array from `o` columns done to `o + 128`. -/
theorem scat_done (hpre : PreOK m) (f₀ : Buf (Elt F) ((thr d L).loc cc0_scratch7)) (o : ℕ)
    (ho : ∀ a, (![0, o] : Fin 2 → ℕ) a + S64x128.size a ≤ S64x768.size a) (ho' : ∀ a, (![0, o] : Fin 2 → ℕ) a + S4096x128.size a ≤ S4096x768.size a)
    (i : S4096x768.Idx) (hi : i ∈ rowSet m d (widN L)) :
    SparseCore.scatterBuf (thr d L) (colD o ho').view gathers_S4096x128_S64x128.axis (rowK m d L hpre f₀)
        (SparseCore.scatterRowPayload (thr d L) (colS o ho) gathers_S4096x128_S64x128 (xrV m d L)) (xsN m d o) i
      = xsN m d (o + 128) i := by
  have hi1 : (i 1).val < 768 := (i 1).isLt
  have ho1 : o + 128 ≤ 768 := ho 1
  by_cases hc : o ≤ (i 1).val ∧ (i 1).val < o + 128
  · unfold rowSet at hi
    obtain ⟨b, hb, hp⟩ := (Finset.mem_filter.mp hi).2
    have hbl := b.isLt
    have hk : b.val - 64 * widN L < 64 := by omega
    let k : Fin 64 := ⟨b.val - 64 * widN L, hk⟩
    have hbk : 64 * widN L + k.val = b.val := by show 64 * widN L + (b.val - 64 * widN L) = _; omega
    let x : (S4096x128.rowShape gathers_S4096x128_S64x128.axis).Idx := fun a =>
      match a with
      | ⟨0, _⟩ => (⟨0, by decide⟩ : Fin 1)
      | ⟨1, _⟩ => (⟨(i 1).val - o, by omega⟩ : Fin 128)
    have hr := rowK_val m d L hpre f₀ k
    rw [hbk] at hr
    have hx : (rowV1 o ho' (rowK m d L hpre f₀ k)).emb x = i := by
      funext a
      match a with
      | ⟨0, _⟩ => exact Fin.ext ((rowV1_emb o ho' _ x).1.trans (hr.trans hp))
      | ⟨1, _⟩ => exact Fin.ext ((rowV1_emb o ho' _ x).2.trans (by show o + ((i 1).val - o) = (i 1).val; omega))
    have hmem : i ∈ (rowV1 o ho' (rowK m d L hpre f₀ k)).set := hx ▸ Finset.mem_map.mpr ⟨x, Finset.mem_univ _, rfl⟩
    rw [SparseCore.scatterBuf_of_mem (thr d L) (colD o ho').view gathers_S4096x128_S64x128.axis (rowK m d L hpre f₀) (rowK_inj m d L hpre f₀) _ _ hmem]
    refine ((congrArg _ hx.symm).trans (View.write_emb_of_mem (v := rowV1 o ho' (rowK m d L hpre f₀ k)) _ _ (Finset.mem_univ x))).trans ?_
    refine (cast_eq _ _).trans ?_
    refine (View.read_apply _ _).trans ((cast_eq _ _).trans ?_)
    unfold xsN
    rw [if_pos hc.2, xsV_at m d hbl i hp]
    have he := colS_row_emb o ho k x
    unfold xrV
    congr 1
    funext a
    match a with
    | ⟨0, _⟩ =>
      refine Fin.ext ?_
      show (64 * widN L + _) % 2048 = b.val
      rw [he.1, hbk, Nat.mod_eq_of_lt hbl]
    | ⟨1, _⟩ =>
      refine Fin.ext (he.2.trans ?_)
      show o + ((i 1).val - o) = (i 1).val
      omega
  · rw [SparseCore.scatterBuf_of_not_mem]
    · unfold xsN
      by_cases h : (i 1).val < o
      · rw [if_pos h, if_pos (by omega)]
      · rw [if_neg h, if_neg (by omega)]
    · intro hmem
      classical
      obtain ⟨k, -, hk⟩ := Finset.mem_biUnion.mp hmem
      obtain ⟨x, -, hx⟩ := Finset.mem_map.mp hk
      have := (rowV1_emb o ho' (rowK m d L hpre f₀ k) x).2
      rw [hx] at this
      have hx1 : (x 1).val < 128 := (x 1).isLt
      omega

abbrev semX (d : Dev nD) (L : grid0.Coords) : GSem nD τ sig := (thr d L, .dma cc0_scratch9.sem)
abbrev semS (d : Dev nD) (L : grid0.Coords) : GSem nD τ sig := (thr d L, .dma cc0_scratch10.sem)
abbrev sem0 (d : Dev nD) (L : grid0.Coords) : GSem nD τ sig := (thr d L, .dma cc0_scoped0.sem)
abbrev sem1 (d : Dev nD) (L : grid0.Coords) : GSem nD τ sig := (thr d L, .dma cc0_scoped1.sem)
abbrev sem2 (d : Dev nD) (L : grid0.Coords) : GSem nD τ sig := (thr d L, .dma cc0_scoped2.sem)

/-- What a column copy holds, `n` columns done. -/
def scatR (f₀ : Buf (Elt F) ((thr d L).loc cc0_scratch7)) (n : ℕ) (O : CellTallies nD τ sig (HIx 2)) (W : Waits sig (HIx 2)) : sProp 𝕄 :=
  iprop((xsLoc d ↦[rowSet m d (widN L)]{fullShare} xsN m d n) ∗ ((thr d L).loc cc0_scratch0 ↦{fullShare} xrV m d L)
    ∗ ((thr d L).loc cc0_scratch7 ↦{fullShare} poV m d L f₀ 64) ∗ semVal (semS d L) 0
    ∗ ∃ W', ⌜∀ p ∈ W', p ∈ W ∨ p.2 = none⌝ ∗ owes (thr d L) O W')

theorem scat_step (hpre : PreOK m) (f₀ : Buf (Elt F) ((thr d L).loc cc0_scratch7)) (o : ℕ)
    (ho : ∀ a, (![0, o] : Fin 2 → ℕ) a + S64x128.size a ≤ S64x768.size a) (ho' : ∀ a, (![0, o] : Fin 2 → ℕ) a + S4096x128.size a ≤ S4096x768.size a)
    (O : CellTallies nD τ sig (HIx 2)) (W : Waits sig (HIx 2)) (hO : ∀ g, O g none = 0) :
    iprop(levAts (K (F := F)).L (K (F := F)).lev ∗ scatR m d L f₀ o O W)
      ⊢ wp frame (wpE (defs₀ (F := F)) 𝒱₀ (thr d L) none) Set.univ (scatStep L xsM xrM poM cc0_scratch10 o ho ho')
          fun _ => scatR m d L f₀ (o + 128) O W := by
  unfold scatR scatStep
  iintro ⟨#Hlv, Hx, Hr, Hs, Hv, %W', %hW', HO⟩
  ihave Hmw := (show levAts (K (F := F)).L (K (F := F)).lev ⊢ Transfers.MayWaits (thr d L) (default : HIx 2) O from
    (K (F := F)).mayWaits_none (thr := thr d L) hO) $$ Hlv
  ihave Hx' := (pointsTo_split_subset (ℓ := xsLoc d) (q := fullShare) (f := xsN m d o) (named_sub m d L hpre f₀ o ho')).1 $$ Hx
  icases Hx' with ⟨Hxs, Hxr⟩
  ihave Hr' := (pointsTo_split_subset (ℓ := (thr d L).loc cc0_scratch0) (q := fullShare) (f := xrV m d L) (S := Finset.univ) (Finset.subset_univ (colS o ho).view.set)).1 $$ Hr
  icases Hr' with ⟨Hrs, Hrr⟩
  have hss : (poM).view.set = Finset.univ := View.set_whole _
  ihave Hs' := (Entails.of_eq (show ((thr d L).loc cc0_scratch7 ↦{fullShare} poV m d L f₀ 64 : sProp 𝕄)
      = (poM).view.loc (thr d L) ↦[(poM).view.set]{fullShare} poV m d L f₀ 64 by rw [hss])) $$ Hs
  iapply (SparseCore.wp_indirectScatterLocal countersEmb 𝒱₀ (thr d L) none (src := colS o ho) (dst := colD o ho') (hg := gathers_S4096x128_S64x128) (offs := poM)
      (fs := xrV m d L) (fd := xsN m d o) (fo := poV m d L f₀ 64) (hn := rfl) (q := fullShare) (qo := fullShare)
      (default : HIx 2) (colS o ho).view.dmaCredit (by decide) (po_in m d L hpre f₀) (rowK_inj m d L hpre f₀)
      (SparseCore.sum_scatterCredit_eq_srcCredit (thr d L) (colS o ho) (colD o ho') gathers_S4096x128_S64x128 rfl _ (fun _ => rfl) (fun _ => rfl))) $$ [Hxs Hrs Hs' Hv]
  · isplitl [Hrs]; · iexact Hrs
    isplitl [Hxs]; · iexact Hxs
    isplitl [Hs']; · iexact Hs'
    iexact Hv
  iintro Hfl
  iapply (Transfers.wp_waitLocalO countersEmb 𝒱₀ (thr d L) none (default : HIx 2) (rfl : (colS o ho).view.dmaCredit = _)) $$ [Hfl HO]
  · isplitl [Hfl]; · iexact Hfl
    isplitl [HO]; · iexact HO
    iapply (Transfers.MayWaits.elim (SemLoc.dma cc0_scratch10.sem)) $$ Hmw
  iintro ⟨⟨Hxs, Hrs, Hs'⟩, Hv, HO⟩
  sl_step
  isplitl [Hxs Hxr]
  · iapply (Entails.of_eq (pointsTo_congr (scat_done m d L hpre f₀ o ho ho')))
    iapply (pointsTo_split_subset (ℓ := xsLoc d) (q := fullShare) (named_sub m d L hpre f₀ o ho')).2
    isplitl [Hxs]; · iexact Hxs
    iapply (Entails.of_eq (SparseCore.pointsTo_rest_scatterBuf (thr d L) (colD o ho').view gathers_S4096x128_S64x128.axis _ _ _ (rowSet m d (widN L))))
    iexact Hxr
  isplitl [Hrs Hrr]
  · iapply (pointsTo_split_subset (ℓ := (thr d L).loc cc0_scratch0) (q := fullShare) (f := xrV m d L) (S := Finset.univ) (Finset.subset_univ (colS o ho).view.set)).2
    isplitl [Hrs]; · iexact Hrs
    iexact Hrr
  isplitl [Hs']
  · rw [← hss]; iexact Hs'
  isplitl [Hv]; · iexact Hv
  iexists _; isplitr
  swap; · iexact HO
  ipureintro; intro p hp
  rcases Finset.mem_insert.mp hp with hp | hp; · exact .inr (hp ▸ rfl)
  exact hW' p hp

end Cert.Proof.Route

end
-- ==== Proof.Table.lean ====
/-
  Tile 0's work on the table of blocks: it marks the block each expert's rows begin at, takes the running maximum of the
  marks, puts the number of blocks in use behind it, and writes the table out.
-/
module

public import proofs.«01_k».proof.Proof.Scat

@[expose] public section

noncomputable section

namespace Cert.Proof.Route

open Cert.KernelIdeal Cert.KernelIdeal.Gen

open Idealize.ShloMosaic
open Idealize.ShloMosaic.SparseCore (S V)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 ix2 ix3)

variable {F : FTy → Type} [FloatOps F]

local notation "𝕄" => MT nD τ sig (HIx 2) (Elt F) ℕ UU ℕ

variable (m : (ℓ : Loc nD τ sig) → Buf (Elt F) ℓ) (d : Dev nD) (L : grid0.Coords)

/-! ## Filling a buffer from its start, sixteen words at a time -/

/-- A buffer of words whose first `n` places hold `g`. -/
def fillN {s : Shape} (p : s.Idx → ℕ) (g f : s.Idx → BitVec 32) (n : ℕ) : s.Idx → BitVec 32 := fun j => if p j < n then g j else f j

theorem fill_zero {s : Shape} (p : s.Idx → ℕ) (g f : s.Idx → BitVec 32) : fillN p g f 0 = f := by
  funext j
  exact if_neg (Nat.not_lt_zero _)

theorem fill_all {s : Shape} (p : s.Idx → ℕ) (g f : s.Idx → BitVec 32) (n : ℕ) (h : ∀ j, p j < n) : fillN p g f n = g := by
  funext j
  exact if_pos (h j)

/-- Sixteen words stored at place `o` of the marks. -/
theorem mk_store (g f : S32.Idx → BitVec 32) (o : ℕ) (ho : ∀ a, (![o] : Fin 1 → ℕ) a + S16.size a ≤ S32.size a) (w : IVec S16 32)
    (hw : ∀ j : S32.Idx, ∀ x : S16.Idx, (j 0).val = o + (x 0).val → w x = g j) :
    ((mkM).access (Rect.unit (s := S32) ![o] S16.size ho)).write (Elt F) (fillN (fun j : S32.Idx => (j 0).val) g f o) w Finset.univ
      = fillN (fun j : S32.Idx => (j 0).val) g f (o + 16) := by
  have hemb : ∀ x : S16.Idx, (((mkM).access (Rect.unit (s := S32) ![o] S16.size ho)).emb x 0).val = o + (x 0).val := by
    intro x
    show o + 1 * (x 0).val = _
    rw [Nat.one_mul]
  funext j
  by_cases hc : o ≤ (j 0).val ∧ (j 0).val < o + 16
  · have hx : ((mkM).access (Rect.unit (s := S32) ![o] S16.size ho)).emb (ix1 ⟨(j 0).val - o, by omega⟩) = j := by
      funext a
      match a with
      | ⟨0, _⟩ => exact Fin.ext ((hemb _).trans (by show o + ((j 0).val - o) = (j 0).val; omega))
    refine ((congrArg _ hx.symm).trans (View.write_emb_of_mem _ _ (Finset.mem_univ _))).trans ((cast_eq _ _).trans ?_)
    unfold fillN
    rw [if_pos (show (j 0).val < o + 16 from hc.2)]
    exact hw j _ (by show (j 0).val = o + ((j 0).val - o); omega)
  · rw [View.write_of_not_mem]
    · unfold fillN
      show (if (j 0).val < o then g j else f j) = if (j 0).val < o + 16 then g j else f j
      by_cases h1 : (j 0).val < o
      · rw [if_pos h1, if_pos (by omega)]
      · rw [if_neg h1, if_neg (by omega)]
    · intro hmem
      obtain ⟨x, -, hx⟩ := Finset.mem_map.mp hmem
      have hx0 := hemb x
      rw [hx] at hx0
      have hx1 : (x 0).val < 16 := (x 0).isLt
      omega

/-- Sixteen words stored at place `o` of the table. -/
theorem be_store (g f : S48.Idx → BitVec 32) (o : ℕ) (ho : ∀ a, (![o] : Fin 1 → ℕ) a + S16.size a ≤ S48.size a) (w : IVec S16 32)
    (hw : ∀ j : S48.Idx, ∀ x : S16.Idx, (j 0).val = o + (x 0).val → w x = g j) :
    ((beM).access (Rect.unit (s := S48) ![o] S16.size ho)).write (Elt F) (fillN (fun j : S48.Idx => (j 0).val) g f o) w Finset.univ
      = fillN (fun j : S48.Idx => (j 0).val) g f (o + 16) := by
  have hemb : ∀ x : S16.Idx, (((beM).access (Rect.unit (s := S48) ![o] S16.size ho)).emb x 0).val = o + (x 0).val := by
    intro x
    show o + 1 * (x 0).val = _
    rw [Nat.one_mul]
  funext j
  by_cases hc : o ≤ (j 0).val ∧ (j 0).val < o + 16
  · have hx : ((beM).access (Rect.unit (s := S48) ![o] S16.size ho)).emb (ix1 ⟨(j 0).val - o, by omega⟩) = j := by
      funext a
      match a with
      | ⟨0, _⟩ => exact Fin.ext ((hemb _).trans (by show o + ((j 0).val - o) = (j 0).val; omega))
    refine ((congrArg _ hx.symm).trans (View.write_emb_of_mem _ _ (Finset.mem_univ _))).trans ((cast_eq _ _).trans ?_)
    unfold fillN
    rw [if_pos (show (j 0).val < o + 16 from hc.2)]
    exact hw j _ (by show (j 0).val = o + ((j 0).val - o); omega)
  · rw [View.write_of_not_mem]
    · unfold fillN
      show (if (j 0).val < o then g j else f j) = if (j 0).val < o + 16 then g j else f j
      by_cases h1 : (j 0).val < o
      · rw [if_pos h1, if_pos (by omega)]
      · rw [if_neg h1, if_neg (by omega)]
    · intro hmem
      obtain ⟨x, -, hx⟩ := Finset.mem_map.mp hmem
      have hx0 := hemb x
      rw [hx] at hx0
      have hx1 : (x 0).val < 16 := (x 0).isLt
      omega

/-! ## The table -/

/-- The marks, as the tile holds them. -/
abbrev mkB : S32.Idx → BitVec 32 := fun j => BitVec.ofNat 32 (mkN (E m d) (j 0).val)
/-- The table, as the tile holds it. -/
abbrev beB : S48.Idx → BitVec 32 := fun j => BitVec.ofNat 32 (if (j 0).val < 32 then beN (E m d) (j 0).val else usedN (E m d))

/-- Sixteen marks from place `o` on. -/
theorem mk_load (o : ℕ) (ho : ∀ a, (![o] : Fin 1 → ℕ) a + S16.size a ≤ S32.size a) :
    (mkM).view.readAt (Elt F) (Rect.unit (s := S32) ![o] S16.size ho).toLoadRect (mkB m d) = vec16 fun k => mkN (E m d) (o + k) := by
  funext x
  show BitVec.ofNat 32 (mkN (E m d) (o + 1 * (x 0).val)) = BitVec.ofNat 32 (mkN (E m d) (o + (x 0).val))
  rw [Nat.one_mul]

theorem mk_load0 : (mkM).view.readAt (Elt F) (Rect.unit (s := S32) ![0] S16.size inb_S32_S16_0).toLoadRect (mkB m d) = vec16 (mkN (E m d)) :=
  (mk_load m d 0 inb_S32_S16_0).trans (vec16_congr fun k _ => by rw [Nat.zero_add])

/-- The table written out. -/
theorem be_landed (fb : Buf (Elt F) (bexpLoc d)) :
    View.write (Elt F) (bexpM).view fb ((beM).view.read (Elt F) (beB m d)) Finset.univ = bexpV m d := by
  rw [View.write_whole_univ]
  exact View.read_whole _ _

/-- What the table's work holds: the marks' buffer, the table's buffer, the table itself at `fb`, its copy's semaphore at
    zero, and what the tile owes. -/
def tabR (fb : Buf (Elt F) (bexpLoc d)) (O : CellTallies nD τ sig (HIx 2)) (W : Waits sig (HIx 2)) : sProp 𝕄 :=
  iprop((∃ f, (thr d L).loc cc0_scratch6 ↦{fullShare} f) ∗ (∃ f, (thr d L).loc cc0_scratch8 ↦{fullShare} f)
    ∗ (bexpLoc d ↦{fullShare} fb) ∗ semVal (sem2 d L) 0 ∗ ∃ W', ⌜∀ p ∈ W', p ∈ W ∨ p.2 = none⌝ ∗ owes (thr d L) O W')

theorem table_step (hpre : PreOK m) (fb : Buf (Elt F) (bexpLoc d)) (O : CellTallies nD τ sig (HIx 2)) (W : Waits sig (HIx 2)) (hO : ∀ g, O g none = 0)
    (nblk excl : IVec S16 32) (hn : nblk = vec16 (nblkN (E m d))) (he : excl = vec16 (exclN (E m d))) (hch : k0_chk133 L excl) (h1 : k0_cond1 L = 1#1) :
    iprop(levAts (K (F := F)).L (K (F := F)).lev ∗ tabR d L fb O W)
      ⊢ wp frame (wpE (defs₀ (F := F)) 𝒱₀ (thr d L) none) Set.univ
          (tableProg L bexpM (Memref.isWhole_whole _) mkM beM (Memref.isWhole_whole _) cc0_scoped2 nblk excl hch h1)
          fun _ => tabR d L (bexpV m d) O W := by
  subst hn he
  unfold tabR tableProg
  iintro ⟨#Hlv, ⟨%f6, H6⟩, ⟨%f8, H8⟩, Hb, Hv, %W', %hW', HO⟩
  ihave Hmw := (show levAts (K (F := F)).L (K (F := F)).lev ⊢ Transfers.MayWaits (thr d L) (default : HIx 2) O from
    (K (F := F)).mayWaits_none (thr := thr d L) hO) $$ Hlv
  iapply (wp_load 𝒱₀ (thr d L) none Set.univ (m := mkM) (S := Finset.univ) (Finset.subset_univ _)) $$ H6; iintro H6
  rw [← fill_zero (s := S32) (fun j => (j 0).val) (fun _ => 0#32) f6]
  iapply (wp_store 𝒱₀ (thr d L) none Set.univ (m := mkM) (r := Rect.unit (s := S32) ![0] S16.size inb_S32_S16_0) (Mk := Finset.univ) (S := Finset.univ) (Finset.subset_univ _)) $$ H6; iintro H6
  rw [mk_store (F := F) (fun _ => 0#32) f6 0 inb_S32_S16_0 zeros16 fun _ _ _ => rfl]
  iapply (wp_load 𝒱₀ (thr d L) none Set.univ (m := mkM) (S := Finset.univ) (Finset.subset_univ _)) $$ H6; iintro H6
  iapply (wp_store 𝒱₀ (thr d L) none Set.univ (m := mkM) (r := Rect.unit (s := S32) ![16] S16.size inb_S32_S16_16) (Mk := Finset.univ) (S := Finset.univ) (Finset.subset_univ _)) $$ H6; iintro H6
  rw [mk_store (F := F) (fun _ => 0#32) f6 16 inb_S32_S16_16 zeros16 fun _ _ _ => rfl]
  rw [fill_all (s := S32) (fun j => (j 0).val) (fun _ => 0#32) f6 32 fun j => (j 0).isLt]
  iapply (wp_storeIdx (thr d L) _ _) $$ H6; iintro H6
  rw [marks_eq (F := F) (E m d) (E_lt hpre d) (fun _ => 0#32) rfl]
  iapply (wp_load 𝒱₀ (thr d L) none Set.univ (m := mkM) (S := Finset.univ) (Finset.subset_univ _)) $$ H6; iintro H6
  iapply (wp_load 𝒱₀ (thr d L) none Set.univ (m := mkM) (S := Finset.univ) (Finset.subset_univ _)) $$ H6; iintro H6
  rw [mk_load0 m d, mk_load m d 16]
  iapply (wp_load 𝒱₀ (thr d L) none Set.univ (m := beM) (S := Finset.univ) (Finset.subset_univ _)) $$ H8; iintro H8
  rw [hi_eq, lo_eq, used_eq]
  rw [← fill_zero (s := S48) (fun j => (j 0).val) (beB m d) f8]
  iapply (wp_store 𝒱₀ (thr d L) none Set.univ (m := beM) (r := Rect.unit (s := S48) ![0] S16.size inb_S48_S16_0) (Mk := Finset.univ) (S := Finset.univ) (Finset.subset_univ _)) $$ H8; iintro H8
  rw [be_store (F := F) (beB m d) f8 0 inb_S48_S16_0 (vec16 (beN (E m d))) fun j x h => by
    have hx : (x 0).val < 16 := (x 0).isLt
    unfold vec16 beB
    rw [if_pos (by omega), h, Nat.zero_add]]
  iapply (wp_load 𝒱₀ (thr d L) none Set.univ (m := beM) (S := Finset.univ) (Finset.subset_univ _)) $$ H8; iintro H8
  iapply (wp_store 𝒱₀ (thr d L) none Set.univ (m := beM) (r := Rect.unit (s := S48) ![16] S16.size inb_S48_S16_16) (Mk := Finset.univ) (S := Finset.univ) (Finset.subset_univ _)) $$ H8; iintro H8
  rw [be_store (F := F) (beB m d) f8 16 inb_S48_S16_16 (vec16 fun k => beN (E m d) (16 + k)) fun j x h => by
    have hx : (x 0).val < 16 := (x 0).isLt
    unfold vec16 beB
    rw [if_pos (by omega), h]]
  iapply (wp_load 𝒱₀ (thr d L) none Set.univ (m := beM) (S := Finset.univ) (Finset.subset_univ _)) $$ H8; iintro H8
  iapply (wp_store 𝒱₀ (thr d L) none Set.univ (m := beM) (r := Rect.unit (s := S48) ![32] S16.size inb_S48_S16_32) (Mk := Finset.univ) (S := Finset.univ) (Finset.subset_univ _)) $$ H8; iintro H8
  rw [be_store (F := F) (beB m d) f8 32 inb_S48_S16_32 (vec16 fun _ => usedN (E m d)) fun j x h => by
    unfold vec16 beB
    rw [if_neg (by omega)]]
  rw [fill_all (s := S48) (fun j => (j 0).val) (beB m d) f8 48 fun j => (j 0).isLt]
  ihave H8' := (Entails.of_eq (show ((thr d L).loc cc0_scratch8 ↦{fullShare} beB m d : sProp 𝕄) = (beM).view.loc (thr d L) ↦{fullShare} beB m d from rfl)) $$ H8
  ihave Hb' := (Entails.of_eq (show (bexpLoc d ↦{fullShare} fb : sProp 𝕄) = (bexpM).view.loc (thr d L) ↦{fullShare} fb from rfl)) $$ Hb
  rw [show ∀ (β : Type) (k : PUnit → Prog (TpuEff nD τ sig (Elt F) Λ₀ (thr d L).2) β), (Prog.ret PUnit.unit).bind k = k PUnit.unit from fun _ _ => rfl]
  sl_exec
  sl_step
  isplitl [H6]; · iexists _; iexact H6
  isplitl [H8']; · iexists _; iexact H8'
  isplitl [Hb']
  · rw [show table_step.sl.dma0 m d = (beM).view.read (Elt F) (beB m d) from rfl, be_landed m d fb]
    iexact Hb'
  isplitl [Hv]; · iexact Hv
  iexists _; isplitr
  swap; · iexact HO
  ipureintro; intro p hp
  rcases Finset.mem_insert.mp hp with hp | hp; · exact .inr (hp ▸ rfl)
  exact hW' p hp

end Cert.Proof.Route

end
-- ==== Proof.RouteTile.lean ====
/-
  The first call's tile: the rows of `x` and the experts in, the counts, the ranks, the positions, the positions out, six
  column copies, and at tile 0 the table.
-/
module

public import proofs.«01_k».proof.Proof.Table

@[expose] public section

noncomputable section

namespace Cert.Proof.Route

open Cert.KernelIdeal Cert.KernelIdeal.Gen

open Idealize.ShloMosaic
open Idealize.ShloMosaic.SparseCore (S V)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 ix2 ix3)

variable {F : FTy → Type} [FloatOps F]

local notation "𝕄" => MT nD τ sig (HIx 2) (Elt F) ℕ UU ℕ

section Tile

variable (m : (ℓ : Loc nD τ sig) → Buf (Elt F) ℓ) (d : Dev nD) (L : grid0.Coords)

/-- The tile's rows of `x`, as it addresses them. -/
abbrev xK : Memref sig .scVector .hbm S64x768 .f32 := xM.slice (Rect.unit (s := S2048x768) (k0_off1 L) S64x768.size (k0_off1_inb L)) (fun _ => rfl)
/-- The tile's places of the position array, as it addresses them. -/
abbrev posK : Memref sig .scVector .hbm S64 .i32 := posM.slice (Rect.unit (s := S2048) (k0_off6 L) S64.size (k0_off6_inb L)) (fun _ => rfl)

omit [FloatOps F] in
theorem set_posK : (posK L).view.set = tok1 (widN L) := by
  show ((View.whole (main_v0_1_scv : Ref sig .scVector)).slice (Rect.unit (s := S2048) (k0_off6 L) S64.size (k0_off6_inb L))).set = _
  rw [View.set_slice]
  refine Finset.map_refl.trans ?_
  ext j
  have h0 := coord0_lt L
  have h1 := coord1_lt L
  rw [Rect.mem_set_unit]
  simp only [tok1, Finset.mem_filter, Finset.mem_univ, true_and, k0_off6_eq]
  refine Iff.trans (@Fin.forall_fin_one (fun a : Fin 1 => _)) ?_
  show (128 * (L 1).val + 64 * (L 0).val ≤ (j 0).val ∧ (j 0).val < 128 * (L 1).val + 64 * (L 0).val + 64)
    ↔ (j 0).val / 64 = 2 * (L 1).val + (L 0).val
  omega

omit [FloatOps F] in
theorem pts_posK (f : Buf (Elt F) (posLoc d)) :
    ((posK L).view.loc (thr d L) ↦[(posK L).view.set]{fullShare} f : sProp 𝕄) = posLoc d ↦[tok1 (widN L)]{fullShare} f := by
  rw [set_posK]

/-- The fetched rows. -/
theorem xr_landed (fs : Buf (Elt F) ((thr d L).loc cc0_scratch0)) :
    View.write (Elt F) (xrM).view fs ((xK L).view.read (Elt F) (m (xLoc d))) Finset.univ = xrV m d L := by
  rw [View.write_whole_univ]
  funext j
  refine (View.read_apply _ _).trans ((cast_eq _ _).trans ?_)
  have hj : (j 0).val < 64 := (j 0).isLt
  have hw := widN_lt L
  unfold xrV
  congr 1
  funext a
  match a with
  | ⟨0, _⟩ =>
    refine Fin.ext ?_
    show k0_off1 L 0 + 1 * (j 0).val = (64 * widN L + (j 0).val) % 2048
    rw [k0_off1_eq, Nat.mod_eq_of_lt (by omega)]
    show 128 * (L 1).val + 64 * (L 0).val + 1 * (j 0).val = 64 * (2 * (L 1).val + (L 0).val) + (j 0).val
    omega
  | ⟨1, _⟩ =>
    refine Fin.ext ?_
    show k0_off1 L 1 + 1 * (j 1).val = (j 1).val
    rw [k0_off1_eq]
    show 0 + 1 * (j 1).val = _
    omega

/-- The fetched experts. -/
theorem id_landed (fs : Buf (Elt F) ((thr d L).loc cc0_scratch1)) :
    View.write (Elt F) (idM).view fs ((idxM).view.read (Elt F) (m (idxLoc d))) Finset.univ = idV m d L := by
  rw [View.write_whole_univ]
  simp only [Memref.view_whole, View.read_whole]
  funext j
  exact idx_eq m d j

/-- Sixteen words stored over the whole of a buffer of sixteen. -/
theorem zero_cnt (f : Buf (Elt F) ((thr d L).loc cc0_scratch2)) :
    (cntM).view.writes (Elt F) f [⟨Rect.unit (s := S16) ![0] S16.size inb_S16_S16_0, zeros16⟩] = zeros16 := by
  show ((cntM).access (Rect.unit (s := S16) ![0] S16.size inb_S16_S16_0)).write (Elt F) f zeros16 Finset.univ = zeros16
  exact Memref.write_access_unit_zero_univ (Elt F) (cc0_scratch2 : Ref sig .scVector) (off := ![0]) (funext fun a => by match a with | ⟨0, _⟩ => rfl) _ _ _
theorem zero_ba (f : Buf (Elt F) ((thr d L).loc cc0_scratch3)) :
    (baM).view.writes (Elt F) f [⟨Rect.unit (s := S16) ![0] S16.size inb_S16_S16_0, zeros16⟩] = zeros16 := by
  show ((baM).access (Rect.unit (s := S16) ![0] S16.size inb_S16_S16_0)).write (Elt F) f zeros16 Finset.univ = zeros16
  exact Memref.write_access_unit_zero_univ (Elt F) (cc0_scratch3 : Ref sig .scVector) (off := ![0]) (funext fun a => by match a with | ⟨0, _⟩ => rfl) _ _ _
theorem zero_to (f : Buf (Elt F) ((thr d L).loc cc0_scratch4)) :
    (toM).view.writes (Elt F) f [⟨Rect.unit (s := S16) ![0] S16.size inb_S16_S16_0, zeros16⟩] = zeros16 := by
  show ((toM).access (Rect.unit (s := S16) ![0] S16.size inb_S16_S16_0)).write (Elt F) f zeros16 Finset.univ = zeros16
  exact Memref.write_access_unit_zero_univ (Elt F) (cc0_scratch4 : Ref sig .scVector) (off := ![0]) (funext fun a => by match a with | ⟨0, _⟩ => rfl) _ _ _

theorem tot_zero : totV (E m d) 0 = zeros16 := by
  rw [zeros16_eq]; exact vec16_congr fun e _ => by simp [cnt]
theorem base_zero : baseV (E m d) L 0 = zeros16 := by
  unfold baseV; rw [Nat.zero_min]; exact tot_zero m d

theorem to_load : (toM).view.readAt (Elt F) (Rect.unit (s := S16) ![0] S16.size inb_S16_S16_0).toLoadRect (toB m d L 128) = totV (E m d) 128 :=
  Memref.readAt_unit_zero _ _ (funext fun a => by match a with | ⟨0, _⟩ => rfl) _ _
theorem ba_load : (baM).view.readAt (Elt F) (Rect.unit (s := S16) ![0] S16.size inb_S16_S16_0).toLoadRect (baB m d L 128) = baseV (E m d) L 128 :=
  Memref.readAt_unit_zero _ _ (funext fun a => by match a with | ⟨0, _⟩ => rfl) _ _
theorem bc_store (f : Buf (Elt F) ((thr d L).loc cc0_scratch5)) :
    ((bcM).access (Rect.unit (s := S16) ![0] S16.size inb_S16_S16_0)).write (Elt F) f
      (addi (muli (exclOf (nblkOf (totV (E m d) 128))) (broadcast S16 128#32)) (baseV (E m d) L 128)) Finset.univ = bcB m d L :=
  (Memref.write_access_unit_zero_univ _ _ (funext fun a => by match a with | ⟨0, _⟩ => rfl) _ _ _).trans (bcV_eq (E m d) L)

/-- The marks' places lie in their array. -/
theorem chk133 (hpre : PreOK m) : k0_chk133 L (exclOf (nblkOf (totV (E m d) 128))) := by
  intro _ a x
  have hx : (x 0).val < 16 := (x 0).isLt
  have hl := excl_le (E_lt hpre d) hx.le
  match a with
  | ⟨0, _⟩ =>
    show (exclOf (nblkOf (totV (E m d) 128)) x).toNat < 32
    rw [excl_vec]
    unfold vec16
    rw [BitVec.toNat_ofNat, Nat.mod_eq_of_lt (by omega)]
    omega

/-- The positions written. -/
theorem pos_landed (fp : Buf (Elt F) (posLoc d)) (f₀ : Buf (Elt F) ((thr d L).loc cc0_scratch7)) :
    ∀ i ∈ (posK L).view.set, (posK L).view.writes (Elt F) fp [⟨Rect.whole S64, (poM).view.read (Elt F) (poV m d L f₀ 64)⟩] i = posB m d i := by
  intro i hi
  obtain ⟨x, -, rfl⟩ := Finset.mem_map.mp hi
  have hw : (posK L).view.emb x = ((posK L).view.slice (Rect.whole S64)).emb x := by
    show _ = (posK L).view.emb ((Rect.whole S64).emb x)
    congr 1
    funext a
    refine Fin.ext ?_
    show (x a).val = 0 + 1 * (x a).val
    omega
  refine ((congrArg _ hw).trans (View.write_emb_of_mem (v := (posK L).view.slice (Rect.whole S64)) _ _ (Finset.mem_univ x))).trans ?_
  refine (cast_eq _ _).trans ?_
  simp only [Memref.view_whole, View.read_whole]
  have hx : (x 0).val < 64 := (x 0).isLt
  unfold poV posB
  rw [if_pos hx]
  congr 2
  show 64 * (2 * (L 1).val + (L 0).val) + (x 0).val = k0_off6 L 0 + 1 * (x 0).val
  rw [k0_off6_eq]
  show _ = 128 * (L 1).val + 64 * (L 0).val + 1 * (x 0).val
  omega

omit [FloatOps F] in
theorem ownSems0_V :
    (ownSems0 (thr d L) : sProp 𝕄)
      = iprop(semVal (semX d L) 0 ∗ semVal (semS d L) 0 ∗ semVal (sem0 d L) 0 ∗ semVal (sem1 d L) 0 ∗ semVal (sem2 d L) 0
          ∗ bigSep ((((((ownCells (thr d L)).erase (semX d L)).erase (semS d L)).erase (sem0 d L)).erase (sem1 d L)).erase (sem2 d L)) fun g => semVal g 0) := by
  unfold SparseCore.Cfg.ownSems0
  have hX : semX d L ∈ ownCells (thr d L) := mem_ownCells.mpr ⟨rfl, by show (SemLoc.dma cc0_scratch9.sem : SemLoc sig).isScoped .scVector = true; decide⟩
  have hS : semS d L ∈ ownCells (thr d L) := mem_ownCells.mpr ⟨rfl, by show (SemLoc.dma cc0_scratch10.sem : SemLoc sig).isScoped .scVector = true; decide⟩
  have h0 : sem0 d L ∈ ownCells (thr d L) := mem_ownCells.mpr ⟨rfl, by show (SemLoc.dma cc0_scoped0.sem : SemLoc sig).isScoped .scVector = true; decide⟩
  have h1 : sem1 d L ∈ ownCells (thr d L) := mem_ownCells.mpr ⟨rfl, by show (SemLoc.dma cc0_scoped1.sem : SemLoc sig).isScoped .scVector = true; decide⟩
  have h2 : sem2 d L ∈ ownCells (thr d L) := mem_ownCells.mpr ⟨rfl, by show (SemLoc.dma cc0_scoped2.sem : SemLoc sig).isScoped .scVector = true; decide⟩
  have ne : ∀ a b : SemLoc sig, a ≠ b → ((thr d L, a) : GSem nD τ sig) ≠ (thr d L, b) := fun a b h e => h (congrArg Prod.snd e)
  rw [SparseCore.bigSep_erase' hX,
    SparseCore.bigSep_erase' (Finset.mem_erase.mpr ⟨ne _ _ (by decide), hS⟩),
    SparseCore.bigSep_erase' (Finset.mem_erase.mpr ⟨ne _ _ (by decide), Finset.mem_erase.mpr ⟨ne _ _ (by decide), h0⟩⟩),
    SparseCore.bigSep_erase' (Finset.mem_erase.mpr ⟨ne _ _ (by decide), Finset.mem_erase.mpr ⟨ne _ _ (by decide), Finset.mem_erase.mpr ⟨ne _ _ (by decide), h1⟩⟩⟩),
    SparseCore.bigSep_erase' (Finset.mem_erase.mpr ⟨ne _ _ (by decide), Finset.mem_erase.mpr ⟨ne _ _ (by decide), Finset.mem_erase.mpr ⟨ne _ _ (by decide),
      Finset.mem_erase.mpr ⟨ne _ _ (by decide), h2⟩⟩⟩⟩)]

/-- The tile's scratch buffer `k`. -/
abbrev scr (k : Fin 9) : Ref sig .scVector := ⟨.vmem, k.castLE (by decide), rfl⟩

/-- The scratch buffers among the device's buffers. -/
def scrE : Fin 9 ↪ DevRef τ sig :=
  ⟨fun k => (Proc.scVector (cV L) (jV L)).devRef (scr k), fun a b h => by
    have h' : scr a = scr b := Proc.devRef_injective _ h
    clear h; revert h'; revert a b; decide⟩

omit [FloatOps F] in
theorem scr_own : Finset.univ.map (scrE L) ⊆ ownRefs (τ := τ) (.scVector (cV L) (jV L)) := by
  intro b hb
  obtain ⟨k, -, rfl⟩ := Finset.mem_map.mp hb
  exact SparseCore.Cfg.mem_ownRefs_of_owner rfl

omit [FloatOps F] in
/-- The nine scratch buffers are among the subcore's own. -/
theorem ownBufs_V :
    (ownBufs (thr d L) : sProp 𝕄)
      = iprop(((∃ f, (thr d L).loc cc0_scratch0 ↦{fullShare} f) ∗ (∃ f, (thr d L).loc cc0_scratch1 ↦{fullShare} f)
          ∗ (∃ f, (thr d L).loc cc0_scratch2 ↦{fullShare} f) ∗ (∃ f, (thr d L).loc cc0_scratch3 ↦{fullShare} f)
          ∗ (∃ f, (thr d L).loc cc0_scratch4 ↦{fullShare} f) ∗ (∃ f, (thr d L).loc cc0_scratch5 ↦{fullShare} f)
          ∗ (∃ f, (thr d L).loc cc0_scratch6 ↦{fullShare} f) ∗ (∃ f, (thr d L).loc cc0_scratch7 ↦{fullShare} f)
          ∗ (∃ f, (thr d L).loc cc0_scratch8 ↦{fullShare} f))
          ∗ bigSep (ownRefs (τ := τ) (.scVector (cV L) (jV L)) \ Finset.univ.map (scrE L))
              fun b => iprop(∃ f, ((d, b) : Loc nD τ sig) ↦{fullShare} f)) := by
  unfold SparseCore.Cfg.ownBufs
  refine (SparseCore.bigSep_sdiff_split' (scr_own L)).trans ?_
  congr 1
  rw [bigSep_map, bigSep_univ_eq_bigSepL [0, 1, 2, 3, 4, 5, 6, 7, 8] (by decide) (by decide)]
  rfl

theorem cond_iff : ∀ L : grid0.Coords, k0_cond1 L = 1#1 ↔ 2 * (L 1).val + (L 0).val = 0 := by decide +kernel

/-- What the last part works on. -/
def tailR (fb : Buf (Elt F) (bexpLoc d)) (O : CellTallies nD τ sig (HIx 2)) (W : Waits sig (HIx 2)) : sProp 𝕄 :=
  iprop((∃ f, (thr d L).loc cc0_scratch6 ↦{fullShare} f) ∗ (∃ f, (thr d L).loc cc0_scratch8 ↦{fullShare} f)
    ∗ (bexpLoc d ↦[bexpSet (widN L)]{fullShare} fb) ∗ semVal (sem2 d L) 0 ∗ ∃ W', ⌜∀ p ∈ W', p ∈ W ∨ p.2 = none⌝ ∗ owes (thr d L) O W')

/-- The last part, at tile 0 the table and elsewhere nothing. -/
theorem table_or (hpre : PreOK m) (fb : Buf (Elt F) (bexpLoc d)) (O : CellTallies nD τ sig (HIx 2)) (W : Waits sig (HIx 2)) (hO : ∀ g, O g none = 0)
    {hch : k0_chk133 L (exclOf (nblkOf (totV (E m d) 128)))} :
    iprop(levAts (K (F := F)).L (K (F := F)).lev ∗ tailR d L fb O W)
      ⊢ wp frame (wpE (defs₀ (F := F)) 𝒱₀ (thr d L) none) Set.univ
          (if h1 : k0_cond1 L = 1#1 then tableProg (F := F) L bexpM (Memref.isWhole_whole _) mkM beM (Memref.isWhole_whole _) cc0_scoped2
            (nblkOf (totV (E m d) 128)) (exclOf (nblkOf (totV (E m d) 128))) hch h1 else Pure.pure PUnit.unit)
          fun _ => tailR d L (bexpV m d) O W := by
  unfold tailR
  by_cases h1 : k0_cond1 L = 1#1
  · have hw : bexpSet (widN L) = Finset.univ := Finset.filter_true_of_mem fun _ _ => (cond_iff L).mp h1
    rw [dif_pos h1, hw]
    exact table_step m d L hpre fb O W hO _ _ (tot_nblk (E m d)) (excl_vec (E m d)) hch h1
  · have hw : ∀ i ∈ bexpSet (widN L), fb i = bexpV m d i := fun i hi => absurd ((cond_iff L).mpr (Finset.mem_filter.mp hi).2) h1
    rw [dif_neg h1, pointsTo_congr hw]
    iintro ⟨#_, H⟩
    sl_step
    iexact H

set_option maxHeartbeats 1000000 in
/-- The tile's task. -/
theorem tile_body (hF : (K (F := F)).Facts) (hpre : PreOK m) (O : CellTallies nD τ sig (HIx 2)) (W : Waits sig (HIx 2)) (hO : ∀ g, O g none = 0) :
    iprop(levAts (K (F := F)).L (K (F := F)).lev ∗ emp
        ∗ routeR m d (widN L) (m (xsLoc d)) (m (posLoc d)) (m (bexpLoc d))
        ∗ scopedBufs (thr d L) ∗ scopedSems0 (thr d L) ∗ owes (thr d L) O W)
      ⊢ wp frame (wpE (defs₀ (F := F)) 𝒱₀ (thr d L) none) Set.univ
          (cc0__route_body L xM (Memref.isWhole_whole _) idxM (Memref.isWhole_whole _) xsM (Memref.isWhole_whole _) posM (Memref.isWhole_whole _)
            bexpM (Memref.isWhole_whole _) xrM (Memref.isWhole_whole _) idM (Memref.isWhole_whole _) cntM (Memref.isWhole_whole _) baM (Memref.isWhole_whole _)
            toM (Memref.isWhole_whole _) bcM (Memref.isWhole_whole _) mkM (Memref.isWhole_whole _) poM (Memref.isWhole_whole _) beM (Memref.isWhole_whole _)
            cc0_scratch9 cc0_scratch10 cc0_scoped0 cc0_scoped1 cc0_scoped2)
          fun _ => iprop(routeR m d (widN L) (xsV m d) (posB m d) (bexpV m d)
            ∗ scopedBufs (thr d L) ∗ scopedSems0 (thr d L)
            ∗ ∃ W', ⌜∀ p ∈ W', p ∈ W ∨ p.2 = none⌝ ∗ owes (thr d L) O W') := by
  rw [route_eq]; unfold routeProg routeR
  rw [(K (F := F)).scopedBufs_V hF d (cV L) (jV L), SparseCore.Cfg.scopedSems0_V (Val := Elt F) d (cV L) (jV L), ownSems0_V, ownBufs_V]
  iintro ⟨#Hlv, -, ⟨Hx, Hi, Hxs, Hp, Hb⟩, ⟨⟨⟨%f0, H0⟩, ⟨%f1, H1⟩, ⟨%f2, H2⟩, ⟨%f3, H3⟩, ⟨%f4, H4⟩, ⟨%f5, H5⟩, H6, ⟨%f7, H7⟩, H8⟩, Hbufs⟩,
    ⟨HsX, HsS, Hs0, Hs1, Hs2, Hsems⟩, HO⟩
  ihave Hmw := (show levAts (K (F := F)).L (K (F := F)).lev ⊢ Transfers.MayWaits (thr d L) (default : HIx 2) O from
    (K (F := F)).mayWaits_none (thr := thr d L) hO) $$ Hlv
  ihave Hp' := (Entails.of_eq (pts_posK (F := F) d L _).symm) $$ Hp
  ihave H0' := (Entails.of_eq (show ((thr d L).loc cc0_scratch0 ↦{fullShare} f0 : sProp 𝕄) = (xrM).view.loc (thr d L) ↦{fullShare} f0 from rfl)) $$ H0
  ihave H1' := (Entails.of_eq (show ((thr d L).loc cc0_scratch1 ↦{fullShare} f1 : sProp 𝕄) = (idM).view.loc (thr d L) ↦{fullShare} f1 from rfl)) $$ H1
  ihave H2' := (Entails.of_eq (show ((thr d L).loc cc0_scratch2 ↦{fullShare} f2 : sProp 𝕄) = (cntM).view.loc (thr d L) ↦{fullShare} f2 from rfl)) $$ H2
  ihave H3' := (Entails.of_eq (show ((thr d L).loc cc0_scratch3 ↦{fullShare} f3 : sProp 𝕄) = (baM).view.loc (thr d L) ↦{fullShare} f3 from rfl)) $$ H3
  ihave H4' := (Entails.of_eq (show ((thr d L).loc cc0_scratch4 ↦{fullShare} f4 : sProp 𝕄) = (toM).view.loc (thr d L) ↦{fullShare} f4 from rfl)) $$ H4
  ihave Hx' := (Entails.of_eq (show (xLoc d ↦{sh (widN L)} m (xLoc d) : sProp 𝕄) = (xM).view.loc (thr d L) ↦{sh (widN L)} m (xLoc d) from rfl)) $$ Hx
  ihave Hi' := (Entails.of_eq (show (idxLoc d ↦{sh (widN L)} m (idxLoc d) : sProp 𝕄) = (idxM).view.loc (thr d L) ↦{sh (widN L)} m (idxLoc d) from rfl)) $$ Hi
  generalize hhp : histFrom (F := F) L idM baM toM 128 0 rfl = hp
  generalize hps : posStep (F := F) L bcM poM = ps
  generalize hss : scatStep (F := F) L xsM xrM poM cc0_scratch10 = ss
  generalize htb : tableProg (F := F) L bexpM (Memref.isWhole_whole _) mkM beM (Memref.isWhole_whole _) cc0_scoped2 = tb
  sl_exec
  subst hhp
  rw [show tile_body.sl.dma0_1 m d = (idxM).view.read (Elt F) (m (idxLoc d)) from rfl, id_landed, zero_cnt, zero_ba, zero_to]
  ihave HH := (show iprop(((thr d L).loc cc0_scratch1 ↦{fullShare} idV m d L) ∗ ((thr d L).loc cc0_scratch3 ↦{fullShare} zeros16)
      ∗ ((thr d L).loc cc0_scratch4 ↦{fullShare} zeros16)) ⊢ histR m d L 0 from by
    unfold histR
    rw [show baB m d L 0 = zeros16 from base_zero m d L, show toB m d L 0 = zeros16 from tot_zero m d]) $$ [H1' H3' H4']
  · isplitl [H1']; · iexact H1'
    isplitl [H3']; · iexact H3'
    iexact H4'
  ihave HH := (hist_from m d L hpre 128 0 rfl) $$ HH
  rw [wp_bind]
  iapply wp_wand $$ HH; iintro %_ HH
  unfold histR
  icases HH with ⟨H1, H3, H4⟩
  ihave HG := (show iprop(((thr d L).loc cc0_scratch1 ↦{fullShare} idV m d L) ∗ ((thr d L).loc cc0_scratch2 ↦{fullShare} zeros16)) ⊢ groupR m d L 0 from by
    unfold groupR
    rw [show ownB m d L 0 = zeros16 from ownV_zero _ _]) $$ [H1 H2']
  · isplitl [H1]; · iexact H1
    iexact H2'
  ihave HG := (group_step m d L hpre 0 (k0_off2 L) (by rw [k0_off2_eq]; show 128 * (L 1).val + 64 * (L 0).val = 64 * (2 * (L 1).val + (L 0).val) + _; omega) (k0_off2_inb L)) $$ HG
  rw [wp_bind]
  iapply wp_wand $$ HG; iintro %g0 ⟨%hg0, HG⟩
  subst hg0
  ihave HG := (group_step m d L hpre 1 (k0_off3 L) (by rw [k0_off3_eq]; show 128 * (L 1).val + 64 * (L 0).val + 16 = 64 * (2 * (L 1).val + (L 0).val) + _; omega) (k0_off3_inb L)) $$ HG
  rw [wp_bind]
  iapply wp_wand $$ HG; iintro %g1 ⟨%hg1, HG⟩
  subst hg1
  ihave HG := (group_step m d L hpre 2 (k0_off4 L) (by rw [k0_off4_eq]; show 128 * (L 1).val + 64 * (L 0).val + 32 = 64 * (2 * (L 1).val + (L 0).val) + _; omega) (k0_off4_inb L)) $$ HG
  rw [wp_bind]
  iapply wp_wand $$ HG; iintro %g2 ⟨%hg2, HG⟩
  subst hg2
  ihave HG := (group_step m d L hpre 3 (k0_off5 L) (by rw [k0_off5_eq]; show 128 * (L 1).val + 64 * (L 0).val + 48 = 64 * (2 * (L 1).val + (L 0).val) + _; omega) (k0_off5_inb L)) $$ HG
  rw [wp_bind]
  iapply wp_wand $$ HG; iintro %g3 ⟨%hg3, HG⟩
  subst hg3
  iapply (wp_load 𝒱₀ (thr d L) none Set.univ (m := toM) (S := Finset.univ) (Finset.subset_univ _)) $$ H4; iintro H4
  rw [to_load m d L]
  iapply (wp_assume 𝒱₀ (thr d L) none Set.univ (chk133 m d L hpre))
  iapply (wp_load 𝒱₀ (thr d L) none Set.univ (m := baM) (S := Finset.univ) (Finset.subset_univ _)) $$ H3; iintro H3
  rw [ba_load m d L]
  iapply (wp_load 𝒱₀ (thr d L) none Set.univ (m := bcM) (S := Finset.univ) (Finset.subset_univ _)) $$ H5; iintro H5
  iapply (wp_store 𝒱₀ (thr d L) none Set.univ (m := bcM) (r := Rect.unit (s := S16) ![0] S16.size inb_S16_S16_0) (Mk := Finset.univ) (S := Finset.univ) (Finset.subset_univ _)) $$ H5; iintro H5
  rw [bc_store m d L, show ∀ (β : Type) (k : PUnit → Prog (TpuEff nD τ sig (Elt F) Λ₀ (thr d L).2) β), (Prog.ret PUnit.unit).bind k = k PUnit.unit from fun _ _ => rfl]
  subst hps
  ihave HP := (show iprop(((thr d L).loc cc0_scratch5 ↦{fullShare} bcB m d L) ∗ ((thr d L).loc cc0_scratch7 ↦{fullShare} f7)) ⊢ posR m d L f7 0 from by
    unfold posR
    rw [show poV m d L f7 (16 * 0) = f7 from funext fun j => if_neg (Nat.not_lt_zero _)]) $$ [H5 H7]
  · isplitl [H5]; · iexact H5
    iexact H7
  ihave HP := (pos_step m d L hpre f7 0 ![0] rfl inb_S64_S16_0) $$ HP
  rw [wp_bind]
  iapply wp_wand $$ HP; iintro %_ HP
  ihave HP := (pos_step m d L hpre f7 1 ![16] rfl inb_S64_S16_16) $$ HP
  rw [wp_bind]
  iapply wp_wand $$ HP; iintro %_ HP
  ihave HP := (pos_step m d L hpre f7 2 ![32] rfl inb_S64_S16_32) $$ HP
  rw [wp_bind]
  iapply wp_wand $$ HP; iintro %_ HP
  ihave HP := (pos_step m d L hpre f7 3 ![48] rfl inb_S64_S16_48) $$ HP
  rw [wp_bind]
  iapply wp_wand $$ HP; iintro %_ HP
  unfold posR
  icases HP with ⟨H5, H7⟩
  ihave H7' := (show ((thr d L).loc cc0_scratch7 ↦{fullShare} poV m d L f7 (16 * 4) : sProp 𝕄) ⊢ (poM).view.loc (thr d L) ↦{fullShare} poV m d L f7 64 from Entails.of_eq rfl) $$ H7
  sl_exec
  subst hss
  rw [show tile_body.sl.dma0 m d L = (xK L).view.read (Elt F) (m (xLoc d)) from rfl, xr_landed,
    show tile_body.sl.dma0_2 m d L f7 = (poM).view.read (Elt F) (poV m d L f7 64) from rfl]
  ihave Hp := (Entails.of_eq ((pointsTo_congr (pos_landed m d L (m (posLoc d)) f7)).trans (pts_posK d L (posB m d)))) $$ Hp'
  ihave HC := (show iprop((xsLoc d ↦[rowSet m d (widN L)]{fullShare} m (xsLoc d)) ∗ ((thr d L).loc cc0_scratch0 ↦{fullShare} xrV m d L)
      ∗ ((thr d L).loc cc0_scratch7 ↦{fullShare} poV m d L f7 64) ∗ semVal (semS d L) 0
      ∗ ∃ W', ⌜∀ p ∈ W', p ∈ W ∨ p.2 = none⌝ ∗ owes (thr d L) O W') ⊢ scatR m d L f7 0 O W from by
    unfold scatR
    rw [xsN_zero]) $$ [Hxs H0' H7' HsS HO]
  · isplitl [Hxs]; · iexact Hxs
    isplitl [H0']; · iexact H0'
    isplitl [H7']; · iexact H7'
    isplitl [HsS]; · iexact HsS
    iexists _; isplitr
    swap; · iexact HO
    ipureintro; intro p hp
    rcases Finset.mem_insert.mp hp with hp | hp; · exact .inr (hp ▸ rfl)
    rcases Finset.mem_insert.mp hp with hp | hp; · exact .inr (hp ▸ rfl)
    rcases Finset.mem_insert.mp hp with hp | hp; · exact .inr (hp ▸ rfl)
    exact .inl hp
  ihave HC := (scat_step m d L hpre f7 0 inb_S64x768_S64x128_0_0 inb_S4096x768_S4096x128_0_0 O W hO) $$ [HC]
  · isplitr; · iexact Hlv
    iexact HC
  rw [wp_bind]
  iapply wp_wand $$ HC; iintro %_ HC
  ihave HC := (scat_step m d L hpre f7 128 inb_S64x768_S64x128_0_128 inb_S4096x768_S4096x128_0_128 O W hO) $$ [HC]
  · isplitr; · iexact Hlv
    iexact HC
  rw [wp_bind]
  iapply wp_wand $$ HC; iintro %_ HC
  ihave HC := (scat_step m d L hpre f7 256 inb_S64x768_S64x128_0_256 inb_S4096x768_S4096x128_0_256 O W hO) $$ [HC]
  · isplitr; · iexact Hlv
    iexact HC
  rw [wp_bind]
  iapply wp_wand $$ HC; iintro %_ HC
  ihave HC := (scat_step m d L hpre f7 384 inb_S64x768_S64x128_0_384 inb_S4096x768_S4096x128_0_384 O W hO) $$ [HC]
  · isplitr; · iexact Hlv
    iexact HC
  rw [wp_bind]
  iapply wp_wand $$ HC; iintro %_ HC
  ihave HC := (scat_step m d L hpre f7 512 inb_S64x768_S64x128_0_512 inb_S4096x768_S4096x128_0_512 O W hO) $$ [HC]
  · isplitr; · iexact Hlv
    iexact HC
  rw [wp_bind]
  iapply wp_wand $$ HC; iintro %_ HC
  ihave HC := (scat_step m d L hpre f7 640 inb_S64x768_S64x128_0_640 inb_S4096x768_S4096x128_0_640 O W hO) $$ [HC]
  · isplitr; · iexact Hlv
    iexact HC
  rw [wp_bind]
  iapply wp_wand $$ HC; iintro %_ HC
  unfold scatR groupR
  icases HC with ⟨Hxs, H0, H7, HsS, %W', %hW', HO⟩
  icases HG with ⟨H1, H2⟩
  subst htb
  ihave HT := (table_or m d L hpre (m (bexpLoc d)) O W hO) $$ [H6 H8 Hb Hs2 HO]
  · isplitr; · iexact Hlv
    unfold tailR
    isplitl [H6]; · iexact H6
    isplitl [H8]; · iexact H8
    isplitl [Hb]; · iexact Hb
    isplitl [Hs2]; · iexact Hs2
    iexists W'; isplitr
    · ipureintro; exact hW'
    iexact HO
  unfold tailR
  iapply wp_wand $$ HT; iintro %_ ⟨H6, H8, Hb, Hs2, HO⟩
  isplitl [Hx' Hi' Hxs Hp Hb]
  · isplitl [Hx']; · iexact Hx'
    isplitl [Hi']; · iexact Hi'
    isplitl [Hxs]; · rw [← xsN_all]; iexact Hxs
    isplitl [Hp]; · iexact Hp
    iexact Hb
  isplitl [H0 H1 H2 H3 H4 H5 H6 H7 H8 Hbufs]
  · isplitr [Hbufs]; swap; · iexact Hbufs
    isplitl [H0]; · iexists _; iexact H0
    isplitl [H1]; · iexists _; iexact H1
    isplitl [H2]; · iexists _; iexact H2
    isplitl [H3]; · iexists _; iexact H3
    isplitl [H4]; · iexists _; iexact H4
    isplitl [H5]; · iexists _; iexact H5
    isplitl [H6]; · iexact H6
    isplitl [H7]; · iexists _; iexact H7
    iexact H8
  isplitl [HsX HsS Hs0 Hs1 Hs2 Hsems]
  · isplitl [HsX]; · iexact HsX
    isplitl [HsS]; · iexact HsS
    isplitl [Hs0]; · iexact Hs0
    isplitl [Hs1]; · iexact Hs1
    isplitl [Hs2]; · iexact Hs2
    iexact Hsems
  iexact HO

/-- A tile's coordinates. -/
def coordsV (c : Fin (grid0.bound 0)) (s : Fin (grid0.bound 1)) : grid0.Coords :=
  fun | 0 => c | 1 => s | ⟨_ + 2, h⟩ => absurd h (Nat.not_lt.2 (Nat.le_add_left _ _))

set_option maxRecDepth 16384 in
theorem defs₀_vector (c : Fin τ.nSC) (s : Fin τ.nSub) :
    defs₀ (F := F) (.scVector c s) 0 ()
      = SparseCore.onTile hcore0 hsub0 (fun c s => cc0__route_body (coordsV c s) xM (Memref.isWhole_whole _) idxM (Memref.isWhole_whole _) xsM (Memref.isWhole_whole _) posM (Memref.isWhole_whole _)
            bexpM (Memref.isWhole_whole _) xrM (Memref.isWhole_whole _) idM (Memref.isWhole_whole _) cntM (Memref.isWhole_whole _) baM (Memref.isWhole_whole _)
            toM (Memref.isWhole_whole _) bcM (Memref.isWhole_whole _) mkM (Memref.isWhole_whole _) poM (Memref.isWhole_whole _) beM (Memref.isWhole_whole _)
            cc0_scratch9 cc0_scratch10 cc0_scoped0 cc0_scoped1 cc0_scoped2) ⟨⟩ c s := rfl

omit [FloatOps F] in
theorem obl_post {thr : Thread nD τ} {A B C : sProp 𝕄} {O : CellTallies nD τ sig (HIx 2)} {W : Waits sig (HIx 2)} {q : Fin 2} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

end Tile

set_option maxRecDepth 16384 in
theorem tileObl (m : (ℓ : Loc nD τ sig) → Buf (Elt F) ℓ) (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  have h := (tile_body m d (coordsV ⟨_, hci.1⟩ ⟨_, hci.2⟩) hF hpre O W hO).trans (wp_mono frame _ _ fun _ => obl_post (q := 0))
  generalize cc0__route_body (F := F) (coordsV ⟨_, hci.1⟩ ⟨_, hci.2⟩) xM (Memref.isWhole_whole _) idxM (Memref.isWhole_whole _) xsM (Memref.isWhole_whole _) posM (Memref.isWhole_whole _)
            bexpM (Memref.isWhole_whole _) xrM (Memref.isWhole_whole _) idM (Memref.isWhole_whole _) cntM (Memref.isWhole_whole _) baM (Memref.isWhole_whole _)
            toM (Memref.isWhole_whole _) bcM (Memref.isWhole_whole _) mkM (Memref.isWhole_whole _) poM (Memref.isWhole_whole _) beM (Memref.isWhole_whole _)
            cc0_scratch9 cc0_scratch10 cc0_scoped0 cc0_scoped1 cc0_scoped2 = prog at h ⊢
  exact h

end Cert.Proof.Route

end
-- ==== Proof.Unsort.lean ====
/-
  The last call's tile: it fetches its 64 tokens' positions, gathers those rows of the sorted output (six copies of 128
  columns, each an indirect copy over the same list), and writes them to its 64 rows of the result.
-/
module

public import proofs.«01_k».proof.Proof.Setup
public import Idealize.ShloMosaic.Lib.Routing.Ops

@[expose] public section

noncomputable section

namespace Cert.Proof.Unsort

open Cert.KernelIdeal Cert.KernelIdeal.Gen
open Cert.Proof.Route

open Idealize.ShloMosaic
open Idealize.ShloMosaic.SparseCore (S V)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 ix2 ix3)

variable {F : FTy → Type} [FloatOps F]

local notation "𝕄" => MT nD τ sig (HIx 2) (Elt F) ℕ UU ℕ

/-! ## The body, its six column copies written once -/

/-- A program of tile `i` of the last call. -/
abbrev UProg (F : FTy → Type) [FloatOps F] (i : grid2.Coords) (α : Type) : Type _ :=
  Prog (TpuEff nD τ sig (Elt F) Λ₀ (.scVector ((i 0).castLE hcore2) ((i 1).castLE hsub2))) α

/-- One column copy: the 128 columns from `o` of the rows that the list names. -/
def gathStep (i : grid2.Coords) (arg2 : Memref sig .scVector .hbm S4096x768 .f32) (arg5 : Memref sig .scVector .vmem S64 .i32)
    (arg6 : Memref sig .scVector .vmem S64x768 .f32) (arg7 : DmaSems sig S_) (o : ℕ)
    (ho : ∀ a, (![0, o] : Fin 2 → ℕ) a + S64x128.size a ≤ S64x768.size a) (ho' : ∀ a, (![0, o] : Fin 2 → ℕ) a + S4096x128.size a ≤ S4096x768.size a) :
    UProg F i PUnit := do
  let src : Memref sig .scVector .hbm S4096x128 .f32 := (arg2.slice (Rect.unit (s := S4096x768) ![0, o] S4096x128.size ho') (fun _ => rfl)).slice
    (Rect.unit (s := S4096x128) ![0, 0] S4096x128.size inb_S4096x128_S4096x128_0_0) (fun _ => rfl)
  let dst : Memref sig .scVector .vmem S64x128 .f32 := arg6.slice (Rect.unit (s := S64x768) ![0, o] S64x128.size ho) (fun _ => rfl)
  SparseCore.enqueueIndirectGather rfl src dst gathers_S4096x128_S64x128 arg5 rfl arg7.sem (View.wordExact_bits rfl) rfl (Or.inl rfl)
  SparseCore.waitIndirectGather arg7.sem src dst (View.wordExact_bits rfl) (View.wordExact_bits rfl)

/-- The body: the positions in, six column copies, the rows out. -/
def unsortProg (i : grid2.Coords) (arg2 : Memref sig .scVector .hbm S4096x768 .f32)
    (arg3 : Memref sig .scVector .hbm S2048 .i32) (arg4 : Memref sig .scVector .hbm S2048x768 .f32)
    (arg5 : Memref sig .scVector .vmem S64 .i32) (harg5 : arg5.IsWhole) (arg6 : Memref sig .scVector .vmem S64x768 .f32) (harg6 : arg6.IsWhole)
    (arg7 r0 r1 : DmaSems sig S_) : UProg F i PUnit := do
  Prog.lift (.enqueueDma (arg3.slice (Rect.unit (s := S2048) (k2_off1 i) S64.size (k2_off1_inb i)) (fun _ => rfl)) (.here arg5) (.dma r0.sem)
    (View.wordExact_bits rfl) harg5.wordExact ⟨Or.inl rfl, trivial⟩)
  Prog.lift (.waitDma2 r0.sem (arg3.slice (Rect.unit (s := S2048) (k2_off1 i) S64.size (k2_off1_inb i)) (fun _ => rfl)) arg5
    (View.wordExact_bits rfl) harg5.wordExact)
  gathStep i arg2 arg5 arg6 arg7 0 inb_S64x768_S64x128_0_0 inb_S4096x768_S4096x128_0_0
  gathStep i arg2 arg5 arg6 arg7 128 inb_S64x768_S64x128_0_128 inb_S4096x768_S4096x128_0_128
  gathStep i arg2 arg5 arg6 arg7 256 inb_S64x768_S64x128_0_256 inb_S4096x768_S4096x128_0_256
  gathStep i arg2 arg5 arg6 arg7 384 inb_S64x768_S64x128_0_384 inb_S4096x768_S4096x128_0_384
  gathStep i arg2 arg5 arg6 arg7 512 inb_S64x768_S64x128_0_512 inb_S4096x768_S4096x128_0_512
  gathStep i arg2 arg5 arg6 arg7 640 inb_S64x768_S64x128_0_640 inb_S4096x768_S4096x128_0_640
  Prog.lift (.enqueueDma arg6 (.here (arg4.slice (Rect.unit (s := S2048x768) (k2_off2 i) S64x768.size (k2_off2_inb i)) (fun _ => rfl))) (.dma r1.sem)
    harg6.wordExact (View.wordExact_bits rfl) ⟨Or.inl rfl, trivial⟩)
  Prog.lift (.waitDma2 r1.sem arg6 (arg4.slice (Rect.unit (s := S2048x768) (k2_off2 i) S64x768.size (k2_off2_inb i)) (fun _ => rfl))
    harg6.wordExact (View.wordExact_bits rfl))
  pure ⟨⟩

set_option maxRecDepth 100000 in
theorem unsort_eq (i : grid2.Coords) (arg2 : Memref sig .scVector .hbm S4096x768 .f32) (harg2 : arg2.IsWhole)
    (arg3 : Memref sig .scVector .hbm S2048 .i32) (harg3 : arg3.IsWhole) (arg4 : Memref sig .scVector .hbm S2048x768 .f32) (harg4 : arg4.IsWhole)
    (arg5 : Memref sig .scVector .vmem S64 .i32) (harg5 : arg5.IsWhole) (arg6 : Memref sig .scVector .vmem S64x768 .f32) (harg6 : arg6.IsWhole)
    (arg7 r0 r1 : DmaSems sig S_) :
    cc2__unsort_body (F := F) i arg2 harg2 arg3 harg3 arg4 harg4 arg5 harg5 arg6 harg6 arg7 r0 r1
      = unsortProg i arg2 arg3 arg4 arg5 harg5 arg6 harg6 arg7 r0 r1 := by
  rfl

/-! ## The tile -/

section Tile

variable (m : (ℓ : Loc nD τ sig) → Buf (Elt F) ℓ) (d : Dev nD) (L : grid2.Coords)

abbrev cV (L : grid2.Coords) : Fin τ.nSC := (L 0).castLE hcore2
abbrev jV (L : grid2.Coords) : Fin τ.nSub := (L 1).castLE hsub2
/-- The tile's number. -/
abbrev wV (L : grid2.Coords) : ℕ := 2 * (L 1).val + (L 0).val

abbrev ysM : Memref sig .scVector .hbm S4096x768 .f32 := Memref.whole main_v2_scv
abbrev posM : Memref sig .scVector .hbm S2048 .i32 := Memref.whole main_v0_1_scv
abbrev outM : Memref sig .scVector .hbm S2048x768 .f32 := Memref.whole main_v3_scv
abbrev lstM : Memref sig .scVector .vmem S64 .i32 := Memref.whole cc2_scratch0
abbrev rowM : Memref sig .scVector .vmem S64x768 .f32 := Memref.whole cc2_scratch1
/-- The tile's places of the position array, as it addresses them. -/
abbrev posK : Memref sig .scVector .hbm S64 .i32 := posM.slice (Rect.unit (s := S2048) (k2_off1 L) S64.size (k2_off1_inb L)) (fun _ => rfl)
/-- The tile's rows of the result, as it addresses them. -/
abbrev outK : Memref sig .scVector .hbm S64x768 .f32 := outM.slice (Rect.unit (s := S2048x768) (k2_off2 L) S64x768.size (k2_off2_inb L)) (fun _ => rfl)

omit [FloatOps F] in
theorem bounds : (L 0).val < 2 ∧ (L 1).val < 16 := ⟨(L 0).isLt, (L 1).isLt⟩

theorem set_posK : (posK L).view.set = tok1 (wV L) := by
  show ((View.whole (main_v0_1_scv : Ref sig .scVector)).slice (Rect.unit (s := S2048) (k2_off1 L) S64.size (k2_off1_inb L))).set = _
  rw [View.set_slice]
  refine Finset.map_refl.trans ?_
  ext j
  have hb := bounds L
  rw [Rect.mem_set_unit]
  simp only [tok1, Finset.mem_filter, Finset.mem_univ, true_and, k2_off1_eq]
  refine Iff.trans (@Fin.forall_fin_one (fun a : Fin 1 => _)) ?_
  show (128 * (L 1).val + 64 * (L 0).val ≤ (j 0).val ∧ (j 0).val < 128 * (L 1).val + 64 * (L 0).val + 64)
    ↔ (j 0).val / 64 = 2 * (L 1).val + (L 0).val
  omega

theorem set_outK : (outK L).view.set = tok2 (wV L) := by
  show ((View.whole (main_v3_scv : Ref sig .scVector)).slice (Rect.unit (s := S2048x768) (k2_off2 L) S64x768.size (k2_off2_inb L))).set = _
  rw [View.set_slice]
  refine Finset.map_refl.trans ?_
  ext j
  have hb := bounds L
  have hj : (j 1).val < 768 := (j 1).isLt
  rw [Rect.mem_set_unit]
  simp only [tok2, Finset.mem_filter, Finset.mem_univ, true_and, k2_off2_eq]
  refine Iff.trans (@Fin.forall_fin_two (fun a : Fin 2 => _)) ?_
  show ((128 * (L 1).val + 64 * (L 0).val ≤ (j 0).val ∧ (j 0).val < 128 * (L 1).val + 64 * (L 0).val + 64) ∧ (0 ≤ (j 1).val ∧ (j 1).val < 0 + 768))
    ↔ (j 0).val / 64 = 2 * (L 1).val + (L 0).val
  omega

abbrev thr (d : Dev nD) (L : grid2.Coords) : Thread nD τ := V d (cV L) (jV L)

/-- The tile's list: its tokens' positions. -/
def lstV : Buf (Elt F) ((thr d L).loc cc2_scratch0) := fun j => BitVec.ofNat 32 (posN (E m d) (64 * wV L + (j 0).val))

/-- The row buffer once the columns below `n` are in. -/
def rowV (f₀ : Buf (Elt F) ((thr d L).loc cc2_scratch1)) (n : ℕ) : Buf (Elt F) ((thr d L).loc cc2_scratch1) := fun j =>
  if (j 1).val < n then ysV m d (ix2 ⟨posN (E m d) (64 * wV L + (j 0).val) % 4096, Nat.mod_lt _ (by decide)⟩ (j 1)) else f₀ j

theorem row_none (f₀ : Buf (Elt F) ((thr d L).loc cc2_scratch1)) : rowV m d L f₀ 0 = f₀ := by
  funext j
  exact if_neg (Nat.not_lt_zero _)

theorem posN_small (hpre : PreOK m) (j : S64.Idx) : posN (E m d) (64 * wV L + (j 0).val) < 4096 := by
  have hb := bounds L
  have hj : (j 0).val < 64 := (j 0).isLt
  exact posN_lt_4096 (E_lt hpre d) (by show 64 * (2 * (L 1).val + (L 0).val) + _ < _; omega)

theorem lst_word (hpre : PreOK m) (j : S64.Idx) : (lstV m d L j).toNat = posN (E m d) (64 * wV L + (j 0).val) := by
  have := posN_small m d L hpre j
  unfold lstV
  show (BitVec.ofNat 32 _).toNat = _
  rw [BitVec.toNat_ofNat, Nat.mod_eq_of_lt (by omega)]

theorem lst_read (x : S64.Idx) : (lstM).view.read (Elt F) (lstV m d L) x = lstV m d L x := by
  simp only [Memref.view_whole, View.read_whole]

omit [FloatOps F] in
/-- The `k`-th word of a list of 64. -/
theorem sym64 (k : Fin S64.numel) : (S64.rowMajor.symm k 0).val = k.val := by
  rw [show S64.rowMajor.symm k = _ from Routing.symm1 (N := 64) k]
  rfl

/-- The list's words name rows. -/
theorem lst_in (hpre : PreOK m) : ∀ x, ((lstM).view.read (Elt F) (lstV m d L) x).toNat < S4096x128.size gathers_S4096x128_S64x128.axis := by
  intro x
  rw [lst_read, lst_word m d L hpre]
  exact posN_small m d L hpre x

/-- The source of one column copy: 128 columns of the sorted output. -/
abbrev colS (o : ℕ) (ho' : ∀ a, (![0, o] : Fin 2 → ℕ) a + S4096x128.size a ≤ S4096x768.size a) : Memref sig .scVector .hbm S4096x128 .f32 :=
  (ysM.slice (Rect.unit (s := S4096x768) ![0, o] S4096x128.size ho') (fun _ => rfl)).slice
    (Rect.unit (s := S4096x128) ![0, 0] S4096x128.size inb_S4096x128_S4096x128_0_0) (fun _ => rfl)
/-- Its destination: 128 columns of the row buffer. -/
abbrev colD (o : ℕ) (ho : ∀ a, (![0, o] : Fin 2 → ℕ) a + S64x128.size a ≤ S64x768.size a) : Memref sig .scVector .vmem S64x128 .f32 :=
  rowM.slice (Rect.unit (s := S64x768) ![0, o] S64x128.size ho) (fun _ => rfl)

omit [FloatOps F] in
theorem colD_emb (o : ℕ) (ho : ∀ a, (![0, o] : Fin 2 → ℕ) a + S64x128.size a ≤ S64x768.size a) (x : S64x128.Idx) :
    (((colD o ho).view.emb x 0).val = (x 0).val) ∧ (((colD o ho).view.emb x 1).val = o + (x 1).val) := by
  constructor
  · show (![0, o] : Fin 2 → ℕ) 0 + 1 * (x 0).val = _
    simp
  · show (![0, o] : Fin 2 → ℕ) 1 + 1 * (x 1).val = _
    simp

omit [FloatOps F] in
theorem colS_emb (o : ℕ) (ho' : ∀ a, (![0, o] : Fin 2 → ℕ) a + S4096x128.size a ≤ S4096x768.size a) (x : S4096x128.Idx) :
    (((colS o ho').view.emb x 0).val = (x 0).val) ∧ (((colS o ho').view.emb x 1).val = o + (x 1).val) := by
  constructor
  · show (![0, o] : Fin 2 → ℕ) 0 + 1 * ((![0, 0] : Fin 2 → ℕ) 0 + 1 * (x 0).val) = _
    simp
  · show (![0, o] : Fin 2 → ℕ) 1 + 1 * ((![0, 0] : Fin 2 → ℕ) 1 + 1 * (x 1).val) = _
    simp

/-- One column copy takes the row buffer from `o` columns done to `o + 128`. -/
theorem col_done (hpre : PreOK m) (f₀ : Buf (Elt F) ((thr d L).loc cc2_scratch1)) (o : ℕ)
    (ho : ∀ a, (![0, o] : Fin 2 → ℕ) a + S64x128.size a ≤ S64x768.size a) (ho' : ∀ a, (![0, o] : Fin 2 → ℕ) a + S4096x128.size a ≤ S4096x768.size a) :
    (colD o ho).view.write (Elt F) (rowV m d L f₀ o)
        (SparseCore.gatherPayload gathers_S4096x128_S64x128 ((colS o ho').view.read (Elt F) (ysV m d))
          (SparseCore.rows ((lstM).view.read (Elt F) (lstV m d L)) rfl (lst_in m d L hpre))) Finset.univ
      = rowV m d L f₀ (o + 128) := by
  funext i
  have hi : (i 1).val < 768 := (i 1).isLt
  have ho1 : o + 128 ≤ 768 := ho 1
  by_cases hc : o ≤ (i 1).val ∧ (i 1).val < o + 128
  · let x : S64x128.Idx := ix2 (i 0) ⟨(i 1).val - o, by omega⟩
    have hx : (colD o ho).view.emb x = i := by
      funext a
      match a with
      | ⟨0, _⟩ => exact Fin.ext ((colD_emb o ho x).1.trans rfl)
      | ⟨1, _⟩ => exact Fin.ext ((colD_emb o ho x).2.trans (by show o + ((i 1).val - o) = (i 1).val; omega))
    conv_lhs => rw [← hx]
    rw [View.write_emb_of_mem _ _ (Finset.mem_univ x)]
    refine (cast_eq _ _).trans ?_
    unfold SparseCore.gatherPayload
    rw [View.read_apply]
    refine (cast_eq _ _).trans ?_
    unfold rowV
    rw [if_pos hc.2]
    congr 1
    funext a
    have he := colS_emb o ho' (gathers_S4096x128_S64x128.idx (SparseCore.rows ((lstM).view.read (Elt F) (lstV m d L)) rfl (lst_in m d L hpre)) x)
    match a with
    | ⟨0, _⟩ =>
      refine Fin.ext (he.1.trans ?_)
      refine (congrArg Fin.val (Shape.Gathers.idx_axis gathers_S4096x128_S64x128 _ x)).trans ?_
      refine (congrArg BitVec.toNat (lst_read m d L _)).trans ?_
      rw [lst_word m d L hpre, sym64]
      show posN (E m d) (64 * wV L + (i 0).val) = posN (E m d) (64 * wV L + (i 0).val) % 4096
      have hi0 : (i 0).val < 64 := (i 0).isLt
      exact (Nat.mod_eq_of_lt (posN_small m d L hpre (ix1 ⟨(i 0).val, hi0⟩))).symm
    | ⟨1, _⟩ =>
      refine Fin.ext (he.2.trans ?_)
      refine (congrArg (o + ·) (Shape.Gathers.idx_of_ne gathers_S4096x128_S64x128 _ x 1 (by decide))).trans ?_
      show o + ((i 1).val - o) = (i 1).val
      omega
  · rw [View.write_of_not_mem]
    · unfold rowV
      by_cases h : (i 1).val < o
      · rw [if_pos h, if_pos (by omega)]
      · rw [if_neg h, if_neg (by omega)]
    · intro hmem
      obtain ⟨x, -, hx⟩ := Finset.mem_map.mp hmem
      have := (colD_emb o ho x).2
      rw [hx] at this
      have hx1 : (x 1).val < 128 := (x 1).isLt
      omega

abbrev semA (d : Dev nD) (L : grid2.Coords) : GSem nD τ sig := (thr d L, .dma cc2_scratch2.sem)
abbrev semB (d : Dev nD) (L : grid2.Coords) : GSem nD τ sig := (thr d L, .dma cc2_scoped0.sem)
abbrev semC (d : Dev nD) (L : grid2.Coords) : GSem nD τ sig := (thr d L, .dma cc2_scoped1.sem)

/-- What a column copy holds, `n` columns done: a share of the sorted output, the row buffer, the list, the copies' semaphore
    at zero, and what the tile owes. -/
def colR (f₀ : Buf (Elt F) ((thr d L).loc cc2_scratch1)) (n : ℕ) (O : CellTallies nD τ sig (HIx 2)) (W : Waits sig (HIx 2)) : sProp 𝕄 :=
  iprop((ysLoc d ↦{sh (wV L)} ysV m d) ∗ ((thr d L).loc cc2_scratch1 ↦{fullShare} rowV m d L f₀ n)
    ∗ ((thr d L).loc cc2_scratch0 ↦{fullShare} lstV m d L) ∗ semVal (semA d L) 0
    ∗ ∃ W', ⌜∀ p ∈ W', p ∈ W ∨ p.2 = none⌝ ∗ owes (thr d L) O W')

theorem gath_step (hpre : PreOK m) (f₀ : Buf (Elt F) ((thr d L).loc cc2_scratch1)) (o : ℕ)
    (ho : ∀ a, (![0, o] : Fin 2 → ℕ) a + S64x128.size a ≤ S64x768.size a) (ho' : ∀ a, (![0, o] : Fin 2 → ℕ) a + S4096x128.size a ≤ S4096x768.size a)
    (O : CellTallies nD τ sig (HIx 2)) (W : Waits sig (HIx 2)) (hO : ∀ g, O g none = 0) :
    iprop(levAts (K (F := F)).L (K (F := F)).lev ∗ colR m d L f₀ o O W)
      ⊢ wp frame (wpE (defs₀ (F := F)) 𝒱₀ (thr d L) none) Set.univ (gathStep L ysM lstM rowM cc2_scratch2 o ho ho')
          fun _ => colR m d L f₀ (o + 128) O W := by
  unfold colR gathStep
  iintro ⟨#Hlv, Hy, Hr, Hs, Hv, %W', %hW', HO⟩
  ihave Hmw := (show levAts (K (F := F)).L (K (F := F)).lev ⊢ Transfers.MayWaits (thr d L) (default : HIx 2) O from
    (K (F := F)).mayWaits_none (thr := thr d L) hO) $$ Hlv
  ihave Hy' := (pointsTo_split_subset (ℓ := ysLoc d) (q := sh (wV L)) (f := ysV m d) (S := Finset.univ) (Finset.subset_univ (colS o ho').view.set)).1 $$ Hy
  icases Hy' with ⟨Hys, Hyr⟩
  ihave Hr' := (pointsTo_split_subset (ℓ := (thr d L).loc cc2_scratch1) (q := fullShare) (f := rowV m d L f₀ o) (S := Finset.univ) (Finset.subset_univ (colD o ho).view.set)).1 $$ Hr
  icases Hr' with ⟨Hrs, Hrr⟩
  have hss : (lstM).view.set = Finset.univ := View.set_whole _
  ihave Hs' := (Entails.of_eq (show ((thr d L).loc cc2_scratch0 ↦{fullShare} lstV m d L : sProp 𝕄)
      = (lstM).view.loc (thr d L) ↦[(lstM).view.set]{fullShare} lstV m d L by rw [hss])) $$ Hs
  iapply (SparseCore.wp_indirectGatherLocal countersEmb 𝒱₀ (thr d L) none (hg := gathers_S4096x128_S64x128) (default : HIx 2)
      (colD o ho).view.dmaCredit (SparseCore.sum_rowCredit_eq_dmaCredit (colD o ho) _ fun _ => rfl) (by decide) (lst_in m d L hpre)) $$ [Hys Hrs Hs' Hv]
  · isplitl [Hys]; · iexact Hys
    isplitl [Hrs]; · iexact Hrs
    isplitl [Hs']; · iexact Hs'
    iexact Hv
  iintro Hfl
  iapply (Transfers.wp_waitLocalO countersEmb 𝒱₀ (thr d L) none (default : HIx 2) (rfl : (colD o ho).view.dmaCredit = _)) $$ [Hfl HO]
  · isplitl [Hfl]; · iexact Hfl
    isplitl [HO]; · iexact HO
    iapply (Transfers.MayWaits.elim (SemLoc.dma cc2_scratch2.sem)) $$ Hmw
  iintro ⟨⟨Hrs, Hys, Hs'⟩, Hv, HO⟩
  sl_step
  isplitl [Hys Hyr]
  · iapply (pointsTo_split_subset (ℓ := ysLoc d) (q := sh (wV L)) (f := ysV m d) (S := Finset.univ) (Finset.subset_univ (colS o ho').view.set)).2
    isplitl [Hys]; · iexact Hys
    iexact Hyr
  isplitl [Hrs Hrr]
  · have hd := col_done m d L hpre f₀ o ho ho'
    rw [← hd]
    iapply (pointsTo_split_subset (ℓ := (thr d L).loc cc2_scratch1) (q := fullShare) (S := Finset.univ) (Finset.subset_univ (colD o ho).view.set)).2
    isplitl [Hrs]; · iexact Hrs
    iapply (Entails.of_eq (pointsTo_congr fun i hi => (View.write_of_not_mem _ _ _ (Finset.mem_sdiff.mp hi).2).symm))
    iexact Hrr
  isplitl [Hs']
  · rw [← hss]; iexact Hs'
  isplitl [Hv]; · iexact Hv
  iexists _; isplitr
  swap; · iexact HO
  ipureintro; intro p hp
  rcases Finset.mem_insert.mp hp with hp | hp; · exact .inr (hp ▸ rfl)
  exact hW' p hp

omit [FloatOps F] in
theorem ownSems0_V :
    (ownSems0 (thr d L) : sProp 𝕄)
      = iprop(semVal (semA d L) 0 ∗ semVal (semB d L) 0 ∗ semVal (semC d L) 0
          ∗ bigSep ((((ownCells (thr d L)).erase (semA d L)).erase (semB d L)).erase (semC d L)) fun g => semVal g 0) := by
  unfold SparseCore.Cfg.ownSems0
  rw [SparseCore.bigSep_erase' ((mem_ownCells (g := semA d L)).mpr ⟨rfl, by
      show (SemLoc.dma cc2_scratch2.sem : SemLoc sig).isScoped .scVector = true; decide⟩),
    SparseCore.bigSep_erase' (Finset.mem_erase.mpr ⟨by simp [semA, semB]; decide, (mem_ownCells (g := semB d L)).mpr ⟨rfl, by
      show (SemLoc.dma cc2_scoped0.sem : SemLoc sig).isScoped .scVector = true; decide⟩⟩),
    SparseCore.bigSep_erase' (Finset.mem_erase.mpr ⟨by simp [semB, semC]; decide, Finset.mem_erase.mpr ⟨by simp [semA, semC]; decide,
      (mem_ownCells (g := semC d L)).mpr ⟨rfl, by show (SemLoc.dma cc2_scoped1.sem : SemLoc sig).isScoped .scVector = true; decide⟩⟩⟩)]

omit [FloatOps F] in
/-- The two scratch buffers are among the subcore's own. -/
theorem ownBufs_V :
    (ownBufs (thr d L) : sProp 𝕄)
      = iprop((∃ f, (thr d L).loc cc2_scratch0 ↦{fullShare} f) ∗ (∃ f, (thr d L).loc cc2_scratch1 ↦{fullShare} f)
          ∗ bigSep (((ownRefs (τ := τ) (.scVector (cV L) (jV L))).erase ((Proc.scVector (cV L) (jV L)).devRef cc2_scratch0)).erase
              ((Proc.scVector (cV L) (jV L)).devRef cc2_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc2_scratch0) rfl)).trans ?_
  rw [SparseCore.bigSep_erase' (Finset.mem_erase.mpr ⟨fun e => absurd (Proc.devRef_injective _ e) (show (cc2_scratch1 : Ref sig .scVector) ≠ cc2_scratch0 by decide),
    SparseCore.Cfg.mem_ownRefs_of_owner (p := Proc.scVector (cV L) (jV L)) (b := (Proc.scVector (cV L) (jV L)).devRef cc2_scratch1) rfl⟩)]

/-- The fetched list. -/
theorem lst_landed (fs : Buf (Elt F) ((thr d L).loc cc2_scratch0)) :
    View.write (Elt F) (lstM).view fs ((posK L).view.read (Elt F) (posB m d)) Finset.univ = lstV m d L := by
  rw [View.write_whole_univ]
  funext j
  refine (View.read_apply _ _).trans ((cast_eq _ _).trans ?_)
  unfold posB lstV
  congr 2
  show k2_off1 L 0 + 1 * (j 0).val = _
  rw [k2_off1_eq]
  show 128 * (L 1).val + 64 * (L 0).val + 1 * (j 0).val = 64 * (2 * (L 1).val + (L 0).val) + (j 0).val
  omega

/-- The rows written. -/
theorem out_landed (fo : Buf (Elt F) (outLoc d)) (f₀ : Buf (Elt F) ((thr d L).loc cc2_scratch1)) :
    ∀ i ∈ (outK L).view.set, (outK L).view.writes (Elt F) fo [⟨Rect.whole S64x768, (rowM).view.read (Elt F) (rowV m d L f₀ 768)⟩] i = outV m d i := by
  intro i hi
  obtain ⟨x, -, rfl⟩ := Finset.mem_map.mp hi
  have hw : (outK L).view.emb x = ((outK L).view.slice (Rect.whole S64x768)).emb x := by
    show _ = (outK L).view.emb ((Rect.whole S64x768).emb x)
    congr 1
    funext a
    refine Fin.ext ?_
    show (x a).val = 0 + 1 * (x a).val
    omega
  refine ((congrArg _ hw).trans (View.write_emb_of_mem (v := (outK L).view.slice (Rect.whole S64x768)) _ _ (Finset.mem_univ x))).trans ?_
  refine (cast_eq _ _).trans ?_
  simp only [Memref.view_whole, View.read_whole]
  have hx1 : (x 1).val < 768 := (x 1).isLt
  have h0 : ((outK L).view.emb x 0).val = 64 * wV L + (x 0).val := by
    show k2_off2 L 0 + 1 * (x 0).val = _
    rw [k2_off2_eq]
    show 128 * (L 1).val + 64 * (L 0).val + 1 * (x 0).val = 64 * (2 * (L 1).val + (L 0).val) + (x 0).val
    omega
  have h1 : (outK L).view.emb x 1 = x 1 := by
    refine Fin.ext ?_
    show k2_off2 L 1 + 1 * (x 1).val = _
    rw [k2_off2_eq]
    show 0 + 1 * (x 1).val = _
    omega
  unfold rowV outV
  rw [if_pos hx1]
  congr 1
  funext a
  match a with
  | ⟨0, _⟩ =>
    refine Fin.ext ?_
    show _ % 4096 = _ % 4096
    rw [h0]
  | ⟨1, _⟩ => exact h1.symm

omit [FloatOps F] in
theorem pts_posK (f : Buf (Elt F) (posLoc d)) :
    ((posK L).view.loc (thr d L) ↦[(posK L).view.set]{fullShare} f : sProp 𝕄) = posLoc d ↦[tok1 (wV L)]{fullShare} f := by
  rw [set_posK]
omit [FloatOps F] in
theorem pts_outK (f : Buf (Elt F) (outLoc d)) :
    ((outK L).view.loc (thr d L) ↦[(outK L).view.set]{fullShare} f : sProp 𝕄) = outLoc d ↦[tok2 (wV L)]{fullShare} f := by
  rw [set_outK]

/-- The tile's task. -/
theorem tile_body (hF : (K (F := F)).Facts) (hpre : PreOK m) (O : CellTallies nD τ sig (HIx 2)) (W : Waits sig (HIx 2)) (hO : ∀ g, O g none = 0) :
    iprop(levAts (K (F := F)).L (K (F := F)).lev ∗ emp
        ∗ unsortR m d (wV L) (m (outLoc d))
        ∗ scopedBufs (thr d L) ∗ scopedSems0 (thr d L) ∗ owes (thr d L) O W)
      ⊢ wp frame (wpE (defs₀ (F := F)) 𝒱₀ (thr d L) none) Set.univ
          (cc2__unsort_body L ysM (Memref.isWhole_whole _) posM (Memref.isWhole_whole _) outM (Memref.isWhole_whole _)
            lstM (Memref.isWhole_whole _) rowM (Memref.isWhole_whole _) cc2_scratch2 cc2_scoped0 cc2_scoped1)
          fun _ => iprop(unsortR m d (wV L) (outV m d)
            ∗ scopedBufs (thr d L) ∗ scopedSems0 (thr d L)
            ∗ ∃ W', ⌜∀ p ∈ W', p ∈ W ∨ p.2 = none⌝ ∗ owes (thr d L) O W') := by
  rw [unsort_eq]; unfold unsortProg unsortR
  rw [(K (F := F)).scopedBufs_V hF d (cV L) (jV L), SparseCore.Cfg.scopedSems0_V (Val := Elt F) d (cV L) (jV L), ownSems0_V, ownBufs_V]
  iintro ⟨#Hlv, -, ⟨Hy, Hp, Ho⟩, ⟨⟨%fs, Hs⟩, ⟨%fr, Hr⟩, Hbufs⟩, ⟨HsemA, HsemB, HsemC, Hsems⟩, HO⟩
  ihave Hmw := (show levAts (K (F := F)).L (K (F := F)).lev ⊢ Transfers.MayWaits (thr d L) (default : HIx 2) O from
    (K (F := F)).mayWaits_none (thr := thr d L) hO) $$ Hlv
  ihave Hp' := (Entails.of_eq (pts_posK (F := F) d L _).symm) $$ Hp
  ihave Ho' := (Entails.of_eq (pts_outK (F := F) d L _).symm) $$ Ho
  ihave Hs' := (Entails.of_eq (show ((thr d L).loc cc2_scratch0 ↦{fullShare} fs : sProp 𝕄) = (lstM).view.loc (thr d L) ↦{fullShare} fs from rfl)) $$ Hs
  sl_exec
  rw [show tile_body.sl.dma0 m d L = (posK L).view.read (Elt F) (posB m d) from rfl, lst_landed]
  ihave HC := (show iprop((ysLoc d ↦{sh (wV L)} ysV m d) ∗ ((thr d L).loc cc2_scratch1 ↦{fullShare} fr)
      ∗ ((thr d L).loc cc2_scratch0 ↦{fullShare} lstV m d L) ∗ semVal (semA d L) 0
      ∗ owes (thr d L) O (insert (SemLoc.dma cc2_scoped0.sem, default) W))
      ⊢ colR m d L fr 0 O (insert (SemLoc.dma cc2_scoped0.sem, default) W) from by
    unfold colR
    iintro ⟨H1, H2, H3, H4, H5⟩
    isplitl [H1]; · iexact H1
    isplitl [H2]; · rw [row_none]; iexact H2
    isplitl [H3]; · iexact H3
    isplitl [H4]; · iexact H4
    iexists _; isplitr
    swap; · iexact H5
    ipureintro; exact fun p hp => .inl hp) $$ [Hy Hr Hs' HsemA HO]
  · isplitl [Hy]; · iexact Hy
    isplitl [Hr]; · iexact Hr
    isplitl [Hs']; · iexact Hs'
    isplitl [HsemA]; · iexact HsemA
    iexact HO
  ihave HC := (gath_step m d L hpre fr 0 inb_S64x768_S64x128_0_0 inb_S4096x768_S4096x128_0_0 O _ hO) $$ [HC]
  · isplitr; · iexact Hlv
    iexact HC
  iapply wp_wand $$ HC; iintro %_ HC
  sl_exec
  ihave HC := (gath_step m d L hpre fr 128 inb_S64x768_S64x128_0_128 inb_S4096x768_S4096x128_0_128 O _ hO) $$ [HC]
  · isplitr; · iexact Hlv
    iexact HC
  iapply wp_wand $$ HC; iintro %_ HC
  sl_exec
  ihave HC := (gath_step m d L hpre fr 256 inb_S64x768_S64x128_0_256 inb_S4096x768_S4096x128_0_256 O _ hO) $$ [HC]
  · isplitr; · iexact Hlv
    iexact HC
  iapply wp_wand $$ HC; iintro %_ HC
  sl_exec
  ihave HC := (gath_step m d L hpre fr 384 inb_S64x768_S64x128_0_384 inb_S4096x768_S4096x128_0_384 O _ hO) $$ [HC]
  · isplitr; · iexact Hlv
    iexact HC
  iapply wp_wand $$ HC; iintro %_ HC
  sl_exec
  ihave HC := (gath_step m d L hpre fr 512 inb_S64x768_S64x128_0_512 inb_S4096x768_S4096x128_0_512 O _ hO) $$ [HC]
  · isplitr; · iexact Hlv
    iexact HC
  iapply wp_wand $$ HC; iintro %_ HC
  sl_exec
  ihave HC := (gath_step m d L hpre fr 640 inb_S64x768_S64x128_0_640 inb_S4096x768_S4096x128_0_640 O _ hO) $$ [HC]
  · isplitr; · iexact Hlv
    iexact HC
  iapply wp_wand $$ HC; iintro %_ HC
  unfold colR
  icases HC with ⟨Hy, Hr, Hs, HsemA, %W', %hW', HO⟩
  ihave Hr' := (Entails.of_eq (show ((thr d L).loc cc2_scratch1 ↦{fullShare} rowV m d L fr 768 : sProp 𝕄) = (rowM).view.loc (thr d L) ↦{fullShare} rowV m d L fr 768 from rfl)) $$ Hr
  sl_exec
  sl_step
  isplitl [Hy Hp' Ho']
  · isplitl [Hy]; · iexact Hy
    isplitl [Hp']; · iapply (Entails.of_eq (pts_posK (F := F) d L _)); iexact Hp'
    iapply (Entails.of_eq (pts_outK (F := F) d L _))
    iapply (Entails.of_eq (pointsTo_congr (out_landed m d L _ fr))); iexact Ho'
  isplitl [Hs Hr' Hbufs]
  · isplitl [Hs]; · iexists _; iexact Hs
    isplitl [Hr']; · iexists _; iexact Hr'
    iexact Hbufs
  isplitl [HsemA HsemB HsemC Hsems]
  · isplitl [HsemA]; · iexact HsemA
    isplitl [HsemB]; · iexact HsemB
    isplitl [HsemC]; · iexact HsemC
    iexact Hsems
  iexists _; isplitr
  swap; · iexact HO
  ipureintro; intro p hp
  rcases Finset.mem_insert.mp hp with hp | hp; · exact .inr (hp ▸ rfl)
  rcases hW' p hp with hp | hp
  · rcases Finset.mem_insert.mp hp with hp | hp; · exact .inr (hp ▸ rfl)
    exact .inl hp
  · exact .inr hp

/-! ## The obligation -/

def coordsV (c : Fin (grid2.bound 0)) (s : Fin (grid2.bound 1)) : grid2.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 2 ()
      = SparseCore.onTile hcore2 hsub2 (fun c s => cc2__unsort_body (coordsV c s)
          ysM (Memref.isWhole_whole _) posM (Memref.isWhole_whole _) outM (Memref.isWhole_whole _)
          lstM (Memref.isWhole_whole _) rowM (Memref.isWhole_whole _) cc2_scratch2 cc2_scoped0 cc2_scoped1) ⟨⟩ c s := rfl

omit [FloatOps F] in
theorem obl_post {thr : Thread nD τ} {A B C : sProp 𝕄} {O : CellTallies nD τ sig (HIx 2)} {W : Waits sig (HIx 2)} {q : Fin 2} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

end Tile

set_option maxRecDepth 16384 in
theorem tileObl (m : (ℓ : Loc nD τ sig) → Buf (Elt F) ℓ) (hF : (K (F := F)).Facts) (hpre : PreOK m) : (K (F := F)).TileObl (D (F := F)) 𝒱 (P m) v₀ 1 := by
  intro d c i O W hO _ _
  simp only [show (P m).ox = fun _ _ => 0 from rfl, add_zero]
  have hci : ((K (F := F)).core 1 c).val < grid2.bound 0 ∧ ((K (F := F)).sub 1 i).val < grid2.bound 1 := ⟨c.isLt, i.isLt⟩
  change _ ⊢ wp _ _ _ (Pipeline.liftProg (defs₀ (F := F) (.scVector ((K (F := F)).core 1 c) ((K (F := F)).sub 1 i)) 2 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m d (coordsV ⟨_, hci.1⟩ ⟨_, hci.2⟩) hF hpre O W hO).trans (wp_mono frame _ _ fun _ => obl_post)

end Cert.Proof.Unsort

end
-- ==== Proof.Main.lean ====
/-
  The program's run: the three calls and the slice between them on the TensorCore, and the launch.
-/
module

public import proofs.«01_k».proof.Proof.Region
public import proofs.«01_k».proof.Proof.RouteTile
public import proofs.«01_k».proof.Proof.Unsort

@[expose] public section

noncomputable section

namespace Cert.Proof.Route

open Cert.KernelIdeal Cert.KernelIdeal.Gen

open Idealize.ShloMosaic
open Idealize.ShloMosaic.Rounds
open Idealize.SL Idealize.SL.RA Idealize.SL.BI
open scoped Idealize.SL.BI
open Idealize.SL.BI.BIBase Idealize.SL.BI.Laws Idealize.SL.ProofMode Idealize.SL.Sem
open Idealize.ShloMosaic.SparseCore.Cfg (HIx)
open Idealize.ShloMosaic.Tactic
open Idealize.ShloMosaic.ValueIdx (ix1 ix2 ix3)

attribute [local irreducible] usedN beN posN

variable {F : FTy → Type} [FloatOps F]

local notation "𝕄" => MT nD τ sig (HIx 2) (Elt F) ℕ UU ℕ

/-! ## The first call's operands, split over the tiles -/

section Split

variable (m : (ℓ : Loc nD τ sig) → Buf (Elt F) ℓ)

/-- The rows of the sorted array that some token goes to. -/
def rowAll (d : Dev nD) : Finset S4096x768.Idx := Finset.univ.biUnion fun w : Fin 32 => rowSet m d w.val

variable {m} in
theorem rows_split (hpre : PreOK m) (d : Dev nD) (f : Buf (Elt F) (xsLoc d)) :
    (xsLoc d ↦[rowAll m d]{fullShare} f : sProp 𝕄) = bigSep Finset.univ fun w : Fin 32 => xsLoc d ↦[rowSet m d w.val]{fullShare} f := by
  unfold rowAll
  refine pointsTo_biUnion (ℓ := xsLoc d) Finset.univ (fun w : Fin 32 => rowSet m d w.val) fun a _ b _ hab => ?_
  refine Finset.disjoint_left.mpr fun j h1 h2 => hab (Fin.ext ?_)
  obtain ⟨b1, e1, p1⟩ := (Finset.mem_filter.mp h1).2
  obtain ⟨b2, e2, p2⟩ := (Finset.mem_filter.mp h2).2
  have : b1.val = b2.val := posN_inj b1.isLt b2.isLt (p1.trans p2.symm)
  rw [← e1, ← e2, this]

variable {m} in
theorem rows_whole (d : Dev nD) (f : Buf (Elt F) (xsLoc d)) :
    (xsLoc d ↦{fullShare} f : sProp 𝕄) ⊣⊢ iprop((xsLoc d ↦[rowAll m d]{fullShare} f) ∗ xsLoc d ↦[Finset.univ \ rowAll m d]{fullShare} f) :=
  pointsTo_split_subset (Finset.subset_univ _)

/-- Past the tokens' rows the sorted array is as it was. -/
theorem rows_rest (d : Dev nD) : (xsLoc d ↦[Finset.univ \ rowAll m d]{fullShare} m (xsLoc d) : sProp 𝕄) = xsLoc d ↦[Finset.univ \ rowAll m d]{fullShare} xsV m d := by
  refine pointsTo_congr fun j hj => ?_
  unfold xsV
  rw [dif_neg]
  rintro ⟨b, hb⟩
  refine (Finset.mem_sdiff.mp hj).2 (Finset.mem_biUnion.mpr ⟨⟨b.val / 64, by have := b.isLt; omega⟩, Finset.mem_univ _, Finset.mem_filter.mpr ⟨Finset.mem_univ _, b, rfl, hb⟩⟩)

theorem bexp_split (d : Dev nD) (f : Buf (Elt F) (bexpLoc d)) :
    (bexpLoc d ↦{fullShare} f : sProp 𝕄) = bigSep Finset.univ fun w : Fin 32 => bexpLoc d ↦[bexpSet w.val]{fullShare} f := by
  rw [split_by (ℓ := bexpLoc d) (fun _ => 0) (fun _ => by decide) f]
  refine bigSep_congr fun w _ => ?_
  congr 1
  unfold bexpSet
  exact Finset.filter_congr fun _ _ => eq_comm

theorem tok1_split (d : Dev nD) (f : Buf (Elt F) (posLoc d)) :
    (posLoc d ↦{fullShare} f : sProp 𝕄) = bigSep Finset.univ fun w : Fin 32 => posLoc d ↦[tok1 w.val]{fullShare} f :=
  split_by (ℓ := posLoc d) (fun j : S2048.Idx => (j 0).val / 64) (fun j => by have : (j 0).val < 2048 := (j 0).isLt; omega) f

theorem tok2_split (d : Dev nD) (f : Buf (Elt F) (outLoc d)) :
    (outLoc d ↦{fullShare} f : sProp 𝕄) = bigSep Finset.univ fun w : Fin 32 => outLoc d ↦[tok2 w.val]{fullShare} f :=
  split_by (ℓ := outLoc d) (fun j : S2048x768.Idx => (j 0).val / 64) (fun j => by have : (j 0).val < 2048 := (j 0).isLt; omega) f

variable {m} in
/-- What the first call's tiles hold together. -/
theorem route_all (hpre : PreOK m) (d : Dev nD) (fx : Buf (Elt F) (xsLoc d)) (fp : Buf (Elt F) (posLoc d)) (fb : Buf (Elt F) (bexpLoc d)) :
    (bigSep Finset.univ fun w : Fin 32 => routeR m d w.val fx fp fb) = iprop((xLoc d ↦{fullShare} m (xLoc d)) ∗ (idxLoc d ↦{fullShare} m (idxLoc d))
      ∗ (xsLoc d ↦[rowAll m d]{fullShare} fx) ∗ (posLoc d ↦{fullShare} fp) ∗ (bexpLoc d ↦{fullShare} fb) : sProp 𝕄) := by
  unfold routeR
  rw [bigSep_sep', bigSep_sep', bigSep_sep', bigSep_sep', ← share_split, ← share_split, ← rows_split hpre, ← tok1_split, ← bexp_split]

/-- What the last call's tiles hold together. -/
theorem unsort_all (d : Dev nD) (fo : Buf (Elt F) (outLoc d)) :
    (bigSep Finset.univ fun w : Fin 32 => unsortR m d w.val fo) = iprop((ysLoc d ↦{fullShare} ysV m d) ∗ (posLoc d ↦{fullShare} posB m d)
      ∗ (outLoc d ↦{fullShare} fo) : sProp 𝕄) := by
  unfold unsortR
  rw [bigSep_sep', bigSep_sep', ← share_split, ← tok1_split, ← tok2_split]

variable {m} in
theorem st0 (hpre : PreOK m) (d : Dev nD) : (bigSep Finset.univ fun c : Fin ((K (F := F)).nCore 0) => (P m).st 0 d c)
    = iprop((xLoc d ↦{fullShare} m (xLoc d)) ∗ (idxLoc d ↦{fullShare} m (idxLoc d))
      ∗ (xsLoc d ↦[rowAll m d]{fullShare} m (xsLoc d)) ∗ (posLoc d ↦{fullShare} m (posLoc d)) ∗ (bexpLoc d ↦{fullShare} m (bexpLoc d)) : sProp 𝕄) :=
  (bigSep_tiles fun w => routeR m d w (m (xsLoc d)) (m (posLoc d)) (m (bexpLoc d))).trans (route_all hpre d _ _ _)
variable {m} in
theorem dn0 (hpre : PreOK m) (d : Dev nD) : (bigSep Finset.univ fun c : Fin ((K (F := F)).nCore 0) => (P m).dn 0 d c)
    = iprop((xLoc d ↦{fullShare} m (xLoc d)) ∗ (idxLoc d ↦{fullShare} m (idxLoc d))
      ∗ (xsLoc d ↦[rowAll m d]{fullShare} xsV m d) ∗ (posLoc d ↦{fullShare} posB m d) ∗ (bexpLoc d ↦{fullShare} bexpV m d) : sProp 𝕄) :=
  (bigSep_tiles fun w => routeR m d w (xsV m d) (posB m d) (bexpV m d)).trans (route_all hpre d _ _ _)
theorem st1 (d : Dev nD) : (bigSep Finset.univ fun c : Fin ((K (F := F)).nCore 1) => (P m).st 1 d c)
    = iprop((ysLoc d ↦{fullShare} ysV m d) ∗ (posLoc d ↦{fullShare} posB m d) ∗ (outLoc d ↦{fullShare} m (outLoc d)) : sProp 𝕄) :=
  (bigSep_tiles fun w => unsortR m d w (m (outLoc d))).trans (unsort_all m d _)
theorem dn1 (d : Dev nD) : (bigSep Finset.univ fun c : Fin ((K (F := F)).nCore 1) => (P m).dn 1 d c)
    = iprop((ysLoc d ↦{fullShare} ysV m d) ∗ (posLoc d ↦{fullShare} posB m d) ∗ (outLoc d ↦{fullShare} outV m d) : sProp 𝕄) :=
  (bigSep_tiles fun w => unsortR m d w (outV m d)).trans (unsort_all m d _)

end Split

/-! ## The slice between the calls -/

abbrev bexp' : DevRef τ sig := Proc.devRef .tc (main_v0_2 : Ref sig .tc)
abbrev tab' : DevRef τ sig := Proc.devRef .tc (main_v1 : Ref sig .tc)
/-- The slice: the table's first 33 places. -/
abbrev opSlice : HloOp τ sig (Elt F) := StableHlo.unary main_v0_2 main_v1
  ((extractStridedSlice S33 ![0] · slices_S48_S33_0) : (⟨S48, .i32⟩ : BufTy).Contents (Elt F) → (⟨S33, .i32⟩ : BufTy).Contents (Elt F))

/-- The device's valuation before the slice. -/
def Fv (m : (ℓ : Loc nD τ sig) → Buf (Elt F) ℓ) (d : Dev nD) : Valuation τ sig (Elt F) := Function.update (fun b => m (d, b)) bexp' (bexpV m d)

variable (m : (ℓ : Loc nD τ sig) → Buf (Elt F) ℓ) (ρ : Dev nD → PrngReg)

theorem Fv_bexp (d : Dev nD) : Fv m d bexp' = bexpV m d := Function.update_self _ _ _
theorem Fv_tab (d : Dev nD) : Fv m d tab' = m (tabLoc d) := Function.update_of_ne (show tab' ≠ bexp' by decide) _ _

theorem opBufs_eq (d : Dev nD) (W : Valuation τ sig (Elt F)) :
    (bigSep (opSlice (F := F)).bufs (fun b => ((d, b) : Loc nD τ sig) ↦{fullShare} W b) : sProp 𝕄)
      = iprop((bexpLoc d ↦{fullShare} W bexp') ∗ tabLoc d ↦{fullShare} W tab') := by
  show bigSep ({bexp', tab'} : Finset (DevRef τ sig)) (fun b => ((d, b) : Loc nD τ sig) ↦{fullShare} W b) = _
  rw [SparseCore.bigSep_insert' (by decide), bigSep_singleton]

theorem slice_bexp (d : Dev nD) : (opSlice (F := F)).result (Fv m d) bexp' = bexpV m d :=
  ((opSlice (F := F)).result_of_not_mem (Fv m d) (b := bexp') (show bexp' ∉ ({tab'} : Finset (DevRef τ sig)) by decide)).trans (Fv_bexp m d)

theorem slice_tab (d : Dev nD) : (opSlice (F := F)).result (Fv m d) tab' = tabV m d := by
  refine (StableHlo.unary_result _ _ _ _ _ _).trans ?_
  rw [Fv_bexp]
  refine funext fun j => ?_
  show BitVec.ofNat 32 (if 0 + (j 0).val < 32 then beN (E m d) (0 + (j 0).val) else usedN (E m d)) = _
  rw [Nat.zero_add]
  rfl

/-! ## The expert layer's call among the SparseCore calls -/

/-- The pipeline's rounds in the resource algebra. -/
def EP : Emb UP (MT nD τ sig (HIx 2) (Elt F) ℕ UU ℕ) := (Emb.inl : Emb UP (UP × Counters)).trans embR
instance : (EP : Emb UP 𝕄).LandsIn (upEmb : UEmb _ 𝕄) := by unfold EP; infer_instance

variable {m} in
/-- What the launch deals the call on core `c`. -/
abbrev ghost (hpre : PreOK m) (c : Dev nD) : sProp 𝕄 :=
  iprop(Pipeline.cellsGhost (Pipeline.pin (pcfgs (F := F)) (adm hpre)) EP 0 c ∗ Pipeline.toksInit (Pipeline.pin (pcfgs (F := F)) (adm hpre)) EP 0 c)

variable {m} in
theorem region_wp [∀ e, Nonempty (Elt F e)] (hpre : PreOK m) (d : Dev nD) (Φ : PUnit → sProp 𝕄) :
    iprop((iprop(boundary (SparseCore.T d) ∗ arrH m d (ysV m d) ∗ tabH m d ∗ oweH d) -∗ Φ ⟨⟩)
        ∗ boundary (SparseCore.T d) ∗ iprop(arrH m d (m (ysLoc d)) ∗ tabH m d ∗ oweH d) ∗ levAts (K (F := F)).L (K (F := F)).lev ∗ ghost hpre d)
      ⊢ wp frame (wpE ((K (F := F)).defs (D (F := F))) 𝒱 (SparseCore.T d) none) Set.univ
          (Prog.lift (.customCall (SparseCore.inner (Pipeline.entry 0)) ())) Φ := by
  have h := Pipeline.RegionSeg.wp (pcfgs (F := F)) (adm hpre) (pdats hpre) none (cellOf_inj (adm hpre)) EP defs₀ 𝒱₀ (K (F := F)).L (K (F := F)).lev
    (reg hpre) d none (fun _ h => nomatch h) (fun x => Prog.ret x) Φ
  refine BIBase.Entails.trans ?_ (h.trans ((K (F := F)).wp_liftProg (D (F := F)) 𝒱 (SparseCore.T d) Set.univ none _ Φ))
  rw [wp_ret]
  iintro ⟨Hk, Hb, Hp, Hl, Hg⟩
  ihave Hp := (Entails.of_eq (show iprop(arrH m d (m (ysLoc d)) ∗ tabH m d ∗ oweH d) = (reg hpre).pre d from rfl)) $$ Hp
  isplitl [Hk]
  · iintro H
    imodintro
    iapply Hk; iexact H
  isplitl [Hb]; · iexact Hb
  isplitl [Hp]; · iexact Hp
  isplitl [Hl]; · iexact Hl
  iexact Hg

/-! ## @main on the TensorCore -/

theorem unscopedBufs_eq (d : Dev nD) (W : (b : Ref sig .tc) → Buf (Elt F) ((d.tc : Thread nD τ).loc b)) :
    (unscopedBufs d W : sProp 𝕄) = iprop((xLoc d ↦{fullShare} W main_arg0) ∗ (idxLoc d ↦{fullShare} W main_arg1) ∗ (w1Loc d ↦{fullShare} W main_arg2)
      ∗ (b1Loc d ↦{fullShare} W main_arg3) ∗ (w2Loc d ↦{fullShare} W main_arg4) ∗ (b2Loc d ↦{fullShare} W main_arg5)
      ∗ (xsLoc d ↦{fullShare} W main_v0_0) ∗ (posLoc d ↦{fullShare} W main_v0_1) ∗ (bexpLoc d ↦{fullShare} W main_v0_2)
      ∗ (tabLoc d ↦{fullShare} W main_v1) ∗ (ysLoc d ↦{fullShare} W main_v2) ∗ outLoc d ↦{fullShare} W main_v3) := by
  unfold unscopedBufs
  rw [show (Finset.univ.filter fun b : Ref sig .tc => ¬ b.isScoped) = {main_arg0, main_arg1, main_arg2, main_arg3, main_arg4, main_arg5,
      main_v0_0, main_v0_1, main_v0_2, main_v1, main_v2, main_v3} by decide,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

/-- What @main leaves the claim: the arguments as they were, and the result. -/
abbrev FIN (d : Dev nD) : sProp 𝕄 :=
  iprop((xLoc d ↦{fullShare} m (xLoc d)) ∗ (idxLoc d ↦{fullShare} m (idxLoc d)) ∗ (w1Loc d ↦{fullShare} m (w1Loc d)) ∗ (b1Loc d ↦{fullShare} m (b1Loc d))
    ∗ (w2Loc d ↦{fullShare} m (w2Loc d)) ∗ (b2Loc d ↦{fullShare} m (b2Loc d)) ∗ (outLoc d ↦{fullShare} outV m d))

/-- The TensorCore's state between the two SparseCore calls: what it owes, and the handshakes' part. -/
theorem tcSt_mid (d : Dev nD) : ∃ R : sProp 𝕄, (K (F := F)).tcSt EH d 1 = iprop(oweH d ∗ R) := ⟨_, rfl⟩

variable {m} in
/-- @main on the TensorCore: the routing call, the slice, the expert layer, the call that puts the rows back. -/
theorem hmain [∀ e, Nonempty (Elt F e)] (hpre : PreOK m) (κ : GSem nD τ sig → ℕ) (d : Dev nD) :
    iprop((K (F := F)).ctx EH (P m) κ ∗ (K (F := F)).tcSt EH d 0 ∗ (K (F := F)).tcRes m ρ d ∗ ghost hpre d)
      ⊢ wp frame (wpE ((K (F := F)).defs (D (F := F))) 𝒱 (SparseCore.T d) none) Set.univ (main d)
          fun _ => iprop((K (F := F)).tcSt EH d 2 ∗ FIN m d ∗ (K (F := F)).tcEnd d) := by
  unfold SparseCore.Cfg.tcRes SparseCore.Cfg.tcEnd
  rw [unscopedBufs_eq]
  simp only [main, wp_bind, wp_pure]
  obtain ⟨R, hR⟩ := tcSt_mid (F := F) d
  iintro ⟨#Hctx, Hst, ⟨Hb, ⟨Hx, Hi, Hw1, Hb1, Hw2, Hb2, Hxs, Hpos, Hbe, Htab, Hys, Hout⟩, Hts, -⟩, Hg⟩
  ihave Hl := (SparseCore.Cfg.ctx_levAts κ) $$ Hctx
  ihave Hxs := (rows_whole d (m (xsLoc d))).1 $$ Hxs
  icases Hxs with ⟨Hxs, Hxr⟩
  iapply ((K (F := F)).wp_run (D (F := F)) 𝒱 (EH := EH) (P := P m) κ d 0)
  isplitr; · iexact Hctx
  isplitl [Hst]; · iexact Hst
  isplitl [Hx Hi Hxs Hpos Hbe]
  · rw [st0 hpre]
    isplitl [Hx]; · iexact Hx
    isplitl [Hi]; · iexact Hi
    isplitl [Hxs]; · iexact Hxs
    isplitl [Hpos]; · iexact Hpos
    iexact Hbe
  iintro ⟨Hst, Hdn⟩
  ihave Hdn := (Entails.of_eq (dn0 hpre d)) $$ Hdn
  icases Hdn with ⟨Hx, Hi, Hxs, Hpos, Hbe⟩
  ihave Hxr := (Entails.of_eq (rows_rest m d)) $$ Hxr
  ihave Hxs := (rows_whole d (xsV m d)).2 $$ [Hxs Hxr]
  · isplitl [Hxs]; · iexact Hxs
    iexact Hxr
  iapply (wp_hlo 𝒱 (SparseCore.T d) none Set.univ (op := opSlice) (q := fun _ => fullShare) (F := Fv m d) (fun _ _ => rfl)) $$ [Hb Hbe Htab]
  · isplitl [Hb]; · iexact Hb
    rw [opBufs_eq, Fv_bexp, Fv_tab]
    isplitl [Hbe]; · iexact Hbe
    iexact Htab
  rw [opBufs_eq, slice_bexp, slice_tab]
  iintro ⟨Hb, Hbe, Htab⟩
  rw [wp_ret]; imodintro
  ihave Hst := (Entails.of_eq (show (K (F := F)).tcSt EH d ((0 : Fin 2).val + 1) = iprop(oweH d ∗ R) from hR)) $$ Hst
  icases Hst with ⟨HO, Hmid⟩
  iapply (region_wp hpre d)
  isplitr [Hb Hxs Hw1 Hb1 Hw2 Hb2 Hys Htab HO Hg]
  · iintro ⟨Hb, ⟨Hxs, Hw1, Hb1, Hw2, Hb2, Hys⟩, Htab, HO⟩
    iapply ((K (F := F)).wp_run (D (F := F)) 𝒱 (EH := EH) (P := P m) κ d 1)
    isplitr; · iexact Hctx
    isplitl [HO Hmid]
    · iapply (Entails.of_eq hR.symm)
      isplitl [HO]; · iexact HO
      iexact Hmid
    isplitl [Hys Hpos Hout]
    · rw [st1]
      isplitl [Hys]; · iexact Hys
      isplitl [Hpos]; · iexact Hpos
      iexact Hout
    iintro ⟨Hst, Hdn⟩
    ihave Hdn := (Entails.of_eq (dn1 m d)) $$ Hdn
    icases Hdn with ⟨-, -, Hout⟩
    imodintro
    isplitl [Hst]; · iexact Hst
    isplitr [Hb Hts]
    · isplitl [Hx]; · iexact Hx
      isplitl [Hi]; · iexact Hi
      isplitl [Hw1]; · iexact Hw1
      isplitl [Hb1]; · iexact Hb1
      isplitl [Hw2]; · iexact Hw2
      isplitl [Hb2]; · iexact Hb2
      iexact Hout
    isplitl [Hb] <;> iassumption
  isplitl [Hb]; · iexact Hb
  isplitr [Hg]
  · isplitl [Hxs Hw1 Hb1 Hw2 Hb2 Hys]
    · isplitl [Hxs]; · iexact Hxs
      isplitl [Hw1]; · iexact Hw1
      isplitl [Hb1]; · iexact Hb1
      isplitl [Hw2]; · iexact Hw2
      isplitl [Hb2]; · iexact Hb2
      iexact Hys
    isplitl [Htab]; · iexact Htab
    iexact HO
  isplitr; · iexact Hl
  iexact Hg

/-! ## The launch -/

/-- The launch element: the handshakes' rounds and the pipeline's. -/
def u₀ {m : (ℓ : Loc nD τ sig) → Buf (Elt F) ℓ} (hpre : PreOK m) : UU :=
  (initOf (K (F := F)).hsCells (K (F := F)).hsToks,
    (initOf (Pipeline.cells (Pipeline.pin (pcfgs (F := F)) (adm hpre)) (cellOf_inj (adm hpre)))
      (Pipeline.launchToks (Pipeline.pin (pcfgs (F := F)) (adm hpre)) (cellOf_inj (adm hpre))), 1))

theorem bigSep_one (f : Dev nD → Fin 1 → sProp 𝕄) :
    (bigSep Finset.univ fun c => bigSep Finset.univ fun p => f c p) = bigSep Finset.univ fun c => f c 0 :=
  bigSep_congr fun _ _ => bigSep_univ_of_subsingleton (0 : Fin 1)

theorem bigSep_emp' {I : Type} (s : Finset I) : (bigSep s fun _ => iprop(emp)) = (iprop(emp) : sProp 𝕄) := bigSep_emp_const s

theorem own_EP (u : UP) : BI.own (((Emb.inl : Emb UP (UP × Counters)).trans embR) u) ⊢ (BI.own (EP (F := F) u) : sProp 𝕄) := .rfl

variable {m} in
theorem hu₀ (hpre : PreOK m) : (ownU (u₀ hpre) : sProp 𝕄)
    ⊢ |={Set.univ}=> iprop(BI.own (EH (initOf (K (F := F)).hsCells (K (F := F)).hsToks)) ∗ (bigSep Finset.univ fun d : Dev nD => ghost hpre d)
        ∗ bigSep Finset.univ fun thr : Thread nD τ => bigSep Finset.univ fun q : Fin 2 => (P m).x q thr) := by
  unfold u₀
  iintro Hu
  ihave H := (ownU_pair _ _) $$ Hu
  icases H with ⟨HH, HR⟩
  ihave H := (own_pair_emb embR _ _) $$ HR
  icases H with ⟨HP, -⟩
  ihave HP := (own_EP _) $$ HP
  imod (Pipeline.fund_ghost (Pipeline.pin (pcfgs (F := F)) (adm hpre)) EP (cellOf_inj (adm hpre))) $$ HP with ⟨Hg, Ht⟩
  imodintro
  isplitl [HH]; · iexact HH
  isplitl [Hg Ht]
  · rw [bigSep_sep']
    isplitl [Hg]
    · ihave Hg := (Entails.of_eq (bigSep_one _)) $$ Hg
      iexact Hg
    · ihave Ht := (Entails.of_eq (bigSep_one _)) $$ Ht
      iexact Ht
  rw [show (bigSep Finset.univ fun thr : Thread nD τ => bigSep Finset.univ fun q : Fin 2 => (P (F := F) m).x q thr) = bigSep Finset.univ fun _ => iprop(emp) from
    bigSep_congr fun _ _ => bigSep_emp' _, bigSep_emp']
  iempintro

/-- What the launch memory's end is claimed to be on device `d`. -/
def fq (d : Dev nD) (s' : Phys nD τ sig (Elt F)) : Prop :=
  s'.mem.mem (xLoc d) = m (xLoc d) ∧ s'.mem.mem (idxLoc d) = m (idxLoc d) ∧ s'.mem.mem (w1Loc d) = m (w1Loc d) ∧ s'.mem.mem (b1Loc d) = m (b1Loc d)
    ∧ s'.mem.mem (w2Loc d) = m (w2Loc d) ∧ s'.mem.mem (b2Loc d) = m (b2Loc d) ∧ s'.mem.mem (outLoc d) = outV m d

/-- A buffer held whole is what the memory holds. -/
theorem agree (s' : Phys nD τ sig (Elt F)) {ℓ : Loc nD τ sig} (f : Buf (Elt F) ℓ) :
    iprop((ℓ ↦{fullShare} f) ∗ SI s') ⊢ (iprop(⌜s'.mem.mem ℓ = f⌝ ∗ SI s') : sProp 𝕄) := by
  iintro ⟨H, HSI⟩
  ihave H := (persistent_entails_right (SI_pointsTo_agree (st := s') (ℓ := ℓ) (I := Finset.univ) (q := fullShare) (f := f))) $$ [HSI H]
  · isplitl [HSI] <;> iassumption
  icases H with ⟨%h, HSI, -⟩
  isplitr
  · ipureintro; exact funext fun i => h i (Finset.mem_univ i)
  iexact HSI

theorem hfin (d : Dev nD) (s' : Phys nD τ sig (Elt F)) : iprop(FIN m d ∗ SI s') ⊢ (⌜fq m d s'⌝ : sProp 𝕄) := by
  iintro ⟨⟨H1, H2, H3, H4, H5, H6, H7⟩, HSI⟩
  ihave H := (agree s' (m (xLoc d))) $$ [H1 HSI]
  · isplitl [H1] <;> iassumption
  icases H with ⟨%h1, HSI⟩
  ihave H := (agree s' (m (idxLoc d))) $$ [H2 HSI]
  · isplitl [H2] <;> iassumption
  icases H with ⟨%h2, HSI⟩
  ihave H := (agree s' (m (w1Loc d))) $$ [H3 HSI]
  · isplitl [H3] <;> iassumption
  icases H with ⟨%h3, HSI⟩
  ihave H := (agree s' (m (b1Loc d))) $$ [H4 HSI]
  · isplitl [H4] <;> iassumption
  icases H with ⟨%h4, HSI⟩
  ihave H := (agree s' (m (w2Loc d))) $$ [H5 HSI]
  · isplitl [H5] <;> iassumption
  icases H with ⟨%h5, HSI⟩
  ihave H := (agree s' (m (b2Loc d))) $$ [H6 HSI]
  · isplitl [H6] <;> iassumption
  icases H with ⟨%h6, HSI⟩
  ihave H := (agree s' (outV m d)) $$ [H7 HSI]
  · isplitl [H7] <;> iassumption
  icases H with ⟨%h7, -⟩
  ipureintro; exact ⟨h1, h2, h3, h4, h5, h6, h7⟩

/-- What every final state is: the arguments as they were, the result computed, every counter at zero. -/
def QC : PUnit × MemSt nD τ sig (Elt F) → Prop := fun r =>
  (∀ d : Dev nD, r.2.mem (xLoc d) = m (xLoc d) ∧ r.2.mem (idxLoc d) = m (idxLoc d) ∧ r.2.mem (w1Loc d) = m (w1Loc d) ∧ r.2.mem (b1Loc d) = m (b1Loc d)
    ∧ r.2.mem (w2Loc d) = m (w2Loc d) ∧ r.2.mem (b2Loc d) = m (b2Loc d) ∧ r.2.mem (outLoc d) = outV m d) ∧ r.2.sem = fun _ => 0

variable {m} in
/-- The run, at any float values: it ends, and every final state is as `QC` says. -/
theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq | 1 => nomatch hq)
    (fun q _ => match q with | 0 => tileObl m facts hpre | 1 => Cert.Proof.Unsort.tileObl m facts hpre)
    (fun q _ => match q with | 0 => SparseCore.Cfg.VecSplit.of_plain (vecSplit m 0) | 1 => SparseCore.Cfg.VecSplit.of_plain (vecSplit m 1))
    m ρ main (fun d => ghost hpre d) (FIN m) (u₀ hpre) (sep_elim_left.trans (hu₀ hpre)) (hmain ρ hpre) (fq m) (hfin m) (QC m) (fun _ h hz => ⟨h, hz⟩)

end Cert.Proof.Route

end
-- ==== Proof.Frames.lean ====
/-
  The kernel's frames: from the precondition (every expert index in range) to the run's hypothesis, and the two frames of
  the kernel from the one run, at the bits and at the ideal values.
-/
module

public import proofs.«01_k».proof.Defs
public import proofs.«01_k».proof.Proof.Main
public import proofs.«01_k».proof.Proof.Gen.Kernel
public import proofs.«01_k».proof.Proof.Gen.ReferenceIdeal.Run
public import proofs.«01_k».proof.Proof.Gen.Pre_in_range
public import Idealize.ShloMosaic.Lib.ReduceAll

@[expose] public section

noncomputable section

namespace Cert.Proof

open Idealize.ShloMosaic Idealize.SL.Sem

attribute [local irreducible] Cert.Proof.Route.usedN Cert.Proof.Route.beN Cert.Proof.Route.posN

variable {F : FTy → Type} [FloatOps F]

/-- Every index between 0 and 15, as the precondition says it. -/
theorem in_range_lt (i : BitVec 32) (h0 : BitVec.sle 0#32 i = true) (h1 : BitVec.slt i 16#32 = true) : i.toNat < 16 := by
  have a := BitVec.sle_iff_toInt_le.mp h0
  have b := BitVec.slt_iff_toInt_lt.mp h1
  have c : (0#32 : BitVec 32).toInt = 0 := by decide
  have e : (16#32 : BitVec 32).toInt = 16 := by decide
  rw [c] at a
  rw [e] at b
  have := BitVec.toInt_eq_toNat_cond i
  split at this <;> omega

/-- The scalar shape has one index. -/
instance : Subsingleton Cert.Pre_in_range.S_.Idx := ⟨fun _ _ => funext fun k => k.elim0⟩

/-- A conjunction of one-bit words is one only if both are. -/
theorem and_one {a b : BitVec 1} (h : a &&& b = 1#1) : a = 1#1 ∧ b = 1#1 := by
  revert a b
  decide

/-- A comparison's word is one only if the comparison holds. -/
theorem of_ofBool {b : Bool} (h : BitVec.ofBool b = 1#1) : b = true := by
  cases b
  · exact absurd h (by decide)
  · rfl

/-- The precondition read: every expert index is one of the sixteen. -/
theorem in_range_all (x : FVec F Cert.Pre_in_range.S2048x768 .f32) (ix : IVec Cert.Pre_in_range.S2048 32)
    (w1 : FVec F Cert.Pre_in_range.S16x768x256 .f32) (b1 : FVec F Cert.Pre_in_range.S16x256 .f32)
    (w2 : FVec F Cert.Pre_in_range.S16x256x768 .f32) (b2 : FVec F Cert.Pre_in_range.S16x768 .f32)
    (h : Cert.Pre_in_range.fn x ix w1 b1 w2 b2 = fun _ => 1#1) (j : Cert.Pre_in_range.S2048.Idx) : (ix j).toNat < 16 := by
  have e := congrFun h (fun k => k.elim0)
  have a := Host.reduce_andi_all _ _ _ _ _ e j
  obtain ⟨a0, a1⟩ := and_one a
  exact in_range_lt _ (of_ofBool a0) (of_ofBool a1)

/-- The run's hypothesis from the precondition, at the bits. -/
theorem ok_bits (m : (ℓ : Loc Cert.Kernel.nD Cert.Kernel.τ Cert.Kernel.sig) → Buf (Elt Bits) ℓ) (h : Cert.Pre_Kernel m) :
    Cert.Proof.Route.PreOK (F := Bits) m := fun d j => in_range_all _ _ _ _ _ _ (h d) j

/-- The run's hypothesis from the precondition, at the ideal values. -/
theorem ok_ideal (m : (ℓ : Loc Cert.KernelIdeal.nD Cert.KernelIdeal.τ Cert.KernelIdeal.sig) → Buf (Elt Ideal) ℓ) (h : Cert.Pre_KernelIdeal m) :
    Cert.Proof.Route.PreOK (F := Ideal) m := fun d j => in_range_all _ _ _ _ _ _ (h d) j

/-- The two printings of the kernel have the same bodies, processor by processor and label by label. -/
theorem defs₀_eq : Cert.Kernel.defs₀ (F := F) = Cert.KernelIdeal.defs₀ (F := F) := by
  funext p l a
  match p, l, a with
  | .tc, ⟨0, _⟩, _ => rfl
  | .tc, ⟨1, _⟩, (_, _) => rfl
  | .tc, ⟨2, _⟩, _ => rfl
  | .scScalar _, ⟨0, _⟩, _ => rfl
  | .scScalar _, ⟨1, _⟩, _ => rfl
  | .scScalar _, ⟨2, _⟩, _ => rfl
  | .scVector _ _, ⟨0, _⟩, _ => rfl
  | .scVector _ _, ⟨1, _⟩, _ => rfl
  | .scVector _ _, ⟨2, _⟩, _ => rfl

attribute [local irreducible] Cert.Kernel.defs₀ Cert.KernelIdeal.defs₀

set_option maxHeartbeats 4000000 in
/-- The first printing's body table, over the second's bodies. -/
theorem defs_eq₁ : Cert.Kernel.defs (F := F) = Cert.Kernel.sc.defs (Pipeline.defs Cert.Kernel.pcfgs Cert.KernelIdeal.defs₀) :=
  congrArg (fun D => Cert.Kernel.sc.defs (Pipeline.defs Cert.Kernel.pcfgs D)) defs₀_eq

set_option maxHeartbeats 4000000 in
/-- The two printings' body tables are the same. -/
theorem defs_eq : Cert.Kernel.defs (F := F) = Cert.KernelIdeal.defs (F := F) := defs_eq₁.trans rfl

set_option maxHeartbeats 4000000 in
/-- The two printings' threads are the same. -/
theorem threads_eq : Cert.Kernel.threads (F := F) = Cert.KernelIdeal.threads (F := F) := rfl

/-- A run under equal tables and equal threads. -/
theorem run_of_eq {nD : Nat} {τ : Topo} {sig : RefSig} {Λ : Labels} {D D' : Defs nD τ sig (Elt F) Λ}
    {T T' : (c : Thread nD τ) → Prog (TpuEff nD τ sig (Elt F) Λ c.2) PUnit} (hD : D = D') (hT : T = T') {s Q} (h : θ_run D' T' s Q) :
    θ_run D T s Q := by
  subst hD hT
  exact h

open Cert.Proof.Route in
/-- What a frame states of a final state: the arguments as at the start, every counter zero. -/
abbrev Keeps (m : (ℓ : Loc Cert.KernelIdeal.nD Cert.KernelIdeal.τ Cert.KernelIdeal.sig) → Buf (Elt F) ℓ)
    (r : PUnit × MemSt Cert.KernelIdeal.nD Cert.KernelIdeal.τ Cert.KernelIdeal.sig (Elt F)) : Prop :=
  (∀ d, r.2.mem (xLoc d) = m (xLoc d) ∧ r.2.mem (idxLoc d) = m (idxLoc d) ∧ r.2.mem (w1Loc d) = m (w1Loc d)
    ∧ r.2.mem (b1Loc d) = m (b1Loc d) ∧ r.2.mem (w2Loc d) = m (w2Loc d) ∧ r.2.mem (b2Loc d) = m (b2Loc d)) ∧ r.2.sem = fun _ => 0

/-- The run over the second printing with the frame as its postcondition, for any float values. -/
theorem run_frame [∀ e, Nonempty (Elt F e)] (ρ : Dev Cert.KernelIdeal.nD → PrngReg)
    {m : (ℓ : Loc Cert.KernelIdeal.nD Cert.KernelIdeal.τ Cert.KernelIdeal.sig) → Buf (Elt F) ℓ} (hpre : Cert.Proof.Route.PreOK m) :
    θ_run (Cert.KernelIdeal.defs (F := F)) (Cert.KernelIdeal.threads (F := F)) ⟨m, fun _ => 0, ρ⟩ (Keeps m) :=
  (θ_run (Cert.KernelIdeal.defs (F := F)) _ _).mono
    (fun _ h => ⟨fun d => ⟨(h.1 d).1, (h.1 d).2.1, (h.1 d).2.2.1, (h.1 d).2.2.2.1, (h.1 d).2.2.2.2.1, (h.1 d).2.2.2.2.2.1⟩, h.2⟩)
    (Cert.Proof.Route.run_main (F := F) ρ hpre)

/-- The kernel's frame at the ideal values. -/
theorem frame_kernelIdeal : Cert.quiescent_KernelIdeal := fun m ρ hpre => run_frame (F := Ideal) ρ (ok_ideal m hpre)

attribute [local irreducible] Cert.Kernel.defs Cert.KernelIdeal.defs

set_option maxHeartbeats 4000000 in
/-- The kernel's frame at the bits. -/
theorem frame_kernel : Cert.quiescent_Kernel := fun m ρ hpre =>
  run_of_eq (F := Bits) defs_eq threads_eq (run_frame (F := Bits) ρ (ok_bits m hpre))

/-- The reference's frame: its run, the result forgotten, and no semaphore to move. -/
theorem frame_referenceIdeal : Cert.quiescent_ReferenceIdeal := fun m ρ _ =>
  (θ_run (Cert.ReferenceIdeal.defs (F := Ideal)) _ _).mono
    (fun r h => ⟨fun c => (h c).2, sem_eq_zero_of_no_sems (by decide) r.2⟩) (Cert.ReferenceIdeal.Value.run (F := Ideal) m ρ)

/-- The same under the precondition. -/
theorem frame_referenceIdeal_pre : Cert.quiescent_ReferenceIdeal_pre_in_range := fun m ρ _ => frame_referenceIdeal m ρ trivial

end Cert.Proof

end
-- ==== Proof.Value.lean ====
/-
  The values at the extended reals: the kernel's result row of a token and the reference's are the same two layers of the
  token's expert, over the same sums.
-/
module

public import proofs.«01_k».proof.Proof.Setup
public import proofs.«01_k».proof.Proof.Gen.ReferenceIdeal.Run
public import Idealize.ShloMosaic.Lib.StackMember
public import Idealize.ShloMosaic.Lib.KernelVsHost
public import Idealize.ShloMosaic.Lib.ValueLayout
public import Idealize.ShloMosaic.Lib.Pointwise
public import Idealize.ShloMosaic.Lib.Pipeline.Value

@[expose] public section

noncomputable section

namespace Cert.Proof.Value

open Idealize.ShloMosaic hiding ix1 ix2 ix3 addf_apply maximumf_apply
open Idealize.ShloMosaic.ValueIdx Idealize.ShloMosaic.StackMember

/-- A row through an expert's first layer, at one place. -/
def hid (x : Fin 768 → EReal) (w1 : Fin 768 → Fin 256 → EReal) (b1 : Fin 256 → EReal) (k : Fin 256) : EReal :=
  max ((∑ l, x l * w1 l k) + b1 k) (Ideal.ofBits .f32 0x00000000#32)

/-- A row through an expert's two layers, at one place. -/
def lay (x : Fin 768 → EReal) (w1 : Fin 768 → Fin 256 → EReal) (b1 : Fin 256 → EReal) (w2 : Fin 256 → Fin 768 → EReal)
    (b2 : Fin 768 → EReal) (c : Fin 768) : EReal := (∑ k, hid x w1 b1 k * w2 k c) + b2 c

section Kernel
open Cert.KernelIdeal Cert.KernelIdeal.Gen

/-- The kernel's first product at one place. -/
theorem dotA (A : FVec Ideal S128x768 .f32) (B : FVec Ideal S768x256 .f32) (a : Fin 128) (b : Fin 256) :
    matmul dot_S128x768_S768x256_S128x256_1_0_0_1_n_n none A B (constant S128x256 .f32 0x00000000#32) (ix2 a b)
      = ∑ c : Fin 768, A (ix2 a c) * B (ix2 c b) :=
  (congrFun (matmul_zero_eq_dotGeneral _ none A B) (ix2 a b)).trans (dotGeneral_plain_apply (m := 128) (n := 256) none A B a b)

/-- The kernel's second product at one place. -/
theorem dotB (A : FVec Ideal S128x256 .f32) (B : FVec Ideal S256x768 .f32) (a : Fin 128) (b : Fin 768) :
    matmul dot_S128x256_S256x768_S128x768_1_0_0_1_n_n none A B (constant S128x768 .f32 0x00000000#32) (ix2 a b)
      = ∑ c : Fin 256, A (ix2 a c) * B (ix2 c b) :=
  (congrFun (matmul_zero_eq_dotGeneral _ none A B) (ix2 a b)).trans (dotGeneral_plain_apply (m := 128) (n := 768) none A B a b)

/-- What the kernel stores for a block, at one place: the block's row through the two layers. -/
theorem pay_apply (v6 : Vec Ideal S128x768 .f32) (v8 : Vec Ideal S1x768x256 .f32) (v12 : Vec Ideal S1x256 .f32)
    (v17 : Vec Ideal S1x256x768 .f32) (v21 : Vec Ideal S1x768 .f32) (r : Fin 128) (c : Fin 768) :
    k1_pay1 (F := Ideal) v6 v8 v12 v17 v21 (ix2 r c)
      = lay (fun l => v6 (ix2 r l)) (fun l k => v8 (ix3 0 l k)) (fun k => v12 (ix2 0 k)) (fun k c => v17 (ix3 0 k c)) (fun c => v21 (ix2 0 c)) c := by
  unfold k1_pay1 lay
  refine (addf_apply _ _ _).trans (congrArg₂ (· + ·) ((dotB _ _ r c).trans (Finset.sum_congr rfl fun k _ => ?_)) (broadcastTo_1b_ab_apply _ _ r c))
  refine congrArg₂ (· * ·) ((maximumf_apply _ _ _).trans (congrArg₂ max ?_ rfl)) (shapeCast_1ab_ab_apply v17 _ k c)
  refine (addf_apply _ _ _).trans (congrArg₂ (· + ·) ((dotA _ _ r k).trans (Finset.sum_congr rfl fun l _ => ?_)) (broadcastTo_1b_ab_apply _ _ r k))
  exact congrArg₂ (· * ·) (shapeCast_apply v6 _ (ix2 r l) (ix2 r l) rfl) (shapeCast_1ab_ab_apply v8 _ l k)

end Kernel

section Reference
open Cert.ReferenceIdeal Cert.ReferenceIdeal.Gen

/-- The reference's first product at one place. -/
theorem dotC (A : FVec Ideal S2048x768 .f32) (B : FVec Ideal S768x256 .f32) (a : Fin 2048) (b : Fin 256) :
    Host.dotGeneral dot_S2048x768_S768x256_S2048x256_1_0_0_1_n_n none A B (ix2 a b) = ∑ c : Fin 768, A (ix2 a c) * B (ix2 c b) :=
  dotGeneral_plain_apply (m := 2048) (n := 256) none A B a b

/-- The reference's second product at one place. -/
theorem dotD (A : FVec Ideal S2048x256 .f32) (B : FVec Ideal S256x768 .f32) (a : Fin 2048) (b : Fin 768) :
    Host.dotGeneral dot_S2048x256_S256x768_S2048x768_1_0_0_1_n_n none A B (ix2 a b) = ∑ c : Fin 256, A (ix2 a c) * B (ix2 c b) :=
  dotGeneral_plain_apply (m := 2048) (n := 768) none A B a b

/-- Expert `i`'s matrix out of the stack, at one place. -/
theorem slab_apply {a b : ℕ} (i : ℕ) (hi : i < 16) (W : (⟨3, ![16, a, b]⟩ : Shape).Idx → EReal)
    (hs : (⟨3, ![16, a, b]⟩ : Shape).Slices ![i, 0, 0] ⟨3, ![1, a, b]⟩) (hc : (⟨3, ![1, a, b]⟩ : Shape).ShapeCasts ⟨2, ![a, b]⟩) (p : Fin a) (q : Fin b) :
    shapeCast ⟨2, ![a, b]⟩ (extractStridedSlice ⟨3, ![1, a, b]⟩ ![i, 0, 0] W hs) hc (ix2 p q) = W (ix3 ⟨i, hi⟩ p q) :=
  (shapeCast_1ab_ab_apply _ _ p q).trans (extractStridedSlice_apply _ _ _ _ _ fun x => by fin_cases x <;> simp [ix3])

/-- Expert `i`'s bias out of the stack, laid along every row, at one place. -/
theorem bias_apply {a b : ℕ} (i : ℕ) (hi : i < 16) (W : (⟨2, ![16, b]⟩ : Shape).Idx → EReal)
    (hs : (⟨2, ![16, b]⟩ : Shape).Slices ![i, 0] ⟨2, ![1, b]⟩) (hc : (⟨2, ![1, b]⟩ : Shape).ShapeCasts ⟨1, ![b]⟩)
    (h1 : (⟨1, ![b]⟩ : Shape).BroadcastsInDim ⟨2, ![1, b]⟩ ![1]) (h2 : (⟨2, ![1, b]⟩ : Shape).BroadcastsInDim ⟨2, ![a, b]⟩ ![0, 1]) (p : Fin a) (q : Fin b) :
    broadcastInDim ⟨2, ![a, b]⟩ ![0, 1] h2 (broadcastInDim ⟨2, ![1, b]⟩ ![1] h1 (shapeCast ⟨1, ![b]⟩ (extractStridedSlice ⟨2, ![1, b]⟩ ![i, 0] W hs) hc)) (ix2 p q)
      = W (ix2 ⟨i, hi⟩ q) := by
  refine (broadcastInDim_oneRow_apply h2 _ p q).trans ((broadcastInDim_apply _ _ _ _ (ix1 q) fun x => ?_).trans
    ((shapeCast_1a_a_apply _ _ q).trans (extractStridedSlice_apply _ _ _ _ _ fun x => by fin_cases x <;> simp [ix2])))
  fin_cases x
  show q.val = if b = 1 then 0 else q.val
  split_ifs with h
  · have := q.isLt; omega
  · rfl

variable (x : FVec Ideal S2048x768 .f32) (ix : IVec S2048 32) (w1 : FVec Ideal S16x768x256 .f32) (b1 : FVec Ideal S16x256 .f32)
  (w2 : FVec Ideal S16x256x768 .f32) (b2 : FVec Ideal S16x768 .f32)

/-- Token `b` through expert `i`'s two layers, at one place. -/
def expert (i : Fin 16) (b : Fin 2048) (c : Fin 768) : EReal :=
  lay (fun l => x (ix2 b l)) (fun l k => w1 (ix3 i l k)) (fun k => b1 (ix2 i k)) (fun k c => w2 (ix3 i k c)) (fun c => b2 (ix2 i c)) c

/-- A round of the reference's loop, at one place: the tokens of expert `i` take its layers' value, the others keep theirs. -/
theorem round_apply (i : ℕ) (hi : i < 16) (acc : FVec Ideal S2048x768 .f32)
    (s1 : S16x768x256.Slices ![i, 0, 0] S1x768x256) (s2 : S16x256.Slices ![i, 0] S1x256)
    (s3 : S16x256x768.Slices ![i, 0, 0] S1x256x768) (s4 : S16x768.Slices ![i, 0] S1x768) (b : Fin 2048) (c : Fin 768) :
    select (broadcastInDim S2048x768 ![0, 1] bcast_S2048x1_S2048x768_0_1 (broadcastInDim S2048x1 ![0] bcast_S2048_S2048x1_0
        (cmpi .eq ix (broadcastInDim S2048 ![] bcast_S_S2048 (constantI S_ 32 (BitVec.ofNat 32 i))))))
      (addf (Host.dotGeneral dot_S2048x256_S256x768_S2048x768_1_0_0_1_n_n none
          (maximumf (addf (Host.dotGeneral dot_S2048x768_S768x256_S2048x256_1_0_0_1_n_n none x
              (shapeCast S768x256 (extractStridedSlice S1x768x256 ![i, 0, 0] w1 s1) shapeCasts_S1x768x256_S768x256))
            (broadcastInDim S2048x256 ![0, 1] bcast_S1x256_S2048x256_0_1 (broadcastInDim S1x256 ![1] bcast_S256_S1x256_1
              (shapeCast S256 (extractStridedSlice S1x256 ![i, 0] b1 s2) shapeCasts_S1x256_S256))))
            (broadcastInDim S2048x256 ![] bcast_S_S2048x256 (constant S_ .f32 0x00000000#32)))
          (shapeCast S256x768 (extractStridedSlice S1x256x768 ![i, 0, 0] w2 s3) shapeCasts_S1x256x768_S256x768))
        (broadcastInDim S2048x768 ![0, 1] bcast_S1x768_S2048x768_0_1 (broadcastInDim S1x768 ![1] bcast_S768_S1x768_1
          (shapeCast S768 (extractStridedSlice S1x768 ![i, 0] b2 s4) shapeCasts_S1x768_S768)))) acc (ix2 b c)
      = if ix (ix1 b) = BitVec.ofNat 32 i then expert x w1 b1 w2 b2 ⟨i, hi⟩ b c else acc (ix2 b c) := by
  have hm : broadcastInDim S2048x768 ![0, 1] bcast_S2048x1_S2048x768_0_1 (broadcastInDim S2048x1 ![0] bcast_S2048_S2048x1_0
      (cmpi .eq ix (broadcastInDim S2048 ![] bcast_S_S2048 (constantI S_ 32 (BitVec.ofNat 32 i))))) (ix2 b c)
      = BitVec.ofBool (ix (ix1 b) == BitVec.ofNat 32 i) :=
    (broadcastInDim_apply _ _ _ _ (ix2 b (0 : Fin 1)) (fun k => by fin_cases k <;> rfl)).trans
      (broadcastInDim_apply _ _ _ _ (ix1 b) (fun k => by fin_cases k; rfl))
  have hv : addf (Host.dotGeneral dot_S2048x256_S256x768_S2048x768_1_0_0_1_n_n none
          (maximumf (addf (Host.dotGeneral dot_S2048x768_S768x256_S2048x256_1_0_0_1_n_n none x
              (shapeCast S768x256 (extractStridedSlice S1x768x256 ![i, 0, 0] w1 s1) shapeCasts_S1x768x256_S768x256))
            (broadcastInDim S2048x256 ![0, 1] bcast_S1x256_S2048x256_0_1 (broadcastInDim S1x256 ![1] bcast_S256_S1x256_1
              (shapeCast S256 (extractStridedSlice S1x256 ![i, 0] b1 s2) shapeCasts_S1x256_S256))))
            (broadcastInDim S2048x256 ![] bcast_S_S2048x256 (constant S_ .f32 0x00000000#32)))
          (shapeCast S256x768 (extractStridedSlice S1x256x768 ![i, 0, 0] w2 s3) shapeCasts_S1x256x768_S256x768))
        (broadcastInDim S2048x768 ![0, 1] bcast_S1x768_S2048x768_0_1 (broadcastInDim S1x768 ![1] bcast_S768_S1x768_1
          (shapeCast S768 (extractStridedSlice S1x768 ![i, 0] b2 s4) shapeCasts_S1x768_S768))) (ix2 b c)
      = expert x w1 b1 w2 b2 ⟨i, hi⟩ b c := by
    unfold expert lay
    refine (addf_apply _ _ _).trans (congrArg₂ (· + ·) ((dotD _ _ b c).trans (Finset.sum_congr rfl fun k _ => ?_)) (bias_apply i hi b2 s4 _ _ _ b c))
    refine congrArg₂ (· * ·) ((maximumf_apply _ _ _).trans (congrArg₂ max ?_ rfl)) (slab_apply i hi w2 s3 _ k c)
    refine (addf_apply _ _ _).trans (congrArg₂ (· + ·) ((dotC _ _ b k).trans (Finset.sum_congr rfl fun l _ => ?_)) (bias_apply i hi b1 s2 _ _ _ b k))
    exact congrArg (x (ix2 b l) * ·) (slab_apply i hi w1 s1 _ l k)
  refine (congrArg₂ (fun (p : BitVec 1) (v : EReal) => if p = 1#1 then v else acc (ix2 b c)) hm hv).trans ?_
  by_cases h : ix (ix1 b) = BitVec.ofNat 32 i
  · rw [h]; simp
  · rw [beq_eq_false_iff_ne.mpr h, if_neg h]
    exact if_neg (by decide)

/-- The value of a token whose expert number is `w` after the first `n` rounds. -/
def chain (w : BitVec 32) (b : Fin 2048) (c : Fin 768) : ℕ → EReal
  | 0 => Ideal.ofBits .f32 0x00000000#32
  | n + 1 => if w = BitVec.ofNat 32 n then expert x w1 b1 w2 b2 ⟨n % 16, Nat.mod_lt _ (by decide)⟩ b c else chain w b c n

/-- After all sixteen rounds it is the value of the token's expert. -/
theorem chain_apply (b : Fin 2048) (c : Fin 768) (e : ℕ) (he : e < 16) (n : ℕ) (hn : e < n) (hn' : n ≤ 16) :
    chain x w1 b1 w2 b2 (BitVec.ofNat 32 e) b c n = expert x w1 b1 w2 b2 ⟨e, he⟩ b c := by
  induction n with
  | zero => omega
  | succ n ih =>
    unfold chain
    by_cases h : e = n
    · subst h
      rw [if_pos rfl]
      exact congrArg (expert x w1 b1 w2 b2 · b c) (Fin.ext (Nat.mod_eq_of_lt he))
    · rw [if_neg fun h' => h ?_]
      · exact ih (by omega) (by omega)
      · have := congrArg BitVec.toNat h'
        simp only [BitVec.toNat_ofNat] at this
        omega

/-- A round takes the value after `i` rounds to the value after `i + 1`. -/
theorem round_step {i : ℕ} {acc : FVec Ideal S2048x768 .f32}
    {s1 : S16x768x256.Slices ![i, 0, 0] S1x768x256} {s2 : S16x256.Slices ![i, 0] S1x256}
    {s3 : S16x256x768.Slices ![i, 0, 0] S1x256x768} {s4 : S16x768.Slices ![i, 0] S1x768} {b : Fin 2048} {c : Fin 768}
    (h : acc (ix2 b c) = chain x w1 b1 w2 b2 (ix (ix1 b)) b c i) :
    select (broadcastInDim S2048x768 ![0, 1] bcast_S2048x1_S2048x768_0_1 (broadcastInDim S2048x1 ![0] bcast_S2048_S2048x1_0
        (cmpi .eq ix (broadcastInDim S2048 ![] bcast_S_S2048 (constantI S_ 32 (BitVec.ofNat 32 i))))))
      (addf (Host.dotGeneral dot_S2048x256_S256x768_S2048x768_1_0_0_1_n_n none
          (maximumf (addf (Host.dotGeneral dot_S2048x768_S768x256_S2048x256_1_0_0_1_n_n none x
              (shapeCast S768x256 (extractStridedSlice S1x768x256 ![i, 0, 0] w1 s1) shapeCasts_S1x768x256_S768x256))
            (broadcastInDim S2048x256 ![0, 1] bcast_S1x256_S2048x256_0_1 (broadcastInDim S1x256 ![1] bcast_S256_S1x256_1
              (shapeCast S256 (extractStridedSlice S1x256 ![i, 0] b1 s2) shapeCasts_S1x256_S256))))
            (broadcastInDim S2048x256 ![] bcast_S_S2048x256 (constant S_ .f32 0x00000000#32)))
          (shapeCast S256x768 (extractStridedSlice S1x256x768 ![i, 0, 0] w2 s3) shapeCasts_S1x256x768_S256x768))
        (broadcastInDim S2048x768 ![0, 1] bcast_S1x768_S2048x768_0_1 (broadcastInDim S1x768 ![1] bcast_S768_S1x768_1
          (shapeCast S768 (extractStridedSlice S1x768 ![i, 0] b2 s4) shapeCasts_S1x768_S768)))) acc (ix2 b c)
      = chain x w1 b1 w2 b2 (ix (ix1 b)) b c (i + 1) := by
  have hi : i < 16 := s4.2 0
  refine (round_apply x ix w1 b1 w2 b2 i hi acc s1 s2 s3 s4 b c).trans ?_
  rw [h]
  exact congrArg (fun e => if ix (ix1 b) = BitVec.ofNat 32 i then expert x w1 b1 w2 b2 e b c else _) (Fin.ext (Nat.mod_eq_of_lt hi).symm)

open Cert.ReferenceIdeal.Value in
set_option maxRecDepth 8192 in
/-- The reference's result, at one place: the token through the layers of its expert. -/
theorem ref_apply (V : Valuation τ sig (Elt Ideal)) (b : Fin 2048) (c : Fin 768) (e : ℕ) (he : e < 16)
    (hw : (V (Proc.devRef .tc main_arg1) : IVec S2048 32) (ix1 b) = BitVec.ofNat 32 e) :
    (val6 V (Proc.devRef .tc main_v336) : FVec Ideal S2048x768 .f32) (ix2 b c)
      = expert (V (Proc.devRef .tc main_arg0)) (V (Proc.devRef .tc main_arg2)) (V (Proc.devRef .tc main_arg3))
          (V (Proc.devRef .tc main_arg4)) (V (Proc.devRef .tc main_arg5)) ⟨e, he⟩ b c := by
  refine (congrFun (val6_main_v336 V) (ix2 b c)).trans (Eq.trans ?_ (chain_apply _ _ _ _ _ b c e he 16 he le_rfl))
  rw [← hw]
  iterate 16 refine round_step _ _ _ _ _ _ ?_
  rfl

end Reference

section Result
open Cert.KernelIdeal Cert.KernelIdeal.Gen Cert.Proof.Route

attribute [local irreducible] Cert.Proof.Route.usedN Cert.Proof.Route.beN Cert.Proof.Route.posN

variable {m : (ℓ : Loc nD τ sig) → Buf (Elt Ideal) ℓ}

/-- A token's row of the sorted array is its row of `x`. -/
theorem xsV_pos (d : Dev nD) (b : Fin 2048) (l : Fin 768) (p : Fin 4096) (hp : p.val = posN (E m d) b.val) :
    xsV m d (ix2 p l) = m (xLoc d) (ix2 b l) := by
  have h : ∃ b' : Fin 2048, posN (E m d) b'.val = ((ix2 p l : S4096x768.Idx) 0).val := ⟨b, hp.symm⟩
  refine (dif_pos h).trans ?_
  have e : h.choose = b := Fin.ext (posN_inj h.choose.isLt b.isLt (h.choose_spec.trans hp))
  exact congrArg (fun b' : Fin 2048 => m (xLoc d) (ix2 b' l)) e

/-- A row of a block in use of the layer's output. -/
theorem ysV_apply (d : Dev nD) (p : Fin 4096) (c : Fin 768) (h : p.val / 128 < usedN (E m d)) :
    ysV m d (ix2 p c) = mlpBlk m d (p.val / 128) (ix2 ⟨p.val % 128, Nat.mod_lt _ (by decide)⟩ c) := if_pos h

/-- A block's row: the sorted array's row through the layers of the block's expert. -/
theorem mlpBlk_apply (d : Dev nD) (t : ℕ) (r : Fin 128) (c : Fin 768) (p : Fin 4096) (hp : (128 * t + r.val) % 4096 = p.val)
    (e : Fin 16) (he : beN (E m d) t = e.val) :
    mlpBlk m d t (ix2 r c) = lay (fun l => xsV m d (ix2 p l)) (fun l k => m (w1Loc d) (ix3 e l k)) (fun k => m (b1Loc d) (ix2 e k))
      (fun k c => m (w2Loc d) (ix3 e k c)) (fun c => m (b2Loc d) (ix2 e c)) c := by
  have ee : (⟨e.val % 16, Nat.mod_lt _ (by decide)⟩ : Fin 16) = e := Fin.ext (Nat.mod_eq_of_lt e.isLt)
  have ep : (⟨(128 * t + r.val) % 4096, Nat.mod_lt _ (by decide)⟩ : Fin 4096) = p := Fin.ext hp
  unfold mlpBlk
  rw [he]
  refine (pay_apply _ _ _ _ _ r c).trans ?_
  unfold xsBlk w1Blk b1Row w2Blk b2Row
  exact congrArg₂ (fun (q : Fin 4096) (f : Fin 16) => lay (fun l => xsV m d (ix2 q l)) (fun l k => m (w1Loc d) (ix3 f l k)) (fun k => m (b1Loc d) (ix2 f k))
      (fun k c => m (w2Loc d) (ix3 f k c)) (fun c => m (b2Loc d) (ix2 f c)) c) ep ee

/-- The kernel's result, at one place: the token through the layers of its expert. -/
theorem out_apply (hpre : PreOK m) (d : Dev nD) (b : Fin 2048) (c : Fin 768) :
    outV m d (ix2 b c) = expert (m (xLoc d)) (m (w1Loc d)) (m (b1Loc d)) (m (w2Loc d)) (m (b2Loc d)) ⟨E m d b.val, E_lt hpre d b.val⟩ b c := by
  have hr := posN_lt_rows (E := E m d) (E_lt hpre d) b.isLt
  have h4 := posN_lt_4096 (E := E m d) (E_lt hpre d) b.isLt
  have hbe := beN_pos (E := E m d) (E_lt hpre d) b.isLt
  have hm : posN (E m d) b.val % 4096 = posN (E m d) b.val := Nat.mod_eq_of_lt h4
  have hu : posN (E m d) b.val / 128 < usedN (E m d) := by omega
  have h0 : outV m d (ix2 b c) = ysV m d (ix2 ⟨posN (E m d) b.val, h4⟩ c) :=
    congrArg (fun p : Fin 4096 => ysV m d (ix2 p c)) (Fin.ext hm)
  have hx : (fun l => xsV m d (ix2 ⟨posN (E m d) b.val, h4⟩ l)) = fun l => m (xLoc d) (ix2 b l) := funext fun l => xsV_pos d b l _ rfl
  rw [h0, ysV_apply d _ c hu, mlpBlk_apply d _ _ c ⟨posN (E m d) b.val, h4⟩ (by
    show (128 * (posN (E m d) b.val / 128) + posN (E m d) b.val % 128) % 4096 = _
    rw [Nat.div_add_mod, hm]) ⟨E m d b.val, E_lt hpre d b.val⟩ hbe, hx]
  rfl

end Result

end Cert.Proof.Value

end
-- ==== Proof.Algebraic.lean ====
/-
  The kernel's result and the reference's are equal at the extended reals: the two runs side by side.
-/
module

public import proofs.«01_k».proof.Proof.Frames
public import proofs.«01_k».proof.Proof.Value

@[expose] public section

noncomputable section

namespace Cert.Proof

open Idealize.ShloMosaic hiding ix1 ix2 eq_ix2
open Idealize.SL.Sem Idealize.ShloMosaic.StableHlo
open Idealize.ShloMosaic.ValueIdx (ix1 ix2)
open Cert.Proof.Route Cert.Proof.Value

attribute [local irreducible] Cert.Proof.Route.usedN Cert.Proof.Route.beN Cert.Proof.Route.posN

/-- The reference's contents of its result, from a memory that agrees with the kernel's on the arguments, are the kernel's. -/
theorem result_eq {m : (ℓ : Loc Cert.KernelIdeal.nD Cert.KernelIdeal.τ Cert.KernelIdeal.sig) → Buf (Elt Ideal) ℓ}
    (hpre : PreOK m) (d : Dev Cert.KernelIdeal.nD) (V : Valuation Cert.ReferenceIdeal.τ Cert.ReferenceIdeal.sig (Elt Ideal))
    (h0 : V (Proc.devRef .tc Cert.ReferenceIdeal.main_arg0) = m (xLoc d)) (h1 : V (Proc.devRef .tc Cert.ReferenceIdeal.main_arg1) = m (idxLoc d))
    (h2 : V (Proc.devRef .tc Cert.ReferenceIdeal.main_arg2) = m (w1Loc d)) (h3 : V (Proc.devRef .tc Cert.ReferenceIdeal.main_arg3) = m (b1Loc d))
    (h4 : V (Proc.devRef .tc Cert.ReferenceIdeal.main_arg4) = m (w2Loc d)) (h5 : V (Proc.devRef .tc Cert.ReferenceIdeal.main_arg5) = m (b2Loc d)) :
    Cert.ReferenceIdeal.Value.val6 V (Proc.devRef .tc Cert.ReferenceIdeal.main_v336) = outV m d := by
  funext j
  obtain ⟨b, c, rfl⟩ : ∃ (b : Fin 2048) (c : Fin 768), j = ix2 b c := ⟨j 0, j 1, ValueIdx.eq_ix2 j⟩
  have hE : E m d b.val = (m (idxLoc d) (ix1 b)).toNat := dif_pos b.isLt
  have hw : (V (Proc.devRef .tc Cert.ReferenceIdeal.main_arg1) : IVec Cert.ReferenceIdeal.S2048 32) (ix1 b) = BitVec.ofNat 32 (E m d b.val) := by
    rw [h1, hE]
    exact ((BitVec.ofNat_toNat 32 (m (idxLoc d) (ix1 b))).trans (BitVec.setWidth_eq _)).symm
  refine (ref_apply V b c _ (E_lt hpre d b.val) hw).trans (Eq.trans ?_ (out_apply hpre d b c).symm)
  rw [h0, h2, h3, h4, h5]

/-- The kernel's result is the reference's. -/
theorem algebraic : Cert.algebraic_KernelIdeal_ReferenceIdeal := fun m g m' g' hpre hargs =>
  ⟨outV m,
    (θ_run (Cert.KernelIdeal.defs (F := Ideal)) _ _).mono
      (fun _ h c => ⟨(h.1 c).2.2.2.2.2.2, (h.1 c).1, (h.1 c).2.1, (h.1 c).2.2.1, (h.1 c).2.2.2.1, (h.1 c).2.2.2.2.1, (h.1 c).2.2.2.2.2.1⟩)
      (run_main (F := Ideal) g (ok_ideal m hpre)),
    (θ_run (Cert.ReferenceIdeal.defs (F := Ideal)) _ _).mono
      (fun _ h c => ⟨(h c).1.trans ((Cert.ReferenceIdeal.Value.val6_main_v336 (launchContents m' c)).symm.trans
        (result_eq (ok_ideal m hpre) c (launchContents m' c) (hargs c).1 (hargs c).2.1 (hargs c).2.2.1 (hargs c).2.2.2.1 (hargs c).2.2.2.2.1 (hargs c).2.2.2.2.2)),
        (h c).2⟩)
      (Cert.ReferenceIdeal.Value.run (F := Ideal) m' g')⟩

end Cert.Proof

end
-- ==== Proof.Pick.lean ====
/-
  The first greatest of a row of sixteen: what a stable sort by "greater" puts first, and what the least of the positions
  that hold the row's maximum is, are one position.
-/
module

public import Idealize.ShloMosaic.Lib.SortFacts
public import Idealize.ShloMosaic.Lib.ValueIdx
public import Idealize.ShloMosaic.Lib.KernelVsHost
public import Idealize.ShloMosaic.Lib.Pointwise

@[expose] public section

noncomputable section

namespace Cert.Proof.Gate

open Idealize.ShloMosaic

/-- `p` is the first position of `v`'s greatest value. -/
def Picks {n : ℕ} (v : Fin n → EReal) (p : Fin n) : Prop := (∀ q, v q ≤ v p) ∧ ∀ q, q < p → v q < v p

/-- There is one such position at most. -/
theorem Picks.eq {n : ℕ} {v : Fin n → EReal} {p q : Fin n} (hp : Picks v p) (hq : Picks v q) : p = q := by
  rcases lt_trichotomy p q with h | h | h
  · exact absurd (hq.2 p h) (not_lt.mpr (hp.1 q))
  · exact h
  · exact absurd (hp.2 q h) (not_lt.mpr (hq.1 p))

/-- A stable sort by "greater" of positions in order starts with the first greatest of them. -/
theorem sort_head {n : ℕ} (v : Fin n → EReal) (B : Fin n → Fin n → Bool) (hB : ∀ p q, B p q = true ↔ v q < v p) :
    ∀ l : List (Fin n), l.Pairwise (· < ·) → l ≠ [] →
      ∃ p tl, stableSort B l = p :: tl ∧ p ∈ l ∧ (∀ q ∈ l, v q ≤ v p) ∧ ∀ q ∈ l, q < p → v q < v p
  | [], _, h => absurd rfl h
  | a :: l, hl, _ => by
    obtain ⟨ha, hl'⟩ := List.pairwise_cons.mp hl
    by_cases h0 : l = []
    · subst h0
      refine ⟨a, [], rfl, List.mem_cons_self, fun q hq => ?_, fun q hq hlt => ?_⟩
      · rw [List.mem_singleton.mp hq]
      · rw [List.mem_singleton.mp hq] at hlt
        exact absurd hlt (lt_irrefl _)
    · obtain ⟨p, tl, e, hm, hmax, hfst⟩ := sort_head v B hB l hl' h0
      have es : stableSort B (a :: l) = if B p a then p :: insertBefore B a tl else a :: p :: tl := by
        show insertBefore B a (stableSort B l) = _
        rw [e]
        rfl
      by_cases hb : B p a = true
      · have hlt := (hB p a).mp hb
        refine ⟨p, insertBefore B a tl, by rw [es, if_pos hb], List.mem_cons_of_mem _ hm, fun q hq => ?_, fun q hq hqp => ?_⟩
        · rcases List.mem_cons.mp hq with rfl | hq
          · exact hlt.le
          · exact hmax q hq
        · rcases List.mem_cons.mp hq with rfl | hq
          · exact hlt
          · exact hfst q hq hqp
      · have hle : v p ≤ v a := not_lt.mp fun h => hb ((hB p a).mpr h)
        refine ⟨a, p :: tl, by rw [es, if_neg hb], List.mem_cons_self, fun q hq => ?_, fun q hq hqa => ?_⟩
        · rcases List.mem_cons.mp hq with rfl | hq
          · exact le_rfl
          · exact (hmax q hq).trans hle
        · rcases List.mem_cons.mp hq with rfl | hq
          · exact absurd hqa (lt_irrefl _)
          · exact absurd hqa (ha q hq).asymm

/-- So does the permutation that such a sort of all positions applies. -/
theorem sortedFrom_picks {n : ℕ} (v : Fin (n + 1) → EReal) (B : Fin (n + 1) → Fin (n + 1) → Bool)
    (hB : ∀ p q, B p q = true ↔ v q < v p) : Picks v (sortedFrom B 0) := by
  obtain ⟨p, tl, e, -, hmax, hfst⟩ := sort_head v B hB (List.finRange (n + 1)) (List.pairwise_lt_finRange _)
    (by simp [List.finRange_succ])
  have h : sortedFrom B 0 = p := by
    unfold sortedFrom sortPositions
    exact (List.getElem_of_eq e _).trans rfl
  rw [h]
  exact ⟨fun q => hmax q (List.mem_finRange q), fun q => hfst q (List.mem_finRange q)⟩

/-- The maximum over a row from −∞ is the value at the first greatest position. -/
theorem fold_max {n : ℕ} (v : Fin n → EReal) (p : Fin n) (hp : Picks v p) :
    (Finset.univ : Finset (Fin n)).fold max ⊥ v = v p := by
  refine le_antisymm ((Finset.fold_max_le _).mpr ⟨bot_le, fun q _ => hp.1 q⟩) ((Finset.le_fold_max _).mpr (Or.inr ⟨p, Finset.mem_univ p, le_rfl⟩))

/-- The least of the positions of the row's maximum, sixteen standing for the others, in words. -/
theorem fold_min (v : Fin 16 → EReal) (p : Fin 16) (hp : Picks v p) (g : Fin 16 → BitVec 32)
    (hg : ∀ q, g q = if v q = v p then BitVec.ofNat 32 q.val else 16#32) :
    (Finset.univ : Finset (Fin 16)).fold IKind.minsi.op (2147483647#32) g = BitVec.ofNat 32 p.val := by
  have hom : ∀ x y : BitVec 32, (IKind.minsi.op x y).toInt = min x.toInt y.toInt := fun x y => by
    show (IntOp.minsi x y).toInt = _
    unfold IntOp.minsi
    by_cases h : x.slt y = true
    · rw [if_pos h, min_eq_left (BitVec.slt_iff_toInt_lt.mp h).le]
    · rw [if_neg h, min_eq_right (not_lt.mp fun h' => h (BitVec.slt_iff_toInt_lt.mpr h'))]
  have hn : ∀ q : Fin 16, (BitVec.ofNat 32 q.val).toInt = (q.val : ℤ) := by decide
  have hs : (16#32).toInt = 16 := by decide
  refine BitVec.eq_of_toInt_eq ?_
  rw [← Finset.fold_hom (op' := min) (m := BitVec.toInt) hom, hn]
  refine le_antisymm ((Finset.fold_min_le _).mpr (Or.inr ⟨p, Finset.mem_univ p, ?_⟩)) ((Finset.le_fold_min _).mpr ⟨?_, fun q _ => ?_⟩)
  · rw [hg, if_pos rfl, hn]
  · have := p.isLt
    show (p.val : ℤ) ≤ (2147483647#32 : BitVec 32).toInt
    rw [show (2147483647#32 : BitVec 32).toInt = 2147483647 by decide]
    omega
  · rw [hg]
    by_cases h : v q = v p
    · rw [if_pos h, hn]
      have : p ≤ q := not_lt.mp fun hlt => absurd (hp.2 q hlt) (by rw [h]; exact lt_irrefl _)
      exact_mod_cast this
    · rw [if_neg h, hs]
      have := p.isLt
      omega

end Cert.Proof.Gate

end
-- ==== Proof.Gate.lean ====
/-
  The gating call against its reference at the extended reals: the same logits, and the first expert of the greatest biased
  logit, by a maximum and a least position on one side and by the head of a stable sort on the other.
-/
module

public import proofs.«01_k».proof.Defs
public import proofs.«01_k».proof.Proof.Pick
public import proofs.«01_k».proof.Proof.Gen.GatingIdeal.Frame
public import proofs.«01_k».proof.Proof.Gen.GatingReferenceIdeal.Run
public import Idealize.ShloMosaic.Lib.Pipeline.ValueKit
public import Idealize.ShloMosaic.Lib.StackMember
public import Idealize.ShloMosaic.Lib.ValueLayout
public import Idealize.ShloMosaic.Lib.ValueLayoutCasts
public import Idealize.ShloMosaic.Lib.Claim

@[expose] public section

noncomputable section

namespace Cert.Proof.Gate

open Idealize.ShloMosaic hiding ix1 ix2 ix3 addf_apply maximumf_apply eq_ix1 eq_ix2
open Idealize.ShloMosaic.ValueIdx Idealize.ShloMosaic.StackMember Idealize.ShloMosaic.TcCoe Idealize.SL.Sem

/-- A token's logit of an expert. -/
def logit (x : Fin 2048 → Fin 768 → EReal) (w : Fin 768 → Fin 16 → EReal) (b : Fin 16 → EReal) (t : Fin 2048) (e : Fin 16) : EReal :=
  (∑ l, x t l * w l e) + b e

section Kernel
open Cert.GatingIdeal Cert.GatingIdeal.Gen

/-- The logits that the body stores, at one place. -/
theorem pay1_apply (v0 : Vec Ideal S2048x768 .f32) (v1 : Vec Ideal S768x16 .f32) (v3 : Vec Ideal S1x16 .f32) (t : Fin 2048) (e : Fin 16) :
    k0_pay1 (F := Ideal) v0 v1 v3 (ix2 t e) = logit (fun t l => v0 (ix2 t l)) (fun l e => v1 (ix2 l e)) (fun e => v3 (ix2 0 e)) t e := by
  unfold k0_pay1 logit
  refine (addf_apply _ _ _).trans (congrArg₂ (· + ·) ((congrFun (matmul_zero_eq_dotGeneral _ none v0 v1) (ix2 t e)).trans
    (dotGeneral_plain_apply (m := 2048) (n := 16) none v0 v1 t e)) ((broadcastTo_1b_ab_apply _ _ t e).trans (shapeCast_apply v3 _ (ix2 0 e) (ix2 0 e) rfl)))

/-- The position that the body stores for a token: the first greatest of its biased logits. -/
theorem pay2_apply (v0 : Vec Ideal S2048x768 .f32) (v1 : Vec Ideal S768x16 .f32) (v3 v8 : Vec Ideal S1x16 .f32) (t : Fin 2048) (p : Fin 16)
    (hp : Picks (fun e => logit (fun t l => v0 (ix2 t l)) (fun l e => v1 (ix2 l e)) (fun e => v3 (ix2 0 e)) t e + v8 (ix2 0 e)) p) :
    k0_pay2 (F := Ideal) v0 v1 v3 v8 (ix2 t 0) = BitVec.ofNat 32 p.val := by
  have hb : ∀ e : Fin 16, addf (k0_pay1 (F := Ideal) v0 v1 v3) (broadcastTo S2048x16 v8 broadcasts_S1x16_S2048x16) (ix2 t e)
      = logit (fun t l => v0 (ix2 t l)) (fun l e => v1 (ix2 l e)) (fun e => v3 (ix2 0 e)) t e + v8 (ix2 0 e) := fun e =>
    (addf_apply _ _ _).trans (congrArg₂ (· + ·) (pay1_apply v0 v1 v3 t e) (broadcastTo_1b_ab_apply _ _ t e))
  have lift : ∀ q : Fin 16, reduces_S2048x16_S2048.lift (ix1 t) q = ix2 t q := fun q => by
    funext a
    fin_cases a <;> rfl
  have hmax : multiReduction (F := Ideal) .maximumf [1] S2048 (addf (k0_pay1 (F := Ideal) v0 v1 v3) (broadcastTo S2048x16 v8 broadcasts_S1x16_S2048x16))
      0xFF800000#32 reduces_S2048x16_S2048 (.inl rfl) rfl (ix1 t) = logit (fun t l => v0 (ix2 t l)) (fun l e => v1 (ix2 l e)) (fun e => v3 (ix2 0 e)) t p + v8 (ix2 0 p) := by
    refine (Ideal.multiReduction_maximumf_single _ _ reduces_S2048x16_S2048 (.inl rfl) rfl (ix1 t)).trans ?_
    have hbot : FloatOps.ofBits (F := Ideal) .f32 (FKind.maximumf.neutral .f32 (.inl rfl)) = (⊥ : EReal) := by
      show Ideal.ofBits .f32 0xFF800000#32 = ⊥
      simp [Ideal.ofBits, Ideal.ieee]
    rw [hbot]
    refine Eq.trans ?_ (fold_max _ p hp)
    congr 1
    funext q
    exact (congrArg _ (lift q)).trans (hb q)
  unfold k0_pay2
  refine (shapeCast_a_a1_apply _ _ t 0).trans ((multiReductionI_eq_fold _ _ _ _ rfl _).trans
    ((reduces_S2048x16_S2048.fold_filter_drop_single _ _ _ _).trans (fold_min _ p hp _ fun q => ?_)))
  refine (congrArg _ (lift q)).trans ((select_apply _ _ _ _).trans ?_)
  rw [cmpf_apply, hb q, broadcastTo_apply _ broadcasts_S2048x1_S2048x16 (ix2 t q) (ix2 t 0) (fun a => by fin_cases a <;> rfl),
    shapeCast_a_a1_apply, hmax, iota_single_apply]
  show Scalar.select (Ideal.cmp .oeq _ _) _ _ = _
  rw [Ideal.cmp_oeq]
  by_cases h : logit (fun t l => v0 (ix2 t l)) (fun l e => v1 (ix2 l e)) (fun e => v3 (ix2 0 e)) t q + v8 (ix2 0 q)
      = logit (fun t l => v0 (ix2 t l)) (fun l e => v1 (ix2 l e)) (fun e => v3 (ix2 0 e)) t p + v8 (ix2 0 p)
  · rw [if_pos h, decide_eq_true h]
    rfl
  · rw [if_neg h, decide_eq_false h]
    rfl

variable (m : (ℓ : Loc nD τ sig) → Buf (Elt Ideal) ℓ)

/-- Each window's index map is constant. -/
theorem idx : ∀ t : Fin cfg0.N, win0_0.index t = ![0, 0] ∧ win0_1.index t = ![0, 0] ∧ win0_2.index t = ![0, 0] ∧ win0_3.index t = ![0, 0]
    ∧ win0_4.index t = ![0, 0] ∧ win0_5.index t = ![0, 0] ∧ win0_6.index t = ![0] :=
  (by decide +kernel : ∀ t : Fin grid0.N, _)

theorem iblk0 (c : Dev nD) : iblk m c 0 t0_0 = m ((c.tc : Thread nD τ).loc main_arg0) := by
  blk_ext! [iblk, V, idx t0_0]

theorem iblk1 (c : Dev nD) : iblk m c 1 t0_0 = m ((c.tc : Thread nD τ).loc main_arg1) := by
  blk_ext! [iblk, V, idx t0_0]

theorem iblk2 (c : Dev nD) : iblk m c 2 t0_0 = shapeCast S1x16 (m ((c.tc : Thread nD τ).loc main_arg2)) shapeCasts_S16_S1x16 := by
  blk_ext! [iblk, V, idx t0_0]

theorem iblk3 (c : Dev nD) : iblk m c 3 t0_0 = m ((c.tc : Thread nD τ).loc main_arg3) := by
  blk_ext! [iblk, V, idx t0_0]

/-- The logits array after the run. -/
def logitsV (c : Dev nD) : Vec Ideal S2048x16 .f32 := k0_pay1 (F := Ideal) (m ((c.tc : Thread nD τ).loc main_arg0)) (m ((c.tc : Thread nD τ).loc main_arg1))
  (shapeCast S1x16 (m ((c.tc : Thread nD τ).loc main_arg2)) shapeCasts_S16_S1x16)

/-- The positions array after the run. -/
def posV (c : Dev nD) : Vec Ideal S2048x1 .i32 := k0_pay2 (F := Ideal) (m ((c.tc : Thread nD τ).loc main_arg0)) (m ((c.tc : Thread nD τ).loc main_arg1))
  (shapeCast S1x16 (m ((c.tc : Thread nD τ).loc main_arg2)) shapeCasts_S16_S1x16) (m ((c.tc : Thread nD τ).loc main_arg3))

/-- And as one row. -/
def flatV (c : Dev nD) : Vec Ideal S2048 .i32 := shapeCast S2048 (posV m c) shapeCasts_S2048x1_S2048

theorem final4 (c : Dev nD) : (dats m 0 c).arrAt 4 cfg0.N = logitsV m c := by
  refine (dats m 0 c).arrAt_eq_of_after_last 4 t0_0 (by decide +kernel) _ fun j => ?_
  blk_simp
  rw [after0_4]
  frame_out
  rw [iblk0, iblk1, iblk2]
  rfl

theorem final5 (c : Dev nD) : (dats m 0 c).arrAt 5 cfg0.N = posV m c := by
  refine (dats m 0 c).arrAt_eq_of_after_last 5 t0_0 (by decide +kernel) _ fun j => ?_
  blk_simp
  rw [after0_5]
  frame_out
  rw [iblk0, iblk1, iblk2, iblk3]
  rfl

theorem final6 (c : Dev nD) : (dats m 0 c).arrAt 6 cfg0.N = flatV m c := by
  refine (dats m 0 c).arrAt_eq_of_after_last 6 t0_0 (by decide +kernel) _ fun j => ?_
  blk_simp
  rw [after0_6]
  frame_out
  rw [iblk0, iblk1, iblk2, iblk3]
  rfl

/-- The kernel's run with its three results named. -/
theorem run (ρ : Dev nD → PrngReg) : θ_run defs (onTc (τ := τ) (main (F := Ideal))) ⟨m, fun _ => 0, ρ⟩ fun r => ∀ c : Dev nD,
    (r.2.mem ((c.tc : Thread nD τ).loc main_v1_0) = logitsV m c ∧ r.2.mem ((c.tc : Thread nD τ).loc main_v1_1) = posV m c
      ∧ r.2.mem ((c.tc : Thread nD τ).loc main_v1_2) = flatV m c)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3) :=
  (θ_run defs _ _).mono (fun _ h c =>
    ⟨⟨((h.1 c).1 4).trans (final4 m c), ((h.1 c).1 5).trans (final5 m c), ((h.1 c).1 6).trans (final6 m c)⟩, h.2 c⟩)
    (θ_run_and (Q₁ := Pipeline.FramePost cfgs (dats m) 0 (V m)) (run_main m ρ) (unchanged m ρ))

end Kernel

section Reference
open Cert.GatingReferenceIdeal Cert.GatingReferenceIdeal.Gen

attribute [local irreducible] sortedFrom

/-- The reference's position for a token: the first greatest of the row. -/
theorem topK_apply (y : FVec Ideal S2048x16 .f32) (t : Fin 2048) :
    ∃ p : Fin 16, Picks (fun e => y (ix2 t e)) p
      ∧ (Host.topK S2048x1 1 (FloatOps.cmpfTotal .gt) y sliceFits_S2048x16_S2048x1).2 (ix2 t 0) = BitVec.ofNat 32 p.val := by
  have e1 : (FloatOps.cmpfTotal (F := Ideal) (φ := .f32) .gt) = fun a b => Ideal.cmp .ogt a b := rfl
  refine ⟨sortedFrom (fun k k' => FloatOps.cmpfTotal (F := Ideal) (φ := .f32) .gt (y (ix2 t k)) (y (ix2 t k')) == 1#1) 0,
    sortedFrom_picks _ _ fun p q => ?_, ?_⟩
  · rw [beq_iff_eq, e1]
    exact Ideal.cmp_ogt_eq_one _ _
  · have al : ∀ k : Fin 16, Shape.Idx.along (s := S2048x16) (ix2 t 0) (1 : Fin 2) k = ix2 t k := fun k => by
      funext a
      fin_cases a <;> rfl
    have cut : ∀ a : Fin S2048x16.rank, ((ix2 t 0 : S2048x16.Idx) a).val
        = 0 + ((ix2 t 0 : S2048x1.Idx) (a.cast sliceFits_S2048x16_S2048x1.1.symm)).val := fun a => by
      fin_cases a <;> exact (Nat.zero_add _).symm
    unfold Host.topK
    dsimp only
    rw [extractStridedSlice_apply (s := S2048x16) (t := S2048x1) (fun _ => 0) _ sliceFits_S2048x16_S2048x1 (ix2 t 0) (ix2 t 0) cut]
    unfold Host.sort2
    rw [dif_pos (show 1 < S2048x16.rank by decide)]
    show BitVec.ofNat 32 (Shape.Idx.along (s := S2048x16) (ix2 t 0) (1 : Fin 2) (sortedFrom (n := 16) (fun k k' =>
      FloatOps.cmpfTotal (F := Ideal) (φ := .f32) .gt (y (Shape.Idx.along (s := S2048x16) (ix2 t 0) (1 : Fin 2) k))
        (y (Shape.Idx.along (s := S2048x16) (ix2 t 0) (1 : Fin 2) k')) == 1#1) (0 : Fin 16)) (1 : Fin 2)).val = _
    simp only [al]

variable (x : FVec Ideal S2048x768 .f32) (w : FVec Ideal S768x16 .f32) (b : FVec Ideal S16 .f32) (c : FVec Ideal S1x16 .f32)

/-- The reference's logits. -/
def refLogits : FVec Ideal S2048x16 .f32 := addf (Host.dotGeneral dot_S2048x768_S768x16_S2048x16_1_0_0_1_n_n none x w)
  (broadcastInDim S2048x16 ![0, 1] bcast_S1x16_S2048x16_0_1 (broadcastInDim S1x16 ![1] bcast_S16_S1x16_1 b))

theorem refLogits_apply (t : Fin 2048) (e : Fin 16) :
    refLogits x w b (ix2 t e) = logit (fun t l => x (ix2 t l)) (fun l e => w (ix2 l e)) (fun e => b (ix1 e)) t e :=
  (addf_apply _ _ _).trans (congrArg₂ (· + ·) (dotGeneral_plain_apply (m := 2048) (n := 16) none x w t e)
    ((broadcastInDim_oneRow_apply _ _ t e).trans (broadcastInDim_apply _ _ _ _ (ix1 e) (fun a => by fin_cases a; rfl))))

theorem refBiased_apply (t : Fin 2048) (e : Fin 16) :
    addf (refLogits x w b) (broadcastInDim S2048x16 ![0, 1] bcast_S1x16_S2048x16_0_1 c) (ix2 t e)
      = logit (fun t l => x (ix2 t l)) (fun l e => w (ix2 l e)) (fun e => b (ix1 e)) t e + c (ix2 0 e) :=
  (addf_apply _ _ _).trans (congrArg₂ (· + ·) (refLogits_apply x w b t e) (broadcastInDim_oneRow_apply _ _ t e))

end Reference

section Both
open Cert.GatingIdeal Cert.GatingIdeal.Gen

/-- The two sides' logits are equal. -/
theorem logits_eq (x : FVec Ideal S2048x768 .f32) (w : FVec Ideal S768x16 .f32) (b : FVec Ideal S16 .f32) :
    refLogits x w b = k0_pay1 (F := Ideal) x w (shapeCast S1x16 b shapeCasts_S16_S1x16) := by
  funext j
  obtain ⟨t, e, rfl⟩ : ∃ (t : Fin 2048) (e : Fin 16), j = ix2 t e := ⟨j 0, j 1, ValueIdx.eq_ix2 j⟩
  rw [pay1_apply]
  refine (refLogits_apply x w b t e).trans ?_
  simp only [shapeCast_a_1a_apply]

/-- And so are their positions. -/
theorem pos_eq (x : FVec Ideal S2048x768 .f32) (w : FVec Ideal S768x16 .f32) (b : FVec Ideal S16 .f32) (c : FVec Ideal S1x16 .f32) :
    (Host.topK S2048x1 1 (FloatOps.cmpfTotal .gt) (addf (refLogits x w b)
      (broadcastInDim S2048x16 ![0, 1] Cert.GatingReferenceIdeal.Gen.bcast_S1x16_S2048x16_0_1 c)) Cert.GatingReferenceIdeal.Gen.sliceFits_S2048x16_S2048x1).2
      = k0_pay2 (F := Ideal) x w (shapeCast S1x16 b shapeCasts_S16_S1x16) c := by
  funext j
  obtain ⟨t, u, rfl⟩ : ∃ (t : Fin 2048) (u : Fin 1), j = ix2 t u := ⟨j 0, j 1, ValueIdx.eq_ix2 j⟩
  obtain rfl : u = 0 := Subsingleton.elim _ _
  obtain ⟨p, hp, e⟩ := topK_apply (addf (refLogits x w b) (broadcastInDim S2048x16 ![0, 1] Cert.GatingReferenceIdeal.Gen.bcast_S1x16_S2048x16_0_1 c)) t
  refine e.trans (pay2_apply x w _ c t p ?_).symm
  have hv : (fun e => addf (refLogits x w b) (broadcastInDim S2048x16 ![0, 1] Cert.GatingReferenceIdeal.Gen.bcast_S1x16_S2048x16_0_1 c) (ix2 t e))
      = fun e => logit (fun t l => x (ix2 t l)) (fun l e => w (ix2 l e)) (fun e => shapeCast S1x16 b shapeCasts_S16_S1x16 (ix2 0 e)) t e + c (ix2 0 e) := by
    funext e
    simp only [shapeCast_a_1a_apply]
    exact refBiased_apply x w b c t e
  exact hv ▸ hp

/-- The gating call's three results are its reference's. -/
theorem algebraic : Cert.algebraic_GatingIdeal_GatingReferenceIdeal := fun m g m' g' _ hargs =>
  ⟨logitsV m, posV m, flatV m,
    (θ_run (Cert.GatingIdeal.defs (F := Ideal)) _ _).mono (fun _ h c => ⟨(h c).1.1, (h c).1.2.1, (h c).1.2.2, (h c).2⟩) (run m g),
    (θ_run (Cert.GatingReferenceIdeal.defs (F := Ideal)) _ _).mono
      (fun _ h c => by
        obtain ⟨h0, h1, h2, h3⟩ := hargs c
        obtain ⟨r0, r1, r2, kept⟩ := h c
        refine ⟨r0.trans ?_, r1.trans ?_, r2.trans ?_, kept⟩
        · rw [h0, h1, h2]
          exact logits_eq _ _ _
        · rw [h0, h1, h2, h3]
          exact pos_eq _ _ _ _
        · rw [h0, h1, h2, h3]
          exact congrArg (fun v => shapeCast S2048 v shapeCasts_S2048x1_S2048) (pos_eq _ _ _ _))
      (Cert.GatingReferenceIdeal.Value.run (F := Ideal) m' g')⟩

end Both

end Cert.Proof.Gate

end
-- ==== Proof.lean ====
/-
  The certificate: the frames of the two programs, of their idealizations and of their references, and the equality of the
  programs' results with the references' at the extended reals.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Flash
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Flash
public import proofs.«01_k».proof.Proof.Gen.ReferenceIdeal
public import proofs.«01_k».proof.Proof.Gen.ReferenceIdeal.Run
public import proofs.«01_k».proof.Proof.Gen.Pre_in_range
public import proofs.«01_k».proof.Proof.Gen.Gating
public import proofs.«01_k».proof.Proof.Gen.Gating.Skeleton
public import proofs.«01_k».proof.Proof.Gen.Gating.Launch
public import proofs.«01_k».proof.Proof.Gen.Gating.Points
public import proofs.«01_k».proof.Proof.Gen.Gating.Frame
public import proofs.«01_k».proof.Proof.Gen.GatingIdeal
public import proofs.«01_k».proof.Proof.Gen.GatingIdeal.Skeleton
public import proofs.«01_k».proof.Proof.Gen.GatingIdeal.Launch
public import proofs.«01_k».proof.Proof.Gen.GatingIdeal.Points
public import proofs.«01_k».proof.Proof.Gen.GatingIdeal.Frame
public import proofs.«01_k».proof.Proof.Gen.GatingReferenceIdeal
public import proofs.«01_k».proof.Proof.Gen.GatingReferenceIdeal.Run
public import proofs.«01_k».proof.Proof.Frames
public import proofs.«01_k».proof.Proof.Algebraic
public import proofs.«01_k».proof.Proof.Gate
public import Idealize.ShloMosaic.Adequacy
public import Idealize.ShloMosaic.Init

@[expose] public section

noncomputable section

namespace Cert.Proof

open Idealize.ShloMosaic Idealize.SL.Sem Cert.Kernel

/-- The gating reference's frame: its run, the results forgotten, and no semaphore to move. -/
theorem frame_gatingReferenceIdeal : Cert.quiescent_GatingReferenceIdeal := fun m ρ _ =>
  (θ_run (Cert.GatingReferenceIdeal.defs (F := Ideal)) _ _).mono
    (fun r h => ⟨fun c => (h c).2.2.2, sem_eq_zero_of_no_sems (by decide) r.2⟩) (Cert.GatingReferenceIdeal.Value.run (F := Ideal) m ρ)

/-- All the claims, under the facts that the programs state. -/
theorem claim : Cert.Claim :=
  ⟨Cert.Kernel.Gen.facts, Cert.KernelIdeal.Gen.facts, Cert.ReferenceIdeal.Gen.facts, Cert.Gating.Gen.facts, Cert.GatingIdeal.Gen.facts,
    Cert.GatingReferenceIdeal.Gen.facts, Cert.Pre_in_range.Gen.facts,
    frame_kernel, frame_kernelIdeal, frame_referenceIdeal, frame_referenceIdeal_pre,
    fun m ρ _ => Cert.Gating.Gen.frame m ρ, fun m ρ _ => Cert.GatingIdeal.Gen.frame m ρ, frame_gatingReferenceIdeal,
    trivial, algebraic, trivial, Gate.algebraic⟩

end Cert.Proof

end
